-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S4096 : Shape := ⟨1, ![4096]⟩
abbrev S4096x8192 : Shape := ⟨2, ![4096, 8192]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : IVec S4096 32) (main_arg2 : FVec F S4096x8192 .f32) (main_arg3 : FVec F S4096x8192 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 4096#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 32 := constantI S_ 32 0#32
  let main_v5 : IVec S4096 32 := broadcastInDim S4096 ![] bcast_S_S4096 main_c_1
  let main_v6 : IVec S4096 1 := cmpi .sge main_arg1 main_v5
  let main_v7 : IVec S4096 1 := andi main_v4 main_v6
  let main_c_2 : IVec S_ 32 := constantI S_ 32 8192#32
  let main_v8 : IVec S4096 32 := broadcastInDim S4096 ![] bcast_S_S4096 main_c_2
  let main_v9 : IVec S4096 1 := cmpi .slt main_arg1 main_v8
  let main_v10 : IVec S4096 1 := andi main_v7 main_v9
  main_v10
-- ==== Kernel.lean ====
abbrev S4096 : Shape := ⟨1, ![4096]⟩
abbrev S4096x8192 : Shape := ⟨2, ![4096, 8192]⟩
abbrev S128 : Shape := ⟨1, ![128]⟩
abbrev S32x8x128 : Shape := ⟨3, ![32, 8, 128]⟩
abbrev S_ : Shape := ⟨0, ![]⟩
abbrev S16 : Shape := ⟨1, ![16]⟩
abbrev S1x8x128 : Shape := ⟨3, ![1, 8, 128]⟩
abbrev S8x128 : Shape := ⟨2, ![8, 128]⟩
abbrev S1280x4096 : Shape := ⟨2, ![1280, 4096]⟩
abbrev S2x8x4096 : Shape := ⟨3, ![2, 8, 4096]⟩
abbrev S1x8x4096 : Shape := ⟨3, ![1, 8, 4096]⟩
abbrev S8x4096 : Shape := ⟨2, ![8, 4096]⟩
abbrev S1x1x16 : Shape := ⟨3, ![1, 1, 16]⟩
abbrev S1x4096 : Shape := ⟨2, ![1, 4096]⟩
abbrev S4096x4096 : Shape := ⟨2, ![4096, 4096]⟩
abbrev S128x4096 : Shape := ⟨2, ![128, 4096]⟩
abbrev S256x4096 : Shape := ⟨2, ![256, 4096]⟩

abbrev nBuf : Table → Nat
  | .hbm => 13
  | .local .tc .vmem => 10
  | .local .scVector .vmem => 7
  | _ => 0

abbrev bufTy : (tb : Table) → Fin (nBuf tb) → BufTy
  | .hbm, ⟨0, _⟩ => ⟨S4096, .i32⟩
  | .hbm, ⟨1, _⟩ => ⟨S4096, .i32⟩
  | .hbm, ⟨2, _⟩ => ⟨S4096x8192, .f32⟩
  | .hbm, ⟨3, _⟩ => ⟨S4096x8192, .f32⟩
  | .hbm, ⟨4, _⟩ => ⟨S4096, .f32⟩
  | .hbm, ⟨5, _⟩ => ⟨S4096, .f32⟩
  | .hbm, ⟨6, _⟩ => ⟨S1280x4096, .i32⟩
  | .hbm, ⟨7, _⟩ => ⟨S1x4096, .f32⟩
  | .hbm, ⟨8, _⟩ => ⟨S1x4096, .f32⟩
  | .hbm, ⟨9, _⟩ => ⟨S4096x4096, .f32⟩
  | .hbm, ⟨10, _⟩ => ⟨S1x4096, .f32⟩
  | .hbm, ⟨11, _⟩ => ⟨S1x4096, .f32⟩
  | .hbm, ⟨12, _⟩ => ⟨S4096x4096, .f32⟩
  | .local .tc .vmem, ⟨0, _⟩ => ⟨S1x4096, .f32⟩
  | .local .tc .vmem, ⟨1, _⟩ => ⟨S1x4096, .f32⟩
  | .local .tc .vmem, ⟨2, _⟩ => ⟨S128x4096, .f32⟩
  | .local .tc .vmem, ⟨3, _⟩ => ⟨S128x4096, .f32⟩
  | .local .tc .vmem, ⟨4, _⟩ => ⟨S256x4096, .i32⟩
  | .local .tc .vmem, ⟨5, _⟩ => ⟨S256x4096, .i32⟩
  | .local .tc .vmem, ⟨6, _⟩ => ⟨S1x4096, .f32⟩
  | .local .tc .vmem, ⟨7, _⟩ => ⟨S1x4096, .f32⟩
  | .local .tc .vmem, ⟨8, _⟩ => ⟨S256x4096, .f32⟩
  | .local .tc .vmem, ⟨9, _⟩ => ⟨S256x4096, .f32⟩
  | .local .scVector .vmem, ⟨0, _⟩ => ⟨S128, .i32⟩
  | .local .scVector .vmem, ⟨1, _⟩ => ⟨S128, .i32⟩
  | .local .scVector .vmem, ⟨2, _⟩ => ⟨S32x8x128, .f32⟩
  | .local .scVector .vmem, ⟨3, _⟩ => ⟨S32x8x128, .f32⟩
  | .local .scVector .vmem, ⟨4, _⟩ => ⟨S128, .f32⟩
  | .local .scVector .vmem, ⟨5, _⟩ => ⟨S128, .f32⟩
  | .local .scVector .vmem, ⟨6, _⟩ => ⟨S2x8x4096, .i32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev main_v1_scv : Ref sig .scVector := ⟨.hbm, 6, rfl⟩
abbrev cc2_stg0_0 : Ref sig .tc := ⟨.vmem, 0, rfl⟩
abbrev cc2_stg1_0 : Ref sig .tc := ⟨.vmem, 1, rfl⟩
abbrev cc2_stg2_0 : Ref sig .tc := ⟨.vmem, 2, rfl⟩
abbrev cc2_stg2_1 : Ref sig .tc := ⟨.vmem, 3, rfl⟩
abbrev cc3_stg0_0 : Ref sig .tc := ⟨.vmem, 4, rfl⟩
abbrev cc3_stg0_1 : Ref sig .tc := ⟨.vmem, 5, rfl⟩
abbrev cc3_stg1_0 : Ref sig .tc := ⟨.vmem, 6, rfl⟩
abbrev cc3_stg2_0 : Ref sig .tc := ⟨.vmem, 7, rfl⟩
abbrev cc3_stg3_0 : Ref sig .tc := ⟨.vmem, 8, rfl⟩
abbrev cc3_stg3_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc2_sem0_0 : DmaSem sig := 7
abbrev cc2_sem1_0 : DmaSem sig := 8
abbrev cc2_sem2_0 : DmaSem sig := 9
abbrev cc2_sem2_1 : DmaSem sig := 10
abbrev cc3_sem0_0 : DmaSem sig := 11
abbrev cc3_sem0_1 : DmaSem sig := 12
abbrev cc3_sem1_0 : DmaSem sig := 13
abbrev cc3_sem2_0 : DmaSem sig := 14
abbrev cc3_sem3_0 : DmaSem sig := 15
abbrev cc3_sem3_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_mult1 (v13 : BitVec 32) : BitVec 32 :=
  v13

def k0_chk1 (v13 : BitVec 32) : Prop :=
  (8 ∣ (k0_mult1 v13).toNat)
theorem k0_mult1_dvd : ∀ (v13 : BitVec 32) (k0_hw1 : k0_chk1 v13), 8 ∣ (k0_mult1 v13).toNat := fun v13 k0_hw1 => k0_hw1

def k0_mult2 (v22 : BitVec 32) : BitVec 32 :=
  v22

def k0_off2 (v13 : BitVec 32) (v22 : BitVec 32) : Fin 2 → Nat :=
  let v14 : BitVec 32 := v13
  let v23 : BitVec 32 := v22
  ![v14.toNat, v23.toNat]
def k0_mult3 (v45 : BitVec 32) : BitVec 32 :=
  v45

def k0_chk3 (v45 : BitVec 32) : Prop :=
  (8 ∣ (k0_mult3 v45).toNat)
theorem k0_mult3_dvd : ∀ (v45 : BitVec 32) (k0_hw3 : k0_chk3 v45), 8 ∣ (k0_mult3 v45).toNat := fun v45 k0_hw3 => k0_hw3

def k0_mult4 (v54 : BitVec 32) : BitVec 32 :=
  v54

def k0_off3 (v45 : BitVec 32) (v54 : BitVec 32) : Fin 2 → Nat :=
  let v46 : BitVec 32 := v45
  let v55 : BitVec 32 := v54
  ![v46.toNat, v55.toNat]
def k0_mult5 (v77 : BitVec 32) : BitVec 32 :=
  v77

def k0_chk5 (v77 : BitVec 32) : Prop :=
  (8 ∣ (k0_mult5 v77).toNat)
theorem k0_mult5_dvd : ∀ (v77 : BitVec 32) (k0_hw5 : k0_chk5 v77), 8 ∣ (k0_mult5 v77).toNat := fun v77 k0_hw5 => k0_hw5

def k0_mult6 (v86 : BitVec 32) : BitVec 32 :=
  v86

def k0_off4 (v77 : BitVec 32) (v86 : BitVec 32) : Fin 2 → Nat :=
  let v78 : BitVec 32 := v77
  let v87 : BitVec 32 := v86
  ![v78.toNat, v87.toNat]
def k0_mult7 (v109 : BitVec 32) : BitVec 32 :=
  v109

def k0_chk7 (v109 : BitVec 32) : Prop :=
  (8 ∣ (k0_mult7 v109).toNat)
theorem k0_mult7_dvd : ∀ (v109 : BitVec 32) (k0_hw7 : k0_chk7 v109), 8 ∣ (k0_mult7 v109).toNat := fun v109 k0_hw7 => k0_hw7

def k0_mult8 (v118 : BitVec 32) : BitVec 32 :=
  v118

def k0_off5 (v109 : BitVec 32) (v118 : BitVec 32) : Fin 2 → Nat :=
  let v110 : BitVec 32 := v109
  let v119 : BitVec 32 := v118
  ![v110.toNat, v119.toNat]
def k0_mult9 (v141 : BitVec 32) : BitVec 32 :=
  v141

def k0_chk9 (v141 : BitVec 32) : Prop :=
  (8 ∣ (k0_mult9 v141).toNat)
theorem k0_mult9_dvd : ∀ (v141 : BitVec 32) (k0_hw9 : k0_chk9 v141), 8 ∣ (k0_mult9 v141).toNat := fun v141 k0_hw9 => k0_hw9

def k0_mult10 (v150 : BitVec 32) : BitVec 32 :=
  v150

def k0_off6 (v141 : BitVec 32) (v150 : BitVec 32) : Fin 2 → Nat :=
  let v142 : BitVec 32 := v141
  let v151 : BitVec 32 := v150
  ![v142.toNat, v151.toNat]
def k0_mult11 (v173 : BitVec 32) : BitVec 32 :=
  v173

def k0_chk11 (v173 : BitVec 32) : Prop :=
  (8 ∣ (k0_mult11 v173).toNat)
theorem k0_mult11_dvd : ∀ (v173 : BitVec 32) (k0_hw11 : k0_chk11 v173), 8 ∣ (k0_mult11 v173).toNat := fun v173 k0_hw11 => k0_hw11

def k0_mult12 (v182 : BitVec 32) : BitVec 32 :=
  v182

def k0_off7 (v173 : BitVec 32) (v182 : BitVec 32) : Fin 2 → Nat :=
  let v174 : BitVec 32 := v173
  let v183 : BitVec 32 := v182
  ![v174.toNat, v183.toNat]
def k0_mult13 (v205 : BitVec 32) : BitVec 32 :=
  v205

def k0_chk13 (v205 : BitVec 32) : Prop :=
  (8 ∣ (k0_mult13 v205).toNat)
theorem k0_mult13_dvd : ∀ (v205 : BitVec 32) (k0_hw13 : k0_chk13 v205), 8 ∣ (k0_mult13 v205).toNat := fun v205 k0_hw13 => k0_hw13

def k0_mult14 (v214 : BitVec 32) : BitVec 32 :=
  v214

def k0_off8 (v205 : BitVec 32) (v214 : BitVec 32) : Fin 2 → Nat :=
  let v206 : BitVec 32 := v205
  let v215 : BitVec 32 := v214
  ![v206.toNat, v215.toNat]
def k0_mult15 (v237 : BitVec 32) : BitVec 32 :=
  v237

def k0_chk15 (v237 : BitVec 32) : Prop :=
  (8 ∣ (k0_mult15 v237).toNat)
theorem k0_mult15_dvd : ∀ (v237 : BitVec 32) (k0_hw15 : k0_chk15 v237), 8 ∣ (k0_mult15 v237).toNat := fun v237 k0_hw15 => k0_hw15

def k0_mult16 (v246 : BitVec 32) : BitVec 32 :=
  v246

def k0_off9 (v237 : BitVec 32) (v246 : BitVec 32) : Fin 2 → Nat :=
  let v238 : BitVec 32 := v237
  let v247 : BitVec 32 := v246
  ![v238.toNat, v247.toNat]
def k0_mult17 (v269 : BitVec 32) : BitVec 32 :=
  v269

def k0_chk17 (v269 : BitVec 32) : Prop :=
  (8 ∣ (k0_mult17 v269).toNat)
theorem k0_mult17_dvd : ∀ (v269 : BitVec 32) (k0_hw17 : k0_chk17 v269), 8 ∣ (k0_mult17 v269).toNat := fun v269 k0_hw17 => k0_hw17

def k0_mult18 (v278 : BitVec 32) : BitVec 32 :=
  v278

def k0_off10 (v269 : BitVec 32) (v278 : BitVec 32) : Fin 2 → Nat :=
  let v270 : BitVec 32 := v269
  let v279 : BitVec 32 := v278
  ![v270.toNat, v279.toNat]
def k0_mult19 (v301 : BitVec 32) : BitVec 32 :=
  v301

def k0_chk19 (v301 : BitVec 32) : Prop :=
  (8 ∣ (k0_mult19 v301).toNat)
theorem k0_mult19_dvd : ∀ (v301 : BitVec 32) (k0_hw19 : k0_chk19 v301), 8 ∣ (k0_mult19 v301).toNat := fun v301 k0_hw19 => k0_hw19

def k0_mult20 (v310 : BitVec 32) : BitVec 32 :=
  v310

def k0_off11 (v301 : BitVec 32) (v310 : BitVec 32) : Fin 2 → Nat :=
  let v302 : BitVec 32 := v301
  let v311 : BitVec 32 := v310
  ![v302.toNat, v311.toNat]
def k0_mult21 (v333 : BitVec 32) : BitVec 32 :=
  v333

def k0_chk21 (v333 : BitVec 32) : Prop :=
  (8 ∣ (k0_mult21 v333).toNat)
theorem k0_mult21_dvd : ∀ (v333 : BitVec 32) (k0_hw21 : k0_chk21 v333), 8 ∣ (k0_mult21 v333).toNat := fun v333 k0_hw21 => k0_hw21

def k0_mult22 (v342 : BitVec 32) : BitVec 32 :=
  v342

def k0_off12 (v333 : BitVec 32) (v342 : BitVec 32) : Fin 2 → Nat :=
  let v334 : BitVec 32 := v333
  let v343 : BitVec 32 := v342
  ![v334.toNat, v343.toNat]
def k0_mult23 (v365 : BitVec 32) : BitVec 32 :=
  v365

def k0_chk23 (v365 : BitVec 32) : Prop :=
  (8 ∣ (k0_mult23 v365).toNat)
theorem k0_mult23_dvd : ∀ (v365 : BitVec 32) (k0_hw23 : k0_chk23 v365), 8 ∣ (k0_mult23 v365).toNat := fun v365 k0_hw23 => k0_hw23

def k0_mult24 (v374 : BitVec 32) : BitVec 32 :=
  v374

def k0_off13 (v365 : BitVec 32) (v374 : BitVec 32) : Fin 2 → Nat :=
  let v366 : BitVec 32 := v365
  let v375 : BitVec 32 := v374
  ![v366.toNat, v375.toNat]
def k0_mult25 (v397 : BitVec 32) : BitVec 32 :=
  v397

def k0_chk25 (v397 : BitVec 32) : Prop :=
  (8 ∣ (k0_mult25 v397).toNat)
theorem k0_mult25_dvd : ∀ (v397 : BitVec 32) (k0_hw25 : k0_chk25 v397), 8 ∣ (k0_mult25 v397).toNat := fun v397 k0_hw25 => k0_hw25

def k0_mult26 (v406 : BitVec 32) : BitVec 32 :=
  v406

def k0_off14 (v397 : BitVec 32) (v406 : BitVec 32) : Fin 2 → Nat :=
  let v398 : BitVec 32 := v397
  let v407 : BitVec 32 := v406
  ![v398.toNat, v407.toNat]
def k0_mult27 (v429 : BitVec 32) : BitVec 32 :=
  v429

def k0_chk27 (v429 : BitVec 32) : Prop :=
  (8 ∣ (k0_mult27 v429).toNat)
theorem k0_mult27_dvd : ∀ (v429 : BitVec 32) (k0_hw27 : k0_chk27 v429), 8 ∣ (k0_mult27 v429).toNat := fun v429 k0_hw27 => k0_hw27

def k0_mult28 (v438 : BitVec 32) : BitVec 32 :=
  v438

def k0_off15 (v429 : BitVec 32) (v438 : BitVec 32) : Fin 2 → Nat :=
  let v430 : BitVec 32 := v429
  let v439 : BitVec 32 := v438
  ![v430.toNat, v439.toNat]
def k0_mult29 (v461 : BitVec 32) : BitVec 32 :=
  v461

def k0_chk29 (v461 : BitVec 32) : Prop :=
  (8 ∣ (k0_mult29 v461).toNat)
theorem k0_mult29_dvd : ∀ (v461 : BitVec 32) (k0_hw29 : k0_chk29 v461), 8 ∣ (k0_mult29 v461).toNat := fun v461 k0_hw29 => k0_hw29

def k0_mult30 (v470 : BitVec 32) : BitVec 32 :=
  v470

def k0_off16 (v461 : BitVec 32) (v470 : BitVec 32) : Fin 2 → Nat :=
  let v462 : BitVec 32 := v461
  let v471 : BitVec 32 := v470
  ![v462.toNat, v471.toNat]
def k0_mult31 (v493 : BitVec 32) : BitVec 32 :=
  v493

def k0_chk31 (v493 : BitVec 32) : Prop :=
  (8 ∣ (k0_mult31 v493).toNat)
theorem k0_mult31_dvd : ∀ (v493 : BitVec 32) (k0_hw31 : k0_chk31 v493), 8 ∣ (k0_mult31 v493).toNat := fun v493 k0_hw31 => k0_hw31

def k0_mult32 (v502 : BitVec 32) : BitVec 32 :=
  v502

def k0_off17 (v493 : BitVec 32) (v502 : BitVec 32) : Fin 2 → Nat :=
  let v494 : BitVec 32 := v493
  let v503 : BitVec 32 := v502
  ![v494.toNat, v503.toNat]
def k0_mult33 (v525 : BitVec 32) : BitVec 32 :=
  v525

def k0_chk33 (v525 : BitVec 32) : Prop :=
  (8 ∣ (k0_mult33 v525).toNat)
theorem k0_mult33_dvd : ∀ (v525 : BitVec 32) (k0_hw33 : k0_chk33 v525), 8 ∣ (k0_mult33 v525).toNat := fun v525 k0_hw33 => k0_hw33

def k0_mult34 (v534 : BitVec 32) : BitVec 32 :=
  v534

def k0_off18 (v525 : BitVec 32) (v534 : BitVec 32) : Fin 2 → Nat :=
  let v526 : BitVec 32 := v525
  let v535 : BitVec 32 := v534
  ![v526.toNat, v535.toNat]
def k0_mult35 (v557 : BitVec 32) : BitVec 32 :=
  v557

def k0_chk35 (v557 : BitVec 32) : Prop :=
  (8 ∣ (k0_mult35 v557).toNat)
theorem k0_mult35_dvd : ∀ (v557 : BitVec 32) (k0_hw35 : k0_chk35 v557), 8 ∣ (k0_mult35 v557).toNat := fun v557 k0_hw35 => k0_hw35

def k0_mult36 (v566 : BitVec 32) : BitVec 32 :=
  v566

def k0_off19 (v557 : BitVec 32) (v566 : BitVec 32) : Fin 2 → Nat :=
  let v558 : BitVec 32 := v557
  let v567 : BitVec 32 := v566
  ![v558.toNat, v567.toNat]
def k0_mult37 (v589 : BitVec 32) : BitVec 32 :=
  v589

def k0_chk37 (v589 : BitVec 32) : Prop :=
  (8 ∣ (k0_mult37 v589).toNat)
theorem k0_mult37_dvd : ∀ (v589 : BitVec 32) (k0_hw37 : k0_chk37 v589), 8 ∣ (k0_mult37 v589).toNat := fun v589 k0_hw37 => k0_hw37

def k0_mult38 (v598 : BitVec 32) : BitVec 32 :=
  v598

def k0_off20 (v589 : BitVec 32) (v598 : BitVec 32) : Fin 2 → Nat :=
  let v590 : BitVec 32 := v589
  let v599 : BitVec 32 := v598
  ![v590.toNat, v599.toNat]
def k0_mult39 (v621 : BitVec 32) : BitVec 32 :=
  v621

def k0_chk39 (v621 : BitVec 32) : Prop :=
  (8 ∣ (k0_mult39 v621).toNat)
theorem k0_mult39_dvd : ∀ (v621 : BitVec 32) (k0_hw39 : k0_chk39 v621), 8 ∣ (k0_mult39 v621).toNat := fun v621 k0_hw39 => k0_hw39

def k0_mult40 (v630 : BitVec 32) : BitVec 32 :=
  v630

def k0_off21 (v621 : BitVec 32) (v630 : BitVec 32) : Fin 2 → Nat :=
  let v622 : BitVec 32 := v621
  let v631 : BitVec 32 := v630
  ![v622.toNat, v631.toNat]
def k0_mult41 (v653 : BitVec 32) : BitVec 32 :=
  v653

def k0_chk41 (v653 : BitVec 32) : Prop :=
  (8 ∣ (k0_mult41 v653).toNat)
theorem k0_mult41_dvd : ∀ (v653 : BitVec 32) (k0_hw41 : k0_chk41 v653), 8 ∣ (k0_mult41 v653).toNat := fun v653 k0_hw41 => k0_hw41

def k0_mult42 (v662 : BitVec 32) : BitVec 32 :=
  v662

def k0_off22 (v653 : BitVec 32) (v662 : BitVec 32) : Fin 2 → Nat :=
  let v654 : BitVec 32 := v653
  let v663 : BitVec 32 := v662
  ![v654.toNat, v663.toNat]
def k0_mult43 (v685 : BitVec 32) : BitVec 32 :=
  v685

def k0_chk43 (v685 : BitVec 32) : Prop :=
  (8 ∣ (k0_mult43 v685).toNat)
theorem k0_mult43_dvd : ∀ (v685 : BitVec 32) (k0_hw43 : k0_chk43 v685), 8 ∣ (k0_mult43 v685).toNat := fun v685 k0_hw43 => k0_hw43

def k0_mult44 (v694 : BitVec 32) : BitVec 32 :=
  v694

def k0_off23 (v685 : BitVec 32) (v694 : BitVec 32) : Fin 2 → Nat :=
  let v686 : BitVec 32 := v685
  let v695 : BitVec 32 := v694
  ![v686.toNat, v695.toNat]
def k0_mult45 (v717 : BitVec 32) : BitVec 32 :=
  v717

def k0_chk45 (v717 : BitVec 32) : Prop :=
  (8 ∣ (k0_mult45 v717).toNat)
theorem k0_mult45_dvd : ∀ (v717 : BitVec 32) (k0_hw45 : k0_chk45 v717), 8 ∣ (k0_mult45 v717).toNat := fun v717 k0_hw45 => k0_hw45

def k0_mult46 (v726 : BitVec 32) : BitVec 32 :=
  v726

def k0_off24 (v717 : BitVec 32) (v726 : BitVec 32) : Fin 2 → Nat :=
  let v718 : BitVec 32 := v717
  let v727 : BitVec 32 := v726
  ![v718.toNat, v727.toNat]
def k0_mult47 (v749 : BitVec 32) : BitVec 32 :=
  v749

def k0_chk47 (v749 : BitVec 32) : Prop :=
  (8 ∣ (k0_mult47 v749).toNat)
theorem k0_mult47_dvd : ∀ (v749 : BitVec 32) (k0_hw47 : k0_chk47 v749), 8 ∣ (k0_mult47 v749).toNat := fun v749 k0_hw47 => k0_hw47

def k0_mult48 (v758 : BitVec 32) : BitVec 32 :=
  v758

def k0_off25 (v749 : BitVec 32) (v758 : BitVec 32) : Fin 2 → Nat :=
  let v750 : BitVec 32 := v749
  let v759 : BitVec 32 := v758
  ![v750.toNat, v759.toNat]
def k0_mult49 (v781 : BitVec 32) : BitVec 32 :=
  v781

def k0_chk49 (v781 : BitVec 32) : Prop :=
  (8 ∣ (k0_mult49 v781).toNat)
theorem k0_mult49_dvd : ∀ (v781 : BitVec 32) (k0_hw49 : k0_chk49 v781), 8 ∣ (k0_mult49 v781).toNat := fun v781 k0_hw49 => k0_hw49

def k0_mult50 (v790 : BitVec 32) : BitVec 32 :=
  v790

def k0_off26 (v781 : BitVec 32) (v790 : BitVec 32) : Fin 2 → Nat :=
  let v782 : BitVec 32 := v781
  let v791 : BitVec 32 := v790
  ![v782.toNat, v791.toNat]
def k0_mult51 (v813 : BitVec 32) : BitVec 32 :=
  v813

def k0_chk51 (v813 : BitVec 32) : Prop :=
  (8 ∣ (k0_mult51 v813).toNat)
theorem k0_mult51_dvd : ∀ (v813 : BitVec 32) (k0_hw51 : k0_chk51 v813), 8 ∣ (k0_mult51 v813).toNat := fun v813 k0_hw51 => k0_hw51

def k0_mult52 (v822 : BitVec 32) : BitVec 32 :=
  v822

def k0_off27 (v813 : BitVec 32) (v822 : BitVec 32) : Fin 2 → Nat :=
  let v814 : BitVec 32 := v813
  let v823 : BitVec 32 := v822
  ![v814.toNat, v823.toNat]
def k0_mult53 (v845 : BitVec 32) : BitVec 32 :=
  v845

def k0_chk53 (v845 : BitVec 32) : Prop :=
  (8 ∣ (k0_mult53 v845).toNat)
theorem k0_mult53_dvd : ∀ (v845 : BitVec 32) (k0_hw53 : k0_chk53 v845), 8 ∣ (k0_mult53 v845).toNat := fun v845 k0_hw53 => k0_hw53

def k0_mult54 (v854 : BitVec 32) : BitVec 32 :=
  v854

def k0_off28 (v845 : BitVec 32) (v854 : BitVec 32) : Fin 2 → Nat :=
  let v846 : BitVec 32 := v845
  let v855 : BitVec 32 := v854
  ![v846.toNat, v855.toNat]
def k0_mult55 (v877 : BitVec 32) : BitVec 32 :=
  v877

def k0_chk55 (v877 : BitVec 32) : Prop :=
  (8 ∣ (k0_mult55 v877).toNat)
theorem k0_mult55_dvd : ∀ (v877 : BitVec 32) (k0_hw55 : k0_chk55 v877), 8 ∣ (k0_mult55 v877).toNat := fun v877 k0_hw55 => k0_hw55

def k0_mult56 (v886 : BitVec 32) : BitVec 32 :=
  v886

def k0_off29 (v877 : BitVec 32) (v886 : BitVec 32) : Fin 2 → Nat :=
  let v878 : BitVec 32 := v877
  let v887 : BitVec 32 := v886
  ![v878.toNat, v887.toNat]
def k0_mult57 (v909 : BitVec 32) : BitVec 32 :=
  v909

def k0_chk57 (v909 : BitVec 32) : Prop :=
  (8 ∣ (k0_mult57 v909).toNat)
theorem k0_mult57_dvd : ∀ (v909 : BitVec 32) (k0_hw57 : k0_chk57 v909), 8 ∣ (k0_mult57 v909).toNat := fun v909 k0_hw57 => k0_hw57

def k0_mult58 (v918 : BitVec 32) : BitVec 32 :=
  v918

def k0_off30 (v909 : BitVec 32) (v918 : BitVec 32) : Fin 2 → Nat :=
  let v910 : BitVec 32 := v909
  let v919 : BitVec 32 := v918
  ![v910.toNat, v919.toNat]
def k0_mult59 (v941 : BitVec 32) : BitVec 32 :=
  v941

def k0_chk59 (v941 : BitVec 32) : Prop :=
  (8 ∣ (k0_mult59 v941).toNat)
theorem k0_mult59_dvd : ∀ (v941 : BitVec 32) (k0_hw59 : k0_chk59 v941), 8 ∣ (k0_mult59 v941).toNat := fun v941 k0_hw59 => k0_hw59

def k0_mult60 (v950 : BitVec 32) : BitVec 32 :=
  v950

def k0_off31 (v941 : BitVec 32) (v950 : BitVec 32) : Fin 2 → Nat :=
  let v942 : BitVec 32 := v941
  let v951 : BitVec 32 := v950
  ![v942.toNat, v951.toNat]
def k0_mult61 (v973 : BitVec 32) : BitVec 32 :=
  v973

def k0_chk61 (v973 : BitVec 32) : Prop :=
  (8 ∣ (k0_mult61 v973).toNat)
theorem k0_mult61_dvd : ∀ (v973 : BitVec 32) (k0_hw61 : k0_chk61 v973), 8 ∣ (k0_mult61 v973).toNat := fun v973 k0_hw61 => k0_hw61

def k0_mult62 (v982 : BitVec 32) : BitVec 32 :=
  v982

def k0_off32 (v973 : BitVec 32) (v982 : BitVec 32) : Fin 2 → Nat :=
  let v974 : BitVec 32 := v973
  let v983 : BitVec 32 := v982
  ![v974.toNat, v983.toNat]
def k0_mult63 (v1005 : BitVec 32) : BitVec 32 :=
  v1005

def k0_chk63 (v1005 : BitVec 32) : Prop :=
  (8 ∣ (k0_mult63 v1005).toNat)
theorem k0_mult63_dvd : ∀ (v1005 : BitVec 32) (k0_hw63 : k0_chk63 v1005), 8 ∣ (k0_mult63 v1005).toNat := fun v1005 k0_hw63 => k0_hw63

def k0_mult64 (v1014 : BitVec 32) : BitVec 32 :=
  v1014

def k0_off33 (v1005 : BitVec 32) (v1014 : BitVec 32) : Fin 2 → Nat :=
  let v1006 : BitVec 32 := v1005
  let v1015 : BitVec 32 := v1014
  ![v1006.toNat, v1015.toNat]

def k0_chk64 (v1005 : BitVec 32) (v1014 : BitVec 32) : Prop :=
  (128 ∣ (k0_mult64 v1014).toNat) ∧
  (∀ a, (k0_off33 v1005 v1014) a + S8x128.size a ≤ S4096x8192.size a)
theorem k0_mult64_dvd : ∀ (v1005 : BitVec 32) (v1014 : BitVec 32) (k0_hw64 : k0_chk64 v1005 v1014), 128 ∣ (k0_mult64 v1014).toNat := fun v1005 v1014 k0_hw64 => k0_hw64.1
theorem k0_off33_inb : ∀ (v1005 : BitVec 32) (v1014 : BitVec 32) (k0_hw64 : k0_chk64 v1005 v1014), ∀ a, (k0_off33 v1005 v1014) a + S8x128.size a ≤ S4096x8192.size a := fun v1005 v1014 k0_hw64 => k0_hw64.2

def k0_off34 (v13 : BitVec 32) (v22 : BitVec 32) : Fin 2 → Nat :=
  let v14 : BitVec 32 := v13
  let v23 : BitVec 32 := v22
  ![v14.toNat, v23.toNat]

def k0_chk2 (v13 : BitVec 32) (v22 : BitVec 32) : Prop :=
  (128 ∣ (k0_mult2 v22).toNat) ∧
  (∀ a, (k0_off2 v13 v22) a + S8x128.size a ≤ S4096x8192.size a) ∧
  (∀ a, (k0_off34 v13 v22) a + S8x128.size a ≤ S4096x8192.size a)
theorem k0_mult2_dvd : ∀ (v13 : BitVec 32) (v22 : BitVec 32) (k0_hw2 : k0_chk2 v13 v22), 128 ∣ (k0_mult2 v22).toNat := fun v13 v22 k0_hw2 => k0_hw2.1
theorem k0_off2_inb : ∀ (v13 : BitVec 32) (v22 : BitVec 32) (k0_hw2 : k0_chk2 v13 v22), ∀ a, (k0_off2 v13 v22) a + S8x128.size a ≤ S4096x8192.size a := fun v13 v22 k0_hw2 => k0_hw2.2.1
theorem k0_off34_inb : ∀ (v13 : BitVec 32) (v22 : BitVec 32) (k0_hw2 : k0_chk2 v13 v22), ∀ a, (k0_off34 v13 v22) a + S8x128.size a ≤ S4096x8192.size a := fun v13 v22 k0_hw2 => k0_hw2.2.2

def k0_off35 (v45 : BitVec 32) (v54 : BitVec 32) : Fin 2 → Nat :=
  let v46 : BitVec 32 := v45
  let v55 : BitVec 32 := v54
  ![v46.toNat, v55.toNat]

def k0_chk4 (v45 : BitVec 32) (v54 : BitVec 32) : Prop :=
  (128 ∣ (k0_mult4 v54).toNat) ∧
  (∀ a, (k0_off3 v45 v54) a + S8x128.size a ≤ S4096x8192.size a) ∧
  (∀ a, (k0_off35 v45 v54) a + S8x128.size a ≤ S4096x8192.size a)
theorem k0_mult4_dvd : ∀ (v45 : BitVec 32) (v54 : BitVec 32) (k0_hw4 : k0_chk4 v45 v54), 128 ∣ (k0_mult4 v54).toNat := fun v45 v54 k0_hw4 => k0_hw4.1
theorem k0_off3_inb : ∀ (v45 : BitVec 32) (v54 : BitVec 32) (k0_hw4 : k0_chk4 v45 v54), ∀ a, (k0_off3 v45 v54) a + S8x128.size a ≤ S4096x8192.size a := fun v45 v54 k0_hw4 => k0_hw4.2.1
theorem k0_off35_inb : ∀ (v45 : BitVec 32) (v54 : BitVec 32) (k0_hw4 : k0_chk4 v45 v54), ∀ a, (k0_off35 v45 v54) a + S8x128.size a ≤ S4096x8192.size a := fun v45 v54 k0_hw4 => k0_hw4.2.2

def k0_off36 (v77 : BitVec 32) (v86 : BitVec 32) : Fin 2 → Nat :=
  let v78 : BitVec 32 := v77
  let v87 : BitVec 32 := v86
  ![v78.toNat, v87.toNat]

def k0_chk6 (v77 : BitVec 32) (v86 : BitVec 32) : Prop :=
  (128 ∣ (k0_mult6 v86).toNat) ∧
  (∀ a, (k0_off4 v77 v86) a + S8x128.size a ≤ S4096x8192.size a) ∧
  (∀ a, (k0_off36 v77 v86) a + S8x128.size a ≤ S4096x8192.size a)
theorem k0_mult6_dvd : ∀ (v77 : BitVec 32) (v86 : BitVec 32) (k0_hw6 : k0_chk6 v77 v86), 128 ∣ (k0_mult6 v86).toNat := fun v77 v86 k0_hw6 => k0_hw6.1
theorem k0_off4_inb : ∀ (v77 : BitVec 32) (v86 : BitVec 32) (k0_hw6 : k0_chk6 v77 v86), ∀ a, (k0_off4 v77 v86) a + S8x128.size a ≤ S4096x8192.size a := fun v77 v86 k0_hw6 => k0_hw6.2.1
theorem k0_off36_inb : ∀ (v77 : BitVec 32) (v86 : BitVec 32) (k0_hw6 : k0_chk6 v77 v86), ∀ a, (k0_off36 v77 v86) a + S8x128.size a ≤ S4096x8192.size a := fun v77 v86 k0_hw6 => k0_hw6.2.2

def k0_off37 (v109 : BitVec 32) (v118 : BitVec 32) : Fin 2 → Nat :=
  let v110 : BitVec 32 := v109
  let v119 : BitVec 32 := v118
  ![v110.toNat, v119.toNat]

def k0_chk8 (v109 : BitVec 32) (v118 : BitVec 32) : Prop :=
  (128 ∣ (k0_mult8 v118).toNat) ∧
  (∀ a, (k0_off5 v109 v118) a + S8x128.size a ≤ S4096x8192.size a) ∧
  (∀ a, (k0_off37 v109 v118) a + S8x128.size a ≤ S4096x8192.size a)
theorem k0_mult8_dvd : ∀ (v109 : BitVec 32) (v118 : BitVec 32) (k0_hw8 : k0_chk8 v109 v118), 128 ∣ (k0_mult8 v118).toNat := fun v109 v118 k0_hw8 => k0_hw8.1
theorem k0_off5_inb : ∀ (v109 : BitVec 32) (v118 : BitVec 32) (k0_hw8 : k0_chk8 v109 v118), ∀ a, (k0_off5 v109 v118) a + S8x128.size a ≤ S4096x8192.size a := fun v109 v118 k0_hw8 => k0_hw8.2.1
theorem k0_off37_inb : ∀ (v109 : BitVec 32) (v118 : BitVec 32) (k0_hw8 : k0_chk8 v109 v118), ∀ a, (k0_off37 v109 v118) a + S8x128.size a ≤ S4096x8192.size a := fun v109 v118 k0_hw8 => k0_hw8.2.2

def k0_off38 (v141 : BitVec 32) (v150 : BitVec 32) : Fin 2 → Nat :=
  let v142 : BitVec 32 := v141
  let v151 : BitVec 32 := v150
  ![v142.toNat, v151.toNat]

def k0_chk10 (v141 : BitVec 32) (v150 : BitVec 32) : Prop :=
  (128 ∣ (k0_mult10 v150).toNat) ∧
  (∀ a, (k0_off6 v141 v150) a + S8x128.size a ≤ S4096x8192.size a) ∧
  (∀ a, (k0_off38 v141 v150) a + S8x128.size a ≤ S4096x8192.size a)
theorem k0_mult10_dvd : ∀ (v141 : BitVec 32) (v150 : BitVec 32) (k0_hw10 : k0_chk10 v141 v150), 128 ∣ (k0_mult10 v150).toNat := fun v141 v150 k0_hw10 => k0_hw10.1
theorem k0_off6_inb : ∀ (v141 : BitVec 32) (v150 : BitVec 32) (k0_hw10 : k0_chk10 v141 v150), ∀ a, (k0_off6 v141 v150) a + S8x128.size a ≤ S4096x8192.size a := fun v141 v150 k0_hw10 => k0_hw10.2.1
theorem k0_off38_inb : ∀ (v141 : BitVec 32) (v150 : BitVec 32) (k0_hw10 : k0_chk10 v141 v150), ∀ a, (k0_off38 v141 v150) a + S8x128.size a ≤ S4096x8192.size a := fun v141 v150 k0_hw10 => k0_hw10.2.2

def k0_off39 (v173 : BitVec 32) (v182 : BitVec 32) : Fin 2 → Nat :=
  let v174 : BitVec 32 := v173
  let v183 : BitVec 32 := v182
  ![v174.toNat, v183.toNat]

def k0_chk12 (v173 : BitVec 32) (v182 : BitVec 32) : Prop :=
  (128 ∣ (k0_mult12 v182).toNat) ∧
  (∀ a, (k0_off7 v173 v182) a + S8x128.size a ≤ S4096x8192.size a) ∧
  (∀ a, (k0_off39 v173 v182) a + S8x128.size a ≤ S4096x8192.size a)
theorem k0_mult12_dvd : ∀ (v173 : BitVec 32) (v182 : BitVec 32) (k0_hw12 : k0_chk12 v173 v182), 128 ∣ (k0_mult12 v182).toNat := fun v173 v182 k0_hw12 => k0_hw12.1
theorem k0_off7_inb : ∀ (v173 : BitVec 32) (v182 : BitVec 32) (k0_hw12 : k0_chk12 v173 v182), ∀ a, (k0_off7 v173 v182) a + S8x128.size a ≤ S4096x8192.size a := fun v173 v182 k0_hw12 => k0_hw12.2.1
theorem k0_off39_inb : ∀ (v173 : BitVec 32) (v182 : BitVec 32) (k0_hw12 : k0_chk12 v173 v182), ∀ a, (k0_off39 v173 v182) a + S8x128.size a ≤ S4096x8192.size a := fun v173 v182 k0_hw12 => k0_hw12.2.2

def k0_off40 (v205 : BitVec 32) (v214 : BitVec 32) : Fin 2 → Nat :=
  let v206 : BitVec 32 := v205
  let v215 : BitVec 32 := v214
  ![v206.toNat, v215.toNat]

def k0_chk14 (v205 : BitVec 32) (v214 : BitVec 32) : Prop :=
  (128 ∣ (k0_mult14 v214).toNat) ∧
  (∀ a, (k0_off8 v205 v214) a + S8x128.size a ≤ S4096x8192.size a) ∧
  (∀ a, (k0_off40 v205 v214) a + S8x128.size a ≤ S4096x8192.size a)
theorem k0_mult14_dvd : ∀ (v205 : BitVec 32) (v214 : BitVec 32) (k0_hw14 : k0_chk14 v205 v214), 128 ∣ (k0_mult14 v214).toNat := fun v205 v214 k0_hw14 => k0_hw14.1
theorem k0_off8_inb : ∀ (v205 : BitVec 32) (v214 : BitVec 32) (k0_hw14 : k0_chk14 v205 v214), ∀ a, (k0_off8 v205 v214) a + S8x128.size a ≤ S4096x8192.size a := fun v205 v214 k0_hw14 => k0_hw14.2.1
theorem k0_off40_inb : ∀ (v205 : BitVec 32) (v214 : BitVec 32) (k0_hw14 : k0_chk14 v205 v214), ∀ a, (k0_off40 v205 v214) a + S8x128.size a ≤ S4096x8192.size a := fun v205 v214 k0_hw14 => k0_hw14.2.2

def k0_off41 (v237 : BitVec 32) (v246 : BitVec 32) : Fin 2 → Nat :=
  let v238 : BitVec 32 := v237
  let v247 : BitVec 32 := v246
  ![v238.toNat, v247.toNat]

def k0_chk16 (v237 : BitVec 32) (v246 : BitVec 32) : Prop :=
  (128 ∣ (k0_mult16 v246).toNat) ∧
  (∀ a, (k0_off9 v237 v246) a + S8x128.size a ≤ S4096x8192.size a) ∧
  (∀ a, (k0_off41 v237 v246) a + S8x128.size a ≤ S4096x8192.size a)
theorem k0_mult16_dvd : ∀ (v237 : BitVec 32) (v246 : BitVec 32) (k0_hw16 : k0_chk16 v237 v246), 128 ∣ (k0_mult16 v246).toNat := fun v237 v246 k0_hw16 => k0_hw16.1
theorem k0_off9_inb : ∀ (v237 : BitVec 32) (v246 : BitVec 32) (k0_hw16 : k0_chk16 v237 v246), ∀ a, (k0_off9 v237 v246) a + S8x128.size a ≤ S4096x8192.size a := fun v237 v246 k0_hw16 => k0_hw16.2.1
theorem k0_off41_inb : ∀ (v237 : BitVec 32) (v246 : BitVec 32) (k0_hw16 : k0_chk16 v237 v246), ∀ a, (k0_off41 v237 v246) a + S8x128.size a ≤ S4096x8192.size a := fun v237 v246 k0_hw16 => k0_hw16.2.2

def k0_off42 (v269 : BitVec 32) (v278 : BitVec 32) : Fin 2 → Nat :=
  let v270 : BitVec 32 := v269
  let v279 : BitVec 32 := v278
  ![v270.toNat, v279.toNat]

def k0_chk18 (v269 : BitVec 32) (v278 : BitVec 32) : Prop :=
  (128 ∣ (k0_mult18 v278).toNat) ∧
  (∀ a, (k0_off10 v269 v278) a + S8x128.size a ≤ S4096x8192.size a) ∧
  (∀ a, (k0_off42 v269 v278) a + S8x128.size a ≤ S4096x8192.size a)
theorem k0_mult18_dvd : ∀ (v269 : BitVec 32) (v278 : BitVec 32) (k0_hw18 : k0_chk18 v269 v278), 128 ∣ (k0_mult18 v278).toNat := fun v269 v278 k0_hw18 => k0_hw18.1
theorem k0_off10_inb : ∀ (v269 : BitVec 32) (v278 : BitVec 32) (k0_hw18 : k0_chk18 v269 v278), ∀ a, (k0_off10 v269 v278) a + S8x128.size a ≤ S4096x8192.size a := fun v269 v278 k0_hw18 => k0_hw18.2.1
theorem k0_off42_inb : ∀ (v269 : BitVec 32) (v278 : BitVec 32) (k0_hw18 : k0_chk18 v269 v278), ∀ a, (k0_off42 v269 v278) a + S8x128.size a ≤ S4096x8192.size a := fun v269 v278 k0_hw18 => k0_hw18.2.2

def k0_off43 (v301 : BitVec 32) (v310 : BitVec 32) : Fin 2 → Nat :=
  let v302 : BitVec 32 := v301
  let v311 : BitVec 32 := v310
  ![v302.toNat, v311.toNat]

def k0_chk20 (v301 : BitVec 32) (v310 : BitVec 32) : Prop :=
  (128 ∣ (k0_mult20 v310).toNat) ∧
  (∀ a, (k0_off11 v301 v310) a + S8x128.size a ≤ S4096x8192.size a) ∧
  (∀ a, (k0_off43 v301 v310) a + S8x128.size a ≤ S4096x8192.size a)
theorem k0_mult20_dvd : ∀ (v301 : BitVec 32) (v310 : BitVec 32) (k0_hw20 : k0_chk20 v301 v310), 128 ∣ (k0_mult20 v310).toNat := fun v301 v310 k0_hw20 => k0_hw20.1
theorem k0_off11_inb : ∀ (v301 : BitVec 32) (v310 : BitVec 32) (k0_hw20 : k0_chk20 v301 v310), ∀ a, (k0_off11 v301 v310) a + S8x128.size a ≤ S4096x8192.size a := fun v301 v310 k0_hw20 => k0_hw20.2.1
theorem k0_off43_inb : ∀ (v301 : BitVec 32) (v310 : BitVec 32) (k0_hw20 : k0_chk20 v301 v310), ∀ a, (k0_off43 v301 v310) a + S8x128.size a ≤ S4096x8192.size a := fun v301 v310 k0_hw20 => k0_hw20.2.2

def k0_off44 (v333 : BitVec 32) (v342 : BitVec 32) : Fin 2 → Nat :=
  let v334 : BitVec 32 := v333
  let v343 : BitVec 32 := v342
  ![v334.toNat, v343.toNat]

def k0_chk22 (v333 : BitVec 32) (v342 : BitVec 32) : Prop :=
  (128 ∣ (k0_mult22 v342).toNat) ∧
  (∀ a, (k0_off12 v333 v342) a + S8x128.size a ≤ S4096x8192.size a) ∧
  (∀ a, (k0_off44 v333 v342) a + S8x128.size a ≤ S4096x8192.size a)
theorem k0_mult22_dvd : ∀ (v333 : BitVec 32) (v342 : BitVec 32) (k0_hw22 : k0_chk22 v333 v342), 128 ∣ (k0_mult22 v342).toNat := fun v333 v342 k0_hw22 => k0_hw22.1
theorem k0_off12_inb : ∀ (v333 : BitVec 32) (v342 : BitVec 32) (k0_hw22 : k0_chk22 v333 v342), ∀ a, (k0_off12 v333 v342) a + S8x128.size a ≤ S4096x8192.size a := fun v333 v342 k0_hw22 => k0_hw22.2.1
theorem k0_off44_inb : ∀ (v333 : BitVec 32) (v342 : BitVec 32) (k0_hw22 : k0_chk22 v333 v342), ∀ a, (k0_off44 v333 v342) a + S8x128.size a ≤ S4096x8192.size a := fun v333 v342 k0_hw22 => k0_hw22.2.2

def k0_off45 (v365 : BitVec 32) (v374 : BitVec 32) : Fin 2 → Nat :=
  let v366 : BitVec 32 := v365
  let v375 : BitVec 32 := v374
  ![v366.toNat, v375.toNat]

def k0_chk24 (v365 : BitVec 32) (v374 : BitVec 32) : Prop :=
  (128 ∣ (k0_mult24 v374).toNat) ∧
  (∀ a, (k0_off13 v365 v374) a + S8x128.size a ≤ S4096x8192.size a) ∧
  (∀ a, (k0_off45 v365 v374) a + S8x128.size a ≤ S4096x8192.size a)
theorem k0_mult24_dvd : ∀ (v365 : BitVec 32) (v374 : BitVec 32) (k0_hw24 : k0_chk24 v365 v374), 128 ∣ (k0_mult24 v374).toNat := fun v365 v374 k0_hw24 => k0_hw24.1
theorem k0_off13_inb : ∀ (v365 : BitVec 32) (v374 : BitVec 32) (k0_hw24 : k0_chk24 v365 v374), ∀ a, (k0_off13 v365 v374) a + S8x128.size a ≤ S4096x8192.size a := fun v365 v374 k0_hw24 => k0_hw24.2.1
theorem k0_off45_inb : ∀ (v365 : BitVec 32) (v374 : BitVec 32) (k0_hw24 : k0_chk24 v365 v374), ∀ a, (k0_off45 v365 v374) a + S8x128.size a ≤ S4096x8192.size a := fun v365 v374 k0_hw24 => k0_hw24.2.2

def k0_off46 (v397 : BitVec 32) (v406 : BitVec 32) : Fin 2 → Nat :=
  let v398 : BitVec 32 := v397
  let v407 : BitVec 32 := v406
  ![v398.toNat, v407.toNat]

def k0_chk26 (v397 : BitVec 32) (v406 : BitVec 32) : Prop :=
  (128 ∣ (k0_mult26 v406).toNat) ∧
  (∀ a, (k0_off14 v397 v406) a + S8x128.size a ≤ S4096x8192.size a) ∧
  (∀ a, (k0_off46 v397 v406) a + S8x128.size a ≤ S4096x8192.size a)
theorem k0_mult26_dvd : ∀ (v397 : BitVec 32) (v406 : BitVec 32) (k0_hw26 : k0_chk26 v397 v406), 128 ∣ (k0_mult26 v406).toNat := fun v397 v406 k0_hw26 => k0_hw26.1
theorem k0_off14_inb : ∀ (v397 : BitVec 32) (v406 : BitVec 32) (k0_hw26 : k0_chk26 v397 v406), ∀ a, (k0_off14 v397 v406) a + S8x128.size a ≤ S4096x8192.size a := fun v397 v406 k0_hw26 => k0_hw26.2.1
theorem k0_off46_inb : ∀ (v397 : BitVec 32) (v406 : BitVec 32) (k0_hw26 : k0_chk26 v397 v406), ∀ a, (k0_off46 v397 v406) a + S8x128.size a ≤ S4096x8192.size a := fun v397 v406 k0_hw26 => k0_hw26.2.2

def k0_off47 (v429 : BitVec 32) (v438 : BitVec 32) : Fin 2 → Nat :=
  let v430 : BitVec 32 := v429
  let v439 : BitVec 32 := v438
  ![v430.toNat, v439.toNat]

def k0_chk28 (v429 : BitVec 32) (v438 : BitVec 32) : Prop :=
  (128 ∣ (k0_mult28 v438).toNat) ∧
  (∀ a, (k0_off15 v429 v438) a + S8x128.size a ≤ S4096x8192.size a) ∧
  (∀ a, (k0_off47 v429 v438) a + S8x128.size a ≤ S4096x8192.size a)
theorem k0_mult28_dvd : ∀ (v429 : BitVec 32) (v438 : BitVec 32) (k0_hw28 : k0_chk28 v429 v438), 128 ∣ (k0_mult28 v438).toNat := fun v429 v438 k0_hw28 => k0_hw28.1
theorem k0_off15_inb : ∀ (v429 : BitVec 32) (v438 : BitVec 32) (k0_hw28 : k0_chk28 v429 v438), ∀ a, (k0_off15 v429 v438) a + S8x128.size a ≤ S4096x8192.size a := fun v429 v438 k0_hw28 => k0_hw28.2.1
theorem k0_off47_inb : ∀ (v429 : BitVec 32) (v438 : BitVec 32) (k0_hw28 : k0_chk28 v429 v438), ∀ a, (k0_off47 v429 v438) a + S8x128.size a ≤ S4096x8192.size a := fun v429 v438 k0_hw28 => k0_hw28.2.2

def k0_off48 (v461 : BitVec 32) (v470 : BitVec 32) : Fin 2 → Nat :=
  let v462 : BitVec 32 := v461
  let v471 : BitVec 32 := v470
  ![v462.toNat, v471.toNat]

def k0_chk30 (v461 : BitVec 32) (v470 : BitVec 32) : Prop :=
  (128 ∣ (k0_mult30 v470).toNat) ∧
  (∀ a, (k0_off16 v461 v470) a + S8x128.size a ≤ S4096x8192.size a) ∧
  (∀ a, (k0_off48 v461 v470) a + S8x128.size a ≤ S4096x8192.size a)
theorem k0_mult30_dvd : ∀ (v461 : BitVec 32) (v470 : BitVec 32) (k0_hw30 : k0_chk30 v461 v470), 128 ∣ (k0_mult30 v470).toNat := fun v461 v470 k0_hw30 => k0_hw30.1
theorem k0_off16_inb : ∀ (v461 : BitVec 32) (v470 : BitVec 32) (k0_hw30 : k0_chk30 v461 v470), ∀ a, (k0_off16 v461 v470) a + S8x128.size a ≤ S4096x8192.size a := fun v461 v470 k0_hw30 => k0_hw30.2.1
theorem k0_off48_inb : ∀ (v461 : BitVec 32) (v470 : BitVec 32) (k0_hw30 : k0_chk30 v461 v470), ∀ a, (k0_off48 v461 v470) a + S8x128.size a ≤ S4096x8192.size a := fun v461 v470 k0_hw30 => k0_hw30.2.2

def k0_off49 (v493 : BitVec 32) (v502 : BitVec 32) : Fin 2 → Nat :=
  let v494 : BitVec 32 := v493
  let v503 : BitVec 32 := v502
  ![v494.toNat, v503.toNat]

def k0_chk32 (v493 : BitVec 32) (v502 : BitVec 32) : Prop :=
  (128 ∣ (k0_mult32 v502).toNat) ∧
  (∀ a, (k0_off17 v493 v502) a + S8x128.size a ≤ S4096x8192.size a) ∧
  (∀ a, (k0_off49 v493 v502) a + S8x128.size a ≤ S4096x8192.size a)
theorem k0_mult32_dvd : ∀ (v493 : BitVec 32) (v502 : BitVec 32) (k0_hw32 : k0_chk32 v493 v502), 128 ∣ (k0_mult32 v502).toNat := fun v493 v502 k0_hw32 => k0_hw32.1
theorem k0_off17_inb : ∀ (v493 : BitVec 32) (v502 : BitVec 32) (k0_hw32 : k0_chk32 v493 v502), ∀ a, (k0_off17 v493 v502) a + S8x128.size a ≤ S4096x8192.size a := fun v493 v502 k0_hw32 => k0_hw32.2.1
theorem k0_off49_inb : ∀ (v493 : BitVec 32) (v502 : BitVec 32) (k0_hw32 : k0_chk32 v493 v502), ∀ a, (k0_off49 v493 v502) a + S8x128.size a ≤ S4096x8192.size a := fun v493 v502 k0_hw32 => k0_hw32.2.2

def k0_off50 (v525 : BitVec 32) (v534 : BitVec 32) : Fin 2 → Nat :=
  let v526 : BitVec 32 := v525
  let v535 : BitVec 32 := v534
  ![v526.toNat, v535.toNat]

def k0_chk34 (v525 : BitVec 32) (v534 : BitVec 32) : Prop :=
  (128 ∣ (k0_mult34 v534).toNat) ∧
  (∀ a, (k0_off18 v525 v534) a + S8x128.size a ≤ S4096x8192.size a) ∧
  (∀ a, (k0_off50 v525 v534) a + S8x128.size a ≤ S4096x8192.size a)
theorem k0_mult34_dvd : ∀ (v525 : BitVec 32) (v534 : BitVec 32) (k0_hw34 : k0_chk34 v525 v534), 128 ∣ (k0_mult34 v534).toNat := fun v525 v534 k0_hw34 => k0_hw34.1
theorem k0_off18_inb : ∀ (v525 : BitVec 32) (v534 : BitVec 32) (k0_hw34 : k0_chk34 v525 v534), ∀ a, (k0_off18 v525 v534) a + S8x128.size a ≤ S4096x8192.size a := fun v525 v534 k0_hw34 => k0_hw34.2.1
theorem k0_off50_inb : ∀ (v525 : BitVec 32) (v534 : BitVec 32) (k0_hw34 : k0_chk34 v525 v534), ∀ a, (k0_off50 v525 v534) a + S8x128.size a ≤ S4096x8192.size a := fun v525 v534 k0_hw34 => k0_hw34.2.2

def k0_off51 (v557 : BitVec 32) (v566 : BitVec 32) : Fin 2 → Nat :=
  let v558 : BitVec 32 := v557
  let v567 : BitVec 32 := v566
  ![v558.toNat, v567.toNat]

def k0_chk36 (v557 : BitVec 32) (v566 : BitVec 32) : Prop :=
  (128 ∣ (k0_mult36 v566).toNat) ∧
  (∀ a, (k0_off19 v557 v566) a + S8x128.size a ≤ S4096x8192.size a) ∧
  (∀ a, (k0_off51 v557 v566) a + S8x128.size a ≤ S4096x8192.size a)
theorem k0_mult36_dvd : ∀ (v557 : BitVec 32) (v566 : BitVec 32) (k0_hw36 : k0_chk36 v557 v566), 128 ∣ (k0_mult36 v566).toNat := fun v557 v566 k0_hw36 => k0_hw36.1
theorem k0_off19_inb : ∀ (v557 : BitVec 32) (v566 : BitVec 32) (k0_hw36 : k0_chk36 v557 v566), ∀ a, (k0_off19 v557 v566) a + S8x128.size a ≤ S4096x8192.size a := fun v557 v566 k0_hw36 => k0_hw36.2.1
theorem k0_off51_inb : ∀ (v557 : BitVec 32) (v566 : BitVec 32) (k0_hw36 : k0_chk36 v557 v566), ∀ a, (k0_off51 v557 v566) a + S8x128.size a ≤ S4096x8192.size a := fun v557 v566 k0_hw36 => k0_hw36.2.2

def k0_off52 (v589 : BitVec 32) (v598 : BitVec 32) : Fin 2 → Nat :=
  let v590 : BitVec 32 := v589
  let v599 : BitVec 32 := v598
  ![v590.toNat, v599.toNat]

def k0_chk38 (v589 : BitVec 32) (v598 : BitVec 32) : Prop :=
  (128 ∣ (k0_mult38 v598).toNat) ∧
  (∀ a, (k0_off20 v589 v598) a + S8x128.size a ≤ S4096x8192.size a) ∧
  (∀ a, (k0_off52 v589 v598) a + S8x128.size a ≤ S4096x8192.size a)
theorem k0_mult38_dvd : ∀ (v589 : BitVec 32) (v598 : BitVec 32) (k0_hw38 : k0_chk38 v589 v598), 128 ∣ (k0_mult38 v598).toNat := fun v589 v598 k0_hw38 => k0_hw38.1
theorem k0_off20_inb : ∀ (v589 : BitVec 32) (v598 : BitVec 32) (k0_hw38 : k0_chk38 v589 v598), ∀ a, (k0_off20 v589 v598) a + S8x128.size a ≤ S4096x8192.size a := fun v589 v598 k0_hw38 => k0_hw38.2.1
theorem k0_off52_inb : ∀ (v589 : BitVec 32) (v598 : BitVec 32) (k0_hw38 : k0_chk38 v589 v598), ∀ a, (k0_off52 v589 v598) a + S8x128.size a ≤ S4096x8192.size a := fun v589 v598 k0_hw38 => k0_hw38.2.2

def k0_off53 (v621 : BitVec 32) (v630 : BitVec 32) : Fin 2 → Nat :=
  let v622 : BitVec 32 := v621
  let v631 : BitVec 32 := v630
  ![v622.toNat, v631.toNat]

def k0_chk40 (v621 : BitVec 32) (v630 : BitVec 32) : Prop :=
  (128 ∣ (k0_mult40 v630).toNat) ∧
  (∀ a, (k0_off21 v621 v630) a + S8x128.size a ≤ S4096x8192.size a) ∧
  (∀ a, (k0_off53 v621 v630) a + S8x128.size a ≤ S4096x8192.size a)
theorem k0_mult40_dvd : ∀ (v621 : BitVec 32) (v630 : BitVec 32) (k0_hw40 : k0_chk40 v621 v630), 128 ∣ (k0_mult40 v630).toNat := fun v621 v630 k0_hw40 => k0_hw40.1
theorem k0_off21_inb : ∀ (v621 : BitVec 32) (v630 : BitVec 32) (k0_hw40 : k0_chk40 v621 v630), ∀ a, (k0_off21 v621 v630) a + S8x128.size a ≤ S4096x8192.size a := fun v621 v630 k0_hw40 => k0_hw40.2.1
theorem k0_off53_inb : ∀ (v621 : BitVec 32) (v630 : BitVec 32) (k0_hw40 : k0_chk40 v621 v630), ∀ a, (k0_off53 v621 v630) a + S8x128.size a ≤ S4096x8192.size a := fun v621 v630 k0_hw40 => k0_hw40.2.2

def k0_off54 (v653 : BitVec 32) (v662 : BitVec 32) : Fin 2 → Nat :=
  let v654 : BitVec 32 := v653
  let v663 : BitVec 32 := v662
  ![v654.toNat, v663.toNat]

def k0_chk42 (v653 : BitVec 32) (v662 : BitVec 32) : Prop :=
  (128 ∣ (k0_mult42 v662).toNat) ∧
  (∀ a, (k0_off22 v653 v662) a + S8x128.size a ≤ S4096x8192.size a) ∧
  (∀ a, (k0_off54 v653 v662) a + S8x128.size a ≤ S4096x8192.size a)
theorem k0_mult42_dvd : ∀ (v653 : BitVec 32) (v662 : BitVec 32) (k0_hw42 : k0_chk42 v653 v662), 128 ∣ (k0_mult42 v662).toNat := fun v653 v662 k0_hw42 => k0_hw42.1
theorem k0_off22_inb : ∀ (v653 : BitVec 32) (v662 : BitVec 32) (k0_hw42 : k0_chk42 v653 v662), ∀ a, (k0_off22 v653 v662) a + S8x128.size a ≤ S4096x8192.size a := fun v653 v662 k0_hw42 => k0_hw42.2.1
theorem k0_off54_inb : ∀ (v653 : BitVec 32) (v662 : BitVec 32) (k0_hw42 : k0_chk42 v653 v662), ∀ a, (k0_off54 v653 v662) a + S8x128.size a ≤ S4096x8192.size a := fun v653 v662 k0_hw42 => k0_hw42.2.2

def k0_off55 (v685 : BitVec 32) (v694 : BitVec 32) : Fin 2 → Nat :=
  let v686 : BitVec 32 := v685
  let v695 : BitVec 32 := v694
  ![v686.toNat, v695.toNat]

def k0_chk44 (v685 : BitVec 32) (v694 : BitVec 32) : Prop :=
  (128 ∣ (k0_mult44 v694).toNat) ∧
  (∀ a, (k0_off23 v685 v694) a + S8x128.size a ≤ S4096x8192.size a) ∧
  (∀ a, (k0_off55 v685 v694) a + S8x128.size a ≤ S4096x8192.size a)
theorem k0_mult44_dvd : ∀ (v685 : BitVec 32) (v694 : BitVec 32) (k0_hw44 : k0_chk44 v685 v694), 128 ∣ (k0_mult44 v694).toNat := fun v685 v694 k0_hw44 => k0_hw44.1
theorem k0_off23_inb : ∀ (v685 : BitVec 32) (v694 : BitVec 32) (k0_hw44 : k0_chk44 v685 v694), ∀ a, (k0_off23 v685 v694) a + S8x128.size a ≤ S4096x8192.size a := fun v685 v694 k0_hw44 => k0_hw44.2.1
theorem k0_off55_inb : ∀ (v685 : BitVec 32) (v694 : BitVec 32) (k0_hw44 : k0_chk44 v685 v694), ∀ a, (k0_off55 v685 v694) a + S8x128.size a ≤ S4096x8192.size a := fun v685 v694 k0_hw44 => k0_hw44.2.2

def k0_off56 (v717 : BitVec 32) (v726 : BitVec 32) : Fin 2 → Nat :=
  let v718 : BitVec 32 := v717
  let v727 : BitVec 32 := v726
  ![v718.toNat, v727.toNat]

def k0_chk46 (v717 : BitVec 32) (v726 : BitVec 32) : Prop :=
  (128 ∣ (k0_mult46 v726).toNat) ∧
  (∀ a, (k0_off24 v717 v726) a + S8x128.size a ≤ S4096x8192.size a) ∧
  (∀ a, (k0_off56 v717 v726) a + S8x128.size a ≤ S4096x8192.size a)
theorem k0_mult46_dvd : ∀ (v717 : BitVec 32) (v726 : BitVec 32) (k0_hw46 : k0_chk46 v717 v726), 128 ∣ (k0_mult46 v726).toNat := fun v717 v726 k0_hw46 => k0_hw46.1
theorem k0_off24_inb : ∀ (v717 : BitVec 32) (v726 : BitVec 32) (k0_hw46 : k0_chk46 v717 v726), ∀ a, (k0_off24 v717 v726) a + S8x128.size a ≤ S4096x8192.size a := fun v717 v726 k0_hw46 => k0_hw46.2.1
theorem k0_off56_inb : ∀ (v717 : BitVec 32) (v726 : BitVec 32) (k0_hw46 : k0_chk46 v717 v726), ∀ a, (k0_off56 v717 v726) a + S8x128.size a ≤ S4096x8192.size a := fun v717 v726 k0_hw46 => k0_hw46.2.2

def k0_off57 (v749 : BitVec 32) (v758 : BitVec 32) : Fin 2 → Nat :=
  let v750 : BitVec 32 := v749
  let v759 : BitVec 32 := v758
  ![v750.toNat, v759.toNat]

def k0_chk48 (v749 : BitVec 32) (v758 : BitVec 32) : Prop :=
  (128 ∣ (k0_mult48 v758).toNat) ∧
  (∀ a, (k0_off25 v749 v758) a + S8x128.size a ≤ S4096x8192.size a) ∧
  (∀ a, (k0_off57 v749 v758) a + S8x128.size a ≤ S4096x8192.size a)
theorem k0_mult48_dvd : ∀ (v749 : BitVec 32) (v758 : BitVec 32) (k0_hw48 : k0_chk48 v749 v758), 128 ∣ (k0_mult48 v758).toNat := fun v749 v758 k0_hw48 => k0_hw48.1
theorem k0_off25_inb : ∀ (v749 : BitVec 32) (v758 : BitVec 32) (k0_hw48 : k0_chk48 v749 v758), ∀ a, (k0_off25 v749 v758) a + S8x128.size a ≤ S4096x8192.size a := fun v749 v758 k0_hw48 => k0_hw48.2.1
theorem k0_off57_inb : ∀ (v749 : BitVec 32) (v758 : BitVec 32) (k0_hw48 : k0_chk48 v749 v758), ∀ a, (k0_off57 v749 v758) a + S8x128.size a ≤ S4096x8192.size a := fun v749 v758 k0_hw48 => k0_hw48.2.2

def k0_off58 (v781 : BitVec 32) (v790 : BitVec 32) : Fin 2 → Nat :=
  let v782 : BitVec 32 := v781
  let v791 : BitVec 32 := v790
  ![v782.toNat, v791.toNat]

def k0_chk50 (v781 : BitVec 32) (v790 : BitVec 32) : Prop :=
  (128 ∣ (k0_mult50 v790).toNat) ∧
  (∀ a, (k0_off26 v781 v790) a + S8x128.size a ≤ S4096x8192.size a) ∧
  (∀ a, (k0_off58 v781 v790) a + S8x128.size a ≤ S4096x8192.size a)
theorem k0_mult50_dvd : ∀ (v781 : BitVec 32) (v790 : BitVec 32) (k0_hw50 : k0_chk50 v781 v790), 128 ∣ (k0_mult50 v790).toNat := fun v781 v790 k0_hw50 => k0_hw50.1
theorem k0_off26_inb : ∀ (v781 : BitVec 32) (v790 : BitVec 32) (k0_hw50 : k0_chk50 v781 v790), ∀ a, (k0_off26 v781 v790) a + S8x128.size a ≤ S4096x8192.size a := fun v781 v790 k0_hw50 => k0_hw50.2.1
theorem k0_off58_inb : ∀ (v781 : BitVec 32) (v790 : BitVec 32) (k0_hw50 : k0_chk50 v781 v790), ∀ a, (k0_off58 v781 v790) a + S8x128.size a ≤ S4096x8192.size a := fun v781 v790 k0_hw50 => k0_hw50.2.2

def k0_off59 (v813 : BitVec 32) (v822 : BitVec 32) : Fin 2 → Nat :=
  let v814 : BitVec 32 := v813
  let v823 : BitVec 32 := v822
  ![v814.toNat, v823.toNat]

def k0_chk52 (v813 : BitVec 32) (v822 : BitVec 32) : Prop :=
  (128 ∣ (k0_mult52 v822).toNat) ∧
  (∀ a, (k0_off27 v813 v822) a + S8x128.size a ≤ S4096x8192.size a) ∧
  (∀ a, (k0_off59 v813 v822) a + S8x128.size a ≤ S4096x8192.size a)
theorem k0_mult52_dvd : ∀ (v813 : BitVec 32) (v822 : BitVec 32) (k0_hw52 : k0_chk52 v813 v822), 128 ∣ (k0_mult52 v822).toNat := fun v813 v822 k0_hw52 => k0_hw52.1
theorem k0_off27_inb : ∀ (v813 : BitVec 32) (v822 : BitVec 32) (k0_hw52 : k0_chk52 v813 v822), ∀ a, (k0_off27 v813 v822) a + S8x128.size a ≤ S4096x8192.size a := fun v813 v822 k0_hw52 => k0_hw52.2.1
theorem k0_off59_inb : ∀ (v813 : BitVec 32) (v822 : BitVec 32) (k0_hw52 : k0_chk52 v813 v822), ∀ a, (k0_off59 v813 v822) a + S8x128.size a ≤ S4096x8192.size a := fun v813 v822 k0_hw52 => k0_hw52.2.2

def k0_off60 (v845 : BitVec 32) (v854 : BitVec 32) : Fin 2 → Nat :=
  let v846 : BitVec 32 := v845
  let v855 : BitVec 32 := v854
  ![v846.toNat, v855.toNat]

def k0_chk54 (v845 : BitVec 32) (v854 : BitVec 32) : Prop :=
  (128 ∣ (k0_mult54 v854).toNat) ∧
  (∀ a, (k0_off28 v845 v854) a + S8x128.size a ≤ S4096x8192.size a) ∧
  (∀ a, (k0_off60 v845 v854) a + S8x128.size a ≤ S4096x8192.size a)
theorem k0_mult54_dvd : ∀ (v845 : BitVec 32) (v854 : BitVec 32) (k0_hw54 : k0_chk54 v845 v854), 128 ∣ (k0_mult54 v854).toNat := fun v845 v854 k0_hw54 => k0_hw54.1
theorem k0_off28_inb : ∀ (v845 : BitVec 32) (v854 : BitVec 32) (k0_hw54 : k0_chk54 v845 v854), ∀ a, (k0_off28 v845 v854) a + S8x128.size a ≤ S4096x8192.size a := fun v845 v854 k0_hw54 => k0_hw54.2.1
theorem k0_off60_inb : ∀ (v845 : BitVec 32) (v854 : BitVec 32) (k0_hw54 : k0_chk54 v845 v854), ∀ a, (k0_off60 v845 v854) a + S8x128.size a ≤ S4096x8192.size a := fun v845 v854 k0_hw54 => k0_hw54.2.2

def k0_off61 (v877 : BitVec 32) (v886 : BitVec 32) : Fin 2 → Nat :=
  let v878 : BitVec 32 := v877
  let v887 : BitVec 32 := v886
  ![v878.toNat, v887.toNat]

def k0_chk56 (v877 : BitVec 32) (v886 : BitVec 32) : Prop :=
  (128 ∣ (k0_mult56 v886).toNat) ∧
  (∀ a, (k0_off29 v877 v886) a + S8x128.size a ≤ S4096x8192.size a) ∧
  (∀ a, (k0_off61 v877 v886) a + S8x128.size a ≤ S4096x8192.size a)
theorem k0_mult56_dvd : ∀ (v877 : BitVec 32) (v886 : BitVec 32) (k0_hw56 : k0_chk56 v877 v886), 128 ∣ (k0_mult56 v886).toNat := fun v877 v886 k0_hw56 => k0_hw56.1
theorem k0_off29_inb : ∀ (v877 : BitVec 32) (v886 : BitVec 32) (k0_hw56 : k0_chk56 v877 v886), ∀ a, (k0_off29 v877 v886) a + S8x128.size a ≤ S4096x8192.size a := fun v877 v886 k0_hw56 => k0_hw56.2.1
theorem k0_off61_inb : ∀ (v877 : BitVec 32) (v886 : BitVec 32) (k0_hw56 : k0_chk56 v877 v886), ∀ a, (k0_off61 v877 v886) a + S8x128.size a ≤ S4096x8192.size a := fun v877 v886 k0_hw56 => k0_hw56.2.2

def k0_off62 (v909 : BitVec 32) (v918 : BitVec 32) : Fin 2 → Nat :=
  let v910 : BitVec 32 := v909
  let v919 : BitVec 32 := v918
  ![v910.toNat, v919.toNat]

def k0_chk58 (v909 : BitVec 32) (v918 : BitVec 32) : Prop :=
  (128 ∣ (k0_mult58 v918).toNat) ∧
  (∀ a, (k0_off30 v909 v918) a + S8x128.size a ≤ S4096x8192.size a) ∧
  (∀ a, (k0_off62 v909 v918) a + S8x128.size a ≤ S4096x8192.size a)
theorem k0_mult58_dvd : ∀ (v909 : BitVec 32) (v918 : BitVec 32) (k0_hw58 : k0_chk58 v909 v918), 128 ∣ (k0_mult58 v918).toNat := fun v909 v918 k0_hw58 => k0_hw58.1
theorem k0_off30_inb : ∀ (v909 : BitVec 32) (v918 : BitVec 32) (k0_hw58 : k0_chk58 v909 v918), ∀ a, (k0_off30 v909 v918) a + S8x128.size a ≤ S4096x8192.size a := fun v909 v918 k0_hw58 => k0_hw58.2.1
theorem k0_off62_inb : ∀ (v909 : BitVec 32) (v918 : BitVec 32) (k0_hw58 : k0_chk58 v909 v918), ∀ a, (k0_off62 v909 v918) a + S8x128.size a ≤ S4096x8192.size a := fun v909 v918 k0_hw58 => k0_hw58.2.2

def k0_off63 (v941 : BitVec 32) (v950 : BitVec 32) : Fin 2 → Nat :=
  let v942 : BitVec 32 := v941
  let v951 : BitVec 32 := v950
  ![v942.toNat, v951.toNat]

def k0_chk60 (v941 : BitVec 32) (v950 : BitVec 32) : Prop :=
  (128 ∣ (k0_mult60 v950).toNat) ∧
  (∀ a, (k0_off31 v941 v950) a + S8x128.size a ≤ S4096x8192.size a) ∧
  (∀ a, (k0_off63 v941 v950) a + S8x128.size a ≤ S4096x8192.size a)
theorem k0_mult60_dvd : ∀ (v941 : BitVec 32) (v950 : BitVec 32) (k0_hw60 : k0_chk60 v941 v950), 128 ∣ (k0_mult60 v950).toNat := fun v941 v950 k0_hw60 => k0_hw60.1
theorem k0_off31_inb : ∀ (v941 : BitVec 32) (v950 : BitVec 32) (k0_hw60 : k0_chk60 v941 v950), ∀ a, (k0_off31 v941 v950) a + S8x128.size a ≤ S4096x8192.size a := fun v941 v950 k0_hw60 => k0_hw60.2.1
theorem k0_off63_inb : ∀ (v941 : BitVec 32) (v950 : BitVec 32) (k0_hw60 : k0_chk60 v941 v950), ∀ a, (k0_off63 v941 v950) a + S8x128.size a ≤ S4096x8192.size a := fun v941 v950 k0_hw60 => k0_hw60.2.2

def k0_off64 (v973 : BitVec 32) (v982 : BitVec 32) : Fin 2 → Nat :=
  let v974 : BitVec 32 := v973
  let v983 : BitVec 32 := v982
  ![v974.toNat, v983.toNat]

def k0_chk62 (v973 : BitVec 32) (v982 : BitVec 32) : Prop :=
  (128 ∣ (k0_mult62 v982).toNat) ∧
  (∀ a, (k0_off32 v973 v982) a + S8x128.size a ≤ S4096x8192.size a) ∧
  (∀ a, (k0_off64 v973 v982) a + S8x128.size a ≤ S4096x8192.size a)
theorem k0_mult62_dvd : ∀ (v973 : BitVec 32) (v982 : BitVec 32) (k0_hw62 : k0_chk62 v973 v982), 128 ∣ (k0_mult62 v982).toNat := fun v973 v982 k0_hw62 => k0_hw62.1
theorem k0_off32_inb : ∀ (v973 : BitVec 32) (v982 : BitVec 32) (k0_hw62 : k0_chk62 v973 v982), ∀ a, (k0_off32 v973 v982) a + S8x128.size a ≤ S4096x8192.size a := fun v973 v982 k0_hw62 => k0_hw62.2.1
theorem k0_off64_inb : ∀ (v973 : BitVec 32) (v982 : BitVec 32) (k0_hw62 : k0_chk62 v973 v982), ∀ a, (k0_off64 v973 v982) a + S8x128.size a ≤ S4096x8192.size a := fun v973 v982 k0_hw62 => k0_hw62.2.2

def k0_chk65 (v1413 : IVec S16 32) (v1416 : IVec S16 32) (v1419 : IVec S16 32) : Prop :=
  (∀ a x, ((![v1413, v1416, v1419] : Fin 3 → IVec S16 32) a x).toNat < S32x8x128.size a) ∧
  (∀ a x, ((![v1413, v1416, v1419] : Fin 3 → IVec S16 32) a x).toNat < S32x8x128.size a)
theorem k0_idx1_inb : ∀ (v1413 : IVec S16 32) (v1416 : IVec S16 32) (v1419 : IVec S16 32) (k0_hw65 : k0_chk65 v1413 v1416 v1419), ∀ a x, ((![v1413, v1416, v1419] : Fin 3 → IVec S16 32) a x).toNat < S32x8x128.size a := fun v1413 v1416 v1419 k0_hw65 => k0_hw65.1
theorem k0_idx2_inb : ∀ (v1413 : IVec S16 32) (v1416 : IVec S16 32) (v1419 : IVec S16 32) (k0_hw65 : k0_chk65 v1413 v1416 v1419), ∀ a x, ((![v1413, v1416, v1419] : Fin 3 → IVec S16 32) a x).toNat < S32x8x128.size a := fun v1413 v1416 v1419 k0_hw65 => k0_hw65.2

def k0_chk66 (v1425 : IVec S16 32) (v1428 : IVec S16 32) (v1431 : IVec S16 32) : Prop :=
  (∀ a x, ((![v1425, v1428, v1431] : Fin 3 → IVec S16 32) a x).toNat < S32x8x128.size a) ∧
  (∀ a x, ((![v1425, v1428, v1431] : Fin 3 → IVec S16 32) a x).toNat < S32x8x128.size a)
theorem k0_idx3_inb : ∀ (v1425 : IVec S16 32) (v1428 : IVec S16 32) (v1431 : IVec S16 32) (k0_hw66 : k0_chk66 v1425 v1428 v1431), ∀ a x, ((![v1425, v1428, v1431] : Fin 3 → IVec S16 32) a x).toNat < S32x8x128.size a := fun v1425 v1428 v1431 k0_hw66 => k0_hw66.1
theorem k0_idx4_inb : ∀ (v1425 : IVec S16 32) (v1428 : IVec S16 32) (v1431 : IVec S16 32) (k0_hw66 : k0_chk66 v1425 v1428 v1431), ∀ a x, ((![v1425, v1428, v1431] : Fin 3 → IVec S16 32) a x).toNat < S32x8x128.size a := fun v1425 v1428 v1431 k0_hw66 => k0_hw66.2
def k0_mult65 (v1445 : BitVec 32) : BitVec 32 :=
  v1445

def k0_chk67 (v1445 : BitVec 32) : Prop :=
  (8 ∣ (k0_mult65 v1445).toNat)
theorem k0_mult65_dvd : ∀ (v1445 : BitVec 32) (k0_hw67 : k0_chk67 v1445), 8 ∣ (k0_mult65 v1445).toNat := fun v1445 k0_hw67 => k0_hw67

def k0_mult66 (v1454 : BitVec 32) : BitVec 32 :=
  v1454

def k0_off65 (v1445 : BitVec 32) (v1454 : BitVec 32) : Fin 2 → Nat :=
  let v1446 : BitVec 32 := v1445
  let v1455 : BitVec 32 := v1454
  ![v1446.toNat, v1455.toNat]
def k0_mult67 (v1477 : BitVec 32) : BitVec 32 :=
  v1477

def k0_chk69 (v1477 : BitVec 32) : Prop :=
  (8 ∣ (k0_mult67 v1477).toNat)
theorem k0_mult67_dvd : ∀ (v1477 : BitVec 32) (k0_hw69 : k0_chk69 v1477), 8 ∣ (k0_mult67 v1477).toNat := fun v1477 k0_hw69 => k0_hw69

def k0_mult68 (v1486 : BitVec 32) : BitVec 32 :=
  v1486

def k0_off66 (v1477 : BitVec 32) (v1486 : BitVec 32) : Fin 2 → Nat :=
  let v1478 : BitVec 32 := v1477
  let v1487 : BitVec 32 := v1486
  ![v1478.toNat, v1487.toNat]
def k0_mult69 (v1509 : BitVec 32) : BitVec 32 :=
  v1509

def k0_chk71 (v1509 : BitVec 32) : Prop :=
  (8 ∣ (k0_mult69 v1509).toNat)
theorem k0_mult69_dvd : ∀ (v1509 : BitVec 32) (k0_hw71 : k0_chk71 v1509), 8 ∣ (k0_mult69 v1509).toNat := fun v1509 k0_hw71 => k0_hw71

def k0_mult70 (v1518 : BitVec 32) : BitVec 32 :=
  v1518

def k0_off67 (v1509 : BitVec 32) (v1518 : BitVec 32) : Fin 2 → Nat :=
  let v1510 : BitVec 32 := v1509
  let v1519 : BitVec 32 := v1518
  ![v1510.toNat, v1519.toNat]
def k0_mult71 (v1541 : BitVec 32) : BitVec 32 :=
  v1541

def k0_chk73 (v1541 : BitVec 32) : Prop :=
  (8 ∣ (k0_mult71 v1541).toNat)
theorem k0_mult71_dvd : ∀ (v1541 : BitVec 32) (k0_hw73 : k0_chk73 v1541), 8 ∣ (k0_mult71 v1541).toNat := fun v1541 k0_hw73 => k0_hw73

def k0_mult72 (v1550 : BitVec 32) : BitVec 32 :=
  v1550

def k0_off68 (v1541 : BitVec 32) (v1550 : BitVec 32) : Fin 2 → Nat :=
  let v1542 : BitVec 32 := v1541
  let v1551 : BitVec 32 := v1550
  ![v1542.toNat, v1551.toNat]
def k0_mult73 (v1573 : BitVec 32) : BitVec 32 :=
  v1573

def k0_chk75 (v1573 : BitVec 32) : Prop :=
  (8 ∣ (k0_mult73 v1573).toNat)
theorem k0_mult73_dvd : ∀ (v1573 : BitVec 32) (k0_hw75 : k0_chk75 v1573), 8 ∣ (k0_mult73 v1573).toNat := fun v1573 k0_hw75 => k0_hw75

def k0_mult74 (v1582 : BitVec 32) : BitVec 32 :=
  v1582

def k0_off69 (v1573 : BitVec 32) (v1582 : BitVec 32) : Fin 2 → Nat :=
  let v1574 : BitVec 32 := v1573
  let v1583 : BitVec 32 := v1582
  ![v1574.toNat, v1583.toNat]
def k0_mult75 (v1605 : BitVec 32) : BitVec 32 :=
  v1605

def k0_chk77 (v1605 : BitVec 32) : Prop :=
  (8 ∣ (k0_mult75 v1605).toNat)
theorem k0_mult75_dvd : ∀ (v1605 : BitVec 32) (k0_hw77 : k0_chk77 v1605), 8 ∣ (k0_mult75 v1605).toNat := fun v1605 k0_hw77 => k0_hw77

def k0_mult76 (v1614 : BitVec 32) : BitVec 32 :=
  v1614

def k0_off70 (v1605 : BitVec 32) (v1614 : BitVec 32) : Fin 2 → Nat :=
  let v1606 : BitVec 32 := v1605
  let v1615 : BitVec 32 := v1614
  ![v1606.toNat, v1615.toNat]
def k0_mult77 (v1637 : BitVec 32) : BitVec 32 :=
  v1637

def k0_chk79 (v1637 : BitVec 32) : Prop :=
  (8 ∣ (k0_mult77 v1637).toNat)
theorem k0_mult77_dvd : ∀ (v1637 : BitVec 32) (k0_hw79 : k0_chk79 v1637), 8 ∣ (k0_mult77 v1637).toNat := fun v1637 k0_hw79 => k0_hw79

def k0_mult78 (v1646 : BitVec 32) : BitVec 32 :=
  v1646

def k0_off71 (v1637 : BitVec 32) (v1646 : BitVec 32) : Fin 2 → Nat :=
  let v1638 : BitVec 32 := v1637
  let v1647 : BitVec 32 := v1646
  ![v1638.toNat, v1647.toNat]
def k0_mult79 (v1669 : BitVec 32) : BitVec 32 :=
  v1669

def k0_chk81 (v1669 : BitVec 32) : Prop :=
  (8 ∣ (k0_mult79 v1669).toNat)
theorem k0_mult79_dvd : ∀ (v1669 : BitVec 32) (k0_hw81 : k0_chk81 v1669), 8 ∣ (k0_mult79 v1669).toNat := fun v1669 k0_hw81 => k0_hw81

def k0_mult80 (v1678 : BitVec 32) : BitVec 32 :=
  v1678

def k0_off72 (v1669 : BitVec 32) (v1678 : BitVec 32) : Fin 2 → Nat :=
  let v1670 : BitVec 32 := v1669
  let v1679 : BitVec 32 := v1678
  ![v1670.toNat, v1679.toNat]
def k0_mult81 (v1701 : BitVec 32) : BitVec 32 :=
  v1701

def k0_chk83 (v1701 : BitVec 32) : Prop :=
  (8 ∣ (k0_mult81 v1701).toNat)
theorem k0_mult81_dvd : ∀ (v1701 : BitVec 32) (k0_hw83 : k0_chk83 v1701), 8 ∣ (k0_mult81 v1701).toNat := fun v1701 k0_hw83 => k0_hw83

def k0_mult82 (v1710 : BitVec 32) : BitVec 32 :=
  v1710

def k0_off73 (v1701 : BitVec 32) (v1710 : BitVec 32) : Fin 2 → Nat :=
  let v1702 : BitVec 32 := v1701
  let v1711 : BitVec 32 := v1710
  ![v1702.toNat, v1711.toNat]
def k0_mult83 (v1733 : BitVec 32) : BitVec 32 :=
  v1733

def k0_chk85 (v1733 : BitVec 32) : Prop :=
  (8 ∣ (k0_mult83 v1733).toNat)
theorem k0_mult83_dvd : ∀ (v1733 : BitVec 32) (k0_hw85 : k0_chk85 v1733), 8 ∣ (k0_mult83 v1733).toNat := fun v1733 k0_hw85 => k0_hw85

def k0_mult84 (v1742 : BitVec 32) : BitVec 32 :=
  v1742

def k0_off74 (v1733 : BitVec 32) (v1742 : BitVec 32) : Fin 2 → Nat :=
  let v1734 : BitVec 32 := v1733
  let v1743 : BitVec 32 := v1742
  ![v1734.toNat, v1743.toNat]
def k0_mult85 (v1765 : BitVec 32) : BitVec 32 :=
  v1765

def k0_chk87 (v1765 : BitVec 32) : Prop :=
  (8 ∣ (k0_mult85 v1765).toNat)
theorem k0_mult85_dvd : ∀ (v1765 : BitVec 32) (k0_hw87 : k0_chk87 v1765), 8 ∣ (k0_mult85 v1765).toNat := fun v1765 k0_hw87 => k0_hw87

def k0_mult86 (v1774 : BitVec 32) : BitVec 32 :=
  v1774

def k0_off75 (v1765 : BitVec 32) (v1774 : BitVec 32) : Fin 2 → Nat :=
  let v1766 : BitVec 32 := v1765
  let v1775 : BitVec 32 := v1774
  ![v1766.toNat, v1775.toNat]
def k0_mult87 (v1797 : BitVec 32) : BitVec 32 :=
  v1797

def k0_chk89 (v1797 : BitVec 32) : Prop :=
  (8 ∣ (k0_mult87 v1797).toNat)
theorem k0_mult87_dvd : ∀ (v1797 : BitVec 32) (k0_hw89 : k0_chk89 v1797), 8 ∣ (k0_mult87 v1797).toNat := fun v1797 k0_hw89 => k0_hw89

def k0_mult88 (v1806 : BitVec 32) : BitVec 32 :=
  v1806

def k0_off76 (v1797 : BitVec 32) (v1806 : BitVec 32) : Fin 2 → Nat :=
  let v1798 : BitVec 32 := v1797
  let v1807 : BitVec 32 := v1806
  ![v1798.toNat, v1807.toNat]
def k0_mult89 (v1829 : BitVec 32) : BitVec 32 :=
  v1829

def k0_chk91 (v1829 : BitVec 32) : Prop :=
  (8 ∣ (k0_mult89 v1829).toNat)
theorem k0_mult89_dvd : ∀ (v1829 : BitVec 32) (k0_hw91 : k0_chk91 v1829), 8 ∣ (k0_mult89 v1829).toNat := fun v1829 k0_hw91 => k0_hw91

def k0_mult90 (v1838 : BitVec 32) : BitVec 32 :=
  v1838

def k0_off77 (v1829 : BitVec 32) (v1838 : BitVec 32) : Fin 2 → Nat :=
  let v1830 : BitVec 32 := v1829
  let v1839 : BitVec 32 := v1838
  ![v1830.toNat, v1839.toNat]
def k0_mult91 (v1861 : BitVec 32) : BitVec 32 :=
  v1861

def k0_chk93 (v1861 : BitVec 32) : Prop :=
  (8 ∣ (k0_mult91 v1861).toNat)
theorem k0_mult91_dvd : ∀ (v1861 : BitVec 32) (k0_hw93 : k0_chk93 v1861), 8 ∣ (k0_mult91 v1861).toNat := fun v1861 k0_hw93 => k0_hw93

def k0_mult92 (v1870 : BitVec 32) : BitVec 32 :=
  v1870

def k0_off78 (v1861 : BitVec 32) (v1870 : BitVec 32) : Fin 2 → Nat :=
  let v1862 : BitVec 32 := v1861
  let v1871 : BitVec 32 := v1870
  ![v1862.toNat, v1871.toNat]
def k0_mult93 (v1893 : BitVec 32) : BitVec 32 :=
  v1893

def k0_chk95 (v1893 : BitVec 32) : Prop :=
  (8 ∣ (k0_mult93 v1893).toNat)
theorem k0_mult93_dvd : ∀ (v1893 : BitVec 32) (k0_hw95 : k0_chk95 v1893), 8 ∣ (k0_mult93 v1893).toNat := fun v1893 k0_hw95 => k0_hw95

def k0_mult94 (v1902 : BitVec 32) : BitVec 32 :=
  v1902

def k0_off79 (v1893 : BitVec 32) (v1902 : BitVec 32) : Fin 2 → Nat :=
  let v1894 : BitVec 32 := v1893
  let v1903 : BitVec 32 := v1902
  ![v1894.toNat, v1903.toNat]
def k0_mult95 (v1925 : BitVec 32) : BitVec 32 :=
  v1925

def k0_chk97 (v1925 : BitVec 32) : Prop :=
  (8 ∣ (k0_mult95 v1925).toNat)
theorem k0_mult95_dvd : ∀ (v1925 : BitVec 32) (k0_hw97 : k0_chk97 v1925), 8 ∣ (k0_mult95 v1925).toNat := fun v1925 k0_hw97 => k0_hw97

def k0_mult96 (v1934 : BitVec 32) : BitVec 32 :=
  v1934

def k0_off80 (v1925 : BitVec 32) (v1934 : BitVec 32) : Fin 2 → Nat :=
  let v1926 : BitVec 32 := v1925
  let v1935 : BitVec 32 := v1934
  ![v1926.toNat, v1935.toNat]
def k0_mult97 (v1957 : BitVec 32) : BitVec 32 :=
  v1957

def k0_chk99 (v1957 : BitVec 32) : Prop :=
  (8 ∣ (k0_mult97 v1957).toNat)
theorem k0_mult97_dvd : ∀ (v1957 : BitVec 32) (k0_hw99 : k0_chk99 v1957), 8 ∣ (k0_mult97 v1957).toNat := fun v1957 k0_hw99 => k0_hw99

def k0_mult98 (v1966 : BitVec 32) : BitVec 32 :=
  v1966

def k0_off81 (v1957 : BitVec 32) (v1966 : BitVec 32) : Fin 2 → Nat :=
  let v1958 : BitVec 32 := v1957
  let v1967 : BitVec 32 := v1966
  ![v1958.toNat, v1967.toNat]
def k0_mult99 (v1989 : BitVec 32) : BitVec 32 :=
  v1989

def k0_chk101 (v1989 : BitVec 32) : Prop :=
  (8 ∣ (k0_mult99 v1989).toNat)
theorem k0_mult99_dvd : ∀ (v1989 : BitVec 32) (k0_hw101 : k0_chk101 v1989), 8 ∣ (k0_mult99 v1989).toNat := fun v1989 k0_hw101 => k0_hw101

def k0_mult100 (v1998 : BitVec 32) : BitVec 32 :=
  v1998

def k0_off82 (v1989 : BitVec 32) (v1998 : BitVec 32) : Fin 2 → Nat :=
  let v1990 : BitVec 32 := v1989
  let v1999 : BitVec 32 := v1998
  ![v1990.toNat, v1999.toNat]
def k0_mult101 (v2021 : BitVec 32) : BitVec 32 :=
  v2021

def k0_chk103 (v2021 : BitVec 32) : Prop :=
  (8 ∣ (k0_mult101 v2021).toNat)
theorem k0_mult101_dvd : ∀ (v2021 : BitVec 32) (k0_hw103 : k0_chk103 v2021), 8 ∣ (k0_mult101 v2021).toNat := fun v2021 k0_hw103 => k0_hw103

def k0_mult102 (v2030 : BitVec 32) : BitVec 32 :=
  v2030

def k0_off83 (v2021 : BitVec 32) (v2030 : BitVec 32) : Fin 2 → Nat :=
  let v2022 : BitVec 32 := v2021
  let v2031 : BitVec 32 := v2030
  ![v2022.toNat, v2031.toNat]
def k0_mult103 (v2053 : BitVec 32) : BitVec 32 :=
  v2053

def k0_chk105 (v2053 : BitVec 32) : Prop :=
  (8 ∣ (k0_mult103 v2053).toNat)
theorem k0_mult103_dvd : ∀ (v2053 : BitVec 32) (k0_hw105 : k0_chk105 v2053), 8 ∣ (k0_mult103 v2053).toNat := fun v2053 k0_hw105 => k0_hw105

def k0_mult104 (v2062 : BitVec 32) : BitVec 32 :=
  v2062

def k0_off84 (v2053 : BitVec 32) (v2062 : BitVec 32) : Fin 2 → Nat :=
  let v2054 : BitVec 32 := v2053
  let v2063 : BitVec 32 := v2062
  ![v2054.toNat, v2063.toNat]
def k0_mult105 (v2085 : BitVec 32) : BitVec 32 :=
  v2085

def k0_chk107 (v2085 : BitVec 32) : Prop :=
  (8 ∣ (k0_mult105 v2085).toNat)
theorem k0_mult105_dvd : ∀ (v2085 : BitVec 32) (k0_hw107 : k0_chk107 v2085), 8 ∣ (k0_mult105 v2085).toNat := fun v2085 k0_hw107 => k0_hw107

def k0_mult106 (v2094 : BitVec 32) : BitVec 32 :=
  v2094

def k0_off85 (v2085 : BitVec 32) (v2094 : BitVec 32) : Fin 2 → Nat :=
  let v2086 : BitVec 32 := v2085
  let v2095 : BitVec 32 := v2094
  ![v2086.toNat, v2095.toNat]
def k0_mult107 (v2117 : BitVec 32) : BitVec 32 :=
  v2117

def k0_chk109 (v2117 : BitVec 32) : Prop :=
  (8 ∣ (k0_mult107 v2117).toNat)
theorem k0_mult107_dvd : ∀ (v2117 : BitVec 32) (k0_hw109 : k0_chk109 v2117), 8 ∣ (k0_mult107 v2117).toNat := fun v2117 k0_hw109 => k0_hw109

def k0_mult108 (v2126 : BitVec 32) : BitVec 32 :=
  v2126

def k0_off86 (v2117 : BitVec 32) (v2126 : BitVec 32) : Fin 2 → Nat :=
  let v2118 : BitVec 32 := v2117
  let v2127 : BitVec 32 := v2126
  ![v2118.toNat, v2127.toNat]
def k0_mult109 (v2149 : BitVec 32) : BitVec 32 :=
  v2149

def k0_chk111 (v2149 : BitVec 32) : Prop :=
  (8 ∣ (k0_mult109 v2149).toNat)
theorem k0_mult109_dvd : ∀ (v2149 : BitVec 32) (k0_hw111 : k0_chk111 v2149), 8 ∣ (k0_mult109 v2149).toNat := fun v2149 k0_hw111 => k0_hw111

def k0_mult110 (v2158 : BitVec 32) : BitVec 32 :=
  v2158

def k0_off87 (v2149 : BitVec 32) (v2158 : BitVec 32) : Fin 2 → Nat :=
  let v2150 : BitVec 32 := v2149
  let v2159 : BitVec 32 := v2158
  ![v2150.toNat, v2159.toNat]
def k0_mult111 (v2181 : BitVec 32) : BitVec 32 :=
  v2181

def k0_chk113 (v2181 : BitVec 32) : Prop :=
  (8 ∣ (k0_mult111 v2181).toNat)
theorem k0_mult111_dvd : ∀ (v2181 : BitVec 32) (k0_hw113 : k0_chk113 v2181), 8 ∣ (k0_mult111 v2181).toNat := fun v2181 k0_hw113 => k0_hw113

def k0_mult112 (v2190 : BitVec 32) : BitVec 32 :=
  v2190

def k0_off88 (v2181 : BitVec 32) (v2190 : BitVec 32) : Fin 2 → Nat :=
  let v2182 : BitVec 32 := v2181
  let v2191 : BitVec 32 := v2190
  ![v2182.toNat, v2191.toNat]
def k0_mult113 (v2213 : BitVec 32) : BitVec 32 :=
  v2213

def k0_chk115 (v2213 : BitVec 32) : Prop :=
  (8 ∣ (k0_mult113 v2213).toNat)
theorem k0_mult113_dvd : ∀ (v2213 : BitVec 32) (k0_hw115 : k0_chk115 v2213), 8 ∣ (k0_mult113 v2213).toNat := fun v2213 k0_hw115 => k0_hw115

def k0_mult114 (v2222 : BitVec 32) : BitVec 32 :=
  v2222

def k0_off89 (v2213 : BitVec 32) (v2222 : BitVec 32) : Fin 2 → Nat :=
  let v2214 : BitVec 32 := v2213
  let v2223 : BitVec 32 := v2222
  ![v2214.toNat, v2223.toNat]
def k0_mult115 (v2245 : BitVec 32) : BitVec 32 :=
  v2245

def k0_chk117 (v2245 : BitVec 32) : Prop :=
  (8 ∣ (k0_mult115 v2245).toNat)
theorem k0_mult115_dvd : ∀ (v2245 : BitVec 32) (k0_hw117 : k0_chk117 v2245), 8 ∣ (k0_mult115 v2245).toNat := fun v2245 k0_hw117 => k0_hw117

def k0_mult116 (v2254 : BitVec 32) : BitVec 32 :=
  v2254

def k0_off90 (v2245 : BitVec 32) (v2254 : BitVec 32) : Fin 2 → Nat :=
  let v2246 : BitVec 32 := v2245
  let v2255 : BitVec 32 := v2254
  ![v2246.toNat, v2255.toNat]
def k0_mult117 (v2277 : BitVec 32) : BitVec 32 :=
  v2277

def k0_chk119 (v2277 : BitVec 32) : Prop :=
  (8 ∣ (k0_mult117 v2277).toNat)
theorem k0_mult117_dvd : ∀ (v2277 : BitVec 32) (k0_hw119 : k0_chk119 v2277), 8 ∣ (k0_mult117 v2277).toNat := fun v2277 k0_hw119 => k0_hw119

def k0_mult118 (v2286 : BitVec 32) : BitVec 32 :=
  v2286

def k0_off91 (v2277 : BitVec 32) (v2286 : BitVec 32) : Fin 2 → Nat :=
  let v2278 : BitVec 32 := v2277
  let v2287 : BitVec 32 := v2286
  ![v2278.toNat, v2287.toNat]
def k0_mult119 (v2309 : BitVec 32) : BitVec 32 :=
  v2309

def k0_chk121 (v2309 : BitVec 32) : Prop :=
  (8 ∣ (k0_mult119 v2309).toNat)
theorem k0_mult119_dvd : ∀ (v2309 : BitVec 32) (k0_hw121 : k0_chk121 v2309), 8 ∣ (k0_mult119 v2309).toNat := fun v2309 k0_hw121 => k0_hw121

def k0_mult120 (v2318 : BitVec 32) : BitVec 32 :=
  v2318

def k0_off92 (v2309 : BitVec 32) (v2318 : BitVec 32) : Fin 2 → Nat :=
  let v2310 : BitVec 32 := v2309
  let v2319 : BitVec 32 := v2318
  ![v2310.toNat, v2319.toNat]
def k0_mult121 (v2341 : BitVec 32) : BitVec 32 :=
  v2341

def k0_chk123 (v2341 : BitVec 32) : Prop :=
  (8 ∣ (k0_mult121 v2341).toNat)
theorem k0_mult121_dvd : ∀ (v2341 : BitVec 32) (k0_hw123 : k0_chk123 v2341), 8 ∣ (k0_mult121 v2341).toNat := fun v2341 k0_hw123 => k0_hw123

def k0_mult122 (v2350 : BitVec 32) : BitVec 32 :=
  v2350

def k0_off93 (v2341 : BitVec 32) (v2350 : BitVec 32) : Fin 2 → Nat :=
  let v2342 : BitVec 32 := v2341
  let v2351 : BitVec 32 := v2350
  ![v2342.toNat, v2351.toNat]
def k0_mult123 (v2373 : BitVec 32) : BitVec 32 :=
  v2373

def k0_chk125 (v2373 : BitVec 32) : Prop :=
  (8 ∣ (k0_mult123 v2373).toNat)
theorem k0_mult123_dvd : ∀ (v2373 : BitVec 32) (k0_hw125 : k0_chk125 v2373), 8 ∣ (k0_mult123 v2373).toNat := fun v2373 k0_hw125 => k0_hw125

def k0_mult124 (v2382 : BitVec 32) : BitVec 32 :=
  v2382

def k0_off94 (v2373 : BitVec 32) (v2382 : BitVec 32) : Fin 2 → Nat :=
  let v2374 : BitVec 32 := v2373
  let v2383 : BitVec 32 := v2382
  ![v2374.toNat, v2383.toNat]
def k0_mult125 (v2405 : BitVec 32) : BitVec 32 :=
  v2405

def k0_chk127 (v2405 : BitVec 32) : Prop :=
  (8 ∣ (k0_mult125 v2405).toNat)
theorem k0_mult125_dvd : ∀ (v2405 : BitVec 32) (k0_hw127 : k0_chk127 v2405), 8 ∣ (k0_mult125 v2405).toNat := fun v2405 k0_hw127 => k0_hw127

def k0_mult126 (v2414 : BitVec 32) : BitVec 32 :=
  v2414

def k0_off95 (v2405 : BitVec 32) (v2414 : BitVec 32) : Fin 2 → Nat :=
  let v2406 : BitVec 32 := v2405
  let v2415 : BitVec 32 := v2414
  ![v2406.toNat, v2415.toNat]
def k0_mult127 (v2437 : BitVec 32) : BitVec 32 :=
  v2437

def k0_chk129 (v2437 : BitVec 32) : Prop :=
  (8 ∣ (k0_mult127 v2437).toNat)
theorem k0_mult127_dvd : ∀ (v2437 : BitVec 32) (k0_hw129 : k0_chk129 v2437), 8 ∣ (k0_mult127 v2437).toNat := fun v2437 k0_hw129 => k0_hw129

def k0_mult128 (v2446 : BitVec 32) : BitVec 32 :=
  v2446

def k0_off96 (v2437 : BitVec 32) (v2446 : BitVec 32) : Fin 2 → Nat :=
  let v2438 : BitVec 32 := v2437
  let v2447 : BitVec 32 := v2446
  ![v2438.toNat, v2447.toNat]

def k0_chk130 (v2437 : BitVec 32) (v2446 : BitVec 32) : Prop :=
  (128 ∣ (k0_mult128 v2446).toNat) ∧
  (∀ a, (k0_off96 v2437 v2446) a + S8x128.size a ≤ S4096x8192.size a)
theorem k0_mult128_dvd : ∀ (v2437 : BitVec 32) (v2446 : BitVec 32) (k0_hw130 : k0_chk130 v2437 v2446), 128 ∣ (k0_mult128 v2446).toNat := fun v2437 v2446 k0_hw130 => k0_hw130.1
theorem k0_off96_inb : ∀ (v2437 : BitVec 32) (v2446 : BitVec 32) (k0_hw130 : k0_chk130 v2437 v2446), ∀ a, (k0_off96 v2437 v2446) a + S8x128.size a ≤ S4096x8192.size a := fun v2437 v2446 k0_hw130 => k0_hw130.2

def k0_off97 (v1445 : BitVec 32) (v1454 : BitVec 32) : Fin 2 → Nat :=
  let v1446 : BitVec 32 := v1445
  let v1455 : BitVec 32 := v1454
  ![v1446.toNat, v1455.toNat]

def k0_chk68 (v1445 : BitVec 32) (v1454 : BitVec 32) : Prop :=
  (128 ∣ (k0_mult66 v1454).toNat) ∧
  (∀ a, (k0_off65 v1445 v1454) a + S8x128.size a ≤ S4096x8192.size a) ∧
  (∀ a, (k0_off97 v1445 v1454) a + S8x128.size a ≤ S4096x8192.size a)
theorem k0_mult66_dvd : ∀ (v1445 : BitVec 32) (v1454 : BitVec 32) (k0_hw68 : k0_chk68 v1445 v1454), 128 ∣ (k0_mult66 v1454).toNat := fun v1445 v1454 k0_hw68 => k0_hw68.1
theorem k0_off65_inb : ∀ (v1445 : BitVec 32) (v1454 : BitVec 32) (k0_hw68 : k0_chk68 v1445 v1454), ∀ a, (k0_off65 v1445 v1454) a + S8x128.size a ≤ S4096x8192.size a := fun v1445 v1454 k0_hw68 => k0_hw68.2.1
theorem k0_off97_inb : ∀ (v1445 : BitVec 32) (v1454 : BitVec 32) (k0_hw68 : k0_chk68 v1445 v1454), ∀ a, (k0_off97 v1445 v1454) a + S8x128.size a ≤ S4096x8192.size a := fun v1445 v1454 k0_hw68 => k0_hw68.2.2

def k0_off98 (v1477 : BitVec 32) (v1486 : BitVec 32) : Fin 2 → Nat :=
  let v1478 : BitVec 32 := v1477
  let v1487 : BitVec 32 := v1486
  ![v1478.toNat, v1487.toNat]

def k0_chk70 (v1477 : BitVec 32) (v1486 : BitVec 32) : Prop :=
  (128 ∣ (k0_mult68 v1486).toNat) ∧
  (∀ a, (k0_off66 v1477 v1486) a + S8x128.size a ≤ S4096x8192.size a) ∧
  (∀ a, (k0_off98 v1477 v1486) a + S8x128.size a ≤ S4096x8192.size a)
theorem k0_mult68_dvd : ∀ (v1477 : BitVec 32) (v1486 : BitVec 32) (k0_hw70 : k0_chk70 v1477 v1486), 128 ∣ (k0_mult68 v1486).toNat := fun v1477 v1486 k0_hw70 => k0_hw70.1
theorem k0_off66_inb : ∀ (v1477 : BitVec 32) (v1486 : BitVec 32) (k0_hw70 : k0_chk70 v1477 v1486), ∀ a, (k0_off66 v1477 v1486) a + S8x128.size a ≤ S4096x8192.size a := fun v1477 v1486 k0_hw70 => k0_hw70.2.1
theorem k0_off98_inb : ∀ (v1477 : BitVec 32) (v1486 : BitVec 32) (k0_hw70 : k0_chk70 v1477 v1486), ∀ a, (k0_off98 v1477 v1486) a + S8x128.size a ≤ S4096x8192.size a := fun v1477 v1486 k0_hw70 => k0_hw70.2.2

def k0_off99 (v1509 : BitVec 32) (v1518 : BitVec 32) : Fin 2 → Nat :=
  let v1510 : BitVec 32 := v1509
  let v1519 : BitVec 32 := v1518
  ![v1510.toNat, v1519.toNat]

def k0_chk72 (v1509 : BitVec 32) (v1518 : BitVec 32) : Prop :=
  (128 ∣ (k0_mult70 v1518).toNat) ∧
  (∀ a, (k0_off67 v1509 v1518) a + S8x128.size a ≤ S4096x8192.size a) ∧
  (∀ a, (k0_off99 v1509 v1518) a + S8x128.size a ≤ S4096x8192.size a)
theorem k0_mult70_dvd : ∀ (v1509 : BitVec 32) (v1518 : BitVec 32) (k0_hw72 : k0_chk72 v1509 v1518), 128 ∣ (k0_mult70 v1518).toNat := fun v1509 v1518 k0_hw72 => k0_hw72.1
theorem k0_off67_inb : ∀ (v1509 : BitVec 32) (v1518 : BitVec 32) (k0_hw72 : k0_chk72 v1509 v1518), ∀ a, (k0_off67 v1509 v1518) a + S8x128.size a ≤ S4096x8192.size a := fun v1509 v1518 k0_hw72 => k0_hw72.2.1
theorem k0_off99_inb : ∀ (v1509 : BitVec 32) (v1518 : BitVec 32) (k0_hw72 : k0_chk72 v1509 v1518), ∀ a, (k0_off99 v1509 v1518) a + S8x128.size a ≤ S4096x8192.size a := fun v1509 v1518 k0_hw72 => k0_hw72.2.2

def k0_off100 (v1541 : BitVec 32) (v1550 : BitVec 32) : Fin 2 → Nat :=
  let v1542 : BitVec 32 := v1541
  let v1551 : BitVec 32 := v1550
  ![v1542.toNat, v1551.toNat]

def k0_chk74 (v1541 : BitVec 32) (v1550 : BitVec 32) : Prop :=
  (128 ∣ (k0_mult72 v1550).toNat) ∧
  (∀ a, (k0_off68 v1541 v1550) a + S8x128.size a ≤ S4096x8192.size a) ∧
  (∀ a, (k0_off100 v1541 v1550) a + S8x128.size a ≤ S4096x8192.size a)
theorem k0_mult72_dvd : ∀ (v1541 : BitVec 32) (v1550 : BitVec 32) (k0_hw74 : k0_chk74 v1541 v1550), 128 ∣ (k0_mult72 v1550).toNat := fun v1541 v1550 k0_hw74 => k0_hw74.1
theorem k0_off68_inb : ∀ (v1541 : BitVec 32) (v1550 : BitVec 32) (k0_hw74 : k0_chk74 v1541 v1550), ∀ a, (k0_off68 v1541 v1550) a + S8x128.size a ≤ S4096x8192.size a := fun v1541 v1550 k0_hw74 => k0_hw74.2.1
theorem k0_off100_inb : ∀ (v1541 : BitVec 32) (v1550 : BitVec 32) (k0_hw74 : k0_chk74 v1541 v1550), ∀ a, (k0_off100 v1541 v1550) a + S8x128.size a ≤ S4096x8192.size a := fun v1541 v1550 k0_hw74 => k0_hw74.2.2

def k0_off101 (v1573 : BitVec 32) (v1582 : BitVec 32) : Fin 2 → Nat :=
  let v1574 : BitVec 32 := v1573
  let v1583 : BitVec 32 := v1582
  ![v1574.toNat, v1583.toNat]

def k0_chk76 (v1573 : BitVec 32) (v1582 : BitVec 32) : Prop :=
  (128 ∣ (k0_mult74 v1582).toNat) ∧
  (∀ a, (k0_off69 v1573 v1582) a + S8x128.size a ≤ S4096x8192.size a) ∧
  (∀ a, (k0_off101 v1573 v1582) a + S8x128.size a ≤ S4096x8192.size a)
theorem k0_mult74_dvd : ∀ (v1573 : BitVec 32) (v1582 : BitVec 32) (k0_hw76 : k0_chk76 v1573 v1582), 128 ∣ (k0_mult74 v1582).toNat := fun v1573 v1582 k0_hw76 => k0_hw76.1
theorem k0_off69_inb : ∀ (v1573 : BitVec 32) (v1582 : BitVec 32) (k0_hw76 : k0_chk76 v1573 v1582), ∀ a, (k0_off69 v1573 v1582) a + S8x128.size a ≤ S4096x8192.size a := fun v1573 v1582 k0_hw76 => k0_hw76.2.1
theorem k0_off101_inb : ∀ (v1573 : BitVec 32) (v1582 : BitVec 32) (k0_hw76 : k0_chk76 v1573 v1582), ∀ a, (k0_off101 v1573 v1582) a + S8x128.size a ≤ S4096x8192.size a := fun v1573 v1582 k0_hw76 => k0_hw76.2.2

def k0_off102 (v1605 : BitVec 32) (v1614 : BitVec 32) : Fin 2 → Nat :=
  let v1606 : BitVec 32 := v1605
  let v1615 : BitVec 32 := v1614
  ![v1606.toNat, v1615.toNat]

def k0_chk78 (v1605 : BitVec 32) (v1614 : BitVec 32) : Prop :=
  (128 ∣ (k0_mult76 v1614).toNat) ∧
  (∀ a, (k0_off70 v1605 v1614) a + S8x128.size a ≤ S4096x8192.size a) ∧
  (∀ a, (k0_off102 v1605 v1614) a + S8x128.size a ≤ S4096x8192.size a)
theorem k0_mult76_dvd : ∀ (v1605 : BitVec 32) (v1614 : BitVec 32) (k0_hw78 : k0_chk78 v1605 v1614), 128 ∣ (k0_mult76 v1614).toNat := fun v1605 v1614 k0_hw78 => k0_hw78.1
theorem k0_off70_inb : ∀ (v1605 : BitVec 32) (v1614 : BitVec 32) (k0_hw78 : k0_chk78 v1605 v1614), ∀ a, (k0_off70 v1605 v1614) a + S8x128.size a ≤ S4096x8192.size a := fun v1605 v1614 k0_hw78 => k0_hw78.2.1
theorem k0_off102_inb : ∀ (v1605 : BitVec 32) (v1614 : BitVec 32) (k0_hw78 : k0_chk78 v1605 v1614), ∀ a, (k0_off102 v1605 v1614) a + S8x128.size a ≤ S4096x8192.size a := fun v1605 v1614 k0_hw78 => k0_hw78.2.2

def k0_off103 (v1637 : BitVec 32) (v1646 : BitVec 32) : Fin 2 → Nat :=
  let v1638 : BitVec 32 := v1637
  let v1647 : BitVec 32 := v1646
  ![v1638.toNat, v1647.toNat]

def k0_chk80 (v1637 : BitVec 32) (v1646 : BitVec 32) : Prop :=
  (128 ∣ (k0_mult78 v1646).toNat) ∧
  (∀ a, (k0_off71 v1637 v1646) a + S8x128.size a ≤ S4096x8192.size a) ∧
  (∀ a, (k0_off103 v1637 v1646) a + S8x128.size a ≤ S4096x8192.size a)
theorem k0_mult78_dvd : ∀ (v1637 : BitVec 32) (v1646 : BitVec 32) (k0_hw80 : k0_chk80 v1637 v1646), 128 ∣ (k0_mult78 v1646).toNat := fun v1637 v1646 k0_hw80 => k0_hw80.1
theorem k0_off71_inb : ∀ (v1637 : BitVec 32) (v1646 : BitVec 32) (k0_hw80 : k0_chk80 v1637 v1646), ∀ a, (k0_off71 v1637 v1646) a + S8x128.size a ≤ S4096x8192.size a := fun v1637 v1646 k0_hw80 => k0_hw80.2.1
theorem k0_off103_inb : ∀ (v1637 : BitVec 32) (v1646 : BitVec 32) (k0_hw80 : k0_chk80 v1637 v1646), ∀ a, (k0_off103 v1637 v1646) a + S8x128.size a ≤ S4096x8192.size a := fun v1637 v1646 k0_hw80 => k0_hw80.2.2

def k0_off104 (v1669 : BitVec 32) (v1678 : BitVec 32) : Fin 2 → Nat :=
  let v1670 : BitVec 32 := v1669
  let v1679 : BitVec 32 := v1678
  ![v1670.toNat, v1679.toNat]

def k0_chk82 (v1669 : BitVec 32) (v1678 : BitVec 32) : Prop :=
  (128 ∣ (k0_mult80 v1678).toNat) ∧
  (∀ a, (k0_off72 v1669 v1678) a + S8x128.size a ≤ S4096x8192.size a) ∧
  (∀ a, (k0_off104 v1669 v1678) a + S8x128.size a ≤ S4096x8192.size a)
theorem k0_mult80_dvd : ∀ (v1669 : BitVec 32) (v1678 : BitVec 32) (k0_hw82 : k0_chk82 v1669 v1678), 128 ∣ (k0_mult80 v1678).toNat := fun v1669 v1678 k0_hw82 => k0_hw82.1
theorem k0_off72_inb : ∀ (v1669 : BitVec 32) (v1678 : BitVec 32) (k0_hw82 : k0_chk82 v1669 v1678), ∀ a, (k0_off72 v1669 v1678) a + S8x128.size a ≤ S4096x8192.size a := fun v1669 v1678 k0_hw82 => k0_hw82.2.1
theorem k0_off104_inb : ∀ (v1669 : BitVec 32) (v1678 : BitVec 32) (k0_hw82 : k0_chk82 v1669 v1678), ∀ a, (k0_off104 v1669 v1678) a + S8x128.size a ≤ S4096x8192.size a := fun v1669 v1678 k0_hw82 => k0_hw82.2.2

def k0_off105 (v1701 : BitVec 32) (v1710 : BitVec 32) : Fin 2 → Nat :=
  let v1702 : BitVec 32 := v1701
  let v1711 : BitVec 32 := v1710
  ![v1702.toNat, v1711.toNat]

def k0_chk84 (v1701 : BitVec 32) (v1710 : BitVec 32) : Prop :=
  (128 ∣ (k0_mult82 v1710).toNat) ∧
  (∀ a, (k0_off73 v1701 v1710) a + S8x128.size a ≤ S4096x8192.size a) ∧
  (∀ a, (k0_off105 v1701 v1710) a + S8x128.size a ≤ S4096x8192.size a)
theorem k0_mult82_dvd : ∀ (v1701 : BitVec 32) (v1710 : BitVec 32) (k0_hw84 : k0_chk84 v1701 v1710), 128 ∣ (k0_mult82 v1710).toNat := fun v1701 v1710 k0_hw84 => k0_hw84.1
theorem k0_off73_inb : ∀ (v1701 : BitVec 32) (v1710 : BitVec 32) (k0_hw84 : k0_chk84 v1701 v1710), ∀ a, (k0_off73 v1701 v1710) a + S8x128.size a ≤ S4096x8192.size a := fun v1701 v1710 k0_hw84 => k0_hw84.2.1
theorem k0_off105_inb : ∀ (v1701 : BitVec 32) (v1710 : BitVec 32) (k0_hw84 : k0_chk84 v1701 v1710), ∀ a, (k0_off105 v1701 v1710) a + S8x128.size a ≤ S4096x8192.size a := fun v1701 v1710 k0_hw84 => k0_hw84.2.2

def k0_off106 (v1733 : BitVec 32) (v1742 : BitVec 32) : Fin 2 → Nat :=
  let v1734 : BitVec 32 := v1733
  let v1743 : BitVec 32 := v1742
  ![v1734.toNat, v1743.toNat]

def k0_chk86 (v1733 : BitVec 32) (v1742 : BitVec 32) : Prop :=
  (128 ∣ (k0_mult84 v1742).toNat) ∧
  (∀ a, (k0_off74 v1733 v1742) a + S8x128.size a ≤ S4096x8192.size a) ∧
  (∀ a, (k0_off106 v1733 v1742) a + S8x128.size a ≤ S4096x8192.size a)
theorem k0_mult84_dvd : ∀ (v1733 : BitVec 32) (v1742 : BitVec 32) (k0_hw86 : k0_chk86 v1733 v1742), 128 ∣ (k0_mult84 v1742).toNat := fun v1733 v1742 k0_hw86 => k0_hw86.1
theorem k0_off74_inb : ∀ (v1733 : BitVec 32) (v1742 : BitVec 32) (k0_hw86 : k0_chk86 v1733 v1742), ∀ a, (k0_off74 v1733 v1742) a + S8x128.size a ≤ S4096x8192.size a := fun v1733 v1742 k0_hw86 => k0_hw86.2.1
theorem k0_off106_inb : ∀ (v1733 : BitVec 32) (v1742 : BitVec 32) (k0_hw86 : k0_chk86 v1733 v1742), ∀ a, (k0_off106 v1733 v1742) a + S8x128.size a ≤ S4096x8192.size a := fun v1733 v1742 k0_hw86 => k0_hw86.2.2

def k0_off107 (v1765 : BitVec 32) (v1774 : BitVec 32) : Fin 2 → Nat :=
  let v1766 : BitVec 32 := v1765
  let v1775 : BitVec 32 := v1774
  ![v1766.toNat, v1775.toNat]

def k0_chk88 (v1765 : BitVec 32) (v1774 : BitVec 32) : Prop :=
  (128 ∣ (k0_mult86 v1774).toNat) ∧
  (∀ a, (k0_off75 v1765 v1774) a + S8x128.size a ≤ S4096x8192.size a) ∧
  (∀ a, (k0_off107 v1765 v1774) a + S8x128.size a ≤ S4096x8192.size a)
theorem k0_mult86_dvd : ∀ (v1765 : BitVec 32) (v1774 : BitVec 32) (k0_hw88 : k0_chk88 v1765 v1774), 128 ∣ (k0_mult86 v1774).toNat := fun v1765 v1774 k0_hw88 => k0_hw88.1
theorem k0_off75_inb : ∀ (v1765 : BitVec 32) (v1774 : BitVec 32) (k0_hw88 : k0_chk88 v1765 v1774), ∀ a, (k0_off75 v1765 v1774) a + S8x128.size a ≤ S4096x8192.size a := fun v1765 v1774 k0_hw88 => k0_hw88.2.1
theorem k0_off107_inb : ∀ (v1765 : BitVec 32) (v1774 : BitVec 32) (k0_hw88 : k0_chk88 v1765 v1774), ∀ a, (k0_off107 v1765 v1774) a + S8x128.size a ≤ S4096x8192.size a := fun v1765 v1774 k0_hw88 => k0_hw88.2.2

def k0_off108 (v1797 : BitVec 32) (v1806 : BitVec 32) : Fin 2 → Nat :=
  let v1798 : BitVec 32 := v1797
  let v1807 : BitVec 32 := v1806
  ![v1798.toNat, v1807.toNat]

def k0_chk90 (v1797 : BitVec 32) (v1806 : BitVec 32) : Prop :=
  (128 ∣ (k0_mult88 v1806).toNat) ∧
  (∀ a, (k0_off76 v1797 v1806) a + S8x128.size a ≤ S4096x8192.size a) ∧
  (∀ a, (k0_off108 v1797 v1806) a + S8x128.size a ≤ S4096x8192.size a)
theorem k0_mult88_dvd : ∀ (v1797 : BitVec 32) (v1806 : BitVec 32) (k0_hw90 : k0_chk90 v1797 v1806), 128 ∣ (k0_mult88 v1806).toNat := fun v1797 v1806 k0_hw90 => k0_hw90.1
theorem k0_off76_inb : ∀ (v1797 : BitVec 32) (v1806 : BitVec 32) (k0_hw90 : k0_chk90 v1797 v1806), ∀ a, (k0_off76 v1797 v1806) a + S8x128.size a ≤ S4096x8192.size a := fun v1797 v1806 k0_hw90 => k0_hw90.2.1
theorem k0_off108_inb : ∀ (v1797 : BitVec 32) (v1806 : BitVec 32) (k0_hw90 : k0_chk90 v1797 v1806), ∀ a, (k0_off108 v1797 v1806) a + S8x128.size a ≤ S4096x8192.size a := fun v1797 v1806 k0_hw90 => k0_hw90.2.2

def k0_off109 (v1829 : BitVec 32) (v1838 : BitVec 32) : Fin 2 → Nat :=
  let v1830 : BitVec 32 := v1829
  let v1839 : BitVec 32 := v1838
  ![v1830.toNat, v1839.toNat]

def k0_chk92 (v1829 : BitVec 32) (v1838 : BitVec 32) : Prop :=
  (128 ∣ (k0_mult90 v1838).toNat) ∧
  (∀ a, (k0_off77 v1829 v1838) a + S8x128.size a ≤ S4096x8192.size a) ∧
  (∀ a, (k0_off109 v1829 v1838) a + S8x128.size a ≤ S4096x8192.size a)
theorem k0_mult90_dvd : ∀ (v1829 : BitVec 32) (v1838 : BitVec 32) (k0_hw92 : k0_chk92 v1829 v1838), 128 ∣ (k0_mult90 v1838).toNat := fun v1829 v1838 k0_hw92 => k0_hw92.1
theorem k0_off77_inb : ∀ (v1829 : BitVec 32) (v1838 : BitVec 32) (k0_hw92 : k0_chk92 v1829 v1838), ∀ a, (k0_off77 v1829 v1838) a + S8x128.size a ≤ S4096x8192.size a := fun v1829 v1838 k0_hw92 => k0_hw92.2.1
theorem k0_off109_inb : ∀ (v1829 : BitVec 32) (v1838 : BitVec 32) (k0_hw92 : k0_chk92 v1829 v1838), ∀ a, (k0_off109 v1829 v1838) a + S8x128.size a ≤ S4096x8192.size a := fun v1829 v1838 k0_hw92 => k0_hw92.2.2

def k0_off110 (v1861 : BitVec 32) (v1870 : BitVec 32) : Fin 2 → Nat :=
  let v1862 : BitVec 32 := v1861
  let v1871 : BitVec 32 := v1870
  ![v1862.toNat, v1871.toNat]

def k0_chk94 (v1861 : BitVec 32) (v1870 : BitVec 32) : Prop :=
  (128 ∣ (k0_mult92 v1870).toNat) ∧
  (∀ a, (k0_off78 v1861 v1870) a + S8x128.size a ≤ S4096x8192.size a) ∧
  (∀ a, (k0_off110 v1861 v1870) a + S8x128.size a ≤ S4096x8192.size a)
theorem k0_mult92_dvd : ∀ (v1861 : BitVec 32) (v1870 : BitVec 32) (k0_hw94 : k0_chk94 v1861 v1870), 128 ∣ (k0_mult92 v1870).toNat := fun v1861 v1870 k0_hw94 => k0_hw94.1
theorem k0_off78_inb : ∀ (v1861 : BitVec 32) (v1870 : BitVec 32) (k0_hw94 : k0_chk94 v1861 v1870), ∀ a, (k0_off78 v1861 v1870) a + S8x128.size a ≤ S4096x8192.size a := fun v1861 v1870 k0_hw94 => k0_hw94.2.1
theorem k0_off110_inb : ∀ (v1861 : BitVec 32) (v1870 : BitVec 32) (k0_hw94 : k0_chk94 v1861 v1870), ∀ a, (k0_off110 v1861 v1870) a + S8x128.size a ≤ S4096x8192.size a := fun v1861 v1870 k0_hw94 => k0_hw94.2.2

def k0_off111 (v1893 : BitVec 32) (v1902 : BitVec 32) : Fin 2 → Nat :=
  let v1894 : BitVec 32 := v1893
  let v1903 : BitVec 32 := v1902
  ![v1894.toNat, v1903.toNat]

def k0_chk96 (v1893 : BitVec 32) (v1902 : BitVec 32) : Prop :=
  (128 ∣ (k0_mult94 v1902).toNat) ∧
  (∀ a, (k0_off79 v1893 v1902) a + S8x128.size a ≤ S4096x8192.size a) ∧
  (∀ a, (k0_off111 v1893 v1902) a + S8x128.size a ≤ S4096x8192.size a)
theorem k0_mult94_dvd : ∀ (v1893 : BitVec 32) (v1902 : BitVec 32) (k0_hw96 : k0_chk96 v1893 v1902), 128 ∣ (k0_mult94 v1902).toNat := fun v1893 v1902 k0_hw96 => k0_hw96.1
theorem k0_off79_inb : ∀ (v1893 : BitVec 32) (v1902 : BitVec 32) (k0_hw96 : k0_chk96 v1893 v1902), ∀ a, (k0_off79 v1893 v1902) a + S8x128.size a ≤ S4096x8192.size a := fun v1893 v1902 k0_hw96 => k0_hw96.2.1
theorem k0_off111_inb : ∀ (v1893 : BitVec 32) (v1902 : BitVec 32) (k0_hw96 : k0_chk96 v1893 v1902), ∀ a, (k0_off111 v1893 v1902) a + S8x128.size a ≤ S4096x8192.size a := fun v1893 v1902 k0_hw96 => k0_hw96.2.2

def k0_off112 (v1925 : BitVec 32) (v1934 : BitVec 32) : Fin 2 → Nat :=
  let v1926 : BitVec 32 := v1925
  let v1935 : BitVec 32 := v1934
  ![v1926.toNat, v1935.toNat]

def k0_chk98 (v1925 : BitVec 32) (v1934 : BitVec 32) : Prop :=
  (128 ∣ (k0_mult96 v1934).toNat) ∧
  (∀ a, (k0_off80 v1925 v1934) a + S8x128.size a ≤ S4096x8192.size a) ∧
  (∀ a, (k0_off112 v1925 v1934) a + S8x128.size a ≤ S4096x8192.size a)
theorem k0_mult96_dvd : ∀ (v1925 : BitVec 32) (v1934 : BitVec 32) (k0_hw98 : k0_chk98 v1925 v1934), 128 ∣ (k0_mult96 v1934).toNat := fun v1925 v1934 k0_hw98 => k0_hw98.1
theorem k0_off80_inb : ∀ (v1925 : BitVec 32) (v1934 : BitVec 32) (k0_hw98 : k0_chk98 v1925 v1934), ∀ a, (k0_off80 v1925 v1934) a + S8x128.size a ≤ S4096x8192.size a := fun v1925 v1934 k0_hw98 => k0_hw98.2.1
theorem k0_off112_inb : ∀ (v1925 : BitVec 32) (v1934 : BitVec 32) (k0_hw98 : k0_chk98 v1925 v1934), ∀ a, (k0_off112 v1925 v1934) a + S8x128.size a ≤ S4096x8192.size a := fun v1925 v1934 k0_hw98 => k0_hw98.2.2

def k0_off113 (v1957 : BitVec 32) (v1966 : BitVec 32) : Fin 2 → Nat :=
  let v1958 : BitVec 32 := v1957
  let v1967 : BitVec 32 := v1966
  ![v1958.toNat, v1967.toNat]

def k0_chk100 (v1957 : BitVec 32) (v1966 : BitVec 32) : Prop :=
  (128 ∣ (k0_mult98 v1966).toNat) ∧
  (∀ a, (k0_off81 v1957 v1966) a + S8x128.size a ≤ S4096x8192.size a) ∧
  (∀ a, (k0_off113 v1957 v1966) a + S8x128.size a ≤ S4096x8192.size a)
theorem k0_mult98_dvd : ∀ (v1957 : BitVec 32) (v1966 : BitVec 32) (k0_hw100 : k0_chk100 v1957 v1966), 128 ∣ (k0_mult98 v1966).toNat := fun v1957 v1966 k0_hw100 => k0_hw100.1
theorem k0_off81_inb : ∀ (v1957 : BitVec 32) (v1966 : BitVec 32) (k0_hw100 : k0_chk100 v1957 v1966), ∀ a, (k0_off81 v1957 v1966) a + S8x128.size a ≤ S4096x8192.size a := fun v1957 v1966 k0_hw100 => k0_hw100.2.1
theorem k0_off113_inb : ∀ (v1957 : BitVec 32) (v1966 : BitVec 32) (k0_hw100 : k0_chk100 v1957 v1966), ∀ a, (k0_off113 v1957 v1966) a + S8x128.size a ≤ S4096x8192.size a := fun v1957 v1966 k0_hw100 => k0_hw100.2.2

def k0_off114 (v1989 : BitVec 32) (v1998 : BitVec 32) : Fin 2 → Nat :=
  let v1990 : BitVec 32 := v1989
  let v1999 : BitVec 32 := v1998
  ![v1990.toNat, v1999.toNat]

def k0_chk102 (v1989 : BitVec 32) (v1998 : BitVec 32) : Prop :=
  (128 ∣ (k0_mult100 v1998).toNat) ∧
  (∀ a, (k0_off82 v1989 v1998) a + S8x128.size a ≤ S4096x8192.size a) ∧
  (∀ a, (k0_off114 v1989 v1998) a + S8x128.size a ≤ S4096x8192.size a)
theorem k0_mult100_dvd : ∀ (v1989 : BitVec 32) (v1998 : BitVec 32) (k0_hw102 : k0_chk102 v1989 v1998), 128 ∣ (k0_mult100 v1998).toNat := fun v1989 v1998 k0_hw102 => k0_hw102.1
theorem k0_off82_inb : ∀ (v1989 : BitVec 32) (v1998 : BitVec 32) (k0_hw102 : k0_chk102 v1989 v1998), ∀ a, (k0_off82 v1989 v1998) a + S8x128.size a ≤ S4096x8192.size a := fun v1989 v1998 k0_hw102 => k0_hw102.2.1
theorem k0_off114_inb : ∀ (v1989 : BitVec 32) (v1998 : BitVec 32) (k0_hw102 : k0_chk102 v1989 v1998), ∀ a, (k0_off114 v1989 v1998) a + S8x128.size a ≤ S4096x8192.size a := fun v1989 v1998 k0_hw102 => k0_hw102.2.2

def k0_off115 (v2021 : BitVec 32) (v2030 : BitVec 32) : Fin 2 → Nat :=
  let v2022 : BitVec 32 := v2021
  let v2031 : BitVec 32 := v2030
  ![v2022.toNat, v2031.toNat]

def k0_chk104 (v2021 : BitVec 32) (v2030 : BitVec 32) : Prop :=
  (128 ∣ (k0_mult102 v2030).toNat) ∧
  (∀ a, (k0_off83 v2021 v2030) a + S8x128.size a ≤ S4096x8192.size a) ∧
  (∀ a, (k0_off115 v2021 v2030) a + S8x128.size a ≤ S4096x8192.size a)
theorem k0_mult102_dvd : ∀ (v2021 : BitVec 32) (v2030 : BitVec 32) (k0_hw104 : k0_chk104 v2021 v2030), 128 ∣ (k0_mult102 v2030).toNat := fun v2021 v2030 k0_hw104 => k0_hw104.1
theorem k0_off83_inb : ∀ (v2021 : BitVec 32) (v2030 : BitVec 32) (k0_hw104 : k0_chk104 v2021 v2030), ∀ a, (k0_off83 v2021 v2030) a + S8x128.size a ≤ S4096x8192.size a := fun v2021 v2030 k0_hw104 => k0_hw104.2.1
theorem k0_off115_inb : ∀ (v2021 : BitVec 32) (v2030 : BitVec 32) (k0_hw104 : k0_chk104 v2021 v2030), ∀ a, (k0_off115 v2021 v2030) a + S8x128.size a ≤ S4096x8192.size a := fun v2021 v2030 k0_hw104 => k0_hw104.2.2

def k0_off116 (v2053 : BitVec 32) (v2062 : BitVec 32) : Fin 2 → Nat :=
  let v2054 : BitVec 32 := v2053
  let v2063 : BitVec 32 := v2062
  ![v2054.toNat, v2063.toNat]

def k0_chk106 (v2053 : BitVec 32) (v2062 : BitVec 32) : Prop :=
  (128 ∣ (k0_mult104 v2062).toNat) ∧
  (∀ a, (k0_off84 v2053 v2062) a + S8x128.size a ≤ S4096x8192.size a) ∧
  (∀ a, (k0_off116 v2053 v2062) a + S8x128.size a ≤ S4096x8192.size a)
theorem k0_mult104_dvd : ∀ (v2053 : BitVec 32) (v2062 : BitVec 32) (k0_hw106 : k0_chk106 v2053 v2062), 128 ∣ (k0_mult104 v2062).toNat := fun v2053 v2062 k0_hw106 => k0_hw106.1
theorem k0_off84_inb : ∀ (v2053 : BitVec 32) (v2062 : BitVec 32) (k0_hw106 : k0_chk106 v2053 v2062), ∀ a, (k0_off84 v2053 v2062) a + S8x128.size a ≤ S4096x8192.size a := fun v2053 v2062 k0_hw106 => k0_hw106.2.1
theorem k0_off116_inb : ∀ (v2053 : BitVec 32) (v2062 : BitVec 32) (k0_hw106 : k0_chk106 v2053 v2062), ∀ a, (k0_off116 v2053 v2062) a + S8x128.size a ≤ S4096x8192.size a := fun v2053 v2062 k0_hw106 => k0_hw106.2.2

def k0_off117 (v2085 : BitVec 32) (v2094 : BitVec 32) : Fin 2 → Nat :=
  let v2086 : BitVec 32 := v2085
  let v2095 : BitVec 32 := v2094
  ![v2086.toNat, v2095.toNat]

def k0_chk108 (v2085 : BitVec 32) (v2094 : BitVec 32) : Prop :=
  (128 ∣ (k0_mult106 v2094).toNat) ∧
  (∀ a, (k0_off85 v2085 v2094) a + S8x128.size a ≤ S4096x8192.size a) ∧
  (∀ a, (k0_off117 v2085 v2094) a + S8x128.size a ≤ S4096x8192.size a)
theorem k0_mult106_dvd : ∀ (v2085 : BitVec 32) (v2094 : BitVec 32) (k0_hw108 : k0_chk108 v2085 v2094), 128 ∣ (k0_mult106 v2094).toNat := fun v2085 v2094 k0_hw108 => k0_hw108.1
theorem k0_off85_inb : ∀ (v2085 : BitVec 32) (v2094 : BitVec 32) (k0_hw108 : k0_chk108 v2085 v2094), ∀ a, (k0_off85 v2085 v2094) a + S8x128.size a ≤ S4096x8192.size a := fun v2085 v2094 k0_hw108 => k0_hw108.2.1
theorem k0_off117_inb : ∀ (v2085 : BitVec 32) (v2094 : BitVec 32) (k0_hw108 : k0_chk108 v2085 v2094), ∀ a, (k0_off117 v2085 v2094) a + S8x128.size a ≤ S4096x8192.size a := fun v2085 v2094 k0_hw108 => k0_hw108.2.2

def k0_off118 (v2117 : BitVec 32) (v2126 : BitVec 32) : Fin 2 → Nat :=
  let v2118 : BitVec 32 := v2117
  let v2127 : BitVec 32 := v2126
  ![v2118.toNat, v2127.toNat]

def k0_chk110 (v2117 : BitVec 32) (v2126 : BitVec 32) : Prop :=
  (128 ∣ (k0_mult108 v2126).toNat) ∧
  (∀ a, (k0_off86 v2117 v2126) a + S8x128.size a ≤ S4096x8192.size a) ∧
  (∀ a, (k0_off118 v2117 v2126) a + S8x128.size a ≤ S4096x8192.size a)
theorem k0_mult108_dvd : ∀ (v2117 : BitVec 32) (v2126 : BitVec 32) (k0_hw110 : k0_chk110 v2117 v2126), 128 ∣ (k0_mult108 v2126).toNat := fun v2117 v2126 k0_hw110 => k0_hw110.1
theorem k0_off86_inb : ∀ (v2117 : BitVec 32) (v2126 : BitVec 32) (k0_hw110 : k0_chk110 v2117 v2126), ∀ a, (k0_off86 v2117 v2126) a + S8x128.size a ≤ S4096x8192.size a := fun v2117 v2126 k0_hw110 => k0_hw110.2.1
theorem k0_off118_inb : ∀ (v2117 : BitVec 32) (v2126 : BitVec 32) (k0_hw110 : k0_chk110 v2117 v2126), ∀ a, (k0_off118 v2117 v2126) a + S8x128.size a ≤ S4096x8192.size a := fun v2117 v2126 k0_hw110 => k0_hw110.2.2

def k0_off119 (v2149 : BitVec 32) (v2158 : BitVec 32) : Fin 2 → Nat :=
  let v2150 : BitVec 32 := v2149
  let v2159 : BitVec 32 := v2158
  ![v2150.toNat, v2159.toNat]

def k0_chk112 (v2149 : BitVec 32) (v2158 : BitVec 32) : Prop :=
  (128 ∣ (k0_mult110 v2158).toNat) ∧
  (∀ a, (k0_off87 v2149 v2158) a + S8x128.size a ≤ S4096x8192.size a) ∧
  (∀ a, (k0_off119 v2149 v2158) a + S8x128.size a ≤ S4096x8192.size a)
theorem k0_mult110_dvd : ∀ (v2149 : BitVec 32) (v2158 : BitVec 32) (k0_hw112 : k0_chk112 v2149 v2158), 128 ∣ (k0_mult110 v2158).toNat := fun v2149 v2158 k0_hw112 => k0_hw112.1
theorem k0_off87_inb : ∀ (v2149 : BitVec 32) (v2158 : BitVec 32) (k0_hw112 : k0_chk112 v2149 v2158), ∀ a, (k0_off87 v2149 v2158) a + S8x128.size a ≤ S4096x8192.size a := fun v2149 v2158 k0_hw112 => k0_hw112.2.1
theorem k0_off119_inb : ∀ (v2149 : BitVec 32) (v2158 : BitVec 32) (k0_hw112 : k0_chk112 v2149 v2158), ∀ a, (k0_off119 v2149 v2158) a + S8x128.size a ≤ S4096x8192.size a := fun v2149 v2158 k0_hw112 => k0_hw112.2.2

def k0_off120 (v2181 : BitVec 32) (v2190 : BitVec 32) : Fin 2 → Nat :=
  let v2182 : BitVec 32 := v2181
  let v2191 : BitVec 32 := v2190
  ![v2182.toNat, v2191.toNat]

def k0_chk114 (v2181 : BitVec 32) (v2190 : BitVec 32) : Prop :=
  (128 ∣ (k0_mult112 v2190).toNat) ∧
  (∀ a, (k0_off88 v2181 v2190) a + S8x128.size a ≤ S4096x8192.size a) ∧
  (∀ a, (k0_off120 v2181 v2190) a + S8x128.size a ≤ S4096x8192.size a)
theorem k0_mult112_dvd : ∀ (v2181 : BitVec 32) (v2190 : BitVec 32) (k0_hw114 : k0_chk114 v2181 v2190), 128 ∣ (k0_mult112 v2190).toNat := fun v2181 v2190 k0_hw114 => k0_hw114.1
theorem k0_off88_inb : ∀ (v2181 : BitVec 32) (v2190 : BitVec 32) (k0_hw114 : k0_chk114 v2181 v2190), ∀ a, (k0_off88 v2181 v2190) a + S8x128.size a ≤ S4096x8192.size a := fun v2181 v2190 k0_hw114 => k0_hw114.2.1
theorem k0_off120_inb : ∀ (v2181 : BitVec 32) (v2190 : BitVec 32) (k0_hw114 : k0_chk114 v2181 v2190), ∀ a, (k0_off120 v2181 v2190) a + S8x128.size a ≤ S4096x8192.size a := fun v2181 v2190 k0_hw114 => k0_hw114.2.2

def k0_off121 (v2213 : BitVec 32) (v2222 : BitVec 32) : Fin 2 → Nat :=
  let v2214 : BitVec 32 := v2213
  let v2223 : BitVec 32 := v2222
  ![v2214.toNat, v2223.toNat]

def k0_chk116 (v2213 : BitVec 32) (v2222 : BitVec 32) : Prop :=
  (128 ∣ (k0_mult114 v2222).toNat) ∧
  (∀ a, (k0_off89 v2213 v2222) a + S8x128.size a ≤ S4096x8192.size a) ∧
  (∀ a, (k0_off121 v2213 v2222) a + S8x128.size a ≤ S4096x8192.size a)
theorem k0_mult114_dvd : ∀ (v2213 : BitVec 32) (v2222 : BitVec 32) (k0_hw116 : k0_chk116 v2213 v2222), 128 ∣ (k0_mult114 v2222).toNat := fun v2213 v2222 k0_hw116 => k0_hw116.1
theorem k0_off89_inb : ∀ (v2213 : BitVec 32) (v2222 : BitVec 32) (k0_hw116 : k0_chk116 v2213 v2222), ∀ a, (k0_off89 v2213 v2222) a + S8x128.size a ≤ S4096x8192.size a := fun v2213 v2222 k0_hw116 => k0_hw116.2.1
theorem k0_off121_inb : ∀ (v2213 : BitVec 32) (v2222 : BitVec 32) (k0_hw116 : k0_chk116 v2213 v2222), ∀ a, (k0_off121 v2213 v2222) a + S8x128.size a ≤ S4096x8192.size a := fun v2213 v2222 k0_hw116 => k0_hw116.2.2

def k0_off122 (v2245 : BitVec 32) (v2254 : BitVec 32) : Fin 2 → Nat :=
  let v2246 : BitVec 32 := v2245
  let v2255 : BitVec 32 := v2254
  ![v2246.toNat, v2255.toNat]

def k0_chk118 (v2245 : BitVec 32) (v2254 : BitVec 32) : Prop :=
  (128 ∣ (k0_mult116 v2254).toNat) ∧
  (∀ a, (k0_off90 v2245 v2254) a + S8x128.size a ≤ S4096x8192.size a) ∧
  (∀ a, (k0_off122 v2245 v2254) a + S8x128.size a ≤ S4096x8192.size a)
theorem k0_mult116_dvd : ∀ (v2245 : BitVec 32) (v2254 : BitVec 32) (k0_hw118 : k0_chk118 v2245 v2254), 128 ∣ (k0_mult116 v2254).toNat := fun v2245 v2254 k0_hw118 => k0_hw118.1
theorem k0_off90_inb : ∀ (v2245 : BitVec 32) (v2254 : BitVec 32) (k0_hw118 : k0_chk118 v2245 v2254), ∀ a, (k0_off90 v2245 v2254) a + S8x128.size a ≤ S4096x8192.size a := fun v2245 v2254 k0_hw118 => k0_hw118.2.1
theorem k0_off122_inb : ∀ (v2245 : BitVec 32) (v2254 : BitVec 32) (k0_hw118 : k0_chk118 v2245 v2254), ∀ a, (k0_off122 v2245 v2254) a + S8x128.size a ≤ S4096x8192.size a := fun v2245 v2254 k0_hw118 => k0_hw118.2.2

def k0_off123 (v2277 : BitVec 32) (v2286 : BitVec 32) : Fin 2 → Nat :=
  let v2278 : BitVec 32 := v2277
  let v2287 : BitVec 32 := v2286
  ![v2278.toNat, v2287.toNat]

def k0_chk120 (v2277 : BitVec 32) (v2286 : BitVec 32) : Prop :=
  (128 ∣ (k0_mult118 v2286).toNat) ∧
  (∀ a, (k0_off91 v2277 v2286) a + S8x128.size a ≤ S4096x8192.size a) ∧
  (∀ a, (k0_off123 v2277 v2286) a + S8x128.size a ≤ S4096x8192.size a)
theorem k0_mult118_dvd : ∀ (v2277 : BitVec 32) (v2286 : BitVec 32) (k0_hw120 : k0_chk120 v2277 v2286), 128 ∣ (k0_mult118 v2286).toNat := fun v2277 v2286 k0_hw120 => k0_hw120.1
theorem k0_off91_inb : ∀ (v2277 : BitVec 32) (v2286 : BitVec 32) (k0_hw120 : k0_chk120 v2277 v2286), ∀ a, (k0_off91 v2277 v2286) a + S8x128.size a ≤ S4096x8192.size a := fun v2277 v2286 k0_hw120 => k0_hw120.2.1
theorem k0_off123_inb : ∀ (v2277 : BitVec 32) (v2286 : BitVec 32) (k0_hw120 : k0_chk120 v2277 v2286), ∀ a, (k0_off123 v2277 v2286) a + S8x128.size a ≤ S4096x8192.size a := fun v2277 v2286 k0_hw120 => k0_hw120.2.2

def k0_off124 (v2309 : BitVec 32) (v2318 : BitVec 32) : Fin 2 → Nat :=
  let v2310 : BitVec 32 := v2309
  let v2319 : BitVec 32 := v2318
  ![v2310.toNat, v2319.toNat]

def k0_chk122 (v2309 : BitVec 32) (v2318 : BitVec 32) : Prop :=
  (128 ∣ (k0_mult120 v2318).toNat) ∧
  (∀ a, (k0_off92 v2309 v2318) a + S8x128.size a ≤ S4096x8192.size a) ∧
  (∀ a, (k0_off124 v2309 v2318) a + S8x128.size a ≤ S4096x8192.size a)
theorem k0_mult120_dvd : ∀ (v2309 : BitVec 32) (v2318 : BitVec 32) (k0_hw122 : k0_chk122 v2309 v2318), 128 ∣ (k0_mult120 v2318).toNat := fun v2309 v2318 k0_hw122 => k0_hw122.1
theorem k0_off92_inb : ∀ (v2309 : BitVec 32) (v2318 : BitVec 32) (k0_hw122 : k0_chk122 v2309 v2318), ∀ a, (k0_off92 v2309 v2318) a + S8x128.size a ≤ S4096x8192.size a := fun v2309 v2318 k0_hw122 => k0_hw122.2.1
theorem k0_off124_inb : ∀ (v2309 : BitVec 32) (v2318 : BitVec 32) (k0_hw122 : k0_chk122 v2309 v2318), ∀ a, (k0_off124 v2309 v2318) a + S8x128.size a ≤ S4096x8192.size a := fun v2309 v2318 k0_hw122 => k0_hw122.2.2

def k0_off125 (v2341 : BitVec 32) (v2350 : BitVec 32) : Fin 2 → Nat :=
  let v2342 : BitVec 32 := v2341
  let v2351 : BitVec 32 := v2350
  ![v2342.toNat, v2351.toNat]

def k0_chk124 (v2341 : BitVec 32) (v2350 : BitVec 32) : Prop :=
  (128 ∣ (k0_mult122 v2350).toNat) ∧
  (∀ a, (k0_off93 v2341 v2350) a + S8x128.size a ≤ S4096x8192.size a) ∧
  (∀ a, (k0_off125 v2341 v2350) a + S8x128.size a ≤ S4096x8192.size a)
theorem k0_mult122_dvd : ∀ (v2341 : BitVec 32) (v2350 : BitVec 32) (k0_hw124 : k0_chk124 v2341 v2350), 128 ∣ (k0_mult122 v2350).toNat := fun v2341 v2350 k0_hw124 => k0_hw124.1
theorem k0_off93_inb : ∀ (v2341 : BitVec 32) (v2350 : BitVec 32) (k0_hw124 : k0_chk124 v2341 v2350), ∀ a, (k0_off93 v2341 v2350) a + S8x128.size a ≤ S4096x8192.size a := fun v2341 v2350 k0_hw124 => k0_hw124.2.1
theorem k0_off125_inb : ∀ (v2341 : BitVec 32) (v2350 : BitVec 32) (k0_hw124 : k0_chk124 v2341 v2350), ∀ a, (k0_off125 v2341 v2350) a + S8x128.size a ≤ S4096x8192.size a := fun v2341 v2350 k0_hw124 => k0_hw124.2.2

def k0_off126 (v2373 : BitVec 32) (v2382 : BitVec 32) : Fin 2 → Nat :=
  let v2374 : BitVec 32 := v2373
  let v2383 : BitVec 32 := v2382
  ![v2374.toNat, v2383.toNat]

def k0_chk126 (v2373 : BitVec 32) (v2382 : BitVec 32) : Prop :=
  (128 ∣ (k0_mult124 v2382).toNat) ∧
  (∀ a, (k0_off94 v2373 v2382) a + S8x128.size a ≤ S4096x8192.size a) ∧
  (∀ a, (k0_off126 v2373 v2382) a + S8x128.size a ≤ S4096x8192.size a)
theorem k0_mult124_dvd : ∀ (v2373 : BitVec 32) (v2382 : BitVec 32) (k0_hw126 : k0_chk126 v2373 v2382), 128 ∣ (k0_mult124 v2382).toNat := fun v2373 v2382 k0_hw126 => k0_hw126.1
theorem k0_off94_inb : ∀ (v2373 : BitVec 32) (v2382 : BitVec 32) (k0_hw126 : k0_chk126 v2373 v2382), ∀ a, (k0_off94 v2373 v2382) a + S8x128.size a ≤ S4096x8192.size a := fun v2373 v2382 k0_hw126 => k0_hw126.2.1
theorem k0_off126_inb : ∀ (v2373 : BitVec 32) (v2382 : BitVec 32) (k0_hw126 : k0_chk126 v2373 v2382), ∀ a, (k0_off126 v2373 v2382) a + S8x128.size a ≤ S4096x8192.size a := fun v2373 v2382 k0_hw126 => k0_hw126.2.2

def k0_off127 (v2405 : BitVec 32) (v2414 : BitVec 32) : Fin 2 → Nat :=
  let v2406 : BitVec 32 := v2405
  let v2415 : BitVec 32 := v2414
  ![v2406.toNat, v2415.toNat]

def k0_chk128 (v2405 : BitVec 32) (v2414 : BitVec 32) : Prop :=
  (128 ∣ (k0_mult126 v2414).toNat) ∧
  (∀ a, (k0_off95 v2405 v2414) a + S8x128.size a ≤ S4096x8192.size a) ∧
  (∀ a, (k0_off127 v2405 v2414) a + S8x128.size a ≤ S4096x8192.size a)
theorem k0_mult126_dvd : ∀ (v2405 : BitVec 32) (v2414 : BitVec 32) (k0_hw128 : k0_chk128 v2405 v2414), 128 ∣ (k0_mult126 v2414).toNat := fun v2405 v2414 k0_hw128 => k0_hw128.1
theorem k0_off95_inb : ∀ (v2405 : BitVec 32) (v2414 : BitVec 32) (k0_hw128 : k0_chk128 v2405 v2414), ∀ a, (k0_off95 v2405 v2414) a + S8x128.size a ≤ S4096x8192.size a := fun v2405 v2414 k0_hw128 => k0_hw128.2.1
theorem k0_off127_inb : ∀ (v2405 : BitVec 32) (v2414 : BitVec 32) (k0_hw128 : k0_chk128 v2405 v2414), ∀ a, (k0_off127 v2405 v2414) a + S8x128.size a ≤ S4096x8192.size a := fun v2405 v2414 k0_hw128 => k0_hw128.2.2

def k0_chk131 (v2845 : IVec S16 32) (v2848 : IVec S16 32) (v2851 : IVec S16 32) : Prop :=
  (∀ a x, ((![v2845, v2848, v2851] : Fin 3 → IVec S16 32) a x).toNat < S32x8x128.size a) ∧
  (∀ a x, ((![v2845, v2848, v2851] : Fin 3 → IVec S16 32) a x).toNat < S32x8x128.size a)
theorem k0_idx5_inb : ∀ (v2845 : IVec S16 32) (v2848 : IVec S16 32) (v2851 : IVec S16 32) (k0_hw131 : k0_chk131 v2845 v2848 v2851), ∀ a x, ((![v2845, v2848, v2851] : Fin 3 → IVec S16 32) a x).toNat < S32x8x128.size a := fun v2845 v2848 v2851 k0_hw131 => k0_hw131.1
theorem k0_idx6_inb : ∀ (v2845 : IVec S16 32) (v2848 : IVec S16 32) (v2851 : IVec S16 32) (k0_hw131 : k0_chk131 v2845 v2848 v2851), ∀ a x, ((![v2845, v2848, v2851] : Fin 3 → IVec S16 32) a x).toNat < S32x8x128.size a := fun v2845 v2848 v2851 k0_hw131 => k0_hw131.2

def k0_chk132 (v2857 : IVec S16 32) (v2860 : IVec S16 32) (v2863 : IVec S16 32) : Prop :=
  (∀ a x, ((![v2857, v2860, v2863] : Fin 3 → IVec S16 32) a x).toNat < S32x8x128.size a) ∧
  (∀ a x, ((![v2857, v2860, v2863] : Fin 3 → IVec S16 32) a x).toNat < S32x8x128.size a)
theorem k0_idx7_inb : ∀ (v2857 : IVec S16 32) (v2860 : IVec S16 32) (v2863 : IVec S16 32) (k0_hw132 : k0_chk132 v2857 v2860 v2863), ∀ a x, ((![v2857, v2860, v2863] : Fin 3 → IVec S16 32) a x).toNat < S32x8x128.size a := fun v2857 v2860 v2863 k0_hw132 => k0_hw132.1
theorem k0_idx8_inb : ∀ (v2857 : IVec S16 32) (v2860 : IVec S16 32) (v2863 : IVec S16 32) (k0_hw132 : k0_chk132 v2857 v2860 v2863), ∀ a x, ((![v2857, v2860, v2863] : Fin 3 → IVec S16 32) a x).toNat < S32x8x128.size a := fun v2857 v2860 v2863 k0_hw132 => k0_hw132.2
def k0_mult129 (v2877 : BitVec 32) : BitVec 32 :=
  v2877

def k0_chk133 (v2877 : BitVec 32) : Prop :=
  (8 ∣ (k0_mult129 v2877).toNat)
theorem k0_mult129_dvd : ∀ (v2877 : BitVec 32) (k0_hw133 : k0_chk133 v2877), 8 ∣ (k0_mult129 v2877).toNat := fun v2877 k0_hw133 => k0_hw133

def k0_mult130 (v2886 : BitVec 32) : BitVec 32 :=
  v2886

def k0_off128 (v2877 : BitVec 32) (v2886 : BitVec 32) : Fin 2 → Nat :=
  let v2878 : BitVec 32 := v2877
  let v2887 : BitVec 32 := v2886
  ![v2878.toNat, v2887.toNat]
def k0_mult131 (v2909 : BitVec 32) : BitVec 32 :=
  v2909

def k0_chk135 (v2909 : BitVec 32) : Prop :=
  (8 ∣ (k0_mult131 v2909).toNat)
theorem k0_mult131_dvd : ∀ (v2909 : BitVec 32) (k0_hw135 : k0_chk135 v2909), 8 ∣ (k0_mult131 v2909).toNat := fun v2909 k0_hw135 => k0_hw135

def k0_mult132 (v2918 : BitVec 32) : BitVec 32 :=
  v2918

def k0_off129 (v2909 : BitVec 32) (v2918 : BitVec 32) : Fin 2 → Nat :=
  let v2910 : BitVec 32 := v2909
  let v2919 : BitVec 32 := v2918
  ![v2910.toNat, v2919.toNat]
def k0_mult133 (v2941 : BitVec 32) : BitVec 32 :=
  v2941

def k0_chk137 (v2941 : BitVec 32) : Prop :=
  (8 ∣ (k0_mult133 v2941).toNat)
theorem k0_mult133_dvd : ∀ (v2941 : BitVec 32) (k0_hw137 : k0_chk137 v2941), 8 ∣ (k0_mult133 v2941).toNat := fun v2941 k0_hw137 => k0_hw137

def k0_mult134 (v2950 : BitVec 32) : BitVec 32 :=
  v2950

def k0_off130 (v2941 : BitVec 32) (v2950 : BitVec 32) : Fin 2 → Nat :=
  let v2942 : BitVec 32 := v2941
  let v2951 : BitVec 32 := v2950
  ![v2942.toNat, v2951.toNat]
def k0_mult135 (v2973 : BitVec 32) : BitVec 32 :=
  v2973

def k0_chk139 (v2973 : BitVec 32) : Prop :=
  (8 ∣ (k0_mult135 v2973).toNat)
theorem k0_mult135_dvd : ∀ (v2973 : BitVec 32) (k0_hw139 : k0_chk139 v2973), 8 ∣ (k0_mult135 v2973).toNat := fun v2973 k0_hw139 => k0_hw139

def k0_mult136 (v2982 : BitVec 32) : BitVec 32 :=
  v2982

def k0_off131 (v2973 : BitVec 32) (v2982 : BitVec 32) : Fin 2 → Nat :=
  let v2974 : BitVec 32 := v2973
  let v2983 : BitVec 32 := v2982
  ![v2974.toNat, v2983.toNat]
def k0_mult137 (v3005 : BitVec 32) : BitVec 32 :=
  v3005

def k0_chk141 (v3005 : BitVec 32) : Prop :=
  (8 ∣ (k0_mult137 v3005).toNat)
theorem k0_mult137_dvd : ∀ (v3005 : BitVec 32) (k0_hw141 : k0_chk141 v3005), 8 ∣ (k0_mult137 v3005).toNat := fun v3005 k0_hw141 => k0_hw141

def k0_mult138 (v3014 : BitVec 32) : BitVec 32 :=
  v3014

def k0_off132 (v3005 : BitVec 32) (v3014 : BitVec 32) : Fin 2 → Nat :=
  let v3006 : BitVec 32 := v3005
  let v3015 : BitVec 32 := v3014
  ![v3006.toNat, v3015.toNat]
def k0_mult139 (v3037 : BitVec 32) : BitVec 32 :=
  v3037

def k0_chk143 (v3037 : BitVec 32) : Prop :=
  (8 ∣ (k0_mult139 v3037).toNat)
theorem k0_mult139_dvd : ∀ (v3037 : BitVec 32) (k0_hw143 : k0_chk143 v3037), 8 ∣ (k0_mult139 v3037).toNat := fun v3037 k0_hw143 => k0_hw143

def k0_mult140 (v3046 : BitVec 32) : BitVec 32 :=
  v3046

def k0_off133 (v3037 : BitVec 32) (v3046 : BitVec 32) : Fin 2 → Nat :=
  let v3038 : BitVec 32 := v3037
  let v3047 : BitVec 32 := v3046
  ![v3038.toNat, v3047.toNat]
def k0_mult141 (v3069 : BitVec 32) : BitVec 32 :=
  v3069

def k0_chk145 (v3069 : BitVec 32) : Prop :=
  (8 ∣ (k0_mult141 v3069).toNat)
theorem k0_mult141_dvd : ∀ (v3069 : BitVec 32) (k0_hw145 : k0_chk145 v3069), 8 ∣ (k0_mult141 v3069).toNat := fun v3069 k0_hw145 => k0_hw145

def k0_mult142 (v3078 : BitVec 32) : BitVec 32 :=
  v3078

def k0_off134 (v3069 : BitVec 32) (v3078 : BitVec 32) : Fin 2 → Nat :=
  let v3070 : BitVec 32 := v3069
  let v3079 : BitVec 32 := v3078
  ![v3070.toNat, v3079.toNat]
def k0_mult143 (v3101 : BitVec 32) : BitVec 32 :=
  v3101

def k0_chk147 (v3101 : BitVec 32) : Prop :=
  (8 ∣ (k0_mult143 v3101).toNat)
theorem k0_mult143_dvd : ∀ (v3101 : BitVec 32) (k0_hw147 : k0_chk147 v3101), 8 ∣ (k0_mult143 v3101).toNat := fun v3101 k0_hw147 => k0_hw147

def k0_mult144 (v3110 : BitVec 32) : BitVec 32 :=
  v3110

def k0_off135 (v3101 : BitVec 32) (v3110 : BitVec 32) : Fin 2 → Nat :=
  let v3102 : BitVec 32 := v3101
  let v3111 : BitVec 32 := v3110
  ![v3102.toNat, v3111.toNat]
def k0_mult145 (v3133 : BitVec 32) : BitVec 32 :=
  v3133

def k0_chk149 (v3133 : BitVec 32) : Prop :=
  (8 ∣ (k0_mult145 v3133).toNat)
theorem k0_mult145_dvd : ∀ (v3133 : BitVec 32) (k0_hw149 : k0_chk149 v3133), 8 ∣ (k0_mult145 v3133).toNat := fun v3133 k0_hw149 => k0_hw149

def k0_mult146 (v3142 : BitVec 32) : BitVec 32 :=
  v3142

def k0_off136 (v3133 : BitVec 32) (v3142 : BitVec 32) : Fin 2 → Nat :=
  let v3134 : BitVec 32 := v3133
  let v3143 : BitVec 32 := v3142
  ![v3134.toNat, v3143.toNat]
def k0_mult147 (v3165 : BitVec 32) : BitVec 32 :=
  v3165

def k0_chk151 (v3165 : BitVec 32) : Prop :=
  (8 ∣ (k0_mult147 v3165).toNat)
theorem k0_mult147_dvd : ∀ (v3165 : BitVec 32) (k0_hw151 : k0_chk151 v3165), 8 ∣ (k0_mult147 v3165).toNat := fun v3165 k0_hw151 => k0_hw151

def k0_mult148 (v3174 : BitVec 32) : BitVec 32 :=
  v3174

def k0_off137 (v3165 : BitVec 32) (v3174 : BitVec 32) : Fin 2 → Nat :=
  let v3166 : BitVec 32 := v3165
  let v3175 : BitVec 32 := v3174
  ![v3166.toNat, v3175.toNat]
def k0_mult149 (v3197 : BitVec 32) : BitVec 32 :=
  v3197

def k0_chk153 (v3197 : BitVec 32) : Prop :=
  (8 ∣ (k0_mult149 v3197).toNat)
theorem k0_mult149_dvd : ∀ (v3197 : BitVec 32) (k0_hw153 : k0_chk153 v3197), 8 ∣ (k0_mult149 v3197).toNat := fun v3197 k0_hw153 => k0_hw153

def k0_mult150 (v3206 : BitVec 32) : BitVec 32 :=
  v3206

def k0_off138 (v3197 : BitVec 32) (v3206 : BitVec 32) : Fin 2 → Nat :=
  let v3198 : BitVec 32 := v3197
  let v3207 : BitVec 32 := v3206
  ![v3198.toNat, v3207.toNat]
def k0_mult151 (v3229 : BitVec 32) : BitVec 32 :=
  v3229

def k0_chk155 (v3229 : BitVec 32) : Prop :=
  (8 ∣ (k0_mult151 v3229).toNat)
theorem k0_mult151_dvd : ∀ (v3229 : BitVec 32) (k0_hw155 : k0_chk155 v3229), 8 ∣ (k0_mult151 v3229).toNat := fun v3229 k0_hw155 => k0_hw155

def k0_mult152 (v3238 : BitVec 32) : BitVec 32 :=
  v3238

def k0_off139 (v3229 : BitVec 32) (v3238 : BitVec 32) : Fin 2 → Nat :=
  let v3230 : BitVec 32 := v3229
  let v3239 : BitVec 32 := v3238
  ![v3230.toNat, v3239.toNat]
def k0_mult153 (v3261 : BitVec 32) : BitVec 32 :=
  v3261

def k0_chk157 (v3261 : BitVec 32) : Prop :=
  (8 ∣ (k0_mult153 v3261).toNat)
theorem k0_mult153_dvd : ∀ (v3261 : BitVec 32) (k0_hw157 : k0_chk157 v3261), 8 ∣ (k0_mult153 v3261).toNat := fun v3261 k0_hw157 => k0_hw157

def k0_mult154 (v3270 : BitVec 32) : BitVec 32 :=
  v3270

def k0_off140 (v3261 : BitVec 32) (v3270 : BitVec 32) : Fin 2 → Nat :=
  let v3262 : BitVec 32 := v3261
  let v3271 : BitVec 32 := v3270
  ![v3262.toNat, v3271.toNat]
def k0_mult155 (v3293 : BitVec 32) : BitVec 32 :=
  v3293

def k0_chk159 (v3293 : BitVec 32) : Prop :=
  (8 ∣ (k0_mult155 v3293).toNat)
theorem k0_mult155_dvd : ∀ (v3293 : BitVec 32) (k0_hw159 : k0_chk159 v3293), 8 ∣ (k0_mult155 v3293).toNat := fun v3293 k0_hw159 => k0_hw159

def k0_mult156 (v3302 : BitVec 32) : BitVec 32 :=
  v3302

def k0_off141 (v3293 : BitVec 32) (v3302 : BitVec 32) : Fin 2 → Nat :=
  let v3294 : BitVec 32 := v3293
  let v3303 : BitVec 32 := v3302
  ![v3294.toNat, v3303.toNat]
def k0_mult157 (v3325 : BitVec 32) : BitVec 32 :=
  v3325

def k0_chk161 (v3325 : BitVec 32) : Prop :=
  (8 ∣ (k0_mult157 v3325).toNat)
theorem k0_mult157_dvd : ∀ (v3325 : BitVec 32) (k0_hw161 : k0_chk161 v3325), 8 ∣ (k0_mult157 v3325).toNat := fun v3325 k0_hw161 => k0_hw161

def k0_mult158 (v3334 : BitVec 32) : BitVec 32 :=
  v3334

def k0_off142 (v3325 : BitVec 32) (v3334 : BitVec 32) : Fin 2 → Nat :=
  let v3326 : BitVec 32 := v3325
  let v3335 : BitVec 32 := v3334
  ![v3326.toNat, v3335.toNat]
def k0_mult159 (v3357 : BitVec 32) : BitVec 32 :=
  v3357

def k0_chk163 (v3357 : BitVec 32) : Prop :=
  (8 ∣ (k0_mult159 v3357).toNat)
theorem k0_mult159_dvd : ∀ (v3357 : BitVec 32) (k0_hw163 : k0_chk163 v3357), 8 ∣ (k0_mult159 v3357).toNat := fun v3357 k0_hw163 => k0_hw163

def k0_mult160 (v3366 : BitVec 32) : BitVec 32 :=
  v3366

def k0_off143 (v3357 : BitVec 32) (v3366 : BitVec 32) : Fin 2 → Nat :=
  let v3358 : BitVec 32 := v3357
  let v3367 : BitVec 32 := v3366
  ![v3358.toNat, v3367.toNat]
def k0_mult161 (v3389 : BitVec 32) : BitVec 32 :=
  v3389

def k0_chk165 (v3389 : BitVec 32) : Prop :=
  (8 ∣ (k0_mult161 v3389).toNat)
theorem k0_mult161_dvd : ∀ (v3389 : BitVec 32) (k0_hw165 : k0_chk165 v3389), 8 ∣ (k0_mult161 v3389).toNat := fun v3389 k0_hw165 => k0_hw165

def k0_mult162 (v3398 : BitVec 32) : BitVec 32 :=
  v3398

def k0_off144 (v3389 : BitVec 32) (v3398 : BitVec 32) : Fin 2 → Nat :=
  let v3390 : BitVec 32 := v3389
  let v3399 : BitVec 32 := v3398
  ![v3390.toNat, v3399.toNat]
def k0_mult163 (v3421 : BitVec 32) : BitVec 32 :=
  v3421

def k0_chk167 (v3421 : BitVec 32) : Prop :=
  (8 ∣ (k0_mult163 v3421).toNat)
theorem k0_mult163_dvd : ∀ (v3421 : BitVec 32) (k0_hw167 : k0_chk167 v3421), 8 ∣ (k0_mult163 v3421).toNat := fun v3421 k0_hw167 => k0_hw167

def k0_mult164 (v3430 : BitVec 32) : BitVec 32 :=
  v3430

def k0_off145 (v3421 : BitVec 32) (v3430 : BitVec 32) : Fin 2 → Nat :=
  let v3422 : BitVec 32 := v3421
  let v3431 : BitVec 32 := v3430
  ![v3422.toNat, v3431.toNat]
def k0_mult165 (v3453 : BitVec 32) : BitVec 32 :=
  v3453

def k0_chk169 (v3453 : BitVec 32) : Prop :=
  (8 ∣ (k0_mult165 v3453).toNat)
theorem k0_mult165_dvd : ∀ (v3453 : BitVec 32) (k0_hw169 : k0_chk169 v3453), 8 ∣ (k0_mult165 v3453).toNat := fun v3453 k0_hw169 => k0_hw169

def k0_mult166 (v3462 : BitVec 32) : BitVec 32 :=
  v3462

def k0_off146 (v3453 : BitVec 32) (v3462 : BitVec 32) : Fin 2 → Nat :=
  let v3454 : BitVec 32 := v3453
  let v3463 : BitVec 32 := v3462
  ![v3454.toNat, v3463.toNat]
def k0_mult167 (v3485 : BitVec 32) : BitVec 32 :=
  v3485

def k0_chk171 (v3485 : BitVec 32) : Prop :=
  (8 ∣ (k0_mult167 v3485).toNat)
theorem k0_mult167_dvd : ∀ (v3485 : BitVec 32) (k0_hw171 : k0_chk171 v3485), 8 ∣ (k0_mult167 v3485).toNat := fun v3485 k0_hw171 => k0_hw171

def k0_mult168 (v3494 : BitVec 32) : BitVec 32 :=
  v3494

def k0_off147 (v3485 : BitVec 32) (v3494 : BitVec 32) : Fin 2 → Nat :=
  let v3486 : BitVec 32 := v3485
  let v3495 : BitVec 32 := v3494
  ![v3486.toNat, v3495.toNat]
def k0_mult169 (v3517 : BitVec 32) : BitVec 32 :=
  v3517

def k0_chk173 (v3517 : BitVec 32) : Prop :=
  (8 ∣ (k0_mult169 v3517).toNat)
theorem k0_mult169_dvd : ∀ (v3517 : BitVec 32) (k0_hw173 : k0_chk173 v3517), 8 ∣ (k0_mult169 v3517).toNat := fun v3517 k0_hw173 => k0_hw173

def k0_mult170 (v3526 : BitVec 32) : BitVec 32 :=
  v3526

def k0_off148 (v3517 : BitVec 32) (v3526 : BitVec 32) : Fin 2 → Nat :=
  let v3518 : BitVec 32 := v3517
  let v3527 : BitVec 32 := v3526
  ![v3518.toNat, v3527.toNat]
def k0_mult171 (v3549 : BitVec 32) : BitVec 32 :=
  v3549

def k0_chk175 (v3549 : BitVec 32) : Prop :=
  (8 ∣ (k0_mult171 v3549).toNat)
theorem k0_mult171_dvd : ∀ (v3549 : BitVec 32) (k0_hw175 : k0_chk175 v3549), 8 ∣ (k0_mult171 v3549).toNat := fun v3549 k0_hw175 => k0_hw175

def k0_mult172 (v3558 : BitVec 32) : BitVec 32 :=
  v3558

def k0_off149 (v3549 : BitVec 32) (v3558 : BitVec 32) : Fin 2 → Nat :=
  let v3550 : BitVec 32 := v3549
  let v3559 : BitVec 32 := v3558
  ![v3550.toNat, v3559.toNat]
def k0_mult173 (v3581 : BitVec 32) : BitVec 32 :=
  v3581

def k0_chk177 (v3581 : BitVec 32) : Prop :=
  (8 ∣ (k0_mult173 v3581).toNat)
theorem k0_mult173_dvd : ∀ (v3581 : BitVec 32) (k0_hw177 : k0_chk177 v3581), 8 ∣ (k0_mult173 v3581).toNat := fun v3581 k0_hw177 => k0_hw177

def k0_mult174 (v3590 : BitVec 32) : BitVec 32 :=
  v3590

def k0_off150 (v3581 : BitVec 32) (v3590 : BitVec 32) : Fin 2 → Nat :=
  let v3582 : BitVec 32 := v3581
  let v3591 : BitVec 32 := v3590
  ![v3582.toNat, v3591.toNat]
def k0_mult175 (v3613 : BitVec 32) : BitVec 32 :=
  v3613

def k0_chk179 (v3613 : BitVec 32) : Prop :=
  (8 ∣ (k0_mult175 v3613).toNat)
theorem k0_mult175_dvd : ∀ (v3613 : BitVec 32) (k0_hw179 : k0_chk179 v3613), 8 ∣ (k0_mult175 v3613).toNat := fun v3613 k0_hw179 => k0_hw179

def k0_mult176 (v3622 : BitVec 32) : BitVec 32 :=
  v3622

def k0_off151 (v3613 : BitVec 32) (v3622 : BitVec 32) : Fin 2 → Nat :=
  let v3614 : BitVec 32 := v3613
  let v3623 : BitVec 32 := v3622
  ![v3614.toNat, v3623.toNat]
def k0_mult177 (v3645 : BitVec 32) : BitVec 32 :=
  v3645

def k0_chk181 (v3645 : BitVec 32) : Prop :=
  (8 ∣ (k0_mult177 v3645).toNat)
theorem k0_mult177_dvd : ∀ (v3645 : BitVec 32) (k0_hw181 : k0_chk181 v3645), 8 ∣ (k0_mult177 v3645).toNat := fun v3645 k0_hw181 => k0_hw181

def k0_mult178 (v3654 : BitVec 32) : BitVec 32 :=
  v3654

def k0_off152 (v3645 : BitVec 32) (v3654 : BitVec 32) : Fin 2 → Nat :=
  let v3646 : BitVec 32 := v3645
  let v3655 : BitVec 32 := v3654
  ![v3646.toNat, v3655.toNat]
def k0_mult179 (v3677 : BitVec 32) : BitVec 32 :=
  v3677

def k0_chk183 (v3677 : BitVec 32) : Prop :=
  (8 ∣ (k0_mult179 v3677).toNat)
theorem k0_mult179_dvd : ∀ (v3677 : BitVec 32) (k0_hw183 : k0_chk183 v3677), 8 ∣ (k0_mult179 v3677).toNat := fun v3677 k0_hw183 => k0_hw183

def k0_mult180 (v3686 : BitVec 32) : BitVec 32 :=
  v3686

def k0_off153 (v3677 : BitVec 32) (v3686 : BitVec 32) : Fin 2 → Nat :=
  let v3678 : BitVec 32 := v3677
  let v3687 : BitVec 32 := v3686
  ![v3678.toNat, v3687.toNat]
def k0_mult181 (v3709 : BitVec 32) : BitVec 32 :=
  v3709

def k0_chk185 (v3709 : BitVec 32) : Prop :=
  (8 ∣ (k0_mult181 v3709).toNat)
theorem k0_mult181_dvd : ∀ (v3709 : BitVec 32) (k0_hw185 : k0_chk185 v3709), 8 ∣ (k0_mult181 v3709).toNat := fun v3709 k0_hw185 => k0_hw185

def k0_mult182 (v3718 : BitVec 32) : BitVec 32 :=
  v3718

def k0_off154 (v3709 : BitVec 32) (v3718 : BitVec 32) : Fin 2 → Nat :=
  let v3710 : BitVec 32 := v3709
  let v3719 : BitVec 32 := v3718
  ![v3710.toNat, v3719.toNat]
def k0_mult183 (v3741 : BitVec 32) : BitVec 32 :=
  v3741

def k0_chk187 (v3741 : BitVec 32) : Prop :=
  (8 ∣ (k0_mult183 v3741).toNat)
theorem k0_mult183_dvd : ∀ (v3741 : BitVec 32) (k0_hw187 : k0_chk187 v3741), 8 ∣ (k0_mult183 v3741).toNat := fun v3741 k0_hw187 => k0_hw187

def k0_mult184 (v3750 : BitVec 32) : BitVec 32 :=
  v3750

def k0_off155 (v3741 : BitVec 32) (v3750 : BitVec 32) : Fin 2 → Nat :=
  let v3742 : BitVec 32 := v3741
  let v3751 : BitVec 32 := v3750
  ![v3742.toNat, v3751.toNat]
def k0_mult185 (v3773 : BitVec 32) : BitVec 32 :=
  v3773

def k0_chk189 (v3773 : BitVec 32) : Prop :=
  (8 ∣ (k0_mult185 v3773).toNat)
theorem k0_mult185_dvd : ∀ (v3773 : BitVec 32) (k0_hw189 : k0_chk189 v3773), 8 ∣ (k0_mult185 v3773).toNat := fun v3773 k0_hw189 => k0_hw189

def k0_mult186 (v3782 : BitVec 32) : BitVec 32 :=
  v3782

def k0_off156 (v3773 : BitVec 32) (v3782 : BitVec 32) : Fin 2 → Nat :=
  let v3774 : BitVec 32 := v3773
  let v3783 : BitVec 32 := v3782
  ![v3774.toNat, v3783.toNat]
def k0_mult187 (v3805 : BitVec 32) : BitVec 32 :=
  v3805

def k0_chk191 (v3805 : BitVec 32) : Prop :=
  (8 ∣ (k0_mult187 v3805).toNat)
theorem k0_mult187_dvd : ∀ (v3805 : BitVec 32) (k0_hw191 : k0_chk191 v3805), 8 ∣ (k0_mult187 v3805).toNat := fun v3805 k0_hw191 => k0_hw191

def k0_mult188 (v3814 : BitVec 32) : BitVec 32 :=
  v3814

def k0_off157 (v3805 : BitVec 32) (v3814 : BitVec 32) : Fin 2 → Nat :=
  let v3806 : BitVec 32 := v3805
  let v3815 : BitVec 32 := v3814
  ![v3806.toNat, v3815.toNat]
def k0_mult189 (v3837 : BitVec 32) : BitVec 32 :=
  v3837

def k0_chk193 (v3837 : BitVec 32) : Prop :=
  (8 ∣ (k0_mult189 v3837).toNat)
theorem k0_mult189_dvd : ∀ (v3837 : BitVec 32) (k0_hw193 : k0_chk193 v3837), 8 ∣ (k0_mult189 v3837).toNat := fun v3837 k0_hw193 => k0_hw193

def k0_mult190 (v3846 : BitVec 32) : BitVec 32 :=
  v3846

def k0_off158 (v3837 : BitVec 32) (v3846 : BitVec 32) : Fin 2 → Nat :=
  let v3838 : BitVec 32 := v3837
  let v3847 : BitVec 32 := v3846
  ![v3838.toNat, v3847.toNat]
def k0_mult191 (v3869 : BitVec 32) : BitVec 32 :=
  v3869

def k0_chk195 (v3869 : BitVec 32) : Prop :=
  (8 ∣ (k0_mult191 v3869).toNat)
theorem k0_mult191_dvd : ∀ (v3869 : BitVec 32) (k0_hw195 : k0_chk195 v3869), 8 ∣ (k0_mult191 v3869).toNat := fun v3869 k0_hw195 => k0_hw195

def k0_mult192 (v3878 : BitVec 32) : BitVec 32 :=
  v3878

def k0_off159 (v3869 : BitVec 32) (v3878 : BitVec 32) : Fin 2 → Nat :=
  let v3870 : BitVec 32 := v3869
  let v3879 : BitVec 32 := v3878
  ![v3870.toNat, v3879.toNat]

def k0_chk196 (v3869 : BitVec 32) (v3878 : BitVec 32) : Prop :=
  (128 ∣ (k0_mult192 v3878).toNat) ∧
  (∀ a, (k0_off159 v3869 v3878) a + S8x128.size a ≤ S4096x8192.size a)
theorem k0_mult192_dvd : ∀ (v3869 : BitVec 32) (v3878 : BitVec 32) (k0_hw196 : k0_chk196 v3869 v3878), 128 ∣ (k0_mult192 v3878).toNat := fun v3869 v3878 k0_hw196 => k0_hw196.1
theorem k0_off159_inb : ∀ (v3869 : BitVec 32) (v3878 : BitVec 32) (k0_hw196 : k0_chk196 v3869 v3878), ∀ a, (k0_off159 v3869 v3878) a + S8x128.size a ≤ S4096x8192.size a := fun v3869 v3878 k0_hw196 => k0_hw196.2

def k0_off160 (v2877 : BitVec 32) (v2886 : BitVec 32) : Fin 2 → Nat :=
  let v2878 : BitVec 32 := v2877
  let v2887 : BitVec 32 := v2886
  ![v2878.toNat, v2887.toNat]

def k0_chk134 (v2877 : BitVec 32) (v2886 : BitVec 32) : Prop :=
  (128 ∣ (k0_mult130 v2886).toNat) ∧
  (∀ a, (k0_off128 v2877 v2886) a + S8x128.size a ≤ S4096x8192.size a) ∧
  (∀ a, (k0_off160 v2877 v2886) a + S8x128.size a ≤ S4096x8192.size a)
theorem k0_mult130_dvd : ∀ (v2877 : BitVec 32) (v2886 : BitVec 32) (k0_hw134 : k0_chk134 v2877 v2886), 128 ∣ (k0_mult130 v2886).toNat := fun v2877 v2886 k0_hw134 => k0_hw134.1
theorem k0_off128_inb : ∀ (v2877 : BitVec 32) (v2886 : BitVec 32) (k0_hw134 : k0_chk134 v2877 v2886), ∀ a, (k0_off128 v2877 v2886) a + S8x128.size a ≤ S4096x8192.size a := fun v2877 v2886 k0_hw134 => k0_hw134.2.1
theorem k0_off160_inb : ∀ (v2877 : BitVec 32) (v2886 : BitVec 32) (k0_hw134 : k0_chk134 v2877 v2886), ∀ a, (k0_off160 v2877 v2886) a + S8x128.size a ≤ S4096x8192.size a := fun v2877 v2886 k0_hw134 => k0_hw134.2.2

def k0_off161 (v2909 : BitVec 32) (v2918 : BitVec 32) : Fin 2 → Nat :=
  let v2910 : BitVec 32 := v2909
  let v2919 : BitVec 32 := v2918
  ![v2910.toNat, v2919.toNat]

def k0_chk136 (v2909 : BitVec 32) (v2918 : BitVec 32) : Prop :=
  (128 ∣ (k0_mult132 v2918).toNat) ∧
  (∀ a, (k0_off129 v2909 v2918) a + S8x128.size a ≤ S4096x8192.size a) ∧
  (∀ a, (k0_off161 v2909 v2918) a + S8x128.size a ≤ S4096x8192.size a)
theorem k0_mult132_dvd : ∀ (v2909 : BitVec 32) (v2918 : BitVec 32) (k0_hw136 : k0_chk136 v2909 v2918), 128 ∣ (k0_mult132 v2918).toNat := fun v2909 v2918 k0_hw136 => k0_hw136.1
theorem k0_off129_inb : ∀ (v2909 : BitVec 32) (v2918 : BitVec 32) (k0_hw136 : k0_chk136 v2909 v2918), ∀ a, (k0_off129 v2909 v2918) a + S8x128.size a ≤ S4096x8192.size a := fun v2909 v2918 k0_hw136 => k0_hw136.2.1
theorem k0_off161_inb : ∀ (v2909 : BitVec 32) (v2918 : BitVec 32) (k0_hw136 : k0_chk136 v2909 v2918), ∀ a, (k0_off161 v2909 v2918) a + S8x128.size a ≤ S4096x8192.size a := fun v2909 v2918 k0_hw136 => k0_hw136.2.2

def k0_off162 (v2941 : BitVec 32) (v2950 : BitVec 32) : Fin 2 → Nat :=
  let v2942 : BitVec 32 := v2941
  let v2951 : BitVec 32 := v2950
  ![v2942.toNat, v2951.toNat]

def k0_chk138 (v2941 : BitVec 32) (v2950 : BitVec 32) : Prop :=
  (128 ∣ (k0_mult134 v2950).toNat) ∧
  (∀ a, (k0_off130 v2941 v2950) a + S8x128.size a ≤ S4096x8192.size a) ∧
  (∀ a, (k0_off162 v2941 v2950) a + S8x128.size a ≤ S4096x8192.size a)
theorem k0_mult134_dvd : ∀ (v2941 : BitVec 32) (v2950 : BitVec 32) (k0_hw138 : k0_chk138 v2941 v2950), 128 ∣ (k0_mult134 v2950).toNat := fun v2941 v2950 k0_hw138 => k0_hw138.1
theorem k0_off130_inb : ∀ (v2941 : BitVec 32) (v2950 : BitVec 32) (k0_hw138 : k0_chk138 v2941 v2950), ∀ a, (k0_off130 v2941 v2950) a + S8x128.size a ≤ S4096x8192.size a := fun v2941 v2950 k0_hw138 => k0_hw138.2.1
theorem k0_off162_inb : ∀ (v2941 : BitVec 32) (v2950 : BitVec 32) (k0_hw138 : k0_chk138 v2941 v2950), ∀ a, (k0_off162 v2941 v2950) a + S8x128.size a ≤ S4096x8192.size a := fun v2941 v2950 k0_hw138 => k0_hw138.2.2

def k0_off163 (v2973 : BitVec 32) (v2982 : BitVec 32) : Fin 2 → Nat :=
  let v2974 : BitVec 32 := v2973
  let v2983 : BitVec 32 := v2982
  ![v2974.toNat, v2983.toNat]

def k0_chk140 (v2973 : BitVec 32) (v2982 : BitVec 32) : Prop :=
  (128 ∣ (k0_mult136 v2982).toNat) ∧
  (∀ a, (k0_off131 v2973 v2982) a + S8x128.size a ≤ S4096x8192.size a) ∧
  (∀ a, (k0_off163 v2973 v2982) a + S8x128.size a ≤ S4096x8192.size a)
theorem k0_mult136_dvd : ∀ (v2973 : BitVec 32) (v2982 : BitVec 32) (k0_hw140 : k0_chk140 v2973 v2982), 128 ∣ (k0_mult136 v2982).toNat := fun v2973 v2982 k0_hw140 => k0_hw140.1
theorem k0_off131_inb : ∀ (v2973 : BitVec 32) (v2982 : BitVec 32) (k0_hw140 : k0_chk140 v2973 v2982), ∀ a, (k0_off131 v2973 v2982) a + S8x128.size a ≤ S4096x8192.size a := fun v2973 v2982 k0_hw140 => k0_hw140.2.1
theorem k0_off163_inb : ∀ (v2973 : BitVec 32) (v2982 : BitVec 32) (k0_hw140 : k0_chk140 v2973 v2982), ∀ a, (k0_off163 v2973 v2982) a + S8x128.size a ≤ S4096x8192.size a := fun v2973 v2982 k0_hw140 => k0_hw140.2.2

def k0_off164 (v3005 : BitVec 32) (v3014 : BitVec 32) : Fin 2 → Nat :=
  let v3006 : BitVec 32 := v3005
  let v3015 : BitVec 32 := v3014
  ![v3006.toNat, v3015.toNat]

def k0_chk142 (v3005 : BitVec 32) (v3014 : BitVec 32) : Prop :=
  (128 ∣ (k0_mult138 v3014).toNat) ∧
  (∀ a, (k0_off132 v3005 v3014) a + S8x128.size a ≤ S4096x8192.size a) ∧
  (∀ a, (k0_off164 v3005 v3014) a + S8x128.size a ≤ S4096x8192.size a)
theorem k0_mult138_dvd : ∀ (v3005 : BitVec 32) (v3014 : BitVec 32) (k0_hw142 : k0_chk142 v3005 v3014), 128 ∣ (k0_mult138 v3014).toNat := fun v3005 v3014 k0_hw142 => k0_hw142.1
theorem k0_off132_inb : ∀ (v3005 : BitVec 32) (v3014 : BitVec 32) (k0_hw142 : k0_chk142 v3005 v3014), ∀ a, (k0_off132 v3005 v3014) a + S8x128.size a ≤ S4096x8192.size a := fun v3005 v3014 k0_hw142 => k0_hw142.2.1
theorem k0_off164_inb : ∀ (v3005 : BitVec 32) (v3014 : BitVec 32) (k0_hw142 : k0_chk142 v3005 v3014), ∀ a, (k0_off164 v3005 v3014) a + S8x128.size a ≤ S4096x8192.size a := fun v3005 v3014 k0_hw142 => k0_hw142.2.2

def k0_off165 (v3037 : BitVec 32) (v3046 : BitVec 32) : Fin 2 → Nat :=
  let v3038 : BitVec 32 := v3037
  let v3047 : BitVec 32 := v3046
  ![v3038.toNat, v3047.toNat]

def k0_chk144 (v3037 : BitVec 32) (v3046 : BitVec 32) : Prop :=
  (128 ∣ (k0_mult140 v3046).toNat) ∧
  (∀ a, (k0_off133 v3037 v3046) a + S8x128.size a ≤ S4096x8192.size a) ∧
  (∀ a, (k0_off165 v3037 v3046) a + S8x128.size a ≤ S4096x8192.size a)
theorem k0_mult140_dvd : ∀ (v3037 : BitVec 32) (v3046 : BitVec 32) (k0_hw144 : k0_chk144 v3037 v3046), 128 ∣ (k0_mult140 v3046).toNat := fun v3037 v3046 k0_hw144 => k0_hw144.1
theorem k0_off133_inb : ∀ (v3037 : BitVec 32) (v3046 : BitVec 32) (k0_hw144 : k0_chk144 v3037 v3046), ∀ a, (k0_off133 v3037 v3046) a + S8x128.size a ≤ S4096x8192.size a := fun v3037 v3046 k0_hw144 => k0_hw144.2.1
theorem k0_off165_inb : ∀ (v3037 : BitVec 32) (v3046 : BitVec 32) (k0_hw144 : k0_chk144 v3037 v3046), ∀ a, (k0_off165 v3037 v3046) a + S8x128.size a ≤ S4096x8192.size a := fun v3037 v3046 k0_hw144 => k0_hw144.2.2

def k0_off166 (v3069 : BitVec 32) (v3078 : BitVec 32) : Fin 2 → Nat :=
  let v3070 : BitVec 32 := v3069
  let v3079 : BitVec 32 := v3078
  ![v3070.toNat, v3079.toNat]

def k0_chk146 (v3069 : BitVec 32) (v3078 : BitVec 32) : Prop :=
  (128 ∣ (k0_mult142 v3078).toNat) ∧
  (∀ a, (k0_off134 v3069 v3078) a + S8x128.size a ≤ S4096x8192.size a) ∧
  (∀ a, (k0_off166 v3069 v3078) a + S8x128.size a ≤ S4096x8192.size a)
theorem k0_mult142_dvd : ∀ (v3069 : BitVec 32) (v3078 : BitVec 32) (k0_hw146 : k0_chk146 v3069 v3078), 128 ∣ (k0_mult142 v3078).toNat := fun v3069 v3078 k0_hw146 => k0_hw146.1
theorem k0_off134_inb : ∀ (v3069 : BitVec 32) (v3078 : BitVec 32) (k0_hw146 : k0_chk146 v3069 v3078), ∀ a, (k0_off134 v3069 v3078) a + S8x128.size a ≤ S4096x8192.size a := fun v3069 v3078 k0_hw146 => k0_hw146.2.1
theorem k0_off166_inb : ∀ (v3069 : BitVec 32) (v3078 : BitVec 32) (k0_hw146 : k0_chk146 v3069 v3078), ∀ a, (k0_off166 v3069 v3078) a + S8x128.size a ≤ S4096x8192.size a := fun v3069 v3078 k0_hw146 => k0_hw146.2.2

def k0_off167 (v3101 : BitVec 32) (v3110 : BitVec 32) : Fin 2 → Nat :=
  let v3102 : BitVec 32 := v3101
  let v3111 : BitVec 32 := v3110
  ![v3102.toNat, v3111.toNat]

def k0_chk148 (v3101 : BitVec 32) (v3110 : BitVec 32) : Prop :=
  (128 ∣ (k0_mult144 v3110).toNat) ∧
  (∀ a, (k0_off135 v3101 v3110) a + S8x128.size a ≤ S4096x8192.size a) ∧
  (∀ a, (k0_off167 v3101 v3110) a + S8x128.size a ≤ S4096x8192.size a)
theorem k0_mult144_dvd : ∀ (v3101 : BitVec 32) (v3110 : BitVec 32) (k0_hw148 : k0_chk148 v3101 v3110), 128 ∣ (k0_mult144 v3110).toNat := fun v3101 v3110 k0_hw148 => k0_hw148.1
theorem k0_off135_inb : ∀ (v3101 : BitVec 32) (v3110 : BitVec 32) (k0_hw148 : k0_chk148 v3101 v3110), ∀ a, (k0_off135 v3101 v3110) a + S8x128.size a ≤ S4096x8192.size a := fun v3101 v3110 k0_hw148 => k0_hw148.2.1
theorem k0_off167_inb : ∀ (v3101 : BitVec 32) (v3110 : BitVec 32) (k0_hw148 : k0_chk148 v3101 v3110), ∀ a, (k0_off167 v3101 v3110) a + S8x128.size a ≤ S4096x8192.size a := fun v3101 v3110 k0_hw148 => k0_hw148.2.2

def k0_off168 (v3133 : BitVec 32) (v3142 : BitVec 32) : Fin 2 → Nat :=
  let v3134 : BitVec 32 := v3133
  let v3143 : BitVec 32 := v3142
  ![v3134.toNat, v3143.toNat]

def k0_chk150 (v3133 : BitVec 32) (v3142 : BitVec 32) : Prop :=
  (128 ∣ (k0_mult146 v3142).toNat) ∧
  (∀ a, (k0_off136 v3133 v3142) a + S8x128.size a ≤ S4096x8192.size a) ∧
  (∀ a, (k0_off168 v3133 v3142) a + S8x128.size a ≤ S4096x8192.size a)
theorem k0_mult146_dvd : ∀ (v3133 : BitVec 32) (v3142 : BitVec 32) (k0_hw150 : k0_chk150 v3133 v3142), 128 ∣ (k0_mult146 v3142).toNat := fun v3133 v3142 k0_hw150 => k0_hw150.1
theorem k0_off136_inb : ∀ (v3133 : BitVec 32) (v3142 : BitVec 32) (k0_hw150 : k0_chk150 v3133 v3142), ∀ a, (k0_off136 v3133 v3142) a + S8x128.size a ≤ S4096x8192.size a := fun v3133 v3142 k0_hw150 => k0_hw150.2.1
theorem k0_off168_inb : ∀ (v3133 : BitVec 32) (v3142 : BitVec 32) (k0_hw150 : k0_chk150 v3133 v3142), ∀ a, (k0_off168 v3133 v3142) a + S8x128.size a ≤ S4096x8192.size a := fun v3133 v3142 k0_hw150 => k0_hw150.2.2

def k0_off169 (v3165 : BitVec 32) (v3174 : BitVec 32) : Fin 2 → Nat :=
  let v3166 : BitVec 32 := v3165
  let v3175 : BitVec 32 := v3174
  ![v3166.toNat, v3175.toNat]

def k0_chk152 (v3165 : BitVec 32) (v3174 : BitVec 32) : Prop :=
  (128 ∣ (k0_mult148 v3174).toNat) ∧
  (∀ a, (k0_off137 v3165 v3174) a + S8x128.size a ≤ S4096x8192.size a) ∧
  (∀ a, (k0_off169 v3165 v3174) a + S8x128.size a ≤ S4096x8192.size a)
theorem k0_mult148_dvd : ∀ (v3165 : BitVec 32) (v3174 : BitVec 32) (k0_hw152 : k0_chk152 v3165 v3174), 128 ∣ (k0_mult148 v3174).toNat := fun v3165 v3174 k0_hw152 => k0_hw152.1
theorem k0_off137_inb : ∀ (v3165 : BitVec 32) (v3174 : BitVec 32) (k0_hw152 : k0_chk152 v3165 v3174), ∀ a, (k0_off137 v3165 v3174) a + S8x128.size a ≤ S4096x8192.size a := fun v3165 v3174 k0_hw152 => k0_hw152.2.1
theorem k0_off169_inb : ∀ (v3165 : BitVec 32) (v3174 : BitVec 32) (k0_hw152 : k0_chk152 v3165 v3174), ∀ a, (k0_off169 v3165 v3174) a + S8x128.size a ≤ S4096x8192.size a := fun v3165 v3174 k0_hw152 => k0_hw152.2.2

def k0_off170 (v3197 : BitVec 32) (v3206 : BitVec 32) : Fin 2 → Nat :=
  let v3198 : BitVec 32 := v3197
  let v3207 : BitVec 32 := v3206
  ![v3198.toNat, v3207.toNat]

def k0_chk154 (v3197 : BitVec 32) (v3206 : BitVec 32) : Prop :=
  (128 ∣ (k0_mult150 v3206).toNat) ∧
  (∀ a, (k0_off138 v3197 v3206) a + S8x128.size a ≤ S4096x8192.size a) ∧
  (∀ a, (k0_off170 v3197 v3206) a + S8x128.size a ≤ S4096x8192.size a)
theorem k0_mult150_dvd : ∀ (v3197 : BitVec 32) (v3206 : BitVec 32) (k0_hw154 : k0_chk154 v3197 v3206), 128 ∣ (k0_mult150 v3206).toNat := fun v3197 v3206 k0_hw154 => k0_hw154.1
theorem k0_off138_inb : ∀ (v3197 : BitVec 32) (v3206 : BitVec 32) (k0_hw154 : k0_chk154 v3197 v3206), ∀ a, (k0_off138 v3197 v3206) a + S8x128.size a ≤ S4096x8192.size a := fun v3197 v3206 k0_hw154 => k0_hw154.2.1
theorem k0_off170_inb : ∀ (v3197 : BitVec 32) (v3206 : BitVec 32) (k0_hw154 : k0_chk154 v3197 v3206), ∀ a, (k0_off170 v3197 v3206) a + S8x128.size a ≤ S4096x8192.size a := fun v3197 v3206 k0_hw154 => k0_hw154.2.2

def k0_off171 (v3229 : BitVec 32) (v3238 : BitVec 32) : Fin 2 → Nat :=
  let v3230 : BitVec 32 := v3229
  let v3239 : BitVec 32 := v3238
  ![v3230.toNat, v3239.toNat]

def k0_chk156 (v3229 : BitVec 32) (v3238 : BitVec 32) : Prop :=
  (128 ∣ (k0_mult152 v3238).toNat) ∧
  (∀ a, (k0_off139 v3229 v3238) a + S8x128.size a ≤ S4096x8192.size a) ∧
  (∀ a, (k0_off171 v3229 v3238) a + S8x128.size a ≤ S4096x8192.size a)
theorem k0_mult152_dvd : ∀ (v3229 : BitVec 32) (v3238 : BitVec 32) (k0_hw156 : k0_chk156 v3229 v3238), 128 ∣ (k0_mult152 v3238).toNat := fun v3229 v3238 k0_hw156 => k0_hw156.1
theorem k0_off139_inb : ∀ (v3229 : BitVec 32) (v3238 : BitVec 32) (k0_hw156 : k0_chk156 v3229 v3238), ∀ a, (k0_off139 v3229 v3238) a + S8x128.size a ≤ S4096x8192.size a := fun v3229 v3238 k0_hw156 => k0_hw156.2.1
theorem k0_off171_inb : ∀ (v3229 : BitVec 32) (v3238 : BitVec 32) (k0_hw156 : k0_chk156 v3229 v3238), ∀ a, (k0_off171 v3229 v3238) a + S8x128.size a ≤ S4096x8192.size a := fun v3229 v3238 k0_hw156 => k0_hw156.2.2

def k0_off172 (v3261 : BitVec 32) (v3270 : BitVec 32) : Fin 2 → Nat :=
  let v3262 : BitVec 32 := v3261
  let v3271 : BitVec 32 := v3270
  ![v3262.toNat, v3271.toNat]

def k0_chk158 (v3261 : BitVec 32) (v3270 : BitVec 32) : Prop :=
  (128 ∣ (k0_mult154 v3270).toNat) ∧
  (∀ a, (k0_off140 v3261 v3270) a + S8x128.size a ≤ S4096x8192.size a) ∧
  (∀ a, (k0_off172 v3261 v3270) a + S8x128.size a ≤ S4096x8192.size a)
theorem k0_mult154_dvd : ∀ (v3261 : BitVec 32) (v3270 : BitVec 32) (k0_hw158 : k0_chk158 v3261 v3270), 128 ∣ (k0_mult154 v3270).toNat := fun v3261 v3270 k0_hw158 => k0_hw158.1
theorem k0_off140_inb : ∀ (v3261 : BitVec 32) (v3270 : BitVec 32) (k0_hw158 : k0_chk158 v3261 v3270), ∀ a, (k0_off140 v3261 v3270) a + S8x128.size a ≤ S4096x8192.size a := fun v3261 v3270 k0_hw158 => k0_hw158.2.1
theorem k0_off172_inb : ∀ (v3261 : BitVec 32) (v3270 : BitVec 32) (k0_hw158 : k0_chk158 v3261 v3270), ∀ a, (k0_off172 v3261 v3270) a + S8x128.size a ≤ S4096x8192.size a := fun v3261 v3270 k0_hw158 => k0_hw158.2.2

def k0_off173 (v3293 : BitVec 32) (v3302 : BitVec 32) : Fin 2 → Nat :=
  let v3294 : BitVec 32 := v3293
  let v3303 : BitVec 32 := v3302
  ![v3294.toNat, v3303.toNat]

def k0_chk160 (v3293 : BitVec 32) (v3302 : BitVec 32) : Prop :=
  (128 ∣ (k0_mult156 v3302).toNat) ∧
  (∀ a, (k0_off141 v3293 v3302) a + S8x128.size a ≤ S4096x8192.size a) ∧
  (∀ a, (k0_off173 v3293 v3302) a + S8x128.size a ≤ S4096x8192.size a)
theorem k0_mult156_dvd : ∀ (v3293 : BitVec 32) (v3302 : BitVec 32) (k0_hw160 : k0_chk160 v3293 v3302), 128 ∣ (k0_mult156 v3302).toNat := fun v3293 v3302 k0_hw160 => k0_hw160.1
theorem k0_off141_inb : ∀ (v3293 : BitVec 32) (v3302 : BitVec 32) (k0_hw160 : k0_chk160 v3293 v3302), ∀ a, (k0_off141 v3293 v3302) a + S8x128.size a ≤ S4096x8192.size a := fun v3293 v3302 k0_hw160 => k0_hw160.2.1
theorem k0_off173_inb : ∀ (v3293 : BitVec 32) (v3302 : BitVec 32) (k0_hw160 : k0_chk160 v3293 v3302), ∀ a, (k0_off173 v3293 v3302) a + S8x128.size a ≤ S4096x8192.size a := fun v3293 v3302 k0_hw160 => k0_hw160.2.2

def k0_off174 (v3325 : BitVec 32) (v3334 : BitVec 32) : Fin 2 → Nat :=
  let v3326 : BitVec 32 := v3325
  let v3335 : BitVec 32 := v3334
  ![v3326.toNat, v3335.toNat]

def k0_chk162 (v3325 : BitVec 32) (v3334 : BitVec 32) : Prop :=
  (128 ∣ (k0_mult158 v3334).toNat) ∧
  (∀ a, (k0_off142 v3325 v3334) a + S8x128.size a ≤ S4096x8192.size a) ∧
  (∀ a, (k0_off174 v3325 v3334) a + S8x128.size a ≤ S4096x8192.size a)
theorem k0_mult158_dvd : ∀ (v3325 : BitVec 32) (v3334 : BitVec 32) (k0_hw162 : k0_chk162 v3325 v3334), 128 ∣ (k0_mult158 v3334).toNat := fun v3325 v3334 k0_hw162 => k0_hw162.1
theorem k0_off142_inb : ∀ (v3325 : BitVec 32) (v3334 : BitVec 32) (k0_hw162 : k0_chk162 v3325 v3334), ∀ a, (k0_off142 v3325 v3334) a + S8x128.size a ≤ S4096x8192.size a := fun v3325 v3334 k0_hw162 => k0_hw162.2.1
theorem k0_off174_inb : ∀ (v3325 : BitVec 32) (v3334 : BitVec 32) (k0_hw162 : k0_chk162 v3325 v3334), ∀ a, (k0_off174 v3325 v3334) a + S8x128.size a ≤ S4096x8192.size a := fun v3325 v3334 k0_hw162 => k0_hw162.2.2

def k0_off175 (v3357 : BitVec 32) (v3366 : BitVec 32) : Fin 2 → Nat :=
  let v3358 : BitVec 32 := v3357
  let v3367 : BitVec 32 := v3366
  ![v3358.toNat, v3367.toNat]

def k0_chk164 (v3357 : BitVec 32) (v3366 : BitVec 32) : Prop :=
  (128 ∣ (k0_mult160 v3366).toNat) ∧
  (∀ a, (k0_off143 v3357 v3366) a + S8x128.size a ≤ S4096x8192.size a) ∧
  (∀ a, (k0_off175 v3357 v3366) a + S8x128.size a ≤ S4096x8192.size a)
theorem k0_mult160_dvd : ∀ (v3357 : BitVec 32) (v3366 : BitVec 32) (k0_hw164 : k0_chk164 v3357 v3366), 128 ∣ (k0_mult160 v3366).toNat := fun v3357 v3366 k0_hw164 => k0_hw164.1
theorem k0_off143_inb : ∀ (v3357 : BitVec 32) (v3366 : BitVec 32) (k0_hw164 : k0_chk164 v3357 v3366), ∀ a, (k0_off143 v3357 v3366) a + S8x128.size a ≤ S4096x8192.size a := fun v3357 v3366 k0_hw164 => k0_hw164.2.1
theorem k0_off175_inb : ∀ (v3357 : BitVec 32) (v3366 : BitVec 32) (k0_hw164 : k0_chk164 v3357 v3366), ∀ a, (k0_off175 v3357 v3366) a + S8x128.size a ≤ S4096x8192.size a := fun v3357 v3366 k0_hw164 => k0_hw164.2.2

def k0_off176 (v3389 : BitVec 32) (v3398 : BitVec 32) : Fin 2 → Nat :=
  let v3390 : BitVec 32 := v3389
  let v3399 : BitVec 32 := v3398
  ![v3390.toNat, v3399.toNat]

def k0_chk166 (v3389 : BitVec 32) (v3398 : BitVec 32) : Prop :=
  (128 ∣ (k0_mult162 v3398).toNat) ∧
  (∀ a, (k0_off144 v3389 v3398) a + S8x128.size a ≤ S4096x8192.size a) ∧
  (∀ a, (k0_off176 v3389 v3398) a + S8x128.size a ≤ S4096x8192.size a)
theorem k0_mult162_dvd : ∀ (v3389 : BitVec 32) (v3398 : BitVec 32) (k0_hw166 : k0_chk166 v3389 v3398), 128 ∣ (k0_mult162 v3398).toNat := fun v3389 v3398 k0_hw166 => k0_hw166.1
theorem k0_off144_inb : ∀ (v3389 : BitVec 32) (v3398 : BitVec 32) (k0_hw166 : k0_chk166 v3389 v3398), ∀ a, (k0_off144 v3389 v3398) a + S8x128.size a ≤ S4096x8192.size a := fun v3389 v3398 k0_hw166 => k0_hw166.2.1
theorem k0_off176_inb : ∀ (v3389 : BitVec 32) (v3398 : BitVec 32) (k0_hw166 : k0_chk166 v3389 v3398), ∀ a, (k0_off176 v3389 v3398) a + S8x128.size a ≤ S4096x8192.size a := fun v3389 v3398 k0_hw166 => k0_hw166.2.2

def k0_off177 (v3421 : BitVec 32) (v3430 : BitVec 32) : Fin 2 → Nat :=
  let v3422 : BitVec 32 := v3421
  let v3431 : BitVec 32 := v3430
  ![v3422.toNat, v3431.toNat]

def k0_chk168 (v3421 : BitVec 32) (v3430 : BitVec 32) : Prop :=
  (128 ∣ (k0_mult164 v3430).toNat) ∧
  (∀ a, (k0_off145 v3421 v3430) a + S8x128.size a ≤ S4096x8192.size a) ∧
  (∀ a, (k0_off177 v3421 v3430) a + S8x128.size a ≤ S4096x8192.size a)
theorem k0_mult164_dvd : ∀ (v3421 : BitVec 32) (v3430 : BitVec 32) (k0_hw168 : k0_chk168 v3421 v3430), 128 ∣ (k0_mult164 v3430).toNat := fun v3421 v3430 k0_hw168 => k0_hw168.1
theorem k0_off145_inb : ∀ (v3421 : BitVec 32) (v3430 : BitVec 32) (k0_hw168 : k0_chk168 v3421 v3430), ∀ a, (k0_off145 v3421 v3430) a + S8x128.size a ≤ S4096x8192.size a := fun v3421 v3430 k0_hw168 => k0_hw168.2.1
theorem k0_off177_inb : ∀ (v3421 : BitVec 32) (v3430 : BitVec 32) (k0_hw168 : k0_chk168 v3421 v3430), ∀ a, (k0_off177 v3421 v3430) a + S8x128.size a ≤ S4096x8192.size a := fun v3421 v3430 k0_hw168 => k0_hw168.2.2

def k0_off178 (v3453 : BitVec 32) (v3462 : BitVec 32) : Fin 2 → Nat :=
  let v3454 : BitVec 32 := v3453
  let v3463 : BitVec 32 := v3462
  ![v3454.toNat, v3463.toNat]

def k0_chk170 (v3453 : BitVec 32) (v3462 : BitVec 32) : Prop :=
  (128 ∣ (k0_mult166 v3462).toNat) ∧
  (∀ a, (k0_off146 v3453 v3462) a + S8x128.size a ≤ S4096x8192.size a) ∧
  (∀ a, (k0_off178 v3453 v3462) a + S8x128.size a ≤ S4096x8192.size a)
theorem k0_mult166_dvd : ∀ (v3453 : BitVec 32) (v3462 : BitVec 32) (k0_hw170 : k0_chk170 v3453 v3462), 128 ∣ (k0_mult166 v3462).toNat := fun v3453 v3462 k0_hw170 => k0_hw170.1
theorem k0_off146_inb : ∀ (v3453 : BitVec 32) (v3462 : BitVec 32) (k0_hw170 : k0_chk170 v3453 v3462), ∀ a, (k0_off146 v3453 v3462) a + S8x128.size a ≤ S4096x8192.size a := fun v3453 v3462 k0_hw170 => k0_hw170.2.1
theorem k0_off178_inb : ∀ (v3453 : BitVec 32) (v3462 : BitVec 32) (k0_hw170 : k0_chk170 v3453 v3462), ∀ a, (k0_off178 v3453 v3462) a + S8x128.size a ≤ S4096x8192.size a := fun v3453 v3462 k0_hw170 => k0_hw170.2.2

def k0_off179 (v3485 : BitVec 32) (v3494 : BitVec 32) : Fin 2 → Nat :=
  let v3486 : BitVec 32 := v3485
  let v3495 : BitVec 32 := v3494
  ![v3486.toNat, v3495.toNat]

def k0_chk172 (v3485 : BitVec 32) (v3494 : BitVec 32) : Prop :=
  (128 ∣ (k0_mult168 v3494).toNat) ∧
  (∀ a, (k0_off147 v3485 v3494) a + S8x128.size a ≤ S4096x8192.size a) ∧
  (∀ a, (k0_off179 v3485 v3494) a + S8x128.size a ≤ S4096x8192.size a)
theorem k0_mult168_dvd : ∀ (v3485 : BitVec 32) (v3494 : BitVec 32) (k0_hw172 : k0_chk172 v3485 v3494), 128 ∣ (k0_mult168 v3494).toNat := fun v3485 v3494 k0_hw172 => k0_hw172.1
theorem k0_off147_inb : ∀ (v3485 : BitVec 32) (v3494 : BitVec 32) (k0_hw172 : k0_chk172 v3485 v3494), ∀ a, (k0_off147 v3485 v3494) a + S8x128.size a ≤ S4096x8192.size a := fun v3485 v3494 k0_hw172 => k0_hw172.2.1
theorem k0_off179_inb : ∀ (v3485 : BitVec 32) (v3494 : BitVec 32) (k0_hw172 : k0_chk172 v3485 v3494), ∀ a, (k0_off179 v3485 v3494) a + S8x128.size a ≤ S4096x8192.size a := fun v3485 v3494 k0_hw172 => k0_hw172.2.2

def k0_off180 (v3517 : BitVec 32) (v3526 : BitVec 32) : Fin 2 → Nat :=
  let v3518 : BitVec 32 := v3517
  let v3527 : BitVec 32 := v3526
  ![v3518.toNat, v3527.toNat]

def k0_chk174 (v3517 : BitVec 32) (v3526 : BitVec 32) : Prop :=
  (128 ∣ (k0_mult170 v3526).toNat) ∧
  (∀ a, (k0_off148 v3517 v3526) a + S8x128.size a ≤ S4096x8192.size a) ∧
  (∀ a, (k0_off180 v3517 v3526) a + S8x128.size a ≤ S4096x8192.size a)
theorem k0_mult170_dvd : ∀ (v3517 : BitVec 32) (v3526 : BitVec 32) (k0_hw174 : k0_chk174 v3517 v3526), 128 ∣ (k0_mult170 v3526).toNat := fun v3517 v3526 k0_hw174 => k0_hw174.1
theorem k0_off148_inb : ∀ (v3517 : BitVec 32) (v3526 : BitVec 32) (k0_hw174 : k0_chk174 v3517 v3526), ∀ a, (k0_off148 v3517 v3526) a + S8x128.size a ≤ S4096x8192.size a := fun v3517 v3526 k0_hw174 => k0_hw174.2.1
theorem k0_off180_inb : ∀ (v3517 : BitVec 32) (v3526 : BitVec 32) (k0_hw174 : k0_chk174 v3517 v3526), ∀ a, (k0_off180 v3517 v3526) a + S8x128.size a ≤ S4096x8192.size a := fun v3517 v3526 k0_hw174 => k0_hw174.2.2

def k0_off181 (v3549 : BitVec 32) (v3558 : BitVec 32) : Fin 2 → Nat :=
  let v3550 : BitVec 32 := v3549
  let v3559 : BitVec 32 := v3558
  ![v3550.toNat, v3559.toNat]

def k0_chk176 (v3549 : BitVec 32) (v3558 : BitVec 32) : Prop :=
  (128 ∣ (k0_mult172 v3558).toNat) ∧
  (∀ a, (k0_off149 v3549 v3558) a + S8x128.size a ≤ S4096x8192.size a) ∧
  (∀ a, (k0_off181 v3549 v3558) a + S8x128.size a ≤ S4096x8192.size a)
theorem k0_mult172_dvd : ∀ (v3549 : BitVec 32) (v3558 : BitVec 32) (k0_hw176 : k0_chk176 v3549 v3558), 128 ∣ (k0_mult172 v3558).toNat := fun v3549 v3558 k0_hw176 => k0_hw176.1
theorem k0_off149_inb : ∀ (v3549 : BitVec 32) (v3558 : BitVec 32) (k0_hw176 : k0_chk176 v3549 v3558), ∀ a, (k0_off149 v3549 v3558) a + S8x128.size a ≤ S4096x8192.size a := fun v3549 v3558 k0_hw176 => k0_hw176.2.1
theorem k0_off181_inb : ∀ (v3549 : BitVec 32) (v3558 : BitVec 32) (k0_hw176 : k0_chk176 v3549 v3558), ∀ a, (k0_off181 v3549 v3558) a + S8x128.size a ≤ S4096x8192.size a := fun v3549 v3558 k0_hw176 => k0_hw176.2.2

def k0_off182 (v3581 : BitVec 32) (v3590 : BitVec 32) : Fin 2 → Nat :=
  let v3582 : BitVec 32 := v3581
  let v3591 : BitVec 32 := v3590
  ![v3582.toNat, v3591.toNat]

def k0_chk178 (v3581 : BitVec 32) (v3590 : BitVec 32) : Prop :=
  (128 ∣ (k0_mult174 v3590).toNat) ∧
  (∀ a, (k0_off150 v3581 v3590) a + S8x128.size a ≤ S4096x8192.size a) ∧
  (∀ a, (k0_off182 v3581 v3590) a + S8x128.size a ≤ S4096x8192.size a)
theorem k0_mult174_dvd : ∀ (v3581 : BitVec 32) (v3590 : BitVec 32) (k0_hw178 : k0_chk178 v3581 v3590), 128 ∣ (k0_mult174 v3590).toNat := fun v3581 v3590 k0_hw178 => k0_hw178.1
theorem k0_off150_inb : ∀ (v3581 : BitVec 32) (v3590 : BitVec 32) (k0_hw178 : k0_chk178 v3581 v3590), ∀ a, (k0_off150 v3581 v3590) a + S8x128.size a ≤ S4096x8192.size a := fun v3581 v3590 k0_hw178 => k0_hw178.2.1
theorem k0_off182_inb : ∀ (v3581 : BitVec 32) (v3590 : BitVec 32) (k0_hw178 : k0_chk178 v3581 v3590), ∀ a, (k0_off182 v3581 v3590) a + S8x128.size a ≤ S4096x8192.size a := fun v3581 v3590 k0_hw178 => k0_hw178.2.2

def k0_off183 (v3613 : BitVec 32) (v3622 : BitVec 32) : Fin 2 → Nat :=
  let v3614 : BitVec 32 := v3613
  let v3623 : BitVec 32 := v3622
  ![v3614.toNat, v3623.toNat]

def k0_chk180 (v3613 : BitVec 32) (v3622 : BitVec 32) : Prop :=
  (128 ∣ (k0_mult176 v3622).toNat) ∧
  (∀ a, (k0_off151 v3613 v3622) a + S8x128.size a ≤ S4096x8192.size a) ∧
  (∀ a, (k0_off183 v3613 v3622) a + S8x128.size a ≤ S4096x8192.size a)
theorem k0_mult176_dvd : ∀ (v3613 : BitVec 32) (v3622 : BitVec 32) (k0_hw180 : k0_chk180 v3613 v3622), 128 ∣ (k0_mult176 v3622).toNat := fun v3613 v3622 k0_hw180 => k0_hw180.1
theorem k0_off151_inb : ∀ (v3613 : BitVec 32) (v3622 : BitVec 32) (k0_hw180 : k0_chk180 v3613 v3622), ∀ a, (k0_off151 v3613 v3622) a + S8x128.size a ≤ S4096x8192.size a := fun v3613 v3622 k0_hw180 => k0_hw180.2.1
theorem k0_off183_inb : ∀ (v3613 : BitVec 32) (v3622 : BitVec 32) (k0_hw180 : k0_chk180 v3613 v3622), ∀ a, (k0_off183 v3613 v3622) a + S8x128.size a ≤ S4096x8192.size a := fun v3613 v3622 k0_hw180 => k0_hw180.2.2

def k0_off184 (v3645 : BitVec 32) (v3654 : BitVec 32) : Fin 2 → Nat :=
  let v3646 : BitVec 32 := v3645
  let v3655 : BitVec 32 := v3654
  ![v3646.toNat, v3655.toNat]

def k0_chk182 (v3645 : BitVec 32) (v3654 : BitVec 32) : Prop :=
  (128 ∣ (k0_mult178 v3654).toNat) ∧
  (∀ a, (k0_off152 v3645 v3654) a + S8x128.size a ≤ S4096x8192.size a) ∧
  (∀ a, (k0_off184 v3645 v3654) a + S8x128.size a ≤ S4096x8192.size a)
theorem k0_mult178_dvd : ∀ (v3645 : BitVec 32) (v3654 : BitVec 32) (k0_hw182 : k0_chk182 v3645 v3654), 128 ∣ (k0_mult178 v3654).toNat := fun v3645 v3654 k0_hw182 => k0_hw182.1
theorem k0_off152_inb : ∀ (v3645 : BitVec 32) (v3654 : BitVec 32) (k0_hw182 : k0_chk182 v3645 v3654), ∀ a, (k0_off152 v3645 v3654) a + S8x128.size a ≤ S4096x8192.size a := fun v3645 v3654 k0_hw182 => k0_hw182.2.1
theorem k0_off184_inb : ∀ (v3645 : BitVec 32) (v3654 : BitVec 32) (k0_hw182 : k0_chk182 v3645 v3654), ∀ a, (k0_off184 v3645 v3654) a + S8x128.size a ≤ S4096x8192.size a := fun v3645 v3654 k0_hw182 => k0_hw182.2.2

def k0_off185 (v3677 : BitVec 32) (v3686 : BitVec 32) : Fin 2 → Nat :=
  let v3678 : BitVec 32 := v3677
  let v3687 : BitVec 32 := v3686
  ![v3678.toNat, v3687.toNat]

def k0_chk184 (v3677 : BitVec 32) (v3686 : BitVec 32) : Prop :=
  (128 ∣ (k0_mult180 v3686).toNat) ∧
  (∀ a, (k0_off153 v3677 v3686) a + S8x128.size a ≤ S4096x8192.size a) ∧
  (∀ a, (k0_off185 v3677 v3686) a + S8x128.size a ≤ S4096x8192.size a)
theorem k0_mult180_dvd : ∀ (v3677 : BitVec 32) (v3686 : BitVec 32) (k0_hw184 : k0_chk184 v3677 v3686), 128 ∣ (k0_mult180 v3686).toNat := fun v3677 v3686 k0_hw184 => k0_hw184.1
theorem k0_off153_inb : ∀ (v3677 : BitVec 32) (v3686 : BitVec 32) (k0_hw184 : k0_chk184 v3677 v3686), ∀ a, (k0_off153 v3677 v3686) a + S8x128.size a ≤ S4096x8192.size a := fun v3677 v3686 k0_hw184 => k0_hw184.2.1
theorem k0_off185_inb : ∀ (v3677 : BitVec 32) (v3686 : BitVec 32) (k0_hw184 : k0_chk184 v3677 v3686), ∀ a, (k0_off185 v3677 v3686) a + S8x128.size a ≤ S4096x8192.size a := fun v3677 v3686 k0_hw184 => k0_hw184.2.2

def k0_off186 (v3709 : BitVec 32) (v3718 : BitVec 32) : Fin 2 → Nat :=
  let v3710 : BitVec 32 := v3709
  let v3719 : BitVec 32 := v3718
  ![v3710.toNat, v3719.toNat]

def k0_chk186 (v3709 : BitVec 32) (v3718 : BitVec 32) : Prop :=
  (128 ∣ (k0_mult182 v3718).toNat) ∧
  (∀ a, (k0_off154 v3709 v3718) a + S8x128.size a ≤ S4096x8192.size a) ∧
  (∀ a, (k0_off186 v3709 v3718) a + S8x128.size a ≤ S4096x8192.size a)
theorem k0_mult182_dvd : ∀ (v3709 : BitVec 32) (v3718 : BitVec 32) (k0_hw186 : k0_chk186 v3709 v3718), 128 ∣ (k0_mult182 v3718).toNat := fun v3709 v3718 k0_hw186 => k0_hw186.1
theorem k0_off154_inb : ∀ (v3709 : BitVec 32) (v3718 : BitVec 32) (k0_hw186 : k0_chk186 v3709 v3718), ∀ a, (k0_off154 v3709 v3718) a + S8x128.size a ≤ S4096x8192.size a := fun v3709 v3718 k0_hw186 => k0_hw186.2.1
theorem k0_off186_inb : ∀ (v3709 : BitVec 32) (v3718 : BitVec 32) (k0_hw186 : k0_chk186 v3709 v3718), ∀ a, (k0_off186 v3709 v3718) a + S8x128.size a ≤ S4096x8192.size a := fun v3709 v3718 k0_hw186 => k0_hw186.2.2

def k0_off187 (v3741 : BitVec 32) (v3750 : BitVec 32) : Fin 2 → Nat :=
  let v3742 : BitVec 32 := v3741
  let v3751 : BitVec 32 := v3750
  ![v3742.toNat, v3751.toNat]

def k0_chk188 (v3741 : BitVec 32) (v3750 : BitVec 32) : Prop :=
  (128 ∣ (k0_mult184 v3750).toNat) ∧
  (∀ a, (k0_off155 v3741 v3750) a + S8x128.size a ≤ S4096x8192.size a) ∧
  (∀ a, (k0_off187 v3741 v3750) a + S8x128.size a ≤ S4096x8192.size a)
theorem k0_mult184_dvd : ∀ (v3741 : BitVec 32) (v3750 : BitVec 32) (k0_hw188 : k0_chk188 v3741 v3750), 128 ∣ (k0_mult184 v3750).toNat := fun v3741 v3750 k0_hw188 => k0_hw188.1
theorem k0_off155_inb : ∀ (v3741 : BitVec 32) (v3750 : BitVec 32) (k0_hw188 : k0_chk188 v3741 v3750), ∀ a, (k0_off155 v3741 v3750) a + S8x128.size a ≤ S4096x8192.size a := fun v3741 v3750 k0_hw188 => k0_hw188.2.1
theorem k0_off187_inb : ∀ (v3741 : BitVec 32) (v3750 : BitVec 32) (k0_hw188 : k0_chk188 v3741 v3750), ∀ a, (k0_off187 v3741 v3750) a + S8x128.size a ≤ S4096x8192.size a := fun v3741 v3750 k0_hw188 => k0_hw188.2.2

def k0_off188 (v3773 : BitVec 32) (v3782 : BitVec 32) : Fin 2 → Nat :=
  let v3774 : BitVec 32 := v3773
  let v3783 : BitVec 32 := v3782
  ![v3774.toNat, v3783.toNat]

def k0_chk190 (v3773 : BitVec 32) (v3782 : BitVec 32) : Prop :=
  (128 ∣ (k0_mult186 v3782).toNat) ∧
  (∀ a, (k0_off156 v3773 v3782) a + S8x128.size a ≤ S4096x8192.size a) ∧
  (∀ a, (k0_off188 v3773 v3782) a + S8x128.size a ≤ S4096x8192.size a)
theorem k0_mult186_dvd : ∀ (v3773 : BitVec 32) (v3782 : BitVec 32) (k0_hw190 : k0_chk190 v3773 v3782), 128 ∣ (k0_mult186 v3782).toNat := fun v3773 v3782 k0_hw190 => k0_hw190.1
theorem k0_off156_inb : ∀ (v3773 : BitVec 32) (v3782 : BitVec 32) (k0_hw190 : k0_chk190 v3773 v3782), ∀ a, (k0_off156 v3773 v3782) a + S8x128.size a ≤ S4096x8192.size a := fun v3773 v3782 k0_hw190 => k0_hw190.2.1
theorem k0_off188_inb : ∀ (v3773 : BitVec 32) (v3782 : BitVec 32) (k0_hw190 : k0_chk190 v3773 v3782), ∀ a, (k0_off188 v3773 v3782) a + S8x128.size a ≤ S4096x8192.size a := fun v3773 v3782 k0_hw190 => k0_hw190.2.2

def k0_off189 (v3805 : BitVec 32) (v3814 : BitVec 32) : Fin 2 → Nat :=
  let v3806 : BitVec 32 := v3805
  let v3815 : BitVec 32 := v3814
  ![v3806.toNat, v3815.toNat]

def k0_chk192 (v3805 : BitVec 32) (v3814 : BitVec 32) : Prop :=
  (128 ∣ (k0_mult188 v3814).toNat) ∧
  (∀ a, (k0_off157 v3805 v3814) a + S8x128.size a ≤ S4096x8192.size a) ∧
  (∀ a, (k0_off189 v3805 v3814) a + S8x128.size a ≤ S4096x8192.size a)
theorem k0_mult188_dvd : ∀ (v3805 : BitVec 32) (v3814 : BitVec 32) (k0_hw192 : k0_chk192 v3805 v3814), 128 ∣ (k0_mult188 v3814).toNat := fun v3805 v3814 k0_hw192 => k0_hw192.1
theorem k0_off157_inb : ∀ (v3805 : BitVec 32) (v3814 : BitVec 32) (k0_hw192 : k0_chk192 v3805 v3814), ∀ a, (k0_off157 v3805 v3814) a + S8x128.size a ≤ S4096x8192.size a := fun v3805 v3814 k0_hw192 => k0_hw192.2.1
theorem k0_off189_inb : ∀ (v3805 : BitVec 32) (v3814 : BitVec 32) (k0_hw192 : k0_chk192 v3805 v3814), ∀ a, (k0_off189 v3805 v3814) a + S8x128.size a ≤ S4096x8192.size a := fun v3805 v3814 k0_hw192 => k0_hw192.2.2

def k0_off190 (v3837 : BitVec 32) (v3846 : BitVec 32) : Fin 2 → Nat :=
  let v3838 : BitVec 32 := v3837
  let v3847 : BitVec 32 := v3846
  ![v3838.toNat, v3847.toNat]

def k0_chk194 (v3837 : BitVec 32) (v3846 : BitVec 32) : Prop :=
  (128 ∣ (k0_mult190 v3846).toNat) ∧
  (∀ a, (k0_off158 v3837 v3846) a + S8x128.size a ≤ S4096x8192.size a) ∧
  (∀ a, (k0_off190 v3837 v3846) a + S8x128.size a ≤ S4096x8192.size a)
theorem k0_mult190_dvd : ∀ (v3837 : BitVec 32) (v3846 : BitVec 32) (k0_hw194 : k0_chk194 v3837 v3846), 128 ∣ (k0_mult190 v3846).toNat := fun v3837 v3846 k0_hw194 => k0_hw194.1
theorem k0_off158_inb : ∀ (v3837 : BitVec 32) (v3846 : BitVec 32) (k0_hw194 : k0_chk194 v3837 v3846), ∀ a, (k0_off158 v3837 v3846) a + S8x128.size a ≤ S4096x8192.size a := fun v3837 v3846 k0_hw194 => k0_hw194.2.1
theorem k0_off190_inb : ∀ (v3837 : BitVec 32) (v3846 : BitVec 32) (k0_hw194 : k0_chk194 v3837 v3846), ∀ a, (k0_off190 v3837 v3846) a + S8x128.size a ≤ S4096x8192.size a := fun v3837 v3846 k0_hw194 => k0_hw194.2.2

def k0_chk197 (v4277 : IVec S16 32) (v4280 : IVec S16 32) (v4283 : IVec S16 32) : Prop :=
  (∀ a x, ((![v4277, v4280, v4283] : Fin 3 → IVec S16 32) a x).toNat < S32x8x128.size a) ∧
  (∀ a x, ((![v4277, v4280, v4283] : Fin 3 → IVec S16 32) a x).toNat < S32x8x128.size a)
theorem k0_idx9_inb : ∀ (v4277 : IVec S16 32) (v4280 : IVec S16 32) (v4283 : IVec S16 32) (k0_hw197 : k0_chk197 v4277 v4280 v4283), ∀ a x, ((![v4277, v4280, v4283] : Fin 3 → IVec S16 32) a x).toNat < S32x8x128.size a := fun v4277 v4280 v4283 k0_hw197 => k0_hw197.1
theorem k0_idx10_inb : ∀ (v4277 : IVec S16 32) (v4280 : IVec S16 32) (v4283 : IVec S16 32) (k0_hw197 : k0_chk197 v4277 v4280 v4283), ∀ a x, ((![v4277, v4280, v4283] : Fin 3 → IVec S16 32) a x).toNat < S32x8x128.size a := fun v4277 v4280 v4283 k0_hw197 => k0_hw197.2

def k0_chk198 (v4289 : IVec S16 32) (v4292 : IVec S16 32) (v4295 : IVec S16 32) : Prop :=
  (∀ a x, ((![v4289, v4292, v4295] : Fin 3 → IVec S16 32) a x).toNat < S32x8x128.size a) ∧
  (∀ a x, ((![v4289, v4292, v4295] : Fin 3 → IVec S16 32) a x).toNat < S32x8x128.size a)
theorem k0_idx11_inb : ∀ (v4289 : IVec S16 32) (v4292 : IVec S16 32) (v4295 : IVec S16 32) (k0_hw198 : k0_chk198 v4289 v4292 v4295), ∀ a x, ((![v4289, v4292, v4295] : Fin 3 → IVec S16 32) a x).toNat < S32x8x128.size a := fun v4289 v4292 v4295 k0_hw198 => k0_hw198.1
theorem k0_idx12_inb : ∀ (v4289 : IVec S16 32) (v4292 : IVec S16 32) (v4295 : IVec S16 32) (k0_hw198 : k0_chk198 v4289 v4292 v4295), ∀ a x, ((![v4289, v4292, v4295] : Fin 3 → IVec S16 32) a x).toNat < S32x8x128.size a := fun v4289 v4292 v4295 k0_hw198 => k0_hw198.2
def k0_mult193 (v4309 : BitVec 32) : BitVec 32 :=
  v4309

def k0_chk199 (v4309 : BitVec 32) : Prop :=
  (8 ∣ (k0_mult193 v4309).toNat)
theorem k0_mult193_dvd : ∀ (v4309 : BitVec 32) (k0_hw199 : k0_chk199 v4309), 8 ∣ (k0_mult193 v4309).toNat := fun v4309 k0_hw199 => k0_hw199

def k0_mult194 (v4318 : BitVec 32) : BitVec 32 :=
  v4318

def k0_off191 (v4309 : BitVec 32) (v4318 : BitVec 32) : Fin 2 → Nat :=
  let v4310 : BitVec 32 := v4309
  let v4319 : BitVec 32 := v4318
  ![v4310.toNat, v4319.toNat]
def k0_mult195 (v4341 : BitVec 32) : BitVec 32 :=
  v4341

def k0_chk201 (v4341 : BitVec 32) : Prop :=
  (8 ∣ (k0_mult195 v4341).toNat)
theorem k0_mult195_dvd : ∀ (v4341 : BitVec 32) (k0_hw201 : k0_chk201 v4341), 8 ∣ (k0_mult195 v4341).toNat := fun v4341 k0_hw201 => k0_hw201

def k0_mult196 (v4350 : BitVec 32) : BitVec 32 :=
  v4350

def k0_off192 (v4341 : BitVec 32) (v4350 : BitVec 32) : Fin 2 → Nat :=
  let v4342 : BitVec 32 := v4341
  let v4351 : BitVec 32 := v4350
  ![v4342.toNat, v4351.toNat]
def k0_mult197 (v4373 : BitVec 32) : BitVec 32 :=
  v4373

def k0_chk203 (v4373 : BitVec 32) : Prop :=
  (8 ∣ (k0_mult197 v4373).toNat)
theorem k0_mult197_dvd : ∀ (v4373 : BitVec 32) (k0_hw203 : k0_chk203 v4373), 8 ∣ (k0_mult197 v4373).toNat := fun v4373 k0_hw203 => k0_hw203

def k0_mult198 (v4382 : BitVec 32) : BitVec 32 :=
  v4382

def k0_off193 (v4373 : BitVec 32) (v4382 : BitVec 32) : Fin 2 → Nat :=
  let v4374 : BitVec 32 := v4373
  let v4383 : BitVec 32 := v4382
  ![v4374.toNat, v4383.toNat]
def k0_mult199 (v4405 : BitVec 32) : BitVec 32 :=
  v4405

def k0_chk205 (v4405 : BitVec 32) : Prop :=
  (8 ∣ (k0_mult199 v4405).toNat)
theorem k0_mult199_dvd : ∀ (v4405 : BitVec 32) (k0_hw205 : k0_chk205 v4405), 8 ∣ (k0_mult199 v4405).toNat := fun v4405 k0_hw205 => k0_hw205

def k0_mult200 (v4414 : BitVec 32) : BitVec 32 :=
  v4414

def k0_off194 (v4405 : BitVec 32) (v4414 : BitVec 32) : Fin 2 → Nat :=
  let v4406 : BitVec 32 := v4405
  let v4415 : BitVec 32 := v4414
  ![v4406.toNat, v4415.toNat]
def k0_mult201 (v4437 : BitVec 32) : BitVec 32 :=
  v4437

def k0_chk207 (v4437 : BitVec 32) : Prop :=
  (8 ∣ (k0_mult201 v4437).toNat)
theorem k0_mult201_dvd : ∀ (v4437 : BitVec 32) (k0_hw207 : k0_chk207 v4437), 8 ∣ (k0_mult201 v4437).toNat := fun v4437 k0_hw207 => k0_hw207

def k0_mult202 (v4446 : BitVec 32) : BitVec 32 :=
  v4446

def k0_off195 (v4437 : BitVec 32) (v4446 : BitVec 32) : Fin 2 → Nat :=
  let v4438 : BitVec 32 := v4437
  let v4447 : BitVec 32 := v4446
  ![v4438.toNat, v4447.toNat]
def k0_mult203 (v4469 : BitVec 32) : BitVec 32 :=
  v4469

def k0_chk209 (v4469 : BitVec 32) : Prop :=
  (8 ∣ (k0_mult203 v4469).toNat)
theorem k0_mult203_dvd : ∀ (v4469 : BitVec 32) (k0_hw209 : k0_chk209 v4469), 8 ∣ (k0_mult203 v4469).toNat := fun v4469 k0_hw209 => k0_hw209

def k0_mult204 (v4478 : BitVec 32) : BitVec 32 :=
  v4478

def k0_off196 (v4469 : BitVec 32) (v4478 : BitVec 32) : Fin 2 → Nat :=
  let v4470 : BitVec 32 := v4469
  let v4479 : BitVec 32 := v4478
  ![v4470.toNat, v4479.toNat]
def k0_mult205 (v4501 : BitVec 32) : BitVec 32 :=
  v4501

def k0_chk211 (v4501 : BitVec 32) : Prop :=
  (8 ∣ (k0_mult205 v4501).toNat)
theorem k0_mult205_dvd : ∀ (v4501 : BitVec 32) (k0_hw211 : k0_chk211 v4501), 8 ∣ (k0_mult205 v4501).toNat := fun v4501 k0_hw211 => k0_hw211

def k0_mult206 (v4510 : BitVec 32) : BitVec 32 :=
  v4510

def k0_off197 (v4501 : BitVec 32) (v4510 : BitVec 32) : Fin 2 → Nat :=
  let v4502 : BitVec 32 := v4501
  let v4511 : BitVec 32 := v4510
  ![v4502.toNat, v4511.toNat]
def k0_mult207 (v4533 : BitVec 32) : BitVec 32 :=
  v4533

def k0_chk213 (v4533 : BitVec 32) : Prop :=
  (8 ∣ (k0_mult207 v4533).toNat)
theorem k0_mult207_dvd : ∀ (v4533 : BitVec 32) (k0_hw213 : k0_chk213 v4533), 8 ∣ (k0_mult207 v4533).toNat := fun v4533 k0_hw213 => k0_hw213

def k0_mult208 (v4542 : BitVec 32) : BitVec 32 :=
  v4542

def k0_off198 (v4533 : BitVec 32) (v4542 : BitVec 32) : Fin 2 → Nat :=
  let v4534 : BitVec 32 := v4533
  let v4543 : BitVec 32 := v4542
  ![v4534.toNat, v4543.toNat]
def k0_mult209 (v4565 : BitVec 32) : BitVec 32 :=
  v4565

def k0_chk215 (v4565 : BitVec 32) : Prop :=
  (8 ∣ (k0_mult209 v4565).toNat)
theorem k0_mult209_dvd : ∀ (v4565 : BitVec 32) (k0_hw215 : k0_chk215 v4565), 8 ∣ (k0_mult209 v4565).toNat := fun v4565 k0_hw215 => k0_hw215

def k0_mult210 (v4574 : BitVec 32) : BitVec 32 :=
  v4574

def k0_off199 (v4565 : BitVec 32) (v4574 : BitVec 32) : Fin 2 → Nat :=
  let v4566 : BitVec 32 := v4565
  let v4575 : BitVec 32 := v4574
  ![v4566.toNat, v4575.toNat]
def k0_mult211 (v4597 : BitVec 32) : BitVec 32 :=
  v4597

def k0_chk217 (v4597 : BitVec 32) : Prop :=
  (8 ∣ (k0_mult211 v4597).toNat)
theorem k0_mult211_dvd : ∀ (v4597 : BitVec 32) (k0_hw217 : k0_chk217 v4597), 8 ∣ (k0_mult211 v4597).toNat := fun v4597 k0_hw217 => k0_hw217

def k0_mult212 (v4606 : BitVec 32) : BitVec 32 :=
  v4606

def k0_off200 (v4597 : BitVec 32) (v4606 : BitVec 32) : Fin 2 → Nat :=
  let v4598 : BitVec 32 := v4597
  let v4607 : BitVec 32 := v4606
  ![v4598.toNat, v4607.toNat]
def k0_mult213 (v4629 : BitVec 32) : BitVec 32 :=
  v4629

def k0_chk219 (v4629 : BitVec 32) : Prop :=
  (8 ∣ (k0_mult213 v4629).toNat)
theorem k0_mult213_dvd : ∀ (v4629 : BitVec 32) (k0_hw219 : k0_chk219 v4629), 8 ∣ (k0_mult213 v4629).toNat := fun v4629 k0_hw219 => k0_hw219

def k0_mult214 (v4638 : BitVec 32) : BitVec 32 :=
  v4638

def k0_off201 (v4629 : BitVec 32) (v4638 : BitVec 32) : Fin 2 → Nat :=
  let v4630 : BitVec 32 := v4629
  let v4639 : BitVec 32 := v4638
  ![v4630.toNat, v4639.toNat]
def k0_mult215 (v4661 : BitVec 32) : BitVec 32 :=
  v4661

def k0_chk221 (v4661 : BitVec 32) : Prop :=
  (8 ∣ (k0_mult215 v4661).toNat)
theorem k0_mult215_dvd : ∀ (v4661 : BitVec 32) (k0_hw221 : k0_chk221 v4661), 8 ∣ (k0_mult215 v4661).toNat := fun v4661 k0_hw221 => k0_hw221

def k0_mult216 (v4670 : BitVec 32) : BitVec 32 :=
  v4670

def k0_off202 (v4661 : BitVec 32) (v4670 : BitVec 32) : Fin 2 → Nat :=
  let v4662 : BitVec 32 := v4661
  let v4671 : BitVec 32 := v4670
  ![v4662.toNat, v4671.toNat]
def k0_mult217 (v4693 : BitVec 32) : BitVec 32 :=
  v4693

def k0_chk223 (v4693 : BitVec 32) : Prop :=
  (8 ∣ (k0_mult217 v4693).toNat)
theorem k0_mult217_dvd : ∀ (v4693 : BitVec 32) (k0_hw223 : k0_chk223 v4693), 8 ∣ (k0_mult217 v4693).toNat := fun v4693 k0_hw223 => k0_hw223

def k0_mult218 (v4702 : BitVec 32) : BitVec 32 :=
  v4702

def k0_off203 (v4693 : BitVec 32) (v4702 : BitVec 32) : Fin 2 → Nat :=
  let v4694 : BitVec 32 := v4693
  let v4703 : BitVec 32 := v4702
  ![v4694.toNat, v4703.toNat]
def k0_mult219 (v4725 : BitVec 32) : BitVec 32 :=
  v4725

def k0_chk225 (v4725 : BitVec 32) : Prop :=
  (8 ∣ (k0_mult219 v4725).toNat)
theorem k0_mult219_dvd : ∀ (v4725 : BitVec 32) (k0_hw225 : k0_chk225 v4725), 8 ∣ (k0_mult219 v4725).toNat := fun v4725 k0_hw225 => k0_hw225

def k0_mult220 (v4734 : BitVec 32) : BitVec 32 :=
  v4734

def k0_off204 (v4725 : BitVec 32) (v4734 : BitVec 32) : Fin 2 → Nat :=
  let v4726 : BitVec 32 := v4725
  let v4735 : BitVec 32 := v4734
  ![v4726.toNat, v4735.toNat]
def k0_mult221 (v4757 : BitVec 32) : BitVec 32 :=
  v4757

def k0_chk227 (v4757 : BitVec 32) : Prop :=
  (8 ∣ (k0_mult221 v4757).toNat)
theorem k0_mult221_dvd : ∀ (v4757 : BitVec 32) (k0_hw227 : k0_chk227 v4757), 8 ∣ (k0_mult221 v4757).toNat := fun v4757 k0_hw227 => k0_hw227

def k0_mult222 (v4766 : BitVec 32) : BitVec 32 :=
  v4766

def k0_off205 (v4757 : BitVec 32) (v4766 : BitVec 32) : Fin 2 → Nat :=
  let v4758 : BitVec 32 := v4757
  let v4767 : BitVec 32 := v4766
  ![v4758.toNat, v4767.toNat]
def k0_mult223 (v4789 : BitVec 32) : BitVec 32 :=
  v4789

def k0_chk229 (v4789 : BitVec 32) : Prop :=
  (8 ∣ (k0_mult223 v4789).toNat)
theorem k0_mult223_dvd : ∀ (v4789 : BitVec 32) (k0_hw229 : k0_chk229 v4789), 8 ∣ (k0_mult223 v4789).toNat := fun v4789 k0_hw229 => k0_hw229

def k0_mult224 (v4798 : BitVec 32) : BitVec 32 :=
  v4798

def k0_off206 (v4789 : BitVec 32) (v4798 : BitVec 32) : Fin 2 → Nat :=
  let v4790 : BitVec 32 := v4789
  let v4799 : BitVec 32 := v4798
  ![v4790.toNat, v4799.toNat]
def k0_mult225 (v4821 : BitVec 32) : BitVec 32 :=
  v4821

def k0_chk231 (v4821 : BitVec 32) : Prop :=
  (8 ∣ (k0_mult225 v4821).toNat)
theorem k0_mult225_dvd : ∀ (v4821 : BitVec 32) (k0_hw231 : k0_chk231 v4821), 8 ∣ (k0_mult225 v4821).toNat := fun v4821 k0_hw231 => k0_hw231

def k0_mult226 (v4830 : BitVec 32) : BitVec 32 :=
  v4830

def k0_off207 (v4821 : BitVec 32) (v4830 : BitVec 32) : Fin 2 → Nat :=
  let v4822 : BitVec 32 := v4821
  let v4831 : BitVec 32 := v4830
  ![v4822.toNat, v4831.toNat]
def k0_mult227 (v4853 : BitVec 32) : BitVec 32 :=
  v4853

def k0_chk233 (v4853 : BitVec 32) : Prop :=
  (8 ∣ (k0_mult227 v4853).toNat)
theorem k0_mult227_dvd : ∀ (v4853 : BitVec 32) (k0_hw233 : k0_chk233 v4853), 8 ∣ (k0_mult227 v4853).toNat := fun v4853 k0_hw233 => k0_hw233

def k0_mult228 (v4862 : BitVec 32) : BitVec 32 :=
  v4862

def k0_off208 (v4853 : BitVec 32) (v4862 : BitVec 32) : Fin 2 → Nat :=
  let v4854 : BitVec 32 := v4853
  let v4863 : BitVec 32 := v4862
  ![v4854.toNat, v4863.toNat]
def k0_mult229 (v4885 : BitVec 32) : BitVec 32 :=
  v4885

def k0_chk235 (v4885 : BitVec 32) : Prop :=
  (8 ∣ (k0_mult229 v4885).toNat)
theorem k0_mult229_dvd : ∀ (v4885 : BitVec 32) (k0_hw235 : k0_chk235 v4885), 8 ∣ (k0_mult229 v4885).toNat := fun v4885 k0_hw235 => k0_hw235

def k0_mult230 (v4894 : BitVec 32) : BitVec 32 :=
  v4894

def k0_off209 (v4885 : BitVec 32) (v4894 : BitVec 32) : Fin 2 → Nat :=
  let v4886 : BitVec 32 := v4885
  let v4895 : BitVec 32 := v4894
  ![v4886.toNat, v4895.toNat]
def k0_mult231 (v4917 : BitVec 32) : BitVec 32 :=
  v4917

def k0_chk237 (v4917 : BitVec 32) : Prop :=
  (8 ∣ (k0_mult231 v4917).toNat)
theorem k0_mult231_dvd : ∀ (v4917 : BitVec 32) (k0_hw237 : k0_chk237 v4917), 8 ∣ (k0_mult231 v4917).toNat := fun v4917 k0_hw237 => k0_hw237

def k0_mult232 (v4926 : BitVec 32) : BitVec 32 :=
  v4926

def k0_off210 (v4917 : BitVec 32) (v4926 : BitVec 32) : Fin 2 → Nat :=
  let v4918 : BitVec 32 := v4917
  let v4927 : BitVec 32 := v4926
  ![v4918.toNat, v4927.toNat]
def k0_mult233 (v4949 : BitVec 32) : BitVec 32 :=
  v4949

def k0_chk239 (v4949 : BitVec 32) : Prop :=
  (8 ∣ (k0_mult233 v4949).toNat)
theorem k0_mult233_dvd : ∀ (v4949 : BitVec 32) (k0_hw239 : k0_chk239 v4949), 8 ∣ (k0_mult233 v4949).toNat := fun v4949 k0_hw239 => k0_hw239

def k0_mult234 (v4958 : BitVec 32) : BitVec 32 :=
  v4958

def k0_off211 (v4949 : BitVec 32) (v4958 : BitVec 32) : Fin 2 → Nat :=
  let v4950 : BitVec 32 := v4949
  let v4959 : BitVec 32 := v4958
  ![v4950.toNat, v4959.toNat]
def k0_mult235 (v4981 : BitVec 32) : BitVec 32 :=
  v4981

def k0_chk241 (v4981 : BitVec 32) : Prop :=
  (8 ∣ (k0_mult235 v4981).toNat)
theorem k0_mult235_dvd : ∀ (v4981 : BitVec 32) (k0_hw241 : k0_chk241 v4981), 8 ∣ (k0_mult235 v4981).toNat := fun v4981 k0_hw241 => k0_hw241

def k0_mult236 (v4990 : BitVec 32) : BitVec 32 :=
  v4990

def k0_off212 (v4981 : BitVec 32) (v4990 : BitVec 32) : Fin 2 → Nat :=
  let v4982 : BitVec 32 := v4981
  let v4991 : BitVec 32 := v4990
  ![v4982.toNat, v4991.toNat]
def k0_mult237 (v5013 : BitVec 32) : BitVec 32 :=
  v5013

def k0_chk243 (v5013 : BitVec 32) : Prop :=
  (8 ∣ (k0_mult237 v5013).toNat)
theorem k0_mult237_dvd : ∀ (v5013 : BitVec 32) (k0_hw243 : k0_chk243 v5013), 8 ∣ (k0_mult237 v5013).toNat := fun v5013 k0_hw243 => k0_hw243

def k0_mult238 (v5022 : BitVec 32) : BitVec 32 :=
  v5022

def k0_off213 (v5013 : BitVec 32) (v5022 : BitVec 32) : Fin 2 → Nat :=
  let v5014 : BitVec 32 := v5013
  let v5023 : BitVec 32 := v5022
  ![v5014.toNat, v5023.toNat]
def k0_mult239 (v5045 : BitVec 32) : BitVec 32 :=
  v5045

def k0_chk245 (v5045 : BitVec 32) : Prop :=
  (8 ∣ (k0_mult239 v5045).toNat)
theorem k0_mult239_dvd : ∀ (v5045 : BitVec 32) (k0_hw245 : k0_chk245 v5045), 8 ∣ (k0_mult239 v5045).toNat := fun v5045 k0_hw245 => k0_hw245

def k0_mult240 (v5054 : BitVec 32) : BitVec 32 :=
  v5054

def k0_off214 (v5045 : BitVec 32) (v5054 : BitVec 32) : Fin 2 → Nat :=
  let v5046 : BitVec 32 := v5045
  let v5055 : BitVec 32 := v5054
  ![v5046.toNat, v5055.toNat]
def k0_mult241 (v5077 : BitVec 32) : BitVec 32 :=
  v5077

def k0_chk247 (v5077 : BitVec 32) : Prop :=
  (8 ∣ (k0_mult241 v5077).toNat)
theorem k0_mult241_dvd : ∀ (v5077 : BitVec 32) (k0_hw247 : k0_chk247 v5077), 8 ∣ (k0_mult241 v5077).toNat := fun v5077 k0_hw247 => k0_hw247

def k0_mult242 (v5086 : BitVec 32) : BitVec 32 :=
  v5086

def k0_off215 (v5077 : BitVec 32) (v5086 : BitVec 32) : Fin 2 → Nat :=
  let v5078 : BitVec 32 := v5077
  let v5087 : BitVec 32 := v5086
  ![v5078.toNat, v5087.toNat]
def k0_mult243 (v5109 : BitVec 32) : BitVec 32 :=
  v5109

def k0_chk249 (v5109 : BitVec 32) : Prop :=
  (8 ∣ (k0_mult243 v5109).toNat)
theorem k0_mult243_dvd : ∀ (v5109 : BitVec 32) (k0_hw249 : k0_chk249 v5109), 8 ∣ (k0_mult243 v5109).toNat := fun v5109 k0_hw249 => k0_hw249

def k0_mult244 (v5118 : BitVec 32) : BitVec 32 :=
  v5118

def k0_off216 (v5109 : BitVec 32) (v5118 : BitVec 32) : Fin 2 → Nat :=
  let v5110 : BitVec 32 := v5109
  let v5119 : BitVec 32 := v5118
  ![v5110.toNat, v5119.toNat]
def k0_mult245 (v5141 : BitVec 32) : BitVec 32 :=
  v5141

def k0_chk251 (v5141 : BitVec 32) : Prop :=
  (8 ∣ (k0_mult245 v5141).toNat)
theorem k0_mult245_dvd : ∀ (v5141 : BitVec 32) (k0_hw251 : k0_chk251 v5141), 8 ∣ (k0_mult245 v5141).toNat := fun v5141 k0_hw251 => k0_hw251

def k0_mult246 (v5150 : BitVec 32) : BitVec 32 :=
  v5150

def k0_off217 (v5141 : BitVec 32) (v5150 : BitVec 32) : Fin 2 → Nat :=
  let v5142 : BitVec 32 := v5141
  let v5151 : BitVec 32 := v5150
  ![v5142.toNat, v5151.toNat]
def k0_mult247 (v5173 : BitVec 32) : BitVec 32 :=
  v5173

def k0_chk253 (v5173 : BitVec 32) : Prop :=
  (8 ∣ (k0_mult247 v5173).toNat)
theorem k0_mult247_dvd : ∀ (v5173 : BitVec 32) (k0_hw253 : k0_chk253 v5173), 8 ∣ (k0_mult247 v5173).toNat := fun v5173 k0_hw253 => k0_hw253

def k0_mult248 (v5182 : BitVec 32) : BitVec 32 :=
  v5182

def k0_off218 (v5173 : BitVec 32) (v5182 : BitVec 32) : Fin 2 → Nat :=
  let v5174 : BitVec 32 := v5173
  let v5183 : BitVec 32 := v5182
  ![v5174.toNat, v5183.toNat]
def k0_mult249 (v5205 : BitVec 32) : BitVec 32 :=
  v5205

def k0_chk255 (v5205 : BitVec 32) : Prop :=
  (8 ∣ (k0_mult249 v5205).toNat)
theorem k0_mult249_dvd : ∀ (v5205 : BitVec 32) (k0_hw255 : k0_chk255 v5205), 8 ∣ (k0_mult249 v5205).toNat := fun v5205 k0_hw255 => k0_hw255

def k0_mult250 (v5214 : BitVec 32) : BitVec 32 :=
  v5214

def k0_off219 (v5205 : BitVec 32) (v5214 : BitVec 32) : Fin 2 → Nat :=
  let v5206 : BitVec 32 := v5205
  let v5215 : BitVec 32 := v5214
  ![v5206.toNat, v5215.toNat]
def k0_mult251 (v5237 : BitVec 32) : BitVec 32 :=
  v5237

def k0_chk257 (v5237 : BitVec 32) : Prop :=
  (8 ∣ (k0_mult251 v5237).toNat)
theorem k0_mult251_dvd : ∀ (v5237 : BitVec 32) (k0_hw257 : k0_chk257 v5237), 8 ∣ (k0_mult251 v5237).toNat := fun v5237 k0_hw257 => k0_hw257

def k0_mult252 (v5246 : BitVec 32) : BitVec 32 :=
  v5246

def k0_off220 (v5237 : BitVec 32) (v5246 : BitVec 32) : Fin 2 → Nat :=
  let v5238 : BitVec 32 := v5237
  let v5247 : BitVec 32 := v5246
  ![v5238.toNat, v5247.toNat]
def k0_mult253 (v5269 : BitVec 32) : BitVec 32 :=
  v5269

def k0_chk259 (v5269 : BitVec 32) : Prop :=
  (8 ∣ (k0_mult253 v5269).toNat)
theorem k0_mult253_dvd : ∀ (v5269 : BitVec 32) (k0_hw259 : k0_chk259 v5269), 8 ∣ (k0_mult253 v5269).toNat := fun v5269 k0_hw259 => k0_hw259

def k0_mult254 (v5278 : BitVec 32) : BitVec 32 :=
  v5278

def k0_off221 (v5269 : BitVec 32) (v5278 : BitVec 32) : Fin 2 → Nat :=
  let v5270 : BitVec 32 := v5269
  let v5279 : BitVec 32 := v5278
  ![v5270.toNat, v5279.toNat]
def k0_mult255 (v5301 : BitVec 32) : BitVec 32 :=
  v5301

def k0_chk261 (v5301 : BitVec 32) : Prop :=
  (8 ∣ (k0_mult255 v5301).toNat)
theorem k0_mult255_dvd : ∀ (v5301 : BitVec 32) (k0_hw261 : k0_chk261 v5301), 8 ∣ (k0_mult255 v5301).toNat := fun v5301 k0_hw261 => k0_hw261

def k0_mult256 (v5310 : BitVec 32) : BitVec 32 :=
  v5310

def k0_off222 (v5301 : BitVec 32) (v5310 : BitVec 32) : Fin 2 → Nat :=
  let v5302 : BitVec 32 := v5301
  let v5311 : BitVec 32 := v5310
  ![v5302.toNat, v5311.toNat]

def k0_chk262 (v5301 : BitVec 32) (v5310 : BitVec 32) : Prop :=
  (128 ∣ (k0_mult256 v5310).toNat) ∧
  (∀ a, (k0_off222 v5301 v5310) a + S8x128.size a ≤ S4096x8192.size a)
theorem k0_mult256_dvd : ∀ (v5301 : BitVec 32) (v5310 : BitVec 32) (k0_hw262 : k0_chk262 v5301 v5310), 128 ∣ (k0_mult256 v5310).toNat := fun v5301 v5310 k0_hw262 => k0_hw262.1
theorem k0_off222_inb : ∀ (v5301 : BitVec 32) (v5310 : BitVec 32) (k0_hw262 : k0_chk262 v5301 v5310), ∀ a, (k0_off222 v5301 v5310) a + S8x128.size a ≤ S4096x8192.size a := fun v5301 v5310 k0_hw262 => k0_hw262.2

def k0_off223 (v4309 : BitVec 32) (v4318 : BitVec 32) : Fin 2 → Nat :=
  let v4310 : BitVec 32 := v4309
  let v4319 : BitVec 32 := v4318
  ![v4310.toNat, v4319.toNat]

def k0_chk200 (v4309 : BitVec 32) (v4318 : BitVec 32) : Prop :=
  (128 ∣ (k0_mult194 v4318).toNat) ∧
  (∀ a, (k0_off191 v4309 v4318) a + S8x128.size a ≤ S4096x8192.size a) ∧
  (∀ a, (k0_off223 v4309 v4318) a + S8x128.size a ≤ S4096x8192.size a)
theorem k0_mult194_dvd : ∀ (v4309 : BitVec 32) (v4318 : BitVec 32) (k0_hw200 : k0_chk200 v4309 v4318), 128 ∣ (k0_mult194 v4318).toNat := fun v4309 v4318 k0_hw200 => k0_hw200.1
theorem k0_off191_inb : ∀ (v4309 : BitVec 32) (v4318 : BitVec 32) (k0_hw200 : k0_chk200 v4309 v4318), ∀ a, (k0_off191 v4309 v4318) a + S8x128.size a ≤ S4096x8192.size a := fun v4309 v4318 k0_hw200 => k0_hw200.2.1
theorem k0_off223_inb : ∀ (v4309 : BitVec 32) (v4318 : BitVec 32) (k0_hw200 : k0_chk200 v4309 v4318), ∀ a, (k0_off223 v4309 v4318) a + S8x128.size a ≤ S4096x8192.size a := fun v4309 v4318 k0_hw200 => k0_hw200.2.2

def k0_off224 (v4341 : BitVec 32) (v4350 : BitVec 32) : Fin 2 → Nat :=
  let v4342 : BitVec 32 := v4341
  let v4351 : BitVec 32 := v4350
  ![v4342.toNat, v4351.toNat]

def k0_chk202 (v4341 : BitVec 32) (v4350 : BitVec 32) : Prop :=
  (128 ∣ (k0_mult196 v4350).toNat) ∧
  (∀ a, (k0_off192 v4341 v4350) a + S8x128.size a ≤ S4096x8192.size a) ∧
  (∀ a, (k0_off224 v4341 v4350) a + S8x128.size a ≤ S4096x8192.size a)
theorem k0_mult196_dvd : ∀ (v4341 : BitVec 32) (v4350 : BitVec 32) (k0_hw202 : k0_chk202 v4341 v4350), 128 ∣ (k0_mult196 v4350).toNat := fun v4341 v4350 k0_hw202 => k0_hw202.1
theorem k0_off192_inb : ∀ (v4341 : BitVec 32) (v4350 : BitVec 32) (k0_hw202 : k0_chk202 v4341 v4350), ∀ a, (k0_off192 v4341 v4350) a + S8x128.size a ≤ S4096x8192.size a := fun v4341 v4350 k0_hw202 => k0_hw202.2.1
theorem k0_off224_inb : ∀ (v4341 : BitVec 32) (v4350 : BitVec 32) (k0_hw202 : k0_chk202 v4341 v4350), ∀ a, (k0_off224 v4341 v4350) a + S8x128.size a ≤ S4096x8192.size a := fun v4341 v4350 k0_hw202 => k0_hw202.2.2

def k0_off225 (v4373 : BitVec 32) (v4382 : BitVec 32) : Fin 2 → Nat :=
  let v4374 : BitVec 32 := v4373
  let v4383 : BitVec 32 := v4382
  ![v4374.toNat, v4383.toNat]

def k0_chk204 (v4373 : BitVec 32) (v4382 : BitVec 32) : Prop :=
  (128 ∣ (k0_mult198 v4382).toNat) ∧
  (∀ a, (k0_off193 v4373 v4382) a + S8x128.size a ≤ S4096x8192.size a) ∧
  (∀ a, (k0_off225 v4373 v4382) a + S8x128.size a ≤ S4096x8192.size a)
theorem k0_mult198_dvd : ∀ (v4373 : BitVec 32) (v4382 : BitVec 32) (k0_hw204 : k0_chk204 v4373 v4382), 128 ∣ (k0_mult198 v4382).toNat := fun v4373 v4382 k0_hw204 => k0_hw204.1
theorem k0_off193_inb : ∀ (v4373 : BitVec 32) (v4382 : BitVec 32) (k0_hw204 : k0_chk204 v4373 v4382), ∀ a, (k0_off193 v4373 v4382) a + S8x128.size a ≤ S4096x8192.size a := fun v4373 v4382 k0_hw204 => k0_hw204.2.1
theorem k0_off225_inb : ∀ (v4373 : BitVec 32) (v4382 : BitVec 32) (k0_hw204 : k0_chk204 v4373 v4382), ∀ a, (k0_off225 v4373 v4382) a + S8x128.size a ≤ S4096x8192.size a := fun v4373 v4382 k0_hw204 => k0_hw204.2.2

def k0_off226 (v4405 : BitVec 32) (v4414 : BitVec 32) : Fin 2 → Nat :=
  let v4406 : BitVec 32 := v4405
  let v4415 : BitVec 32 := v4414
  ![v4406.toNat, v4415.toNat]

def k0_chk206 (v4405 : BitVec 32) (v4414 : BitVec 32) : Prop :=
  (128 ∣ (k0_mult200 v4414).toNat) ∧
  (∀ a, (k0_off194 v4405 v4414) a + S8x128.size a ≤ S4096x8192.size a) ∧
  (∀ a, (k0_off226 v4405 v4414) a + S8x128.size a ≤ S4096x8192.size a)
theorem k0_mult200_dvd : ∀ (v4405 : BitVec 32) (v4414 : BitVec 32) (k0_hw206 : k0_chk206 v4405 v4414), 128 ∣ (k0_mult200 v4414).toNat := fun v4405 v4414 k0_hw206 => k0_hw206.1
theorem k0_off194_inb : ∀ (v4405 : BitVec 32) (v4414 : BitVec 32) (k0_hw206 : k0_chk206 v4405 v4414), ∀ a, (k0_off194 v4405 v4414) a + S8x128.size a ≤ S4096x8192.size a := fun v4405 v4414 k0_hw206 => k0_hw206.2.1
theorem k0_off226_inb : ∀ (v4405 : BitVec 32) (v4414 : BitVec 32) (k0_hw206 : k0_chk206 v4405 v4414), ∀ a, (k0_off226 v4405 v4414) a + S8x128.size a ≤ S4096x8192.size a := fun v4405 v4414 k0_hw206 => k0_hw206.2.2

def k0_off227 (v4437 : BitVec 32) (v4446 : BitVec 32) : Fin 2 → Nat :=
  let v4438 : BitVec 32 := v4437
  let v4447 : BitVec 32 := v4446
  ![v4438.toNat, v4447.toNat]

def k0_chk208 (v4437 : BitVec 32) (v4446 : BitVec 32) : Prop :=
  (128 ∣ (k0_mult202 v4446).toNat) ∧
  (∀ a, (k0_off195 v4437 v4446) a + S8x128.size a ≤ S4096x8192.size a) ∧
  (∀ a, (k0_off227 v4437 v4446) a + S8x128.size a ≤ S4096x8192.size a)
theorem k0_mult202_dvd : ∀ (v4437 : BitVec 32) (v4446 : BitVec 32) (k0_hw208 : k0_chk208 v4437 v4446), 128 ∣ (k0_mult202 v4446).toNat := fun v4437 v4446 k0_hw208 => k0_hw208.1
theorem k0_off195_inb : ∀ (v4437 : BitVec 32) (v4446 : BitVec 32) (k0_hw208 : k0_chk208 v4437 v4446), ∀ a, (k0_off195 v4437 v4446) a + S8x128.size a ≤ S4096x8192.size a := fun v4437 v4446 k0_hw208 => k0_hw208.2.1
theorem k0_off227_inb : ∀ (v4437 : BitVec 32) (v4446 : BitVec 32) (k0_hw208 : k0_chk208 v4437 v4446), ∀ a, (k0_off227 v4437 v4446) a + S8x128.size a ≤ S4096x8192.size a := fun v4437 v4446 k0_hw208 => k0_hw208.2.2

def k0_off228 (v4469 : BitVec 32) (v4478 : BitVec 32) : Fin 2 → Nat :=
  let v4470 : BitVec 32 := v4469
  let v4479 : BitVec 32 := v4478
  ![v4470.toNat, v4479.toNat]

def k0_chk210 (v4469 : BitVec 32) (v4478 : BitVec 32) : Prop :=
  (128 ∣ (k0_mult204 v4478).toNat) ∧
  (∀ a, (k0_off196 v4469 v4478) a + S8x128.size a ≤ S4096x8192.size a) ∧
  (∀ a, (k0_off228 v4469 v4478) a + S8x128.size a ≤ S4096x8192.size a)
theorem k0_mult204_dvd : ∀ (v4469 : BitVec 32) (v4478 : BitVec 32) (k0_hw210 : k0_chk210 v4469 v4478), 128 ∣ (k0_mult204 v4478).toNat := fun v4469 v4478 k0_hw210 => k0_hw210.1
theorem k0_off196_inb : ∀ (v4469 : BitVec 32) (v4478 : BitVec 32) (k0_hw210 : k0_chk210 v4469 v4478), ∀ a, (k0_off196 v4469 v4478) a + S8x128.size a ≤ S4096x8192.size a := fun v4469 v4478 k0_hw210 => k0_hw210.2.1
theorem k0_off228_inb : ∀ (v4469 : BitVec 32) (v4478 : BitVec 32) (k0_hw210 : k0_chk210 v4469 v4478), ∀ a, (k0_off228 v4469 v4478) a + S8x128.size a ≤ S4096x8192.size a := fun v4469 v4478 k0_hw210 => k0_hw210.2.2

def k0_off229 (v4501 : BitVec 32) (v4510 : BitVec 32) : Fin 2 → Nat :=
  let v4502 : BitVec 32 := v4501
  let v4511 : BitVec 32 := v4510
  ![v4502.toNat, v4511.toNat]

def k0_chk212 (v4501 : BitVec 32) (v4510 : BitVec 32) : Prop :=
  (128 ∣ (k0_mult206 v4510).toNat) ∧
  (∀ a, (k0_off197 v4501 v4510) a + S8x128.size a ≤ S4096x8192.size a) ∧
  (∀ a, (k0_off229 v4501 v4510) a + S8x128.size a ≤ S4096x8192.size a)
theorem k0_mult206_dvd : ∀ (v4501 : BitVec 32) (v4510 : BitVec 32) (k0_hw212 : k0_chk212 v4501 v4510), 128 ∣ (k0_mult206 v4510).toNat := fun v4501 v4510 k0_hw212 => k0_hw212.1
theorem k0_off197_inb : ∀ (v4501 : BitVec 32) (v4510 : BitVec 32) (k0_hw212 : k0_chk212 v4501 v4510), ∀ a, (k0_off197 v4501 v4510) a + S8x128.size a ≤ S4096x8192.size a := fun v4501 v4510 k0_hw212 => k0_hw212.2.1
theorem k0_off229_inb : ∀ (v4501 : BitVec 32) (v4510 : BitVec 32) (k0_hw212 : k0_chk212 v4501 v4510), ∀ a, (k0_off229 v4501 v4510) a + S8x128.size a ≤ S4096x8192.size a := fun v4501 v4510 k0_hw212 => k0_hw212.2.2

def k0_off230 (v4533 : BitVec 32) (v4542 : BitVec 32) : Fin 2 → Nat :=
  let v4534 : BitVec 32 := v4533
  let v4543 : BitVec 32 := v4542
  ![v4534.toNat, v4543.toNat]

def k0_chk214 (v4533 : BitVec 32) (v4542 : BitVec 32) : Prop :=
  (128 ∣ (k0_mult208 v4542).toNat) ∧
  (∀ a, (k0_off198 v4533 v4542) a + S8x128.size a ≤ S4096x8192.size a) ∧
  (∀ a, (k0_off230 v4533 v4542) a + S8x128.size a ≤ S4096x8192.size a)
theorem k0_mult208_dvd : ∀ (v4533 : BitVec 32) (v4542 : BitVec 32) (k0_hw214 : k0_chk214 v4533 v4542), 128 ∣ (k0_mult208 v4542).toNat := fun v4533 v4542 k0_hw214 => k0_hw214.1
theorem k0_off198_inb : ∀ (v4533 : BitVec 32) (v4542 : BitVec 32) (k0_hw214 : k0_chk214 v4533 v4542), ∀ a, (k0_off198 v4533 v4542) a + S8x128.size a ≤ S4096x8192.size a := fun v4533 v4542 k0_hw214 => k0_hw214.2.1
theorem k0_off230_inb : ∀ (v4533 : BitVec 32) (v4542 : BitVec 32) (k0_hw214 : k0_chk214 v4533 v4542), ∀ a, (k0_off230 v4533 v4542) a + S8x128.size a ≤ S4096x8192.size a := fun v4533 v4542 k0_hw214 => k0_hw214.2.2

def k0_off231 (v4565 : BitVec 32) (v4574 : BitVec 32) : Fin 2 → Nat :=
  let v4566 : BitVec 32 := v4565
  let v4575 : BitVec 32 := v4574
  ![v4566.toNat, v4575.toNat]

def k0_chk216 (v4565 : BitVec 32) (v4574 : BitVec 32) : Prop :=
  (128 ∣ (k0_mult210 v4574).toNat) ∧
  (∀ a, (k0_off199 v4565 v4574) a + S8x128.size a ≤ S4096x8192.size a) ∧
  (∀ a, (k0_off231 v4565 v4574) a + S8x128.size a ≤ S4096x8192.size a)
theorem k0_mult210_dvd : ∀ (v4565 : BitVec 32) (v4574 : BitVec 32) (k0_hw216 : k0_chk216 v4565 v4574), 128 ∣ (k0_mult210 v4574).toNat := fun v4565 v4574 k0_hw216 => k0_hw216.1
theorem k0_off199_inb : ∀ (v4565 : BitVec 32) (v4574 : BitVec 32) (k0_hw216 : k0_chk216 v4565 v4574), ∀ a, (k0_off199 v4565 v4574) a + S8x128.size a ≤ S4096x8192.size a := fun v4565 v4574 k0_hw216 => k0_hw216.2.1
theorem k0_off231_inb : ∀ (v4565 : BitVec 32) (v4574 : BitVec 32) (k0_hw216 : k0_chk216 v4565 v4574), ∀ a, (k0_off231 v4565 v4574) a + S8x128.size a ≤ S4096x8192.size a := fun v4565 v4574 k0_hw216 => k0_hw216.2.2

def k0_off232 (v4597 : BitVec 32) (v4606 : BitVec 32) : Fin 2 → Nat :=
  let v4598 : BitVec 32 := v4597
  let v4607 : BitVec 32 := v4606
  ![v4598.toNat, v4607.toNat]

def k0_chk218 (v4597 : BitVec 32) (v4606 : BitVec 32) : Prop :=
  (128 ∣ (k0_mult212 v4606).toNat) ∧
  (∀ a, (k0_off200 v4597 v4606) a + S8x128.size a ≤ S4096x8192.size a) ∧
  (∀ a, (k0_off232 v4597 v4606) a + S8x128.size a ≤ S4096x8192.size a)
theorem k0_mult212_dvd : ∀ (v4597 : BitVec 32) (v4606 : BitVec 32) (k0_hw218 : k0_chk218 v4597 v4606), 128 ∣ (k0_mult212 v4606).toNat := fun v4597 v4606 k0_hw218 => k0_hw218.1
theorem k0_off200_inb : ∀ (v4597 : BitVec 32) (v4606 : BitVec 32) (k0_hw218 : k0_chk218 v4597 v4606), ∀ a, (k0_off200 v4597 v4606) a + S8x128.size a ≤ S4096x8192.size a := fun v4597 v4606 k0_hw218 => k0_hw218.2.1
theorem k0_off232_inb : ∀ (v4597 : BitVec 32) (v4606 : BitVec 32) (k0_hw218 : k0_chk218 v4597 v4606), ∀ a, (k0_off232 v4597 v4606) a + S8x128.size a ≤ S4096x8192.size a := fun v4597 v4606 k0_hw218 => k0_hw218.2.2

def k0_off233 (v4629 : BitVec 32) (v4638 : BitVec 32) : Fin 2 → Nat :=
  let v4630 : BitVec 32 := v4629
  let v4639 : BitVec 32 := v4638
  ![v4630.toNat, v4639.toNat]

def k0_chk220 (v4629 : BitVec 32) (v4638 : BitVec 32) : Prop :=
  (128 ∣ (k0_mult214 v4638).toNat) ∧
  (∀ a, (k0_off201 v4629 v4638) a + S8x128.size a ≤ S4096x8192.size a) ∧
  (∀ a, (k0_off233 v4629 v4638) a + S8x128.size a ≤ S4096x8192.size a)
theorem k0_mult214_dvd : ∀ (v4629 : BitVec 32) (v4638 : BitVec 32) (k0_hw220 : k0_chk220 v4629 v4638), 128 ∣ (k0_mult214 v4638).toNat := fun v4629 v4638 k0_hw220 => k0_hw220.1
theorem k0_off201_inb : ∀ (v4629 : BitVec 32) (v4638 : BitVec 32) (k0_hw220 : k0_chk220 v4629 v4638), ∀ a, (k0_off201 v4629 v4638) a + S8x128.size a ≤ S4096x8192.size a := fun v4629 v4638 k0_hw220 => k0_hw220.2.1
theorem k0_off233_inb : ∀ (v4629 : BitVec 32) (v4638 : BitVec 32) (k0_hw220 : k0_chk220 v4629 v4638), ∀ a, (k0_off233 v4629 v4638) a + S8x128.size a ≤ S4096x8192.size a := fun v4629 v4638 k0_hw220 => k0_hw220.2.2

def k0_off234 (v4661 : BitVec 32) (v4670 : BitVec 32) : Fin 2 → Nat :=
  let v4662 : BitVec 32 := v4661
  let v4671 : BitVec 32 := v4670
  ![v4662.toNat, v4671.toNat]

def k0_chk222 (v4661 : BitVec 32) (v4670 : BitVec 32) : Prop :=
  (128 ∣ (k0_mult216 v4670).toNat) ∧
  (∀ a, (k0_off202 v4661 v4670) a + S8x128.size a ≤ S4096x8192.size a) ∧
  (∀ a, (k0_off234 v4661 v4670) a + S8x128.size a ≤ S4096x8192.size a)
theorem k0_mult216_dvd : ∀ (v4661 : BitVec 32) (v4670 : BitVec 32) (k0_hw222 : k0_chk222 v4661 v4670), 128 ∣ (k0_mult216 v4670).toNat := fun v4661 v4670 k0_hw222 => k0_hw222.1
theorem k0_off202_inb : ∀ (v4661 : BitVec 32) (v4670 : BitVec 32) (k0_hw222 : k0_chk222 v4661 v4670), ∀ a, (k0_off202 v4661 v4670) a + S8x128.size a ≤ S4096x8192.size a := fun v4661 v4670 k0_hw222 => k0_hw222.2.1
theorem k0_off234_inb : ∀ (v4661 : BitVec 32) (v4670 : BitVec 32) (k0_hw222 : k0_chk222 v4661 v4670), ∀ a, (k0_off234 v4661 v4670) a + S8x128.size a ≤ S4096x8192.size a := fun v4661 v4670 k0_hw222 => k0_hw222.2.2

def k0_off235 (v4693 : BitVec 32) (v4702 : BitVec 32) : Fin 2 → Nat :=
  let v4694 : BitVec 32 := v4693
  let v4703 : BitVec 32 := v4702
  ![v4694.toNat, v4703.toNat]

def k0_chk224 (v4693 : BitVec 32) (v4702 : BitVec 32) : Prop :=
  (128 ∣ (k0_mult218 v4702).toNat) ∧
  (∀ a, (k0_off203 v4693 v4702) a + S8x128.size a ≤ S4096x8192.size a) ∧
  (∀ a, (k0_off235 v4693 v4702) a + S8x128.size a ≤ S4096x8192.size a)
theorem k0_mult218_dvd : ∀ (v4693 : BitVec 32) (v4702 : BitVec 32) (k0_hw224 : k0_chk224 v4693 v4702), 128 ∣ (k0_mult218 v4702).toNat := fun v4693 v4702 k0_hw224 => k0_hw224.1
theorem k0_off203_inb : ∀ (v4693 : BitVec 32) (v4702 : BitVec 32) (k0_hw224 : k0_chk224 v4693 v4702), ∀ a, (k0_off203 v4693 v4702) a + S8x128.size a ≤ S4096x8192.size a := fun v4693 v4702 k0_hw224 => k0_hw224.2.1
theorem k0_off235_inb : ∀ (v4693 : BitVec 32) (v4702 : BitVec 32) (k0_hw224 : k0_chk224 v4693 v4702), ∀ a, (k0_off235 v4693 v4702) a + S8x128.size a ≤ S4096x8192.size a := fun v4693 v4702 k0_hw224 => k0_hw224.2.2

def k0_off236 (v4725 : BitVec 32) (v4734 : BitVec 32) : Fin 2 → Nat :=
  let v4726 : BitVec 32 := v4725
  let v4735 : BitVec 32 := v4734
  ![v4726.toNat, v4735.toNat]

def k0_chk226 (v4725 : BitVec 32) (v4734 : BitVec 32) : Prop :=
  (128 ∣ (k0_mult220 v4734).toNat) ∧
  (∀ a, (k0_off204 v4725 v4734) a + S8x128.size a ≤ S4096x8192.size a) ∧
  (∀ a, (k0_off236 v4725 v4734) a + S8x128.size a ≤ S4096x8192.size a)
theorem k0_mult220_dvd : ∀ (v4725 : BitVec 32) (v4734 : BitVec 32) (k0_hw226 : k0_chk226 v4725 v4734), 128 ∣ (k0_mult220 v4734).toNat := fun v4725 v4734 k0_hw226 => k0_hw226.1
theorem k0_off204_inb : ∀ (v4725 : BitVec 32) (v4734 : BitVec 32) (k0_hw226 : k0_chk226 v4725 v4734), ∀ a, (k0_off204 v4725 v4734) a + S8x128.size a ≤ S4096x8192.size a := fun v4725 v4734 k0_hw226 => k0_hw226.2.1
theorem k0_off236_inb : ∀ (v4725 : BitVec 32) (v4734 : BitVec 32) (k0_hw226 : k0_chk226 v4725 v4734), ∀ a, (k0_off236 v4725 v4734) a + S8x128.size a ≤ S4096x8192.size a := fun v4725 v4734 k0_hw226 => k0_hw226.2.2

def k0_off237 (v4757 : BitVec 32) (v4766 : BitVec 32) : Fin 2 → Nat :=
  let v4758 : BitVec 32 := v4757
  let v4767 : BitVec 32 := v4766
  ![v4758.toNat, v4767.toNat]

def k0_chk228 (v4757 : BitVec 32) (v4766 : BitVec 32) : Prop :=
  (128 ∣ (k0_mult222 v4766).toNat) ∧
  (∀ a, (k0_off205 v4757 v4766) a + S8x128.size a ≤ S4096x8192.size a) ∧
  (∀ a, (k0_off237 v4757 v4766) a + S8x128.size a ≤ S4096x8192.size a)
theorem k0_mult222_dvd : ∀ (v4757 : BitVec 32) (v4766 : BitVec 32) (k0_hw228 : k0_chk228 v4757 v4766), 128 ∣ (k0_mult222 v4766).toNat := fun v4757 v4766 k0_hw228 => k0_hw228.1
theorem k0_off205_inb : ∀ (v4757 : BitVec 32) (v4766 : BitVec 32) (k0_hw228 : k0_chk228 v4757 v4766), ∀ a, (k0_off205 v4757 v4766) a + S8x128.size a ≤ S4096x8192.size a := fun v4757 v4766 k0_hw228 => k0_hw228.2.1
theorem k0_off237_inb : ∀ (v4757 : BitVec 32) (v4766 : BitVec 32) (k0_hw228 : k0_chk228 v4757 v4766), ∀ a, (k0_off237 v4757 v4766) a + S8x128.size a ≤ S4096x8192.size a := fun v4757 v4766 k0_hw228 => k0_hw228.2.2

def k0_off238 (v4789 : BitVec 32) (v4798 : BitVec 32) : Fin 2 → Nat :=
  let v4790 : BitVec 32 := v4789
  let v4799 : BitVec 32 := v4798
  ![v4790.toNat, v4799.toNat]

def k0_chk230 (v4789 : BitVec 32) (v4798 : BitVec 32) : Prop :=
  (128 ∣ (k0_mult224 v4798).toNat) ∧
  (∀ a, (k0_off206 v4789 v4798) a + S8x128.size a ≤ S4096x8192.size a) ∧
  (∀ a, (k0_off238 v4789 v4798) a + S8x128.size a ≤ S4096x8192.size a)
theorem k0_mult224_dvd : ∀ (v4789 : BitVec 32) (v4798 : BitVec 32) (k0_hw230 : k0_chk230 v4789 v4798), 128 ∣ (k0_mult224 v4798).toNat := fun v4789 v4798 k0_hw230 => k0_hw230.1
theorem k0_off206_inb : ∀ (v4789 : BitVec 32) (v4798 : BitVec 32) (k0_hw230 : k0_chk230 v4789 v4798), ∀ a, (k0_off206 v4789 v4798) a + S8x128.size a ≤ S4096x8192.size a := fun v4789 v4798 k0_hw230 => k0_hw230.2.1
theorem k0_off238_inb : ∀ (v4789 : BitVec 32) (v4798 : BitVec 32) (k0_hw230 : k0_chk230 v4789 v4798), ∀ a, (k0_off238 v4789 v4798) a + S8x128.size a ≤ S4096x8192.size a := fun v4789 v4798 k0_hw230 => k0_hw230.2.2

def k0_off239 (v4821 : BitVec 32) (v4830 : BitVec 32) : Fin 2 → Nat :=
  let v4822 : BitVec 32 := v4821
  let v4831 : BitVec 32 := v4830
  ![v4822.toNat, v4831.toNat]

def k0_chk232 (v4821 : BitVec 32) (v4830 : BitVec 32) : Prop :=
  (128 ∣ (k0_mult226 v4830).toNat) ∧
  (∀ a, (k0_off207 v4821 v4830) a + S8x128.size a ≤ S4096x8192.size a) ∧
  (∀ a, (k0_off239 v4821 v4830) a + S8x128.size a ≤ S4096x8192.size a)
theorem k0_mult226_dvd : ∀ (v4821 : BitVec 32) (v4830 : BitVec 32) (k0_hw232 : k0_chk232 v4821 v4830), 128 ∣ (k0_mult226 v4830).toNat := fun v4821 v4830 k0_hw232 => k0_hw232.1
theorem k0_off207_inb : ∀ (v4821 : BitVec 32) (v4830 : BitVec 32) (k0_hw232 : k0_chk232 v4821 v4830), ∀ a, (k0_off207 v4821 v4830) a + S8x128.size a ≤ S4096x8192.size a := fun v4821 v4830 k0_hw232 => k0_hw232.2.1
theorem k0_off239_inb : ∀ (v4821 : BitVec 32) (v4830 : BitVec 32) (k0_hw232 : k0_chk232 v4821 v4830), ∀ a, (k0_off239 v4821 v4830) a + S8x128.size a ≤ S4096x8192.size a := fun v4821 v4830 k0_hw232 => k0_hw232.2.2

def k0_off240 (v4853 : BitVec 32) (v4862 : BitVec 32) : Fin 2 → Nat :=
  let v4854 : BitVec 32 := v4853
  let v4863 : BitVec 32 := v4862
  ![v4854.toNat, v4863.toNat]

def k0_chk234 (v4853 : BitVec 32) (v4862 : BitVec 32) : Prop :=
  (128 ∣ (k0_mult228 v4862).toNat) ∧
  (∀ a, (k0_off208 v4853 v4862) a + S8x128.size a ≤ S4096x8192.size a) ∧
  (∀ a, (k0_off240 v4853 v4862) a + S8x128.size a ≤ S4096x8192.size a)
theorem k0_mult228_dvd : ∀ (v4853 : BitVec 32) (v4862 : BitVec 32) (k0_hw234 : k0_chk234 v4853 v4862), 128 ∣ (k0_mult228 v4862).toNat := fun v4853 v4862 k0_hw234 => k0_hw234.1
theorem k0_off208_inb : ∀ (v4853 : BitVec 32) (v4862 : BitVec 32) (k0_hw234 : k0_chk234 v4853 v4862), ∀ a, (k0_off208 v4853 v4862) a + S8x128.size a ≤ S4096x8192.size a := fun v4853 v4862 k0_hw234 => k0_hw234.2.1
theorem k0_off240_inb : ∀ (v4853 : BitVec 32) (v4862 : BitVec 32) (k0_hw234 : k0_chk234 v4853 v4862), ∀ a, (k0_off240 v4853 v4862) a + S8x128.size a ≤ S4096x8192.size a := fun v4853 v4862 k0_hw234 => k0_hw234.2.2

def k0_off241 (v4885 : BitVec 32) (v4894 : BitVec 32) : Fin 2 → Nat :=
  let v4886 : BitVec 32 := v4885
  let v4895 : BitVec 32 := v4894
  ![v4886.toNat, v4895.toNat]

def k0_chk236 (v4885 : BitVec 32) (v4894 : BitVec 32) : Prop :=
  (128 ∣ (k0_mult230 v4894).toNat) ∧
  (∀ a, (k0_off209 v4885 v4894) a + S8x128.size a ≤ S4096x8192.size a) ∧
  (∀ a, (k0_off241 v4885 v4894) a + S8x128.size a ≤ S4096x8192.size a)
theorem k0_mult230_dvd : ∀ (v4885 : BitVec 32) (v4894 : BitVec 32) (k0_hw236 : k0_chk236 v4885 v4894), 128 ∣ (k0_mult230 v4894).toNat := fun v4885 v4894 k0_hw236 => k0_hw236.1
theorem k0_off209_inb : ∀ (v4885 : BitVec 32) (v4894 : BitVec 32) (k0_hw236 : k0_chk236 v4885 v4894), ∀ a, (k0_off209 v4885 v4894) a + S8x128.size a ≤ S4096x8192.size a := fun v4885 v4894 k0_hw236 => k0_hw236.2.1
theorem k0_off241_inb : ∀ (v4885 : BitVec 32) (v4894 : BitVec 32) (k0_hw236 : k0_chk236 v4885 v4894), ∀ a, (k0_off241 v4885 v4894) a + S8x128.size a ≤ S4096x8192.size a := fun v4885 v4894 k0_hw236 => k0_hw236.2.2

def k0_off242 (v4917 : BitVec 32) (v4926 : BitVec 32) : Fin 2 → Nat :=
  let v4918 : BitVec 32 := v4917
  let v4927 : BitVec 32 := v4926
  ![v4918.toNat, v4927.toNat]

def k0_chk238 (v4917 : BitVec 32) (v4926 : BitVec 32) : Prop :=
  (128 ∣ (k0_mult232 v4926).toNat) ∧
  (∀ a, (k0_off210 v4917 v4926) a + S8x128.size a ≤ S4096x8192.size a) ∧
  (∀ a, (k0_off242 v4917 v4926) a + S8x128.size a ≤ S4096x8192.size a)
theorem k0_mult232_dvd : ∀ (v4917 : BitVec 32) (v4926 : BitVec 32) (k0_hw238 : k0_chk238 v4917 v4926), 128 ∣ (k0_mult232 v4926).toNat := fun v4917 v4926 k0_hw238 => k0_hw238.1
theorem k0_off210_inb : ∀ (v4917 : BitVec 32) (v4926 : BitVec 32) (k0_hw238 : k0_chk238 v4917 v4926), ∀ a, (k0_off210 v4917 v4926) a + S8x128.size a ≤ S4096x8192.size a := fun v4917 v4926 k0_hw238 => k0_hw238.2.1
theorem k0_off242_inb : ∀ (v4917 : BitVec 32) (v4926 : BitVec 32) (k0_hw238 : k0_chk238 v4917 v4926), ∀ a, (k0_off242 v4917 v4926) a + S8x128.size a ≤ S4096x8192.size a := fun v4917 v4926 k0_hw238 => k0_hw238.2.2

def k0_off243 (v4949 : BitVec 32) (v4958 : BitVec 32) : Fin 2 → Nat :=
  let v4950 : BitVec 32 := v4949
  let v4959 : BitVec 32 := v4958
  ![v4950.toNat, v4959.toNat]

def k0_chk240 (v4949 : BitVec 32) (v4958 : BitVec 32) : Prop :=
  (128 ∣ (k0_mult234 v4958).toNat) ∧
  (∀ a, (k0_off211 v4949 v4958) a + S8x128.size a ≤ S4096x8192.size a) ∧
  (∀ a, (k0_off243 v4949 v4958) a + S8x128.size a ≤ S4096x8192.size a)
theorem k0_mult234_dvd : ∀ (v4949 : BitVec 32) (v4958 : BitVec 32) (k0_hw240 : k0_chk240 v4949 v4958), 128 ∣ (k0_mult234 v4958).toNat := fun v4949 v4958 k0_hw240 => k0_hw240.1
theorem k0_off211_inb : ∀ (v4949 : BitVec 32) (v4958 : BitVec 32) (k0_hw240 : k0_chk240 v4949 v4958), ∀ a, (k0_off211 v4949 v4958) a + S8x128.size a ≤ S4096x8192.size a := fun v4949 v4958 k0_hw240 => k0_hw240.2.1
theorem k0_off243_inb : ∀ (v4949 : BitVec 32) (v4958 : BitVec 32) (k0_hw240 : k0_chk240 v4949 v4958), ∀ a, (k0_off243 v4949 v4958) a + S8x128.size a ≤ S4096x8192.size a := fun v4949 v4958 k0_hw240 => k0_hw240.2.2

def k0_off244 (v4981 : BitVec 32) (v4990 : BitVec 32) : Fin 2 → Nat :=
  let v4982 : BitVec 32 := v4981
  let v4991 : BitVec 32 := v4990
  ![v4982.toNat, v4991.toNat]

def k0_chk242 (v4981 : BitVec 32) (v4990 : BitVec 32) : Prop :=
  (128 ∣ (k0_mult236 v4990).toNat) ∧
  (∀ a, (k0_off212 v4981 v4990) a + S8x128.size a ≤ S4096x8192.size a) ∧
  (∀ a, (k0_off244 v4981 v4990) a + S8x128.size a ≤ S4096x8192.size a)
theorem k0_mult236_dvd : ∀ (v4981 : BitVec 32) (v4990 : BitVec 32) (k0_hw242 : k0_chk242 v4981 v4990), 128 ∣ (k0_mult236 v4990).toNat := fun v4981 v4990 k0_hw242 => k0_hw242.1
theorem k0_off212_inb : ∀ (v4981 : BitVec 32) (v4990 : BitVec 32) (k0_hw242 : k0_chk242 v4981 v4990), ∀ a, (k0_off212 v4981 v4990) a + S8x128.size a ≤ S4096x8192.size a := fun v4981 v4990 k0_hw242 => k0_hw242.2.1
theorem k0_off244_inb : ∀ (v4981 : BitVec 32) (v4990 : BitVec 32) (k0_hw242 : k0_chk242 v4981 v4990), ∀ a, (k0_off244 v4981 v4990) a + S8x128.size a ≤ S4096x8192.size a := fun v4981 v4990 k0_hw242 => k0_hw242.2.2

def k0_off245 (v5013 : BitVec 32) (v5022 : BitVec 32) : Fin 2 → Nat :=
  let v5014 : BitVec 32 := v5013
  let v5023 : BitVec 32 := v5022
  ![v5014.toNat, v5023.toNat]

def k0_chk244 (v5013 : BitVec 32) (v5022 : BitVec 32) : Prop :=
  (128 ∣ (k0_mult238 v5022).toNat) ∧
  (∀ a, (k0_off213 v5013 v5022) a + S8x128.size a ≤ S4096x8192.size a) ∧
  (∀ a, (k0_off245 v5013 v5022) a + S8x128.size a ≤ S4096x8192.size a)
theorem k0_mult238_dvd : ∀ (v5013 : BitVec 32) (v5022 : BitVec 32) (k0_hw244 : k0_chk244 v5013 v5022), 128 ∣ (k0_mult238 v5022).toNat := fun v5013 v5022 k0_hw244 => k0_hw244.1
theorem k0_off213_inb : ∀ (v5013 : BitVec 32) (v5022 : BitVec 32) (k0_hw244 : k0_chk244 v5013 v5022), ∀ a, (k0_off213 v5013 v5022) a + S8x128.size a ≤ S4096x8192.size a := fun v5013 v5022 k0_hw244 => k0_hw244.2.1
theorem k0_off245_inb : ∀ (v5013 : BitVec 32) (v5022 : BitVec 32) (k0_hw244 : k0_chk244 v5013 v5022), ∀ a, (k0_off245 v5013 v5022) a + S8x128.size a ≤ S4096x8192.size a := fun v5013 v5022 k0_hw244 => k0_hw244.2.2

def k0_off246 (v5045 : BitVec 32) (v5054 : BitVec 32) : Fin 2 → Nat :=
  let v5046 : BitVec 32 := v5045
  let v5055 : BitVec 32 := v5054
  ![v5046.toNat, v5055.toNat]

def k0_chk246 (v5045 : BitVec 32) (v5054 : BitVec 32) : Prop :=
  (128 ∣ (k0_mult240 v5054).toNat) ∧
  (∀ a, (k0_off214 v5045 v5054) a + S8x128.size a ≤ S4096x8192.size a) ∧
  (∀ a, (k0_off246 v5045 v5054) a + S8x128.size a ≤ S4096x8192.size a)
theorem k0_mult240_dvd : ∀ (v5045 : BitVec 32) (v5054 : BitVec 32) (k0_hw246 : k0_chk246 v5045 v5054), 128 ∣ (k0_mult240 v5054).toNat := fun v5045 v5054 k0_hw246 => k0_hw246.1
theorem k0_off214_inb : ∀ (v5045 : BitVec 32) (v5054 : BitVec 32) (k0_hw246 : k0_chk246 v5045 v5054), ∀ a, (k0_off214 v5045 v5054) a + S8x128.size a ≤ S4096x8192.size a := fun v5045 v5054 k0_hw246 => k0_hw246.2.1
theorem k0_off246_inb : ∀ (v5045 : BitVec 32) (v5054 : BitVec 32) (k0_hw246 : k0_chk246 v5045 v5054), ∀ a, (k0_off246 v5045 v5054) a + S8x128.size a ≤ S4096x8192.size a := fun v5045 v5054 k0_hw246 => k0_hw246.2.2

def k0_off247 (v5077 : BitVec 32) (v5086 : BitVec 32) : Fin 2 → Nat :=
  let v5078 : BitVec 32 := v5077
  let v5087 : BitVec 32 := v5086
  ![v5078.toNat, v5087.toNat]

def k0_chk248 (v5077 : BitVec 32) (v5086 : BitVec 32) : Prop :=
  (128 ∣ (k0_mult242 v5086).toNat) ∧
  (∀ a, (k0_off215 v5077 v5086) a + S8x128.size a ≤ S4096x8192.size a) ∧
  (∀ a, (k0_off247 v5077 v5086) a + S8x128.size a ≤ S4096x8192.size a)
theorem k0_mult242_dvd : ∀ (v5077 : BitVec 32) (v5086 : BitVec 32) (k0_hw248 : k0_chk248 v5077 v5086), 128 ∣ (k0_mult242 v5086).toNat := fun v5077 v5086 k0_hw248 => k0_hw248.1
theorem k0_off215_inb : ∀ (v5077 : BitVec 32) (v5086 : BitVec 32) (k0_hw248 : k0_chk248 v5077 v5086), ∀ a, (k0_off215 v5077 v5086) a + S8x128.size a ≤ S4096x8192.size a := fun v5077 v5086 k0_hw248 => k0_hw248.2.1
theorem k0_off247_inb : ∀ (v5077 : BitVec 32) (v5086 : BitVec 32) (k0_hw248 : k0_chk248 v5077 v5086), ∀ a, (k0_off247 v5077 v5086) a + S8x128.size a ≤ S4096x8192.size a := fun v5077 v5086 k0_hw248 => k0_hw248.2.2

def k0_off248 (v5109 : BitVec 32) (v5118 : BitVec 32) : Fin 2 → Nat :=
  let v5110 : BitVec 32 := v5109
  let v5119 : BitVec 32 := v5118
  ![v5110.toNat, v5119.toNat]

def k0_chk250 (v5109 : BitVec 32) (v5118 : BitVec 32) : Prop :=
  (128 ∣ (k0_mult244 v5118).toNat) ∧
  (∀ a, (k0_off216 v5109 v5118) a + S8x128.size a ≤ S4096x8192.size a) ∧
  (∀ a, (k0_off248 v5109 v5118) a + S8x128.size a ≤ S4096x8192.size a)
theorem k0_mult244_dvd : ∀ (v5109 : BitVec 32) (v5118 : BitVec 32) (k0_hw250 : k0_chk250 v5109 v5118), 128 ∣ (k0_mult244 v5118).toNat := fun v5109 v5118 k0_hw250 => k0_hw250.1
theorem k0_off216_inb : ∀ (v5109 : BitVec 32) (v5118 : BitVec 32) (k0_hw250 : k0_chk250 v5109 v5118), ∀ a, (k0_off216 v5109 v5118) a + S8x128.size a ≤ S4096x8192.size a := fun v5109 v5118 k0_hw250 => k0_hw250.2.1
theorem k0_off248_inb : ∀ (v5109 : BitVec 32) (v5118 : BitVec 32) (k0_hw250 : k0_chk250 v5109 v5118), ∀ a, (k0_off248 v5109 v5118) a + S8x128.size a ≤ S4096x8192.size a := fun v5109 v5118 k0_hw250 => k0_hw250.2.2

def k0_off249 (v5141 : BitVec 32) (v5150 : BitVec 32) : Fin 2 → Nat :=
  let v5142 : BitVec 32 := v5141
  let v5151 : BitVec 32 := v5150
  ![v5142.toNat, v5151.toNat]

def k0_chk252 (v5141 : BitVec 32) (v5150 : BitVec 32) : Prop :=
  (128 ∣ (k0_mult246 v5150).toNat) ∧
  (∀ a, (k0_off217 v5141 v5150) a + S8x128.size a ≤ S4096x8192.size a) ∧
  (∀ a, (k0_off249 v5141 v5150) a + S8x128.size a ≤ S4096x8192.size a)
theorem k0_mult246_dvd : ∀ (v5141 : BitVec 32) (v5150 : BitVec 32) (k0_hw252 : k0_chk252 v5141 v5150), 128 ∣ (k0_mult246 v5150).toNat := fun v5141 v5150 k0_hw252 => k0_hw252.1
theorem k0_off217_inb : ∀ (v5141 : BitVec 32) (v5150 : BitVec 32) (k0_hw252 : k0_chk252 v5141 v5150), ∀ a, (k0_off217 v5141 v5150) a + S8x128.size a ≤ S4096x8192.size a := fun v5141 v5150 k0_hw252 => k0_hw252.2.1
theorem k0_off249_inb : ∀ (v5141 : BitVec 32) (v5150 : BitVec 32) (k0_hw252 : k0_chk252 v5141 v5150), ∀ a, (k0_off249 v5141 v5150) a + S8x128.size a ≤ S4096x8192.size a := fun v5141 v5150 k0_hw252 => k0_hw252.2.2

def k0_off250 (v5173 : BitVec 32) (v5182 : BitVec 32) : Fin 2 → Nat :=
  let v5174 : BitVec 32 := v5173
  let v5183 : BitVec 32 := v5182
  ![v5174.toNat, v5183.toNat]

def k0_chk254 (v5173 : BitVec 32) (v5182 : BitVec 32) : Prop :=
  (128 ∣ (k0_mult248 v5182).toNat) ∧
  (∀ a, (k0_off218 v5173 v5182) a + S8x128.size a ≤ S4096x8192.size a) ∧
  (∀ a, (k0_off250 v5173 v5182) a + S8x128.size a ≤ S4096x8192.size a)
theorem k0_mult248_dvd : ∀ (v5173 : BitVec 32) (v5182 : BitVec 32) (k0_hw254 : k0_chk254 v5173 v5182), 128 ∣ (k0_mult248 v5182).toNat := fun v5173 v5182 k0_hw254 => k0_hw254.1
theorem k0_off218_inb : ∀ (v5173 : BitVec 32) (v5182 : BitVec 32) (k0_hw254 : k0_chk254 v5173 v5182), ∀ a, (k0_off218 v5173 v5182) a + S8x128.size a ≤ S4096x8192.size a := fun v5173 v5182 k0_hw254 => k0_hw254.2.1
theorem k0_off250_inb : ∀ (v5173 : BitVec 32) (v5182 : BitVec 32) (k0_hw254 : k0_chk254 v5173 v5182), ∀ a, (k0_off250 v5173 v5182) a + S8x128.size a ≤ S4096x8192.size a := fun v5173 v5182 k0_hw254 => k0_hw254.2.2

def k0_off251 (v5205 : BitVec 32) (v5214 : BitVec 32) : Fin 2 → Nat :=
  let v5206 : BitVec 32 := v5205
  let v5215 : BitVec 32 := v5214
  ![v5206.toNat, v5215.toNat]

def k0_chk256 (v5205 : BitVec 32) (v5214 : BitVec 32) : Prop :=
  (128 ∣ (k0_mult250 v5214).toNat) ∧
  (∀ a, (k0_off219 v5205 v5214) a + S8x128.size a ≤ S4096x8192.size a) ∧
  (∀ a, (k0_off251 v5205 v5214) a + S8x128.size a ≤ S4096x8192.size a)
theorem k0_mult250_dvd : ∀ (v5205 : BitVec 32) (v5214 : BitVec 32) (k0_hw256 : k0_chk256 v5205 v5214), 128 ∣ (k0_mult250 v5214).toNat := fun v5205 v5214 k0_hw256 => k0_hw256.1
theorem k0_off219_inb : ∀ (v5205 : BitVec 32) (v5214 : BitVec 32) (k0_hw256 : k0_chk256 v5205 v5214), ∀ a, (k0_off219 v5205 v5214) a + S8x128.size a ≤ S4096x8192.size a := fun v5205 v5214 k0_hw256 => k0_hw256.2.1
theorem k0_off251_inb : ∀ (v5205 : BitVec 32) (v5214 : BitVec 32) (k0_hw256 : k0_chk256 v5205 v5214), ∀ a, (k0_off251 v5205 v5214) a + S8x128.size a ≤ S4096x8192.size a := fun v5205 v5214 k0_hw256 => k0_hw256.2.2

def k0_off252 (v5237 : BitVec 32) (v5246 : BitVec 32) : Fin 2 → Nat :=
  let v5238 : BitVec 32 := v5237
  let v5247 : BitVec 32 := v5246
  ![v5238.toNat, v5247.toNat]

def k0_chk258 (v5237 : BitVec 32) (v5246 : BitVec 32) : Prop :=
  (128 ∣ (k0_mult252 v5246).toNat) ∧
  (∀ a, (k0_off220 v5237 v5246) a + S8x128.size a ≤ S4096x8192.size a) ∧
  (∀ a, (k0_off252 v5237 v5246) a + S8x128.size a ≤ S4096x8192.size a)
theorem k0_mult252_dvd : ∀ (v5237 : BitVec 32) (v5246 : BitVec 32) (k0_hw258 : k0_chk258 v5237 v5246), 128 ∣ (k0_mult252 v5246).toNat := fun v5237 v5246 k0_hw258 => k0_hw258.1
theorem k0_off220_inb : ∀ (v5237 : BitVec 32) (v5246 : BitVec 32) (k0_hw258 : k0_chk258 v5237 v5246), ∀ a, (k0_off220 v5237 v5246) a + S8x128.size a ≤ S4096x8192.size a := fun v5237 v5246 k0_hw258 => k0_hw258.2.1
theorem k0_off252_inb : ∀ (v5237 : BitVec 32) (v5246 : BitVec 32) (k0_hw258 : k0_chk258 v5237 v5246), ∀ a, (k0_off252 v5237 v5246) a + S8x128.size a ≤ S4096x8192.size a := fun v5237 v5246 k0_hw258 => k0_hw258.2.2

def k0_off253 (v5269 : BitVec 32) (v5278 : BitVec 32) : Fin 2 → Nat :=
  let v5270 : BitVec 32 := v5269
  let v5279 : BitVec 32 := v5278
  ![v5270.toNat, v5279.toNat]

def k0_chk260 (v5269 : BitVec 32) (v5278 : BitVec 32) : Prop :=
  (128 ∣ (k0_mult254 v5278).toNat) ∧
  (∀ a, (k0_off221 v5269 v5278) a + S8x128.size a ≤ S4096x8192.size a) ∧
  (∀ a, (k0_off253 v5269 v5278) a + S8x128.size a ≤ S4096x8192.size a)
theorem k0_mult254_dvd : ∀ (v5269 : BitVec 32) (v5278 : BitVec 32) (k0_hw260 : k0_chk260 v5269 v5278), 128 ∣ (k0_mult254 v5278).toNat := fun v5269 v5278 k0_hw260 => k0_hw260.1
theorem k0_off221_inb : ∀ (v5269 : BitVec 32) (v5278 : BitVec 32) (k0_hw260 : k0_chk260 v5269 v5278), ∀ a, (k0_off221 v5269 v5278) a + S8x128.size a ≤ S4096x8192.size a := fun v5269 v5278 k0_hw260 => k0_hw260.2.1
theorem k0_off253_inb : ∀ (v5269 : BitVec 32) (v5278 : BitVec 32) (k0_hw260 : k0_chk260 v5269 v5278), ∀ a, (k0_off253 v5269 v5278) a + S8x128.size a ≤ S4096x8192.size a := fun v5269 v5278 k0_hw260 => k0_hw260.2.2

def k0_chk263 (v5709 : IVec S16 32) (v5712 : IVec S16 32) (v5715 : IVec S16 32) : Prop :=
  (∀ a x, ((![v5709, v5712, v5715] : Fin 3 → IVec S16 32) a x).toNat < S32x8x128.size a) ∧
  (∀ a x, ((![v5709, v5712, v5715] : Fin 3 → IVec S16 32) a x).toNat < S32x8x128.size a)
theorem k0_idx13_inb : ∀ (v5709 : IVec S16 32) (v5712 : IVec S16 32) (v5715 : IVec S16 32) (k0_hw263 : k0_chk263 v5709 v5712 v5715), ∀ a x, ((![v5709, v5712, v5715] : Fin 3 → IVec S16 32) a x).toNat < S32x8x128.size a := fun v5709 v5712 v5715 k0_hw263 => k0_hw263.1
theorem k0_idx14_inb : ∀ (v5709 : IVec S16 32) (v5712 : IVec S16 32) (v5715 : IVec S16 32) (k0_hw263 : k0_chk263 v5709 v5712 v5715), ∀ a x, ((![v5709, v5712, v5715] : Fin 3 → IVec S16 32) a x).toNat < S32x8x128.size a := fun v5709 v5712 v5715 k0_hw263 => k0_hw263.2

def k0_chk264 (v5721 : IVec S16 32) (v5724 : IVec S16 32) (v5727 : IVec S16 32) : Prop :=
  (∀ a x, ((![v5721, v5724, v5727] : Fin 3 → IVec S16 32) a x).toNat < S32x8x128.size a) ∧
  (∀ a x, ((![v5721, v5724, v5727] : Fin 3 → IVec S16 32) a x).toNat < S32x8x128.size a)
theorem k0_idx15_inb : ∀ (v5721 : IVec S16 32) (v5724 : IVec S16 32) (v5727 : IVec S16 32) (k0_hw264 : k0_chk264 v5721 v5724 v5727), ∀ a x, ((![v5721, v5724, v5727] : Fin 3 → IVec S16 32) a x).toNat < S32x8x128.size a := fun v5721 v5724 v5727 k0_hw264 => k0_hw264.1
theorem k0_idx16_inb : ∀ (v5721 : IVec S16 32) (v5724 : IVec S16 32) (v5727 : IVec S16 32) (k0_hw264 : k0_chk264 v5721 v5724 v5727), ∀ a x, ((![v5721, v5724, v5727] : Fin 3 → IVec S16 32) a x).toNat < S32x8x128.size a := fun v5721 v5724 v5727 k0_hw264 => k0_hw264.2
def k0_off254 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev grid1 : Pipeline.Grid := ⟨2, ![2, 16], ![false, false]⟩

@[reducible] def k1_t1_loop : Scf.Loop 32 :=
  let c0_i32_0 : BitVec 32 := 0#32
  let c2_i32_1 : BitVec 32 := 2#32
  let v4 : BitVec 32 := Scalar.addi c0_i32_0 c2_i32_1
  let c1_i32 : BitVec 32 := 1#32
  ⟨c0_i32_0, v4, c1_i32⟩
@[reducible] def k1_t2_loop : Scf.Loop 32 :=
  let c0_i32_91 : BitVec 32 := 0#32
  let c64_i32_92 : BitVec 32 := 64#32
  let v80 : BitVec 32 := Scalar.addi c0_i32_91 c64_i32_92
  let c1_i32_93 : BitVec 32 := 1#32
  ⟨c0_i32_91, v80, c1_i32_93⟩
def k1_off1 (k1_t2 : Fin k1_t2_loop.trips) (c0_i32_216 : BitVec 32) : Fin 3 → Nat :=
  let c0_i32_258 : BitVec 32 := 0#32
  let v342 : Index := Scalar.indexCast c0_i32_258
  let c0_i32_259 : BitVec 32 := 0#32
  let v343 : Index := Scalar.indexCast c0_i32_259
  let c0_i32_91 : BitVec 32 := 0#32
  let c1_i32_93 : BitVec 32 := 1#32
  let arg6 : BitVec 32 := Scf.iv c0_i32_91 c1_i32_93 k1_t2
  let c64_i32_215 : BitVec 32 := 64#32
  let v172 : BitVec 32 := Scalar.muli arg6 c64_i32_215
  let v173 : BitVec 32 := Scalar.addi v172 c0_i32_216
  let v344 : Index := Scalar.indexCast v173
  ![0, 0, v344.toNat]
@[reducible] def k1_t3_loop : Scf.Loop 32 :=
  let c0_i32_98 : BitVec 32 := 0#32
  let c64_i32_99 : BitVec 32 := 64#32
  let v85 : BitVec 32 := Scalar.addi c0_i32_98 c64_i32_99
  let c1_i32_100 : BitVec 32 := 1#32
  ⟨c0_i32_98, v85, c1_i32_100⟩
def k1_off2 (k1_t3 : Fin k1_t3_loop.trips) (c0_i32_216 : BitVec 32) : Fin 3 → Nat :=
  let c0_i32_258 : BitVec 32 := 0#32
  let v342 : Index := Scalar.indexCast c0_i32_258
  let c1_i32_259 : BitVec 32 := 1#32
  let v343 : Index := Scalar.indexCast c1_i32_259
  let c0_i32_98 : BitVec 32 := 0#32
  let c1_i32_100 : BitVec 32 := 1#32
  let arg6 : BitVec 32 := Scf.iv c0_i32_98 c1_i32_100 k1_t3
  let c64_i32_215 : BitVec 32 := 64#32
  let v172 : BitVec 32 := Scalar.muli arg6 c64_i32_215
  let v173 : BitVec 32 := Scalar.addi v172 c0_i32_216
  let v344 : Index := Scalar.indexCast v173
  ![0, 1, v344.toNat]
@[reducible] def k1_t4_loop : Scf.Loop 32 :=
  let c0_i32_105 : BitVec 32 := 0#32
  let c64_i32_106 : BitVec 32 := 64#32
  let v90 : BitVec 32 := Scalar.addi c0_i32_105 c64_i32_106
  let c1_i32_107 : BitVec 32 := 1#32
  ⟨c0_i32_105, v90, c1_i32_107⟩
def k1_off3 (k1_t4 : Fin k1_t4_loop.trips) (c0_i32_216 : BitVec 32) : Fin 3 → Nat :=
  let c0_i32_258 : BitVec 32 := 0#32
  let v342 : Index := Scalar.indexCast c0_i32_258
  let c2_i32_259 : BitVec 32 := 2#32
  let v343 : Index := Scalar.indexCast c2_i32_259
  let c0_i32_105 : BitVec 32 := 0#32
  let c1_i32_107 : BitVec 32 := 1#32
  let arg6 : BitVec 32 := Scf.iv c0_i32_105 c1_i32_107 k1_t4
  let c64_i32_215 : BitVec 32 := 64#32
  let v172 : BitVec 32 := Scalar.muli arg6 c64_i32_215
  let v173 : BitVec 32 := Scalar.addi v172 c0_i32_216
  let v344 : Index := Scalar.indexCast v173
  ![0, 2, v344.toNat]
@[reducible] def k1_t5_loop : Scf.Loop 32 :=
  let c0_i32_112 : BitVec 32 := 0#32
  let c64_i32_113 : BitVec 32 := 64#32
  let v95 : BitVec 32 := Scalar.addi c0_i32_112 c64_i32_113
  let c1_i32_114 : BitVec 32 := 1#32
  ⟨c0_i32_112, v95, c1_i32_114⟩
def k1_off4 (k1_t5 : Fin k1_t5_loop.trips) (c0_i32_216 : BitVec 32) : Fin 3 → Nat :=
  let c0_i32_258 : BitVec 32 := 0#32
  let v342 : Index := Scalar.indexCast c0_i32_258
  let c3_i32_259 : BitVec 32 := 3#32
  let v343 : Index := Scalar.indexCast c3_i32_259
  let c0_i32_112 : BitVec 32 := 0#32
  let c1_i32_114 : BitVec 32 := 1#32
  let arg6 : BitVec 32 := Scf.iv c0_i32_112 c1_i32_114 k1_t5
  let c64_i32_215 : BitVec 32 := 64#32
  let v172 : BitVec 32 := Scalar.muli arg6 c64_i32_215
  let v173 : BitVec 32 := Scalar.addi v172 c0_i32_216
  let v344 : Index := Scalar.indexCast v173
  ![0, 3, v344.toNat]
@[reducible] def k1_t6_loop : Scf.Loop 32 :=
  let c0_i32_119 : BitVec 32 := 0#32
  let c64_i32_120 : BitVec 32 := 64#32
  let v100 : BitVec 32 := Scalar.addi c0_i32_119 c64_i32_120
  let c1_i32_121 : BitVec 32 := 1#32
  ⟨c0_i32_119, v100, c1_i32_121⟩
def k1_off5 (k1_t6 : Fin k1_t6_loop.trips) (c0_i32_216 : BitVec 32) : Fin 3 → Nat :=
  let c0_i32_258 : BitVec 32 := 0#32
  let v342 : Index := Scalar.indexCast c0_i32_258
  let c4_i32_259 : BitVec 32 := 4#32
  let v343 : Index := Scalar.indexCast c4_i32_259
  let c0_i32_119 : BitVec 32 := 0#32
  let c1_i32_121 : BitVec 32 := 1#32
  let arg6 : BitVec 32 := Scf.iv c0_i32_119 c1_i32_121 k1_t6
  let c64_i32_215 : BitVec 32 := 64#32
  let v172 : BitVec 32 := Scalar.muli arg6 c64_i32_215
  let v173 : BitVec 32 := Scalar.addi v172 c0_i32_216
  let v344 : Index := Scalar.indexCast v173
  ![0, 4, v344.toNat]
@[reducible] def k1_t7_loop : Scf.Loop 32 :=
  let c0_i32_126 : BitVec 32 := 0#32
  let c64_i32_127 : BitVec 32 := 64#32
  let v105 : BitVec 32 := Scalar.addi c0_i32_126 c64_i32_127
  let c1_i32_128 : BitVec 32 := 1#32
  ⟨c0_i32_126, v105, c1_i32_128⟩
def k1_off6 (k1_t7 : Fin k1_t7_loop.trips) (c0_i32_216 : BitVec 32) : Fin 3 → Nat :=
  let c0_i32_258 : BitVec 32 := 0#32
  let v342 : Index := Scalar.indexCast c0_i32_258
  let c5_i32_259 : BitVec 32 := 5#32
  let v343 : Index := Scalar.indexCast c5_i32_259
  let c0_i32_126 : BitVec 32 := 0#32
  let c1_i32_128 : BitVec 32 := 1#32
  let arg6 : BitVec 32 := Scf.iv c0_i32_126 c1_i32_128 k1_t7
  let c64_i32_215 : BitVec 32 := 64#32
  let v172 : BitVec 32 := Scalar.muli arg6 c64_i32_215
  let v173 : BitVec 32 := Scalar.addi v172 c0_i32_216
  let v344 : Index := Scalar.indexCast v173
  ![0, 5, v344.toNat]
@[reducible] def k1_t8_loop : Scf.Loop 32 :=
  let c0_i32_133 : BitVec 32 := 0#32
  let c64_i32_134 : BitVec 32 := 64#32
  let v110 : BitVec 32 := Scalar.addi c0_i32_133 c64_i32_134
  let c1_i32_135 : BitVec 32 := 1#32
  ⟨c0_i32_133, v110, c1_i32_135⟩
def k1_off7 (k1_t8 : Fin k1_t8_loop.trips) (c0_i32_216 : BitVec 32) : Fin 3 → Nat :=
  let c0_i32_258 : BitVec 32 := 0#32
  let v342 : Index := Scalar.indexCast c0_i32_258
  let c6_i32_259 : BitVec 32 := 6#32
  let v343 : Index := Scalar.indexCast c6_i32_259
  let c0_i32_133 : BitVec 32 := 0#32
  let c1_i32_135 : BitVec 32 := 1#32
  let arg6 : BitVec 32 := Scf.iv c0_i32_133 c1_i32_135 k1_t8
  let c64_i32_215 : BitVec 32 := 64#32
  let v172 : BitVec 32 := Scalar.muli arg6 c64_i32_215
  let v173 : BitVec 32 := Scalar.addi v172 c0_i32_216
  let v344 : Index := Scalar.indexCast v173
  ![0, 6, v344.toNat]
@[reducible] def k1_t9_loop : Scf.Loop 32 :=
  let c0_i32_140 : BitVec 32 := 0#32
  let c64_i32_141 : BitVec 32 := 64#32
  let v115 : BitVec 32 := Scalar.addi c0_i32_140 c64_i32_141
  let c1_i32_142 : BitVec 32 := 1#32
  ⟨c0_i32_140, v115, c1_i32_142⟩
def k1_off8 (k1_t9 : Fin k1_t9_loop.trips) (c0_i32_216 : BitVec 32) : Fin 3 → Nat :=
  let c0_i32_258 : BitVec 32 := 0#32
  let v342 : Index := Scalar.indexCast c0_i32_258
  let c7_i32_259 : BitVec 32 := 7#32
  let v343 : Index := Scalar.indexCast c7_i32_259
  let c0_i32_140 : BitVec 32 := 0#32
  let c1_i32_142 : BitVec 32 := 1#32
  let arg6 : BitVec 32 := Scf.iv c0_i32_140 c1_i32_142 k1_t9
  let c64_i32_215 : BitVec 32 := 64#32
  let v172 : BitVec 32 := Scalar.muli arg6 c64_i32_215
  let v173 : BitVec 32 := Scalar.addi v172 c0_i32_216
  let v344 : Index := Scalar.indexCast v173
  ![0, 7, v344.toNat]
def k1_mult1 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_0 : BitVec 32 := 0#32
  let c1_i32 : BitVec 32 := 1#32
  let arg5 : BitVec 32 := Scf.iv c0_i32_0 c1_i32 k1_t1
  let c16_i32 : BitVec 32 := 16#32
  let v71 : BitVec 32 := Scalar.muli arg5 c16_i32
  let v72 : BitVec 32 := Scalar.addi v2 v71
  v72
def k1_off9 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_0 : BitVec 32 := 0#32
  let c1_i32 : BitVec 32 := 1#32
  let arg5 : BitVec 32 := Scf.iv c0_i32_0 c1_i32 k1_t1
  let c16_i32 : BitVec 32 := 16#32
  let v71 : BitVec 32 := Scalar.muli arg5 c16_i32
  let v72 : BitVec 32 := Scalar.addi v2 v71
  let v116 : BitVec 32 := v72
  let c0_i32_147 : BitVec 32 := 0#32
  ![v116.toNat, 0]
@[reducible] def k1_t10_loop : Scf.Loop 32 :=
  let c0_i32_154 : BitVec 32 := 0#32
  let c64_i32_155 : BitVec 32 := 64#32
  let v128 : BitVec 32 := Scalar.addi c0_i32_154 c64_i32_155
  let c1_i32_156 : BitVec 32 := 1#32
  ⟨c0_i32_154, v128, c1_i32_156⟩
def k1_off10 (k1_t10 : Fin k1_t10_loop.trips) (c0_i32_216 : BitVec 32) : Fin 3 → Nat :=
  let c1_i32_258 : BitVec 32 := 1#32
  let v342 : Index := Scalar.indexCast c1_i32_258
  let c0_i32_259 : BitVec 32 := 0#32
  let v343 : Index := Scalar.indexCast c0_i32_259
  let c0_i32_154 : BitVec 32 := 0#32
  let c1_i32_156 : BitVec 32 := 1#32
  let arg6 : BitVec 32 := Scf.iv c0_i32_154 c1_i32_156 k1_t10
  let c64_i32_215 : BitVec 32 := 64#32
  let v172 : BitVec 32 := Scalar.muli arg6 c64_i32_215
  let v173 : BitVec 32 := Scalar.addi v172 c0_i32_216
  let v344 : Index := Scalar.indexCast v173
  ![1, 0, v344.toNat]
@[reducible] def k1_t11_loop : Scf.Loop 32 :=
  let c0_i32_161 : BitVec 32 := 0#32
  let c64_i32_162 : BitVec 32 := 64#32
  let v133 : BitVec 32 := Scalar.addi c0_i32_161 c64_i32_162
  let c1_i32_163 : BitVec 32 := 1#32
  ⟨c0_i32_161, v133, c1_i32_163⟩
def k1_off11 (k1_t11 : Fin k1_t11_loop.trips) (c0_i32_216 : BitVec 32) : Fin 3 → Nat :=
  let c1_i32_258 : BitVec 32 := 1#32
  let v342 : Index := Scalar.indexCast c1_i32_258
  let c1_i32_259 : BitVec 32 := 1#32
  let v343 : Index := Scalar.indexCast c1_i32_259
  let c0_i32_161 : BitVec 32 := 0#32
  let c1_i32_163 : BitVec 32 := 1#32
  let arg6 : BitVec 32 := Scf.iv c0_i32_161 c1_i32_163 k1_t11
  let c64_i32_215 : BitVec 32 := 64#32
  let v172 : BitVec 32 := Scalar.muli arg6 c64_i32_215
  let v173 : BitVec 32 := Scalar.addi v172 c0_i32_216
  let v344 : Index := Scalar.indexCast v173
  ![1, 1, v344.toNat]
@[reducible] def k1_t12_loop : Scf.Loop 32 :=
  let c0_i32_168 : BitVec 32 := 0#32
  let c64_i32_169 : BitVec 32 := 64#32
  let v138 : BitVec 32 := Scalar.addi c0_i32_168 c64_i32_169
  let c1_i32_170 : BitVec 32 := 1#32
  ⟨c0_i32_168, v138, c1_i32_170⟩
def k1_off12 (k1_t12 : Fin k1_t12_loop.trips) (c0_i32_216 : BitVec 32) : Fin 3 → Nat :=
  let c1_i32_258 : BitVec 32 := 1#32
  let v342 : Index := Scalar.indexCast c1_i32_258
  let c2_i32_259 : BitVec 32 := 2#32
  let v343 : Index := Scalar.indexCast c2_i32_259
  let c0_i32_168 : BitVec 32 := 0#32
  let c1_i32_170 : BitVec 32 := 1#32
  let arg6 : BitVec 32 := Scf.iv c0_i32_168 c1_i32_170 k1_t12
  let c64_i32_215 : BitVec 32 := 64#32
  let v172 : BitVec 32 := Scalar.muli arg6 c64_i32_215
  let v173 : BitVec 32 := Scalar.addi v172 c0_i32_216
  let v344 : Index := Scalar.indexCast v173
  ![1, 2, v344.toNat]
@[reducible] def k1_t13_loop : Scf.Loop 32 :=
  let c0_i32_175 : BitVec 32 := 0#32
  let c64_i32_176 : BitVec 32 := 64#32
  let v143 : BitVec 32 := Scalar.addi c0_i32_175 c64_i32_176
  let c1_i32_177 : BitVec 32 := 1#32
  ⟨c0_i32_175, v143, c1_i32_177⟩
def k1_off13 (k1_t13 : Fin k1_t13_loop.trips) (c0_i32_216 : BitVec 32) : Fin 3 → Nat :=
  let c1_i32_258 : BitVec 32 := 1#32
  let v342 : Index := Scalar.indexCast c1_i32_258
  let c3_i32_259 : BitVec 32 := 3#32
  let v343 : Index := Scalar.indexCast c3_i32_259
  let c0_i32_175 : BitVec 32 := 0#32
  let c1_i32_177 : BitVec 32 := 1#32
  let arg6 : BitVec 32 := Scf.iv c0_i32_175 c1_i32_177 k1_t13
  let c64_i32_215 : BitVec 32 := 64#32
  let v172 : BitVec 32 := Scalar.muli arg6 c64_i32_215
  let v173 : BitVec 32 := Scalar.addi v172 c0_i32_216
  let v344 : Index := Scalar.indexCast v173
  ![1, 3, v344.toNat]
@[reducible] def k1_t14_loop : Scf.Loop 32 :=
  let c0_i32_182 : BitVec 32 := 0#32
  let c64_i32_183 : BitVec 32 := 64#32
  let v148 : BitVec 32 := Scalar.addi c0_i32_182 c64_i32_183
  let c1_i32_184 : BitVec 32 := 1#32
  ⟨c0_i32_182, v148, c1_i32_184⟩
def k1_off14 (k1_t14 : Fin k1_t14_loop.trips) (c0_i32_216 : BitVec 32) : Fin 3 → Nat :=
  let c1_i32_258 : BitVec 32 := 1#32
  let v342 : Index := Scalar.indexCast c1_i32_258
  let c4_i32_259 : BitVec 32 := 4#32
  let v343 : Index := Scalar.indexCast c4_i32_259
  let c0_i32_182 : BitVec 32 := 0#32
  let c1_i32_184 : BitVec 32 := 1#32
  let arg6 : BitVec 32 := Scf.iv c0_i32_182 c1_i32_184 k1_t14
  let c64_i32_215 : BitVec 32 := 64#32
  let v172 : BitVec 32 := Scalar.muli arg6 c64_i32_215
  let v173 : BitVec 32 := Scalar.addi v172 c0_i32_216
  let v344 : Index := Scalar.indexCast v173
  ![1, 4, v344.toNat]
@[reducible] def k1_t15_loop : Scf.Loop 32 :=
  let c0_i32_189 : BitVec 32 := 0#32
  let c64_i32_190 : BitVec 32 := 64#32
  let v153 : BitVec 32 := Scalar.addi c0_i32_189 c64_i32_190
  let c1_i32_191 : BitVec 32 := 1#32
  ⟨c0_i32_189, v153, c1_i32_191⟩
def k1_off15 (k1_t15 : Fin k1_t15_loop.trips) (c0_i32_216 : BitVec 32) : Fin 3 → Nat :=
  let c1_i32_258 : BitVec 32 := 1#32
  let v342 : Index := Scalar.indexCast c1_i32_258
  let c5_i32_259 : BitVec 32 := 5#32
  let v343 : Index := Scalar.indexCast c5_i32_259
  let c0_i32_189 : BitVec 32 := 0#32
  let c1_i32_191 : BitVec 32 := 1#32
  let arg6 : BitVec 32 := Scf.iv c0_i32_189 c1_i32_191 k1_t15
  let c64_i32_215 : BitVec 32 := 64#32
  let v172 : BitVec 32 := Scalar.muli arg6 c64_i32_215
  let v173 : BitVec 32 := Scalar.addi v172 c0_i32_216
  let v344 : Index := Scalar.indexCast v173
  ![1, 5, v344.toNat]
@[reducible] def k1_t16_loop : Scf.Loop 32 :=
  let c0_i32_196 : BitVec 32 := 0#32
  let c64_i32_197 : BitVec 32 := 64#32
  let v158 : BitVec 32 := Scalar.addi c0_i32_196 c64_i32_197
  let c1_i32_198 : BitVec 32 := 1#32
  ⟨c0_i32_196, v158, c1_i32_198⟩
def k1_off16 (k1_t16 : Fin k1_t16_loop.trips) (c0_i32_216 : BitVec 32) : Fin 3 → Nat :=
  let c1_i32_258 : BitVec 32 := 1#32
  let v342 : Index := Scalar.indexCast c1_i32_258
  let c6_i32_259 : BitVec 32 := 6#32
  let v343 : Index := Scalar.indexCast c6_i32_259
  let c0_i32_196 : BitVec 32 := 0#32
  let c1_i32_198 : BitVec 32 := 1#32
  let arg6 : BitVec 32 := Scf.iv c0_i32_196 c1_i32_198 k1_t16
  let c64_i32_215 : BitVec 32 := 64#32
  let v172 : BitVec 32 := Scalar.muli arg6 c64_i32_215
  let v173 : BitVec 32 := Scalar.addi v172 c0_i32_216
  let v344 : Index := Scalar.indexCast v173
  ![1, 6, v344.toNat]
@[reducible] def k1_t17_loop : Scf.Loop 32 :=
  let c0_i32_203 : BitVec 32 := 0#32
  let c64_i32_204 : BitVec 32 := 64#32
  let v163 : BitVec 32 := Scalar.addi c0_i32_203 c64_i32_204
  let c1_i32_205 : BitVec 32 := 1#32
  ⟨c0_i32_203, v163, c1_i32_205⟩
def k1_off17 (k1_t17 : Fin k1_t17_loop.trips) (c0_i32_216 : BitVec 32) : Fin 3 → Nat :=
  let c1_i32_258 : BitVec 32 := 1#32
  let v342 : Index := Scalar.indexCast c1_i32_258
  let c7_i32_259 : BitVec 32 := 7#32
  let v343 : Index := Scalar.indexCast c7_i32_259
  let c0_i32_203 : BitVec 32 := 0#32
  let c1_i32_205 : BitVec 32 := 1#32
  let arg6 : BitVec 32 := Scf.iv c0_i32_203 c1_i32_205 k1_t17
  let c64_i32_215 : BitVec 32 := 64#32
  let v172 : BitVec 32 := Scalar.muli arg6 c64_i32_215
  let v173 : BitVec 32 := Scalar.addi v172 c0_i32_216
  let v344 : Index := Scalar.indexCast v173
  ![1, 7, v344.toNat]
def k1_mult2 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_0 : BitVec 32 := 0#32
  let c1_i32 : BitVec 32 := 1#32
  let arg5 : BitVec 32 := Scf.iv c0_i32_0 c1_i32 k1_t1
  let c16_i32 : BitVec 32 := 16#32
  let v71 : BitVec 32 := Scalar.muli arg5 c16_i32
  let v72 : BitVec 32 := Scalar.addi v2 v71
  let c8_i32_207 : BitVec 32 := 8#32
  let v164 : BitVec 32 := Scalar.addi v72 c8_i32_207
  v164
def k1_off18 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_0 : BitVec 32 := 0#32
  let c1_i32 : BitVec 32 := 1#32
  let arg5 : BitVec 32 := Scf.iv c0_i32_0 c1_i32 k1_t1
  let c16_i32 : BitVec 32 := 16#32
  let v71 : BitVec 32 := Scalar.muli arg5 c16_i32
  let v72 : BitVec 32 := Scalar.addi v2 v71
  let c8_i32_207 : BitVec 32 := 8#32
  let v164 : BitVec 32 := Scalar.addi v72 c8_i32_207
  let v165 : BitVec 32 := v164
  let c0_i32_211 : BitVec 32 := 0#32
  ![v165.toNat, 0]
@[reducible] def k1_t18_loop : Scf.Loop 32 :=
  let c0_i32_23 : BitVec 32 := 0#32
  let c64_i32 : BitVec 32 := 64#32
  let v22 : BitVec 32 := Scalar.addi c0_i32_23 c64_i32
  let c1_i32_24 : BitVec 32 := 1#32
  ⟨c0_i32_23, v22, c1_i32_24⟩
def k1_off19 (k1_t18 : Fin k1_t18_loop.trips) (c0_i32_87 : BitVec 32) : Fin 3 → Nat :=
  let c0_i32_127 : BitVec 32 := 0#32
  let v241 : Index := Scalar.indexCast c0_i32_127
  let c0_i32_128 : BitVec 32 := 0#32
  let v242 : Index := Scalar.indexCast c0_i32_128
  let c0_i32_23 : BitVec 32 := 0#32
  let c1_i32_24 : BitVec 32 := 1#32
  let arg5 : BitVec 32 := Scf.iv c0_i32_23 c1_i32_24 k1_t18
  let c64_i32_86 : BitVec 32 := 64#32
  let v71 : BitVec 32 := Scalar.muli arg5 c64_i32_86
  let v72 : BitVec 32 := Scalar.addi v71 c0_i32_87
  let v243 : Index := Scalar.indexCast v72
  ![0, 0, v243.toNat]
@[reducible] def k1_t19_loop : Scf.Loop 32 :=
  let c0_i32_29 : BitVec 32 := 0#32
  let c64_i32_30 : BitVec 32 := 64#32
  let v27 : BitVec 32 := Scalar.addi c0_i32_29 c64_i32_30
  let c1_i32_31 : BitVec 32 := 1#32
  ⟨c0_i32_29, v27, c1_i32_31⟩
def k1_off20 (k1_t19 : Fin k1_t19_loop.trips) (c0_i32_87 : BitVec 32) : Fin 3 → Nat :=
  let c0_i32_127 : BitVec 32 := 0#32
  let v241 : Index := Scalar.indexCast c0_i32_127
  let c1_i32_128 : BitVec 32 := 1#32
  let v242 : Index := Scalar.indexCast c1_i32_128
  let c0_i32_29 : BitVec 32 := 0#32
  let c1_i32_31 : BitVec 32 := 1#32
  let arg5 : BitVec 32 := Scf.iv c0_i32_29 c1_i32_31 k1_t19
  let c64_i32_86 : BitVec 32 := 64#32
  let v71 : BitVec 32 := Scalar.muli arg5 c64_i32_86
  let v72 : BitVec 32 := Scalar.addi v71 c0_i32_87
  let v243 : Index := Scalar.indexCast v72
  ![0, 1, v243.toNat]
@[reducible] def k1_t20_loop : Scf.Loop 32 :=
  let c0_i32_36 : BitVec 32 := 0#32
  let c64_i32_37 : BitVec 32 := 64#32
  let v32 : BitVec 32 := Scalar.addi c0_i32_36 c64_i32_37
  let c1_i32_38 : BitVec 32 := 1#32
  ⟨c0_i32_36, v32, c1_i32_38⟩
def k1_off21 (k1_t20 : Fin k1_t20_loop.trips) (c0_i32_87 : BitVec 32) : Fin 3 → Nat :=
  let c0_i32_127 : BitVec 32 := 0#32
  let v241 : Index := Scalar.indexCast c0_i32_127
  let c2_i32_128 : BitVec 32 := 2#32
  let v242 : Index := Scalar.indexCast c2_i32_128
  let c0_i32_36 : BitVec 32 := 0#32
  let c1_i32_38 : BitVec 32 := 1#32
  let arg5 : BitVec 32 := Scf.iv c0_i32_36 c1_i32_38 k1_t20
  let c64_i32_86 : BitVec 32 := 64#32
  let v71 : BitVec 32 := Scalar.muli arg5 c64_i32_86
  let v72 : BitVec 32 := Scalar.addi v71 c0_i32_87
  let v243 : Index := Scalar.indexCast v72
  ![0, 2, v243.toNat]
@[reducible] def k1_t21_loop : Scf.Loop 32 :=
  let c0_i32_42 : BitVec 32 := 0#32
  let c64_i32_43 : BitVec 32 := 64#32
  let v37 : BitVec 32 := Scalar.addi c0_i32_42 c64_i32_43
  let c1_i32_44 : BitVec 32 := 1#32
  ⟨c0_i32_42, v37, c1_i32_44⟩
def k1_off22 (k1_t21 : Fin k1_t21_loop.trips) (c0_i32_87 : BitVec 32) : Fin 3 → Nat :=
  let c0_i32_127 : BitVec 32 := 0#32
  let v241 : Index := Scalar.indexCast c0_i32_127
  let c3_i32_128 : BitVec 32 := 3#32
  let v242 : Index := Scalar.indexCast c3_i32_128
  let c0_i32_42 : BitVec 32 := 0#32
  let c1_i32_44 : BitVec 32 := 1#32
  let arg5 : BitVec 32 := Scf.iv c0_i32_42 c1_i32_44 k1_t21
  let c64_i32_86 : BitVec 32 := 64#32
  let v71 : BitVec 32 := Scalar.muli arg5 c64_i32_86
  let v72 : BitVec 32 := Scalar.addi v71 c0_i32_87
  let v243 : Index := Scalar.indexCast v72
  ![0, 3, v243.toNat]
@[reducible] def k1_t22_loop : Scf.Loop 32 :=
  let c0_i32_48 : BitVec 32 := 0#32
  let c64_i32_49 : BitVec 32 := 64#32
  let v42 : BitVec 32 := Scalar.addi c0_i32_48 c64_i32_49
  let c1_i32_50 : BitVec 32 := 1#32
  ⟨c0_i32_48, v42, c1_i32_50⟩
def k1_off23 (k1_t22 : Fin k1_t22_loop.trips) (c0_i32_87 : BitVec 32) : Fin 3 → Nat :=
  let c0_i32_127 : BitVec 32 := 0#32
  let v241 : Index := Scalar.indexCast c0_i32_127
  let c4_i32_128 : BitVec 32 := 4#32
  let v242 : Index := Scalar.indexCast c4_i32_128
  let c0_i32_48 : BitVec 32 := 0#32
  let c1_i32_50 : BitVec 32 := 1#32
  let arg5 : BitVec 32 := Scf.iv c0_i32_48 c1_i32_50 k1_t22
  let c64_i32_86 : BitVec 32 := 64#32
  let v71 : BitVec 32 := Scalar.muli arg5 c64_i32_86
  let v72 : BitVec 32 := Scalar.addi v71 c0_i32_87
  let v243 : Index := Scalar.indexCast v72
  ![0, 4, v243.toNat]
@[reducible] def k1_t23_loop : Scf.Loop 32 :=
  let c0_i32_54 : BitVec 32 := 0#32
  let c64_i32_55 : BitVec 32 := 64#32
  let v47 : BitVec 32 := Scalar.addi c0_i32_54 c64_i32_55
  let c1_i32_56 : BitVec 32 := 1#32
  ⟨c0_i32_54, v47, c1_i32_56⟩
def k1_off24 (k1_t23 : Fin k1_t23_loop.trips) (c0_i32_87 : BitVec 32) : Fin 3 → Nat :=
  let c0_i32_127 : BitVec 32 := 0#32
  let v241 : Index := Scalar.indexCast c0_i32_127
  let c5_i32_128 : BitVec 32 := 5#32
  let v242 : Index := Scalar.indexCast c5_i32_128
  let c0_i32_54 : BitVec 32 := 0#32
  let c1_i32_56 : BitVec 32 := 1#32
  let arg5 : BitVec 32 := Scf.iv c0_i32_54 c1_i32_56 k1_t23
  let c64_i32_86 : BitVec 32 := 64#32
  let v71 : BitVec 32 := Scalar.muli arg5 c64_i32_86
  let v72 : BitVec 32 := Scalar.addi v71 c0_i32_87
  let v243 : Index := Scalar.indexCast v72
  ![0, 5, v243.toNat]
@[reducible] def k1_t24_loop : Scf.Loop 32 :=
  let c0_i32_60 : BitVec 32 := 0#32
  let c64_i32_61 : BitVec 32 := 64#32
  let v52 : BitVec 32 := Scalar.addi c0_i32_60 c64_i32_61
  let c1_i32_62 : BitVec 32 := 1#32
  ⟨c0_i32_60, v52, c1_i32_62⟩
def k1_off25 (k1_t24 : Fin k1_t24_loop.trips) (c0_i32_87 : BitVec 32) : Fin 3 → Nat :=
  let c0_i32_127 : BitVec 32 := 0#32
  let v241 : Index := Scalar.indexCast c0_i32_127
  let c6_i32_128 : BitVec 32 := 6#32
  let v242 : Index := Scalar.indexCast c6_i32_128
  let c0_i32_60 : BitVec 32 := 0#32
  let c1_i32_62 : BitVec 32 := 1#32
  let arg5 : BitVec 32 := Scf.iv c0_i32_60 c1_i32_62 k1_t24
  let c64_i32_86 : BitVec 32 := 64#32
  let v71 : BitVec 32 := Scalar.muli arg5 c64_i32_86
  let v72 : BitVec 32 := Scalar.addi v71 c0_i32_87
  let v243 : Index := Scalar.indexCast v72
  ![0, 6, v243.toNat]
@[reducible] def k1_t25_loop : Scf.Loop 32 :=
  let c0_i32_66 : BitVec 32 := 0#32
  let c64_i32_67 : BitVec 32 := 64#32
  let v57 : BitVec 32 := Scalar.addi c0_i32_66 c64_i32_67
  let c1_i32_68 : BitVec 32 := 1#32
  ⟨c0_i32_66, v57, c1_i32_68⟩
def k1_off26 (k1_t25 : Fin k1_t25_loop.trips) (c0_i32_87 : BitVec 32) : Fin 3 → Nat :=
  let c0_i32_127 : BitVec 32 := 0#32
  let v241 : Index := Scalar.indexCast c0_i32_127
  let c7_i32_128 : BitVec 32 := 7#32
  let v242 : Index := Scalar.indexCast c7_i32_128
  let c0_i32_66 : BitVec 32 := 0#32
  let c1_i32_68 : BitVec 32 := 1#32
  let arg5 : BitVec 32 := Scf.iv c0_i32_66 c1_i32_68 k1_t25
  let c64_i32_86 : BitVec 32 := 64#32
  let v71 : BitVec 32 := Scalar.muli arg5 c64_i32_86
  let v72 : BitVec 32 := Scalar.addi v71 c0_i32_87
  let v243 : Index := Scalar.indexCast v72
  ![0, 7, v243.toNat]
def k1_mult3 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c32_i32 : BitVec 32 := 32#32
  let v17 : BitVec 32 := Scalar.addi v2 c32_i32
  v17
def k1_off27 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c32_i32 : BitVec 32 := 32#32
  let v17 : BitVec 32 := Scalar.addi v2 c32_i32
  let v58 : BitVec 32 := v17
  let c0_i32_73 : BitVec 32 := 0#32
  ![v58.toNat, 0]
abbrev grid2 : Pipeline.Grid := ⟨1, ![22], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096 : Shape := ⟨1, ![4096]⟩
abbrev S4096x8192 : Shape := ⟨2, ![4096, 8192]⟩
abbrev S_ : Shape := ⟨0, ![]⟩
abbrev S4096x1 : Shape := ⟨2, ![4096, 1]⟩
abbrev S4096x2 : Shape := ⟨2, ![4096, 2]⟩
abbrev S4096x4096 : Shape := ⟨2, ![4096, 4096]⟩
abbrev S1x4096 : Shape := ⟨2, ![1, 4096]⟩

abbrev nBuf : Space → Nat
  | .hbm => 359
  | .vmem => 0
  | .smem => 0
  | _ => 0

abbrev hbmTy0_0 (i : Nat) : BufTy := match i % 128 with
  | 0 => ⟨S4096, .i32⟩
  | 1 => ⟨S4096, .i32⟩
  | 2 => ⟨S4096x8192, .f32⟩
  | 3 => ⟨S4096x8192, .f32⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S4096x1, .i32⟩
  | 20 => ⟨S4096x2, .i32⟩
  | 21 => ⟨S4096, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S4096x1, .i32⟩
  | 38 => ⟨S4096x2, .i32⟩
  | 39 => ⟨S4096, .f32⟩
  | 40 => ⟨S4096x4096, .i32⟩
  | 41 => ⟨S4096x4096, .i32⟩
  | 42 => ⟨S_, .i32⟩
  | 43 => ⟨S4096x4096, .i32⟩
  | 44 => ⟨S_, .i32⟩
  | 45 => ⟨S4096x4096, .i32⟩
  | 46 => ⟨S4096x4096, .i32⟩
  | 47 => ⟨S4096x4096, .i32⟩
  | 48 => ⟨S_, .i32⟩
  | 49 => ⟨S4096x4096, .i32⟩
  | 50 => ⟨S4096x4096, .i32⟩
  | 51 => ⟨S_, .i32⟩
  | 52 => ⟨S4096x4096, .i32⟩
  | 53 => ⟨S4096x4096, .i32⟩
  | 54 => ⟨S4096x4096, .i32⟩
  | 55 => ⟨S_, .i32⟩
  | 56 => ⟨S4096x4096, .i32⟩
  | 57 => ⟨S4096x4096, .i32⟩
  | 58 => ⟨S_, .i32⟩
  | 59 => ⟨S4096x4096, .i32⟩
  | 60 => ⟨S4096x4096, .i32⟩
  | 61 => ⟨S4096x4096, .i32⟩
  | 62 => ⟨S4096x4096, .i32⟩
  | 63 => ⟨S4096x4096, .i32⟩
  | 64 => ⟨S_, .i32⟩
  | 65 => ⟨S4096x4096, .i32⟩
  | 66 => ⟨S4096x4096, .i32⟩
  | 67 => ⟨S_, .i32⟩
  | 68 => ⟨S4096x4096, .i32⟩
  | 69 => ⟨S4096x4096, .i32⟩
  | 70 => ⟨S4096x4096, .i32⟩
  | 71 => ⟨S4096x4096, .i32⟩
  | 72 => ⟨S4096x4096, .i32⟩
  | 73 => ⟨S_, .i32⟩
  | 74 => ⟨S4096x4096, .i32⟩
  | 75 => ⟨S4096x4096, .i32⟩
  | 76 => ⟨S_, .i32⟩
  | 77 => ⟨S4096x4096, .i32⟩
  | 78 => ⟨S4096x4096, .i32⟩
  | 79 => ⟨S4096x4096, .i32⟩
  | 80 => ⟨S4096x4096, .i32⟩
  | 81 => ⟨S4096x4096, .i32⟩
  | 82 => ⟨S_, .i32⟩
  | 83 => ⟨S4096x4096, .i32⟩
  | 84 => ⟨S4096x4096, .i32⟩
  | 85 => ⟨S_, .i32⟩
  | 86 => ⟨S4096x4096, .i32⟩
  | 87 => ⟨S4096x4096, .i32⟩
  | 88 => ⟨S4096x4096, .i32⟩
  | 89 => ⟨S4096x4096, .i32⟩
  | 90 => ⟨S_, .i32⟩
  | 91 => ⟨S4096x4096, .i32⟩
  | 92 => ⟨S4096x4096, .i32⟩
  | 93 => ⟨S_, .i32⟩
  | 94 => ⟨S4096x4096, .i32⟩
  | 95 => ⟨S4096x4096, .i32⟩
  | 96 => ⟨S_, .i32⟩
  | 97 => ⟨S4096x4096, .i32⟩
  | 98 => ⟨S4096x4096, .i32⟩
  | 99 => ⟨S4096x4096, .i32⟩
  | 100 => ⟨S_, .i32⟩
  | 101 => ⟨S4096x4096, .i32⟩
  | 102 => ⟨S4096x4096, .i32⟩
  | 103 => ⟨S_, .i32⟩
  | 104 => ⟨S4096x4096, .i32⟩
  | 105 => ⟨S4096x4096, .i32⟩
  | 106 => ⟨S4096x4096, .i32⟩
  | 107 => ⟨S4096x4096, .i32⟩
  | 108 => ⟨S4096x4096, .i32⟩
  | 109 => ⟨S_, .i32⟩
  | 110 => ⟨S4096x4096, .i32⟩
  | 111 => ⟨S4096x4096, .i32⟩
  | 112 => ⟨S_, .i32⟩
  | 113 => ⟨S4096x4096, .i32⟩
  | 114 => ⟨S4096x4096, .i32⟩
  | 115 => ⟨S4096x4096, .i32⟩
  | 116 => ⟨S4096x4096, .i32⟩
  | 117 => ⟨S4096x4096, .i32⟩
  | 118 => ⟨S_, .i32⟩
  | 119 => ⟨S4096x4096, .i32⟩
  | 120 => ⟨S4096x4096, .i32⟩
  | 121 => ⟨S_, .i32⟩
  | 122 => ⟨S4096x4096, .i32⟩
  | 123 => ⟨S4096x4096, .i32⟩
  | 124 => ⟨S4096x4096, .i32⟩
  | 125 => ⟨S4096x4096, .i32⟩
  | 126 => ⟨S4096x4096, .i32⟩
  | 127 => ⟨S_, .i32⟩
  | _ => ⟨S4096, .i32⟩

abbrev hbmTy0_1 (i : Nat) : BufTy := match i % 128 with
  | 0 => ⟨S4096x4096, .i32⟩
  | 1 => ⟨S4096x4096, .i32⟩
  | 2 => ⟨S_, .i32⟩
  | 3 => ⟨S4096x4096, .i32⟩
  | 4 => ⟨S4096x4096, .i32⟩
  | 5 => ⟨S4096x4096, .i32⟩
  | 6 => ⟨S4096x4096, .i32⟩
  | 7 => ⟨S_, .i32⟩
  | 8 => ⟨S4096x4096, .i32⟩
  | 9 => ⟨S4096x4096, .i32⟩
  | 10 => ⟨S_, .i32⟩
  | 11 => ⟨S4096x4096, .i32⟩
  | 12 => ⟨S4096x4096, .i32⟩
  | 13 => ⟨S_, .i32⟩
  | 14 => ⟨S4096x4096, .i32⟩
  | 15 => ⟨S4096x4096, .i32⟩
  | 16 => ⟨S4096x4096, .i32⟩
  | 17 => ⟨S_, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S4096x4096, .i32⟩
  | 24 => ⟨S4096x4096, .i32⟩
  | 25 => ⟨S4096x4096, .i32⟩
  | 26 => ⟨S_, .i32⟩
  | 27 => ⟨S4096x4096, .i32⟩
  | 28 => ⟨S4096x4096, .i32⟩
  | 29 => ⟨S_, .i32⟩
  | 30 => ⟨S4096x4096, .i32⟩
  | 31 => ⟨S4096x4096, .i32⟩
  | 32 => ⟨S4096x4096, .i32⟩
  | 33 => ⟨S4096x4096, .i32⟩
  | 34 => ⟨S4096x4096, .i32⟩
  | 35 => ⟨S_, .i32⟩
  | 36 => ⟨S4096x4096, .i32⟩
  | 37 => ⟨S4096x4096, .i32⟩
  | 38 => ⟨S_, .i32⟩
  | 39 => ⟨S4096x4096, .i32⟩
  | 40 => ⟨S4096x4096, .i32⟩
  | 41 => ⟨S4096x4096, .i32⟩
  | 42 => ⟨S4096x4096, .i32⟩
  | 43 => ⟨S4096x4096, .i32⟩
  | 44 => ⟨S_, .i32⟩
  | 45 => ⟨S4096x4096, .i32⟩
  | 46 => ⟨S4096x4096, .i32⟩
  | 47 => ⟨S_, .i32⟩
  | 48 => ⟨S4096x4096, .i32⟩
  | 49 => ⟨S4096x4096, .i32⟩
  | 50 => ⟨S4096x4096, .i32⟩
  | 51 => ⟨S4096x4096, .i32⟩
  | 52 => ⟨S_, .i32⟩
  | 53 => ⟨S4096x4096, .i32⟩
  | 54 => ⟨S4096x4096, .i32⟩
  | 55 => ⟨S_, .i32⟩
  | 56 => ⟨S4096x4096, .i32⟩
  | 57 => ⟨S4096x4096, .i32⟩
  | 58 => ⟨S_, .i32⟩
  | 59 => ⟨S4096x4096, .i32⟩
  | 60 => ⟨S4096x4096, .i32⟩
  | 61 => ⟨S4096x4096, .i32⟩
  | 62 => ⟨S_, .i32⟩
  | 63 => ⟨S4096x4096, .i32⟩
  | 64 => ⟨S4096x4096, .i32⟩
  | 65 => ⟨S_, .i32⟩
  | 66 => ⟨S4096x4096, .i32⟩
  | 67 => ⟨S4096x4096, .i32⟩
  | 68 => ⟨S4096x4096, .i32⟩
  | 69 => ⟨S4096x4096, .i32⟩
  | 70 => ⟨S4096x4096, .i32⟩
  | 71 => ⟨S_, .i32⟩
  | 72 => ⟨S4096x4096, .i32⟩
  | 73 => ⟨S4096x4096, .i32⟩
  | 74 => ⟨S_, .i32⟩
  | 75 => ⟨S4096x4096, .i32⟩
  | 76 => ⟨S4096x4096, .i32⟩
  | 77 => ⟨S4096x4096, .i32⟩
  | 78 => ⟨S4096x4096, .i32⟩
  | 79 => ⟨S4096x4096, .i32⟩
  | 80 => ⟨S_, .i32⟩
  | 81 => ⟨S4096x4096, .i32⟩
  | 82 => ⟨S4096x4096, .i32⟩
  | 83 => ⟨S_, .i32⟩
  | 84 => ⟨S4096x4096, .i32⟩
  | 85 => ⟨S4096x4096, .i32⟩
  | 86 => ⟨S4096x4096, .i32⟩
  | 87 => ⟨S4096x4096, .i32⟩
  | 88 => ⟨S4096x4096, .i32⟩
  | 89 => ⟨S_, .i32⟩
  | 90 => ⟨S4096x4096, .i32⟩
  | 91 => ⟨S4096x4096, .i32⟩
  | 92 => ⟨S_, .i32⟩
  | 93 => ⟨S4096x4096, .i32⟩
  | 94 => ⟨S4096x4096, .i32⟩
  | 95 => ⟨S4096x4096, .i32⟩
  | 96 => ⟨S4096x4096, .i32⟩
  | 97 => ⟨S_, .i32⟩
  | 98 => ⟨S4096x4096, .i32⟩
  | 99 => ⟨S4096x4096, .i32⟩
  | 100 => ⟨S_, .i32⟩
  | 101 => ⟨S4096x4096, .i32⟩
  | 102 => ⟨S4096x4096, .i32⟩
  | 103 => ⟨S_, .i32⟩
  | 104 => ⟨S4096x4096, .i32⟩
  | 105 => ⟨S4096x4096, .i32⟩
  | 106 => ⟨S4096x4096, .i32⟩
  | 107 => ⟨S_, .i32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S4096x4096, .i32⟩
  | 114 => ⟨S4096x4096, .i32⟩
  | 115 => ⟨S4096x4096, .i32⟩
  | 116 => ⟨S_, .i32⟩
  | 117 => ⟨S4096x4096, .i32⟩
  | 118 => ⟨S4096x4096, .i32⟩
  | 119 => ⟨S_, .i32⟩
  | 120 => ⟨S4096x4096, .i32⟩
  | 121 => ⟨S4096x4096, .i32⟩
  | 122 => ⟨S4096x4096, .i32⟩
  | 123 => ⟨S4096x4096, .i32⟩
  | 124 => ⟨S4096x4096, .i32⟩
  | 125 => ⟨S_, .i32⟩
  | 126 => ⟨S4096x4096, .i32⟩
  | 127 => ⟨S4096x4096, .i32⟩
  | _ => ⟨S4096, .i32⟩

abbrev hbmTy0_2 (i : Nat) : BufTy := match i % 128 with
  | 0 => ⟨S_, .i32⟩
  | 1 => ⟨S4096x4096, .i32⟩
  | 2 => ⟨S4096x4096, .i32⟩
  | 3 => ⟨S4096x4096, .i32⟩
  | 4 => ⟨S4096x4096, .i32⟩
  | 5 => ⟨S4096x4096, .i32⟩
  | 6 => ⟨S_, .i32⟩
  | 7 => ⟨S4096x4096, .i32⟩
  | 8 => ⟨S4096x4096, .i32⟩
  | 9 => ⟨S_, .i32⟩
  | 10 => ⟨S4096x4096, .i32⟩
  | 11 => ⟨S4096x4096, .i32⟩
  | 12 => ⟨S4096x4096, .i32⟩
  | 13 => ⟨S4096x4096, .i32⟩
  | 14 => ⟨S_, .i32⟩
  | 15 => ⟨S4096x4096, .i32⟩
  | 16 => ⟨S4096x4096, .i32⟩
  | 17 => ⟨S_, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S4096x4096, .f32⟩
  | 31 => ⟨S_, .f32⟩
  | 32 => ⟨S4096x4096, .f32⟩
  | 33 => ⟨S4096x4096, .f32⟩
  | 34 => ⟨S_, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S4096x4096, .f32⟩
  | 44 => ⟨S4096x4096, .f32⟩
  | 45 => ⟨S4096x4096, .f32⟩
  | 46 => ⟨S_, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S4096x4096, .f32⟩
  | 61 => ⟨S_, .f32⟩
  | 62 => ⟨S4096x4096, .f32⟩
  | 63 => ⟨S4096x4096, .f32⟩
  | 64 => ⟨S4096x4096, .f32⟩
  | 65 => ⟨S4096x4096, .f32⟩
  | 66 => ⟨S_, .f32⟩
  | 67 => ⟨S4096x4096, .f32⟩
  | 68 => ⟨S4096x4096, .f32⟩
  | 69 => ⟨S_, .f32⟩
  | 70 => ⟨S4096x4096, .f32⟩
  | 71 => ⟨S4096x4096, .f32⟩
  | 72 => ⟨S_, .f32⟩
  | 73 => ⟨S4096x4096, .f32⟩
  | 74 => ⟨S4096x4096, .f32⟩
  | 75 => ⟨S4096x4096, .f32⟩
  | 76 => ⟨S_, .f32⟩
  | 77 => ⟨S4096x4096, .f32⟩
  | 78 => ⟨S4096x4096, .f32⟩
  | 79 => ⟨S4096x4096, .f32⟩
  | 80 => ⟨S_, .f32⟩
  | 81 => ⟨S4096x4096, .f32⟩
  | 82 => ⟨S4096x4096, .f32⟩
  | 83 => ⟨S4096x4096, .f32⟩
  | 84 => ⟨S_, .f32⟩
  | 85 => ⟨S4096x4096, .f32⟩
  | 86 => ⟨S4096x4096, .f32⟩
  | 87 => ⟨S4096x4096, .f32⟩
  | 88 => ⟨S_, .f32⟩
  | 89 => ⟨S4096x4096, .f32⟩
  | 90 => ⟨S4096x4096, .f32⟩
  | 91 => ⟨S_, .f32⟩
  | 92 => ⟨S4096x4096, .f32⟩
  | 93 => ⟨S4096x4096, .i1⟩
  | 94 => ⟨S4096x4096, .f32⟩
  | 95 => ⟨S4096x4096, .f32⟩
  | 96 => ⟨S1x4096, .f32⟩
  | 97 => ⟨S4096x4096, .f32⟩
  | 98 => ⟨S4096x4096, .f32⟩
  | 99 => ⟨S1x4096, .f32⟩
  | 100 => ⟨S4096x4096, .f32⟩
  | 101 => ⟨S4096x4096, .f32⟩
  | 102 => ⟨S4096x4096, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_11 : Ref sig .tc := ⟨.hbm, 55, rfl⟩
abbrev main_v39 : Ref sig .tc := ⟨.hbm, 56, rfl⟩
abbrev main_v40 : Ref sig .tc := ⟨.hbm, 57, rfl⟩
abbrev main_c_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_13 : Ref sig .tc := ⟨.hbm, 64, rfl⟩
abbrev main_v46 : Ref sig .tc := ⟨.hbm, 65, rfl⟩
abbrev main_v47 : Ref sig .tc := ⟨.hbm, 66, rfl⟩
abbrev main_c_14 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_15 : Ref sig .tc := ⟨.hbm, 73, rfl⟩
abbrev main_v53 : Ref sig .tc := ⟨.hbm, 74, rfl⟩
abbrev main_v54 : Ref sig .tc := ⟨.hbm, 75, rfl⟩
abbrev main_c_16 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_17 : Ref sig .tc := ⟨.hbm, 82, rfl⟩
abbrev main_v60 : Ref sig .tc := ⟨.hbm, 83, rfl⟩
abbrev main_v61 : Ref sig .tc := ⟨.hbm, 84, rfl⟩
abbrev main_c_18 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_19 : Ref sig .tc := ⟨.hbm, 90, rfl⟩
abbrev main_v66 : Ref sig .tc := ⟨.hbm, 91, rfl⟩
abbrev main_v67 : Ref sig .tc := ⟨.hbm, 92, rfl⟩
abbrev main_c_20 : Ref sig .tc := ⟨.hbm, 93, rfl⟩
abbrev main_v68 : Ref sig .tc := ⟨.hbm, 94, rfl⟩
abbrev main_v69 : Ref sig .tc := ⟨.hbm, 95, rfl⟩
abbrev main_c_21 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_22 : Ref sig .tc := ⟨.hbm, 100, rfl⟩
abbrev main_v73 : Ref sig .tc := ⟨.hbm, 101, rfl⟩
abbrev main_v74 : Ref sig .tc := ⟨.hbm, 102, rfl⟩
abbrev main_c_23 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_24 : Ref sig .tc := ⟨.hbm, 109, rfl⟩
abbrev main_v80 : Ref sig .tc := ⟨.hbm, 110, rfl⟩
abbrev main_v81 : Ref sig .tc := ⟨.hbm, 111, rfl⟩
abbrev main_c_25 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_26 : Ref sig .tc := ⟨.hbm, 118, rfl⟩
abbrev main_v87 : Ref sig .tc := ⟨.hbm, 119, rfl⟩
abbrev main_v88 : Ref sig .tc := ⟨.hbm, 120, rfl⟩
abbrev main_c_27 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_28 : Ref sig .tc := ⟨.hbm, 127, rfl⟩
abbrev main_v94 : Ref sig .tc := ⟨.hbm, 128, rfl⟩
abbrev main_v95 : Ref sig .tc := ⟨.hbm, 129, rfl⟩
abbrev main_c_29 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_30 : Ref sig .tc := ⟨.hbm, 135, rfl⟩
abbrev main_v100 : Ref sig .tc := ⟨.hbm, 136, rfl⟩
abbrev main_v101 : Ref sig .tc := ⟨.hbm, 137, rfl⟩
abbrev main_c_31 : Ref sig .tc := ⟨.hbm, 138, rfl⟩
abbrev main_v102 : Ref sig .tc := ⟨.hbm, 139, rfl⟩
abbrev main_v103 : Ref sig .tc := ⟨.hbm, 140, rfl⟩
abbrev main_c_32 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_33 : Ref sig .tc := ⟨.hbm, 145, rfl⟩
abbrev main_v107 : Ref sig .tc := ⟨.hbm, 146, rfl⟩
abbrev main_v108 : Ref sig .tc := ⟨.hbm, 147, rfl⟩
abbrev main_c_34 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_c_35 : Ref sig .tc := ⟨.hbm, 154, rfl⟩
abbrev main_v114 : Ref sig .tc := ⟨.hbm, 155, rfl⟩
abbrev main_v115 : Ref sig .tc := ⟨.hbm, 156, rfl⟩
abbrev main_c_36 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_37 : Ref sig .tc := ⟨.hbm, 163, rfl⟩
abbrev main_v121 : Ref sig .tc := ⟨.hbm, 164, rfl⟩
abbrev main_v122 : Ref sig .tc := ⟨.hbm, 165, rfl⟩
abbrev main_c_38 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_39 : Ref sig .tc := ⟨.hbm, 172, rfl⟩
abbrev main_v128 : Ref sig .tc := ⟨.hbm, 173, rfl⟩
abbrev main_v129 : Ref sig .tc := ⟨.hbm, 174, rfl⟩
abbrev main_c_40 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_c_41 : Ref sig .tc := ⟨.hbm, 180, rfl⟩
abbrev main_v134 : Ref sig .tc := ⟨.hbm, 181, rfl⟩
abbrev main_v135 : Ref sig .tc := ⟨.hbm, 182, rfl⟩
abbrev main_c_42 : Ref sig .tc := ⟨.hbm, 183, rfl⟩
abbrev main_v136 : Ref sig .tc := ⟨.hbm, 184, rfl⟩
abbrev main_v137 : Ref sig .tc := ⟨.hbm, 185, rfl⟩
abbrev main_c_43 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_c_44 : Ref sig .tc := ⟨.hbm, 190, rfl⟩
abbrev main_v141 : Ref sig .tc := ⟨.hbm, 191, rfl⟩
abbrev main_v142 : Ref sig .tc := ⟨.hbm, 192, rfl⟩
abbrev main_c_45 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_c_46 : Ref sig .tc := ⟨.hbm, 199, rfl⟩
abbrev main_v148 : Ref sig .tc := ⟨.hbm, 200, rfl⟩
abbrev main_v149 : Ref sig .tc := ⟨.hbm, 201, rfl⟩
abbrev main_c_47 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_48 : Ref sig .tc := ⟨.hbm, 208, rfl⟩
abbrev main_v155 : Ref sig .tc := ⟨.hbm, 209, rfl⟩
abbrev main_v156 : Ref sig .tc := ⟨.hbm, 210, rfl⟩
abbrev main_c_49 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_c_50 : Ref sig .tc := ⟨.hbm, 217, rfl⟩
abbrev main_v162 : Ref sig .tc := ⟨.hbm, 218, rfl⟩
abbrev main_v163 : Ref sig .tc := ⟨.hbm, 219, rfl⟩
abbrev main_c_51 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_c_52 : Ref sig .tc := ⟨.hbm, 225, rfl⟩
abbrev main_v168 : Ref sig .tc := ⟨.hbm, 226, rfl⟩
abbrev main_v169 : Ref sig .tc := ⟨.hbm, 227, rfl⟩
abbrev main_c_53 : Ref sig .tc := ⟨.hbm, 228, rfl⟩
abbrev main_v170 : Ref sig .tc := ⟨.hbm, 229, rfl⟩
abbrev main_v171 : Ref sig .tc := ⟨.hbm, 230, rfl⟩
abbrev main_c_54 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_c_55 : Ref sig .tc := ⟨.hbm, 235, rfl⟩
abbrev main_v175 : Ref sig .tc := ⟨.hbm, 236, rfl⟩
abbrev main_v176 : Ref sig .tc := ⟨.hbm, 237, rfl⟩
abbrev main_c_56 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_c_57 : Ref sig .tc := ⟨.hbm, 244, rfl⟩
abbrev main_v182 : Ref sig .tc := ⟨.hbm, 245, rfl⟩
abbrev main_v183 : Ref sig .tc := ⟨.hbm, 246, rfl⟩
abbrev main_c_58 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_c_59 : Ref sig .tc := ⟨.hbm, 253, rfl⟩
abbrev main_v189 : Ref sig .tc := ⟨.hbm, 254, rfl⟩
abbrev main_v190 : Ref sig .tc := ⟨.hbm, 255, rfl⟩
abbrev main_c_60 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_c_61 : Ref sig .tc := ⟨.hbm, 262, rfl⟩
abbrev main_v196 : Ref sig .tc := ⟨.hbm, 263, rfl⟩
abbrev main_v197 : Ref sig .tc := ⟨.hbm, 264, rfl⟩
abbrev main_c_62 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_c_63 : Ref sig .tc := ⟨.hbm, 270, rfl⟩
abbrev main_v202 : Ref sig .tc := ⟨.hbm, 271, rfl⟩
abbrev main_v203 : Ref sig .tc := ⟨.hbm, 272, rfl⟩
abbrev main_c_64 : Ref sig .tc := ⟨.hbm, 273, rfl⟩
abbrev main_v204 : Ref sig .tc := ⟨.hbm, 274, rfl⟩
abbrev main_v205 : Ref sig .tc := ⟨.hbm, 275, rfl⟩
abbrev main_c_65 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_c_66 : Ref sig .tc := ⟨.hbm, 280, rfl⟩
abbrev main_v209 : Ref sig .tc := ⟨.hbm, 281, rfl⟩
abbrev main_v210 : Ref sig .tc := ⟨.hbm, 282, rfl⟩
abbrev main_c_67 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_cst : Ref sig .tc := ⟨.hbm, 287, rfl⟩
abbrev main_v214 : Ref sig .tc := ⟨.hbm, 288, rfl⟩
abbrev main_v215 : Ref sig .tc := ⟨.hbm, 289, rfl⟩
abbrev main_cst_68 : Ref sig .tc := ⟨.hbm, 290, rfl⟩
abbrev main_v216 : Ref sig .tc := ⟨.hbm, 291, rfl⟩
abbrev main_v217 : Ref sig .tc := ⟨.hbm, 292, rfl⟩
abbrev main_cst_69 : Ref sig .tc := ⟨.hbm, 293, rfl⟩
abbrev main_v218 : Ref sig .tc := ⟨.hbm, 294, rfl⟩
abbrev main_v219 : Ref sig .tc := ⟨.hbm, 295, rfl⟩
abbrev main_cst_70 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_cst_71 : Ref sig .tc := ⟨.hbm, 302, rfl⟩
abbrev main_v225 : Ref sig .tc := ⟨.hbm, 303, rfl⟩
abbrev main_v226 : Ref sig .tc := ⟨.hbm, 304, rfl⟩
abbrev main_cst_72 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_cst_73 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_cst_74 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_cst_75 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_cst_76 : Ref sig .tc := ⟨.hbm, 322, rfl⟩
abbrev main_v240 : Ref sig .tc := ⟨.hbm, 323, rfl⟩
abbrev main_v241 : Ref sig .tc := ⟨.hbm, 324, rfl⟩
abbrev main_cst_77 : Ref sig .tc := ⟨.hbm, 325, rfl⟩
abbrev main_v242 : Ref sig .tc := ⟨.hbm, 326, rfl⟩
abbrev main_v243 : Ref sig .tc := ⟨.hbm, 327, rfl⟩
abbrev main_cst_78 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_cst_79 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_cst_80 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_cst_81 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_cst_82 : Ref sig .tc := ⟨.hbm, 344, rfl⟩
abbrev main_v256 : Ref sig .tc := ⟨.hbm, 345, rfl⟩
abbrev main_v257 : Ref sig .tc := ⟨.hbm, 346, rfl⟩
abbrev main_cst_83 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩

abbrev nD : Nat := 1
abbrev τ : Topo := Topo.v7x

variable {F : FTy → Type} [FloatOps F]
-- ==== Proof.Gather.lean ====
module

public import proofs.«01_k».proof.Proof.Gen.KernelIdeal

/-!
The gather kernel written once: a chunk fetches thirty-two tiles per table, waits for all of them,
and picks one element of each.  `gather` is this text over a chunk's and a fetch's number.
-/

@[expose] public section

noncomputable section

namespace Cert.KernelIdeal.G

open Idealize.ShloMosaic Idealize.SL.Sem
open Idealize.ShloMosaic.RefSig (ofTables tileCredit tileCredit_eq_zero tileCredit_pos)

variable {F : FTy → Type} [FloatOps F]

variable [Facts]
open Facts₀ Facts

/-- The program one tile runs. -/
abbrev TP (F : FTy → Type) (i : grid0.Coords) :=
  Prog (TpuEff nD τ sig (Elt F) Λ₀ (.scVector ((i 0).castLE hcore0) ((i 1).castLE hsub0)))

/-- Sixteen words of the index buffers from word `16 g` on. -/
theorem inb_grp (g : Nat) (hg : g < 8) : ∀ a, (![16 * g] : Fin 1 → Nat) a + S16.size a ≤ S128.size a := by
  intro a; fin_cases a; show 16 * g + 16 ≤ 128; omega

/-- Tile `j` of the staging buffer. -/
theorem inb_slot (j : Nat) (hj : j < 32) :
    ∀ a, (![j, 0, 0] : Fin 3 → Nat) a + S1x8x128.size a ≤ S32x8x128.size a := by
  intro a
  fin_cases a
  · show j + 1 ≤ 32; omega
  · show 0 + 8 ≤ 8; omega
  · show 0 + 128 ≤ 128; omega

/-- The rectangle of group `g`. -/
abbrev grp (g : Nat) (hg : g < 8) : Rect S128 :=
  Rect.unit (s := S128) ![16 * g] S16.size (inb_grp g hg)

/-- Lane `lane` of `v` under a mask, read as the last entry of a running sum. -/
def pick (v3 : IVec S16 32) (lane : Nat) (mask : BitVec 32) (v : IVec S16 32) : BitVec 32 :=
  extractAt ![15] (scan .sum (select (cmpi .eq v3 (broadcast S16 (BitVec.ofNat 32 lane)))
    (andi v (broadcast S16 mask)) (broadcast S16 0#32))) inpos_S16_p15

/-- The tile of a table at row `v`, column `w`. -/
abbrev tileIn (b : Memref sig .scVector .hbm S4096x8192 .f32) (v w : BitVec 32)
    (h : ∀ a, (k0_off2 v w) a + S8x128.size a ≤ S4096x8192.size a) : Memref sig .scVector .hbm S8x128 .f32 :=
  b.slice (Rect.unit (s := S4096x8192) (k0_off2 v w) S8x128.size h) (fun _ => rfl)

/-- Tile `j` of a staging buffer. -/
abbrev slot (b : Memref sig .scVector .vmem S32x8x128 .f32) (j : Nat) (hj : j < 32) :
    Memref sig .scVector .vmem S8x128 .f32 :=
  (b.slice (Rect.unit (s := S32x8x128) ![j, 0, 0] S1x8x128.size (inb_slot j hj)) (fun _ => rfl)).squeeze S8x128
    squeezes_S1x8x128_S8x128

abbrev aT : Memref sig .scVector .hbm S4096x8192 .f32 := Memref.whole main_arg2_scv
abbrev bT : Memref sig .scVector .hbm S4096x8192 .f32 := Memref.whole main_arg3_scv
abbrev qV : Memref sig .scVector .vmem S128 .i32 := Memref.whole cc0_scratch0
abbrev kV : Memref sig .scVector .vmem S128 .i32 := Memref.whole cc0_scratch1
abbrev mT : Memref sig .scVector .vmem S32x8x128 .f32 := Memref.whole cc0_scratch2
abbrev sT : Memref sig .scVector .vmem S32x8x128 .f32 := Memref.whole cc0_scratch3
abbrev muV : Memref sig .scVector .vmem S128 .f32 := Memref.whole cc0_scratch4
abbrev sgV : Memref sig .scVector .vmem S128 .f32 := Memref.whole cc0_scratch5
abbrev semA : DmaSems sig S_ := cc0_scratch6
abbrev semB : DmaSems sig S_ := cc0_scratch7

/-- What a fetch leaves: the tile's row and column, and that the tile lies in the table. -/
abbrev Got := Σ' (v : BitVec 32) (w : BitVec 32), ∀ a, (k0_off2 v w) a + S8x128.size a ≤ S4096x8192.size a

/-- The two waits of tile `j`. -/
def waitPair (i : grid0.Coords) (j : Nat) (hj : j < 32) (g : Got) : TP F i PUnit := do
  Prog.lift (.waitDma2 semA.sem (tileIn aT g.1 g.2.1 g.2.2) (slot mT j hj) (View.wordExact_bits rfl)
    ((View.wordExact_bits rfl).reshape _ _))
  Prog.lift (.waitDma2 semB.sem (tileIn bT g.1 g.2.1 g.2.2) (slot sT j hj) (View.wordExact_bits rfl)
    ((View.wordExact_bits rfl).reshape _ _))

/-- Fetch `j` of a chunk: read the row and the column, check them, and start both transfers. -/
def fetchIn (i : grid0.Coords) (v3 : IVec S16 32) (P : BitVec 32 → BitVec 32 → Prop)
    (dec : ∀ v w, Decidable (P v w))
    (inb : ∀ v w, P v w → ∀ a, (k0_off2 v w) a + S8x128.size a ≤ S4096x8192.size a)
    (g : Nat) (hg : g < 8) (lane : Nat) (j : Nat) (hj : j < 32) : TP F i Got := do
  let v6 : Vec F S16 .i32 ← Prog.lift (.load qV (grp g hg).toLoadRect (View.loadsAt_vmem h_S16))
  have h1 : k0_chk1 (pick v3 lane 4294967288#32 v6) :=
    (← Prog.lift (TpuEff.assume (k0_chk1 (pick v3 lane 4294967288#32 v6)) (k0_chk1.dec (pick v3 lane 4294967288#32 v6)))).down
  let v15 : Vec F S16 .i32 ← Prog.lift (.load kV (grp g hg).toLoadRect (View.loadsAt_vmem h_S16))
  have h2 : P (pick v3 lane 4294967288#32 v6) (pick v3 lane 4294967168#32 v15) :=
    (← Prog.lift (TpuEff.assume (P (pick v3 lane 4294967288#32 v6) (pick v3 lane 4294967168#32 v15))
      (dec (pick v3 lane 4294967288#32 v6) (pick v3 lane 4294967168#32 v15)))).down
  Prog.lift (.enqueueDma (tileIn aT (pick v3 lane 4294967288#32 v6) (pick v3 lane 4294967168#32 v15) (inb _ _ h2))
    (.here (slot mT j hj)) (.dma semA.sem) (View.wordExact_bits rfl) ((View.wordExact_bits rfl).reshape _ _)
    ⟨Or.inl rfl, trivial⟩)
  Prog.lift (.enqueueDma (tileIn bT (pick v3 lane 4294967288#32 v6) (pick v3 lane 4294967168#32 v15) (inb _ _ h2))
    (.here (slot sT j hj)) (.dma semB.sem) (View.wordExact_bits rfl) ((View.wordExact_bits rfl).reshape _ _)
    ⟨Or.inl rfl, trivial⟩)
  pure ⟨_, _, inb _ _ h2⟩

/-- The fetch with `n` fetches after it: a chunk's last one states its tile's place once. -/
def fetchSel (i : grid0.Coords) (v3 : IVec S16 32) (g : Nat) (hg : g < 8) (lane j : Nat) (hj : j < 32) :
    Nat → TP F i Got
  | 0 => fetchIn i v3 k0_chk64 k0_chk64.dec (fun v w h => k0_off33_inb v w h) g hg lane j hj
  | _ + 1 => fetchIn i v3 k0_chk2 k0_chk2.dec (fun v w h => k0_off2_inb v w h) g hg lane j hj

/-- The fetches of chunk `c` from the `j`-th on, then the waits of all of them in order. -/
def fetches (i : grid0.Coords) (v3 : IVec S16 32) (c : Nat) (hc : c < 4) :
    (n j : Nat) → j + n = 32 → (TP F i PUnit → TP F i PUnit) → TP F i PUnit
  | 0, _, _, W => W (pure ⟨⟩)
  | n + 1, j, h, W => do
    let g ← fetchSel i v3 ((c * 32 + j) / 16) (by omega) ((c * 32 + j) % 16) j (by omega) n
    fetches i v3 c hc n (j + 1) (by omega) (fun K => W (do waitPair i j (by omega) g; K))

/-- Group `h` of a chunk: pick each staged tile's element and store the sixteen of them. -/
def pickGroup (i : grid0.Coords) (v3 : IVec S16 32) (h g : Nat) (hg : g < 8) : TP F i PUnit := do
  let v1415 : Vec F S16 .i32 ← Prog.lift (.load qV (grp g hg).toLoadRect (View.loadsAt_vmem h_S16))
  let v1418 : Vec F S16 .i32 ← Prog.lift (.load kV (grp g hg).toLoadRect (View.loadsAt_vmem h_S16))
  have hw : k0_chk65 (addi v3 (broadcast S16 (BitVec.ofNat 32 (16 * h)))) (andi v1415 (broadcast S16 7#32))
      (andi v1418 (broadcast S16 127#32)) :=
    (← Prog.lift (TpuEff.assume (k0_chk65 (addi v3 (broadcast S16 (BitVec.ofNat 32 (16 * h))))
      (andi v1415 (broadcast S16 7#32)) (andi v1418 (broadcast S16 127#32))) (k0_chk65.dec _ _ _))).down
  let v1420 : Vec F S16 .f32 ← SparseCore.vectorLoadIdx mT _ (k0_idx1_inb _ _ _ hw) (View.loads_vmem h_S32x8x128)
  let _ : Vec F S16 .f32 ← Prog.lift (.load muV (grp g hg).toLoadRect (View.loadsAt_vmem h_S16))
  Prog.lift (.store muV (grp g hg) v1420 Finset.univ (View.stores_vmem_bits_univ h_S16 rfl) (.inl rfl))
  let v1422 : Vec F S16 .f32 ← SparseCore.vectorLoadIdx sT _ (k0_idx1_inb _ _ _ hw) (View.loads_vmem h_S32x8x128)
  let _ : Vec F S16 .f32 ← Prog.lift (.load sgV (grp g hg).toLoadRect (View.loadsAt_vmem h_S16))
  Prog.lift (.store sgV (grp g hg) v1422 Finset.univ (View.stores_vmem_bits_univ h_S16 rfl) (.inl rfl))

/-- A chunk: its fetches and waits, then its two groups. -/
def chunk (i : grid0.Coords) (v3 : IVec S16 32) (c : Nat) (hc : c < 4) : TP F i PUnit := do
  fetches i v3 c hc 32 0 rfl (fun K => K)
  pickGroup i v3 0 (2 * c) (by omega)
  pickGroup i v3 1 (2 * c + 1) (by omega)

/-- A tile's words of an index array, and of a result array. -/
abbrev rowIn (i : grid0.Coords) (b : Memref sig .scVector .hbm S4096 .i32) : Memref sig .scVector .hbm S128 .i32 :=
  b.slice (Rect.unit (s := S4096) (k0_off1 i) S128.size (k0_off1_inb i)) (fun _ => rfl)
abbrev rowOut (i : grid0.Coords) (b : Memref sig .scVector .hbm S4096 .f32) : Memref sig .scVector .hbm S128 .f32 :=
  b.slice (Rect.unit (s := S4096) (k0_off254 i) S128.size (k0_off254_inb i)) (fun _ => rfl)

/-- One tile of the gather kernel. -/
def gather (i : grid0.Coords) : TP F i PUnit := do
  Prog.lift (.enqueueDma (rowIn i (Memref.whole main_arg0_scv)) (.here qV) (.dma cc0_scoped0.sem) (View.wordExact_bits rfl) (Memref.isWhole_whole _).wordExact ⟨Or.inl rfl, trivial⟩)
  Prog.lift (.waitDma2 cc0_scoped0.sem (rowIn i (Memref.whole main_arg0_scv)) qV (View.wordExact_bits rfl) (Memref.isWhole_whole _).wordExact)
  Prog.lift (.enqueueDma (rowIn i (Memref.whole main_arg1_scv)) (.here kV) (.dma cc0_scoped1.sem) (View.wordExact_bits rfl) (Memref.isWhole_whole _).wordExact ⟨Or.inl rfl, trivial⟩)
  Prog.lift (.waitDma2 cc0_scoped1.sem (rowIn i (Memref.whole main_arg1_scv)) kV (View.wordExact_bits rfl) (Memref.isWhole_whole _).wordExact)
  chunk i (iota .scVector S16 32 [0] iota_S16_d0_w32_scVector) 0 (by omega)
  chunk i (iota .scVector S16 32 [0] iota_S16_d0_w32_scVector) 1 (by omega)
  chunk i (iota .scVector S16 32 [0] iota_S16_d0_w32_scVector) 2 (by omega)
  chunk i (iota .scVector S16 32 [0] iota_S16_d0_w32_scVector) 3 (by omega)
  Prog.lift (.enqueueDma muV (.here (rowOut i (Memref.whole main_v0_0_scv))) (.dma cc0_scoped2.sem) (Memref.isWhole_whole _).wordExact (View.wordExact_bits rfl) ⟨Or.inl rfl, trivial⟩)
  Prog.lift (.waitDma2 cc0_scoped2.sem muV (rowOut i (Memref.whole main_v0_0_scv)) (Memref.isWhole_whole _).wordExact (View.wordExact_bits rfl))
  Prog.lift (.enqueueDma sgV (.here (rowOut i (Memref.whole main_v0_1_scv))) (.dma cc0_scoped3.sem) (Memref.isWhole_whole _).wordExact (View.wordExact_bits rfl) ⟨Or.inl rfl, trivial⟩)
  Prog.lift (.waitDma2 cc0_scoped3.sem sgV (rowOut i (Memref.whole main_v0_1_scv)) (Memref.isWhole_whole _).wordExact (View.wordExact_bits rfl))

end Cert.KernelIdeal.G

end
-- ==== Proof.Setup.lean ====
module

public import proofs.«01_k».proof.Proof.Gather
public import Idealize.ShloMosaic.Lib.SparseCore.Quiescent
public import Idealize.ShloMosaic.Lib.SparseCore.Ops
public import Idealize.ShloMosaic.Lib.Batch
public import Idealize.ShloMosaic.Lib.Pipeline.Kit
public import Idealize.ShloMosaic.Lib.Tactic

/-!
The names under which the launch theorem sees the program, and the resources of its proof.
-/

@[expose] public section

noncomputable section

namespace Cert.KernelIdeal.G

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The pipelines' own cells. -/
abbrev UP : Type := URounds (GSem nD τ sig) Unit
abbrev UU : Type := UH × (UP × Counters)

/-- The proof's resources. -/
abbrev MM (F : FTy → Type) := MT nD τ sig (HIx 2) (Elt F) ℕ UU ℕ

abbrev EH : Emb UH (MM F) := embL
/-- The pipelines' part of the resources. -/
def EP : Emb UP (MM F) := (Emb.inl : Emb UP (UP × Counters)).trans embR
instance EP_landsIn : (EP (F := F)).LandsIn (upEmb : UEmb _ (MM F)) := by unfold EP; infer_instance
abbrev EC : UEmb Counters (MM F) := countersEmb

/-- A copy started and waited for at once, on a cell of its own. -/
theorem wp_copy [FloatOps F] (thr : Thread nD τ) {α : Type} {sp sp' : Space} {s : Shape} {e : EltTy}
    {Q : α → sProp (MM F)}
    {src : Memref sig thr.2.kind sp s e} {dst : Memref sig thr.2.kind sp' s e} {sem : DmaSem sig}
    {hsrc hsrc' : src.view.WordExact} {hdst hdst' : dst.view.WordExact}
    {hsem : DmaTarget.Typed (nD := nD) sp (.dma sem) (.here dst)}
    {k : PUnit → Prog (TpuEff nD τ sig (Elt F) Λ₀ thr.2) α} {q : PosShare TreeShare}
    {fs : Buf (Elt F) (src.view.loc thr)} {fd : Buf (Elt F) (dst.view.loc thr)}
    {O : CellTallies nD τ sig (HIx 2)} {W : Waits sig (HIx 2)}
    (hN0 : 0 < dst.view.dmaCredit) (hA : dst.view.amount (.dma sem) = dst.view.dmaCredit) :
    iprop((src.view.loc thr ↦[src.view.set]{q} fs) ∗ (dst.view.loc thr ↦[dst.view.set]{fullShare} fd)
        ∗ semVal (thr, .dma sem) 0 ∗ owes thr O W ∗ Transfers.MayWaits thr (none : HIx 2) O)
      ⊢ iprop((iprop((src.view.loc thr ↦[src.view.set]{q} fs)
            ∗ (dst.view.loc thr ↦[dst.view.set]{fullShare} (dst.view.write (Elt F) fd (src.view.read (Elt F) fs) Finset.univ))
            ∗ semVal (thr, .dma sem) 0 ∗ owes thr O (insert (SemLoc.dma sem, none) W))
          -∗ wp frame (wpE (defs₀ (F := F)) 𝒱₀ thr none) Set.univ (k ⟨⟩) Q)
        -∗ wp frame (wpE (defs₀ (F := F)) 𝒱₀ thr none) Set.univ
            (.op (.enqueueDma src (.here dst) (.dma sem) hsrc hdst hsem)
              fun _ => .op (.waitDma2 sem src dst hsrc' hdst') k) Q) := by
  iintro ⟨Hs, Hd, Hv, HO, Hmw⟩ Hk
  iapply (Transfers.wp_dmaLocal EC 𝒱₀ thr none (none : HIx 2) _ hA hN0 (Finset.Subset.refl _)) $$ [Hs Hd Hv]
  · isplitl [Hs]; · iexact Hs
    isplitl [Hd]; · iexact Hd
    iexact Hv
  iintro Hf
  iapply (Transfers.wp_waitLocalO EC 𝒱₀ thr none (none : HIx 2) rfl (O := O) (W := W)) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hs]; · iexact Hs
  isplitl [Hd]; · iexact Hd
  isplitl [Hv]; · iexact Hv
  iexact HO

end Cert.KernelIdeal.G

end
-- ==== Proof.GatherVal.lean ====
module

public import proofs.«01_k».proof.Proof.Setup
public import Idealize.ShloMosaic.Lib.ValueLayout

/-!
The words and the places of the gather: what a mask leaves of an index, where a tile lies in its
table, what a staging buffer holds when its tiles have landed, and what the picks read of it.
-/

@[expose] public section

noncomputable section

namespace Cert.KernelIdeal.G

open Idealize.ShloMosaic Idealize.SL.Sem
open Idealize.ShloMosaic.ValueIdx

variable {F : FTy → Type} [FloatOps F]

variable [Facts]
open Facts₀ Facts

/-- Word `e` of an index buffer. -/
abbrev wx (e : Nat) (he : e < 128) : S128.Idx := Shape.ofLane (d := ![128]) ⟨e, he⟩

/-- A place of a table, the coordinates wrapped. -/
def tIx (a b : Nat) : S4096x8192.Idx :=
  ix2 ⟨a % 4096, Nat.mod_lt _ (by omega)⟩ ⟨b % 8192, Nat.mod_lt _ (by omega)⟩

theorem andi8 (x : BitVec 32) : (IntOp.andi x 4294967288#32).toNat = x.toNat / 8 * 8 := by
  have h : IntOp.andi x 4294967288#32 = (x >>> 3) <<< 3 := by
    show x &&& 4294967288#32 = _
    ext k hk
    interval_cases k <;> simp <;> decide
  rw [h, BitVec.toNat_shiftLeft, BitVec.toNat_ushiftRight, Nat.shiftRight_eq_div_pow, Nat.shiftLeft_eq]
  have := x.isLt
  omega

theorem andi128 (x : BitVec 32) : (IntOp.andi x 4294967168#32).toNat = x.toNat / 128 * 128 := by
  have h : IntOp.andi x 4294967168#32 = (x >>> 7) <<< 7 := by
    show x &&& 4294967168#32 = _
    ext k hk
    interval_cases k <;> simp <;> decide
  rw [h, BitVec.toNat_shiftLeft, BitVec.toNat_ushiftRight, Nat.shiftRight_eq_div_pow, Nat.shiftLeft_eq]
  have := x.isLt
  omega

theorem andi7 (x : BitVec 32) : (IntOp.andi x 7#32).toNat = x.toNat % 8 := by
  show (x &&& 7#32).toNat = _
  rw [BitVec.toNat_and]
  exact Nat.and_two_pow_sub_one_eq_mod x.toNat 3

theorem andi127 (x : BitVec 32) : (IntOp.andi x 127#32).toNat = x.toNat % 128 := by
  show (x &&& 127#32).toNat = _
  rw [BitVec.toNat_and]
  exact Nat.and_two_pow_sub_one_eq_mod x.toNat 7

/-- The lanes' numbers. -/
abbrev lanes : IVec S16 32 := iota .scVector S16 32 [0] iota_S16_d0_w32_scVector

theorem sum_one (g : Fin 16 → BitVec 32) (lane : Nat) (hl : lane < 16) (w : BitVec 32)
    (hg : ∀ k : Fin 16, g k = if k.val = lane then w else 0#32) :
    ((List.finRange 16).filter fun k => decide (0 < k.val ∧ k.val ≤ 15)).foldl (fun r k => r + g k) (g 0) = w := by
  have hf : ((List.finRange 16).filter fun k => decide (0 < k.val ∧ k.val ≤ 15))
      = [1,2,3,4,5,6,7,8,9,10,11,12,13,14,15] := by decide
  rw [hf]
  simp only [hg, List.foldl_cons, List.foldl_nil]
  interval_cases lane <;> simp

theorem eq_lane (k : Fin 16) (lane : Nat) (hl : lane < 16) :
    (IntOp.cmpi .eq (BitVec.ofNat 32 (0 * 16 + k.val)) (BitVec.ofNat 32 lane) = 1#1) ↔ k.val = lane := by
  revert k
  interval_cases lane <;> decide

/-- The running sum over one lane's word is that word. -/
theorem pick_eq (lane : Nat) (hl : lane < 16) (mask : BitVec 32) (v : IVec S16 32) :
    pick lanes lane mask v = IntOp.andi (v (Shape.ofLane (d := ![16]) ⟨lane, hl⟩)) mask := by
  refine sum_one (fun k => select (cmpi .eq lanes (broadcast S16 (BitVec.ofNat 32 lane)))
    (andi v (broadcast S16 mask)) (broadcast S16 0#32) (Shape.ofLane (d := ![16]) k)) lane hl _ fun k => ?_
  show (if IntOp.cmpi .eq (BitVec.ofNat 32 (0 * 16 + k.val)) (BitVec.ofNat 32 lane) = 1#1
    then IntOp.andi (v (Shape.ofLane (d := ![16]) k)) mask else 0#32) = _
  by_cases h : k.val = lane
  · rw [if_pos h, if_pos ((eq_lane k lane hl).mpr h)]
    subst h; rfl
  · rw [if_neg h, if_neg fun h' => h ((eq_lane k lane hl).mp h')]

/-- Every index names a row and a column of the tables. -/
abbrev InTab (Q K : S128.Idx → BitVec 32) : Prop := ∀ x, (Q x).toNat < 4096 ∧ (K x).toNat < 8192

variable {Q K : S128.Idx → BitVec 32}

theorem off2_inb (q k : BitVec 32) (hq : q.toNat < 4096) (hk : k.toNat < 8192) :
    ∀ a, (k0_off2 (IntOp.andi q 4294967288#32) (IntOp.andi k 4294967168#32)) a + S8x128.size a ≤ S4096x8192.size a := by
  intro a
  fin_cases a
  · show (IntOp.andi q 4294967288#32).toNat + 8 ≤ 4096
    rw [andi8]; omega
  · show (IntOp.andi k 4294967168#32).toNat + 128 ≤ 8192
    rw [andi128]; omega

theorem chk1_ok (q : BitVec 32) : k0_chk1 (IntOp.andi q 4294967288#32) := by
  show 8 ∣ (IntOp.andi q 4294967288#32).toNat
  rw [andi8]; exact Dvd.intro_left _ rfl

theorem chk2_ok (q k : BitVec 32) (hq : q.toNat < 4096) (hk : k.toNat < 8192) :
    k0_chk2 (IntOp.andi q 4294967288#32) (IntOp.andi k 4294967168#32) := by
  refine ⟨?_, off2_inb q k hq hk, off2_inb q k hq hk⟩
  show 128 ∣ (IntOp.andi k 4294967168#32).toNat
  rw [andi128]; exact Dvd.intro_left _ rfl

theorem chk64_ok (q k : BitVec 32) (hq : q.toNat < 4096) (hk : k.toNat < 8192) :
    k0_chk64 (IntOp.andi q 4294967288#32) (IntOp.andi k 4294967168#32) := by
  refine ⟨?_, off2_inb q k hq hk⟩
  show 128 ∣ (IntOp.andi k 4294967168#32).toNat
  rw [andi128]; exact Dvd.intro_left _ rfl

theorem slotIx (h : Nat) (hh : h < 2) (x : S16.Idx) :
    (IntOp.addi (lanes x) (BitVec.ofNat 32 (16 * h))).toNat = (x 0).val + 16 * h := by
  have hx : (x 0).val < 16 := (x 0).isLt
  show (BitVec.ofNat 32 (0 * 16 + (x 0).val) + BitVec.ofNat 32 (16 * h)).toNat = _
  rw [BitVec.toNat_add, BitVec.toNat_ofNat, BitVec.toNat_ofNat]
  omega

theorem chk65_ok (h : Nat) (hh : h < 2) (q k : IVec S16 32) :
    k0_chk65 (addi lanes (broadcast S16 (BitVec.ofNat 32 (16 * h)))) (andi q (broadcast S16 7#32))
      (andi k (broadcast S16 127#32)) := by
  have H : ∀ a x, ((![addi lanes (broadcast S16 (BitVec.ofNat 32 (16 * h))), andi q (broadcast S16 7#32),
      andi k (broadcast S16 127#32)] : Fin 3 → IVec S16 32) a x).toNat < S32x8x128.size a := by
    intro a x
    have hx : (x 0).val < 16 := (x 0).isLt
    fin_cases a
    · show (IntOp.addi (lanes x) (BitVec.ofNat 32 (16 * h))).toNat < 32
      rw [slotIx h hh]; omega
    · show (IntOp.andi (q x) 7#32).toNat < 8
      rw [andi7]; omega
    · show (IntOp.andi (k x) 127#32).toNat < 128
      rw [andi127]; omega
  exact ⟨H, H⟩

/-- A place of a slot is the same place of its buffer. -/
theorem slot_emb (b : Memref sig .scVector .vmem S32x8x128 .f32) (j : Nat) (hj : j < 32) (y0 : Fin 8) (y1 : Fin 128) :
    (slot b j hj).view.emb (ix2 y0 y1) = b.view.emb (ix3 (⟨j, hj⟩ : Fin 32) y0 y1) := by
  have h := reshapeEquiv_ix2_1ab (a := 8) (b := 128) squeezes_S1x8x128_S8x128.numel_eq y0 y1
  show b.view.emb ((Rect.unit (s := S32x8x128) ![j, 0, 0] S1x8x128.size (inb_slot j hj)).emb
    (Shape.reshapeEquiv squeezes_S1x8x128_S8x128.numel_eq (ix2 y0 y1))) = _
  rw [h]
  congr 1
  funext a
  fin_cases a <;> refine Fin.ext ?_
  · show j + 1 * 0 = j; omega
  · show 0 + 1 * y0.val = y0.val; omega
  · show 0 + 1 * y1.val = y1.val; omega

/-- What a staging buffer holds when chunk `c`'s tiles have landed. -/
def stage (f : S4096x8192.Idx → Elt F .f32) (Q K : S128.Idx → BitVec 32) (c : Nat) (hc : c < 4) (x : S32x8x128.Idx) : Elt F .f32 :=
  f (tIx ((Q (wx (c * 32 + (x 0).val) (by have h : (x 0).val < 32 := (x 0).isLt; omega))).toNat / 8 * 8 + (x 1).val)
    ((K (wx (c * 32 + (x 0).val) (by have h : (x 0).val < 32 := (x 0).isLt; omega))).toNat / 128 * 128 + (x 2).val))

theorem tile_emb (b : Memref sig .scVector .hbm S4096x8192 .f32) (q k : BitVec 32) (hq : q.toNat < 4096) (hk : k.toNat < 8192)
    (h : ∀ a, (k0_off2 (IntOp.andi q 4294967288#32) (IntOp.andi k 4294967168#32)) a + S8x128.size a ≤ S4096x8192.size a)
    (y0 : Fin 8) (y1 : Fin 128) :
    (tileIn b (IntOp.andi q 4294967288#32) (IntOp.andi k 4294967168#32) h).view.emb (ix2 y0 y1)
      = b.view.emb (tIx (q.toNat / 8 * 8 + y0.val) (k.toNat / 128 * 128 + y1.val)) := by
  show b.view.emb ((Rect.unit (s := S4096x8192) _ S8x128.size h).emb (ix2 y0 y1)) = _
  congr 1
  have := y0.isLt
  have := y1.isLt
  funext a
  fin_cases a <;> refine Fin.ext ?_
  · show (IntOp.andi q 4294967288#32).toNat + 1 * y0.val = (q.toNat / 8 * 8 + y0.val) % 4096
    rw [andi8]; omega
  · show (IntOp.andi k 4294967168#32).toNat + 1 * y1.val = (k.toNat / 128 * 128 + y1.val) % 8192
    rw [andi128]; omega

/-- The element a pick reads is the table's at the row and the column the indices name. -/
theorem stage_pick (f : S4096x8192.Idx → Elt F .f32) (c : Nat) (hc : c < 4) (h : Nat) (hh : h < 2) (q k : IVec S16 32)
    (hq : ∀ x : S16.Idx, q x = Q (wx (c * 32 + ((x 0).val + 16 * h)) (by have h : (x 0).val < 16 := (x 0).isLt; omega)))
    (hk : ∀ x : S16.Idx, k x = K (wx (c * 32 + ((x 0).val + 16 * h)) (by have h : (x 0).val < 16 := (x 0).isLt; omega)))
    (H) (x : S16.Idx) :
    loadIdx (F := F) (s := S32x8x128) (e := .f32) (stage f Q K c hc)
      (![addi lanes (broadcast S16 (BitVec.ofNat 32 (16 * h))), andi q (broadcast S16 7#32), andi k (broadcast S16 127#32)] : Fin 3 → IVec S16 32)
      H x = f (tIx (q x).toNat (k x).toNat) := by
  have hx : (x 0).val < 16 := (x 0).isLt
  unfold loadIdx stage
  have e0 : ((idxAt (s := S32x8x128) (![addi lanes (broadcast S16 (BitVec.ofNat 32 (16 * h))), andi q (broadcast S16 7#32), andi k (broadcast S16 127#32)] : Fin 3 → IVec S16 32) H x) 0).val
      = (x 0).val + 16 * h := slotIx h hh x
  have e1 : ((idxAt (s := S32x8x128) (![addi lanes (broadcast S16 (BitVec.ofNat 32 (16 * h))), andi q (broadcast S16 7#32), andi k (broadcast S16 127#32)] : Fin 3 → IVec S16 32) H x) 1).val
      = (q x).toNat % 8 := andi7 (q x)
  have e2 : ((idxAt (s := S32x8x128) (![addi lanes (broadcast S16 (BitVec.ofNat 32 (16 * h))), andi q (broadcast S16 7#32), andi k (broadcast S16 127#32)] : Fin 3 → IVec S16 32) H x) 2).val
      = (k x).toNat % 128 := andi127 (k x)
  have wxc : ∀ e e' (he : e < 128) (he' : e' < 128), e = e' → wx e he = wx e' he' := by
    rintro e _ he he' rfl; rfl
  generalize idxAt (s := S32x8x128) (![addi lanes (broadcast S16 (BitVec.ofNat 32 (16 * h))), andi q (broadcast S16 7#32), andi k (broadcast S16 127#32)] : Fin 3 → IVec S16 32) H x = I at e0 e1 e2 ⊢
  rw [wxc _ (c * 32 + ((x 0).val + 16 * h)) _ (by omega) (by rw [e0]), ← hq, ← hk, e1, e2]
  congr 2 <;> omega

end Cert.KernelIdeal.G

end
-- ==== Proof.GatherWp.lean ====
module

public import proofs.«01_k».proof.Proof.GatherVal

/-!
A chunk of the gather, proved once: the sixty-four copies are two batches, one per table, and the
last wait of each hands back the staging buffer with every tile in its slot.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

/-- The tile's thread. -/
abbrev thG (d : Dev nD) (i : grid0.Coords) : Thread nD τ := V d ((i 0).castLE hcore0) ((i 1).castLE hsub0)

/-- What one tile's proof is about: its indices, the tables' contents, and the read shares it was given. -/
structure Job (F : FTy → Type) where
  Q : S128.Idx → BitVec 32
  K : S128.Idx → BitVec 32
  ok : InTab Q K
  fa : S4096x8192.Idx → Elt F .f32
  fb : S4096x8192.Idx → Elt F .f32
  sa : Fin 32 → PosShare TreeShare

variable (d : Dev nD) (i : grid0.Coords) (J : Job F)

/-- The tile of table `b` that fetch `j` of chunk `c` reads. -/
abbrev src (b : Memref sig .scVector .hbm S4096x8192 .f32) (c : Nat) (hc : c < 4) (j : Fin 32) : Memref sig .scVector .hbm S8x128 .f32 :=
  tileIn b (IntOp.andi (J.Q (wx (c * 32 + j.val) (by omega))) 4294967288#32)
    (IntOp.andi (J.K (wx (c * 32 + j.val) (by omega))) 4294967168#32)
    (off2_inb _ _ (J.ok _).1 (J.ok _).2)

/-- The number of a slot's units, by table. -/
def NA : ℕ := (cc0_scratch2 : Ref sig .scVector).dmaCredit S8x128 .f32
def NB : ℕ := (cc0_scratch3 : Ref sig .scVector).dmaCredit S8x128 .f32

theorem credA (j : Nat) (hj : j < 32) : (slot mT j hj).view.dmaCredit = NA := rfl
theorem credB (j : Nat) (hj : j < 32) : (slot sT j hj).view.dmaCredit = NB := rfl

abbrev readA (c : Nat) (hc : c < 4) (j : Fin 32) : sProp (MM F) :=
  (src J aT c hc j).view.loc (thG d i) ↦[(src J aT c hc j).view.set]{J.sa j} J.fa
abbrev readB (c : Nat) (hc : c < 4) (j : Fin 32) : sProp (MM F) :=
  (src J bT c hc j).view.loc (thG d i) ↦[(src J bT c hc j).view.set]{J.sa j} J.fb
abbrev slotA (j : Fin 32) (f : Buf (Elt F) (mT.view.loc (thG d i))) : sProp (MM F) :=
  (slot mT j.val j.isLt).view.loc (thG d i) ↦[(slot mT j.val j.isLt).view.set]{fullShare} f
abbrev slotB (j : Fin 32) (f : Buf (Elt F) (sT.view.loc (thG d i))) : sProp (MM F) :=
  (slot sT j.val j.isLt).view.loc (thG d i) ↦[(slot sT j.val j.isLt).view.set]{fullShare} f

/-- What the copies deliver. -/
abbrev DA (c : Nat) (hc : c < 4) (j : Fin 32) : sProp (MM F) :=
  iprop(slotA d i j (stage J.fa J.Q J.K c hc) ∗ readA d i J c hc j)
abbrev DB (c : Nat) (hc : c < 4) (j : Fin 32) : sProp (MM F) :=
  iprop(slotB d i j (stage J.fb J.Q J.K c hc) ∗ readB d i J c hc j)

/-- The two batches: `k` copies started, `u` units waited for. -/
abbrev Bat (c : Nat) (hc : c < 4) (k u : ℕ) : sProp (MM F) :=
  iprop(Batch EC (thG d i) (.dma semA.sem) (none : HIx 2) NA (DA d i J c hc) k u
    ∗ Batch EC (thG d i) (.dma semB.sem) (none : HIx 2) NB (DB d i J c hc) k u)

/-- What the copies still to start need. -/
abbrev Todo (c : Nat) (hc : c < 4) (fm : Buf (Elt F) (mT.view.loc (thG d i))) (fs : Buf (Elt F) (sT.view.loc (thG d i))) (k : ℕ) : sProp (MM F) :=
  bigSep (pending (n := 32) k) fun t => iprop((readA d i J c hc t ∗ slotA d i t fm) ∗ (readB d i J c hc t ∗ slotB d i t fs))

/-- A tile landed in its slot agrees there with the staging buffer's closed form. -/
theorem landed (b : Memref sig .scVector .hbm S4096x8192 .f32) (t : Memref sig .scVector .vmem S32x8x128 .f32)
    (f : S4096x8192.Idx → Elt F .f32) (c : Nat) (hc : c < 4) (j : Fin 32) (y : S8x128.Idx)
    (Y : S4096x8192.Idx) (hY : (src J b c hc j).view.emb y = b.view.emb Y) :
    ∃ Z : S32x8x128.Idx, (slot t j.val j.isLt).view.emb y = t.view.emb Z ∧ f Y = stage f J.Q J.K c hc Z := by
  have e : y = ix2 (y 0) (y 1) := by funext a; fin_cases a <;> rfl
  rw [e] at hY ⊢
  refine ⟨ix3 (⟨j.val, j.isLt⟩ : Fin 32) (y 0) (y 1), slot_emb t j.val j.isLt (y 0) (y 1), ?_⟩
  have h2 := b.view.emb.injective ((tile_emb b _ _ (J.ok _).1 (J.ok _).2 _ (y 0) (y 1)).symm.trans hY)
  rw [← h2]
  rfl

theorem landA (c : Nat) (hc : c < 4) (j : Fin 32) (fm : Buf (Elt F) (mT.view.loc (thG d i))) :
    (slotA d i j ((slot mT j.val j.isLt).view.write (Elt F) fm (ReadAs.same.apply ((src J aT c hc j).view.read (Elt F) J.fa)) Finset.univ))
      = slotA d i j (stage J.fa J.Q J.K c hc) := by
  refine pointsTo_congr fun x hx => ?_
  obtain ⟨y, -, rfl⟩ := Finset.mem_map.mp hx
  obtain ⟨Z, hZ, hf⟩ := landed J aT mT J.fa c hc j y _ rfl
  rw [View.write_emb_of_mem _ _ (Finset.mem_univ y)]
  exact (show (src J aT c hc j).view.read (Elt F) J.fa y = _ from hf).trans (congrArg (stage J.fa J.Q J.K c hc) hZ.symm)

theorem landB (c : Nat) (hc : c < 4) (j : Fin 32) (fm : Buf (Elt F) (sT.view.loc (thG d i))) :
    (slotB d i j ((slot sT j.val j.isLt).view.write (Elt F) fm (ReadAs.same.apply ((src J bT c hc j).view.read (Elt F) J.fb)) Finset.univ))
      = slotB d i j (stage J.fb J.Q J.K c hc) := by
  refine pointsTo_congr fun x hx => ?_
  obtain ⟨y, -, rfl⟩ := Finset.mem_map.mp hx
  obtain ⟨Z, hZ, hf⟩ := landed J bT sT J.fb c hc j y _ rfl
  rw [View.write_emb_of_mem _ _ (Finset.mem_univ y)]
  exact (show (src J bT c hc j).view.read (Elt F) J.fb y = _ from hf).trans (congrArg (stage J.fb J.Q J.K c hc) hZ.symm)

/-- Copy `j` of both tables started. -/
theorem issue_wp {α : Type} {Φ : α → sProp (MM F)} (c : Nat) (hc : c < 4) (j : Nat) (hj : j < 32) (fm fs)
    (r w : BitVec 32) (hr : r = IntOp.andi (J.Q (wx (c * 32 + j) (by omega))) 4294967288#32)
    (hw : w = IntOp.andi (J.K (wx (c * 32 + j) (by omega))) 4294967168#32)
    (h : ∀ a, (k0_off2 r w) a + S8x128.size a ≤ S4096x8192.size a)
    (k : PUnit → Prog (TpuEff nD τ sig (Elt F) Λ₀ (thG d i).2) α) :
    iprop(Todo d i J c hc fm fs j ∗ Bat d i J c hc j 0)
      ⊢ iprop((iprop(Todo d i J c hc fm fs (j + 1) ∗ Bat d i J c hc (j + 1) 0)
          -∗ wp frame (wpE (defs₀ (F := F)) 𝒱₀ (thG d i) none) Set.univ (k ⟨⟩) Φ)
        -∗ wp frame (wpE (defs₀ (F := F)) 𝒱₀ (thG d i) none) Set.univ
          (.op (.enqueueDma (tileIn aT r w h) (.here (slot mT j hj)) (.dma semA.sem) (View.wordExact_bits rfl) ((View.wordExact_bits rfl).reshape _ _) ⟨Or.inl rfl, trivial⟩) fun _ =>
            .op (.enqueueDma (tileIn bT r w h) (.here (slot sT j hj)) (.dma semB.sem) (View.wordExact_bits rfl) ((View.wordExact_bits rfl).reshape _ _) ⟨Or.inl rfl, trivial⟩) k) Φ) := by
  subst hr hw
  iintro ⟨Ht, HA, HB⟩ Hk
  ihave Ht' := (show Todo d i J c hc fm fs j ⊢ iprop(((readA d i J c hc ⟨j, hj⟩ ∗ slotA d i ⟨j, hj⟩ fm) ∗ (readB d i J c hc ⟨j, hj⟩ ∗ slotB d i ⟨j, hj⟩ fs)) ∗ Todo d i J c hc fm fs (j + 1))
    from Entails.of_eq (by unfold Todo; rw [pending_succ hj, bigSep_insert (not_mem_pending_succ hj)]; rfl)) $$ Ht
  icases Ht' with ⟨⟨⟨Hra, Hsa⟩, ⟨Hrb, Hsb⟩⟩, Ht⟩
  iapply (Transfers.wp_dmaBatch EC 𝒱₀ (thG d i) none (src := src J aT c hc ⟨j, hj⟩) (dst := slot mT j hj) (sm := .dma semA.sem) (via := ReadAs.same)
    (none : HIx 2) NA (credA j hj) (Finset.Subset.refl _) hj (Nat.zero_le _) (D := DA d i J c hc)
    (q := J.sa ⟨j, hj⟩) (fs := J.fa) (fd := fm) (sep_mono (Entails.of_eq (landA d i J c hc ⟨j, hj⟩ fm)) .rfl)) $$ [Hra Hsa HA]
  · isplitl [Hra]; · iexact Hra
    isplitl [Hsa]; · iexact Hsa
    iexact HA
  iintro HA
  iapply (Transfers.wp_dmaBatch EC 𝒱₀ (thG d i) none (src := src J bT c hc ⟨j, hj⟩) (dst := slot sT j hj) (sm := .dma semB.sem) (via := ReadAs.same)
    (none : HIx 2) NB (credB j hj) (Finset.Subset.refl _) hj (Nat.zero_le _) (D := DB d i J c hc)
    (q := J.sa ⟨j, hj⟩) (fs := J.fb) (fd := fs) (sep_mono (Entails.of_eq (landB d i J c hc ⟨j, hj⟩ fs)) .rfl)) $$ [Hrb Hsb HB]
  · isplitl [Hrb]; · iexact Hrb
    isplitl [Hsb]; · iexact Hsb
    iexact HB
  iintro HB
  iapply Hk
  isplitl [Ht]; · iexact Ht
  isplitl [HA]; · iexact HA
  iexact HB

/-- A load from a buffer held whole. -/
theorem load_wp {α : Type} {Φ : α → sProp (MM F)} (thr : Thread nD τ) {cs : CoreSpace} {s : Shape} {e : EltTy}
    (m : Memref sig thr.2.kind cs s e) (r : Rect s) {hl : m.view.LoadsAt r}
    {k : (r.shape.Idx → Elt F e) → Prog (TpuEff nD τ sig (Elt F) Λ₀ thr.2) α} {q : PosShare TreeShare}
    {f : Buf (Elt F) (m.view.loc thr)} :
    (m.view.loc thr ↦{q} f)
      ⊢ iprop(((m.view.loc thr ↦{q} f) -∗ wp frame (wpE (defs₀ (F := F)) 𝒱₀ thr none) Set.univ (k ((m.access r).read (Elt F) f)) Φ)
        -∗ wp frame (wpE (defs₀ (F := F)) 𝒱₀ thr none) Set.univ (.op (.load m r hl) k) Φ) :=
  wp_load_rect 𝒱₀ thr none Set.univ (m := m) (r := r) (S := Finset.univ) (Finset.subset_univ _)

/-- The two index buffers. -/
abbrev idxP : sProp (MM F) :=
  iprop((qV.view.loc (thG d i) ↦{fullShare} (J.Q : Buf (Elt F) (qV.view.loc (thG d i)))) ∗ (kV.view.loc (thG d i) ↦{fullShare} (J.K : Buf (Elt F) (kV.view.loc (thG d i)))))

theorem grp_word (X : S128.Idx → BitVec 32) (g : Nat) (hg : g < 8) (lane : Nat) (hl : lane < 16) (e : Nat) (he : e < 128)
    (h : e = 16 * g + lane) :
    X ((grp g hg).emb (Shape.ofLane (d := ![16]) ⟨lane, hl⟩)) = X (wx e he) := by
  subst h
  congr 1
  funext a
  fin_cases a
  refine Fin.ext ?_
  show 16 * g + 1 * lane = 16 * g + lane
  omega

/-- One fetch: the row and the column read, checked, and both copies started. -/
theorem fetchIn_wp {Φ : Got → sProp (MM F)} (c : Nat) (hc : c < 4) (j : Nat) (hj : j < 32) (fm fs)
    (P : BitVec 32 → BitVec 32 → Prop) (dec) (inb)
    (hP : ∀ q k : BitVec 32, q.toNat < 4096 → k.toNat < 8192 → P (IntOp.andi q 4294967288#32) (IntOp.andi k 4294967168#32))
    (g : Nat) (hg : g < 8) (lane : Nat) (hl : lane < 16) (he : c * 32 + j = 16 * g + lane) :
    iprop(idxP d i J ∗ Todo d i J c hc fm fs j ∗ Bat d i J c hc j 0)
      ⊢ iprop((∀ x, iprop(idxP d i J ∗ Todo d i J c hc fm fs (j + 1) ∗ Bat d i J c hc (j + 1) 0) -∗ Φ x)
        -∗ wp frame (wpE (defs₀ (F := F)) 𝒱₀ (thG d i) none) Set.univ (fetchIn i lanes P dec inb g hg lane j hj) Φ) := by
  have hr : ∀ (X : S128.Idx → BitVec 32) (mask : BitVec 32),
      pick lanes lane mask (fun x => X ((grp g hg).emb x)) = IntOp.andi (X (wx (c * 32 + j) (by omega))) mask := by
    intro X mask
    rw [pick_eq lane hl]
    congr 1
    exact grp_word X g hg lane hl _ _ he
  iintro ⟨⟨Hq, Hk⟩, Ht, Hb⟩ HΦ
  unfold fetchIn
  simp only [Prog.lift, Prog.bind_op, Prog.bind_ret, Prog.pure_eq_ret]
  iapply (load_wp (thG d i) qV (grp g hg)) $$ Hq
  iintro Hq
  have hvq : (qV.access (grp g hg)).read (Elt F) (J.Q : Buf (Elt F) (qV.view.loc (thG d i))) = fun x => J.Q ((grp g hg).emb x) := rfl
  have hvk : (kV.access (grp g hg)).read (Elt F) (J.K : Buf (Elt F) (kV.view.loc (thG d i))) = fun x => J.K ((grp g hg).emb x) := rfl
  generalize (qV.access (grp g hg)).read (Elt F) (J.Q : Buf (Elt F) (qV.view.loc (thG d i))) = v6 at hvq ⊢
  have eq : pick lanes lane 4294967288#32 v6 = IntOp.andi (J.Q (wx (c * 32 + j) (by omega))) 4294967288#32 := by
    rw [hvq]; exact hr J.Q _
  have h1 : k0_chk1 (pick lanes lane 4294967288#32 v6) := by rw [eq]; exact chk1_ok _
  iapply (wp_assume 𝒱₀ (thG d i) none Set.univ h1)
  iapply (load_wp (thG d i) kV (grp g hg)) $$ Hk
  iintro Hk
  generalize (kV.access (grp g hg)).read (Elt F) (J.K : Buf (Elt F) (kV.view.loc (thG d i))) = v15 at hvk ⊢
  have ek : pick lanes lane 4294967168#32 v15 = IntOp.andi (J.K (wx (c * 32 + j) (by omega))) 4294967168#32 := by
    rw [hvk]; exact hr J.K _
  have h2 : P (pick lanes lane 4294967288#32 v6) (pick lanes lane 4294967168#32 v15) := by
    rw [eq, ek]; exact hP _ _ (J.ok _).1 (J.ok _).2
  iapply (wp_assume 𝒱₀ (thG d i) none Set.univ h2)
  iapply (issue_wp d i J c hc j hj fm fs _ _ eq ek (inb _ _ h2)) $$ [Ht Hb]
  · isplitl [Ht]; · iexact Ht
    iexact Hb
  iintro ⟨Ht, Hb⟩
  rw [wp_ret]
  imodintro
  iapply HΦ
  isplitl [Hq Hk]
  · isplitl [Hq]; · iexact Hq
    iexact Hk
  isplitl [Ht]; · iexact Ht
  iexact Hb

end Cert.KernelIdeal.G

end
-- ==== Proof.GatherWait.lean ====
module

public import proofs.«01_k».proof.Proof.GatherWp

/-!
The waits of a chunk, the buffers cut up for it and put together again.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

variable (d : Dev nD) (i : grid0.Coords) (J : Job F) (O : CellTallies nD τ sig (HIx 2)) (W₀ : Waits sig (HIx 2))

/-- What a thread owes, its waits recorded. -/
abbrev Owe : sProp (MM F) :=
  iprop(∃ W', ⌜∀ p ∈ W', p ∈ W₀ ∨ p.2 = none⌝ ∗ owes (thG d i) O W')

abbrev Lv : sProp (MM F) := levAts (K (F := F)).L (K (F := F)).lev

/-- Waits `j` of thirty-two done: before the last, the batches; after it, everything delivered. -/
abbrev Mid (c : Nat) (hc : c < 4) (j : Nat) : sProp (MM F) :=
  iprop(Batch EC (thG d i) (.dma semA.sem) (none : HIx 2) NA (DA d i J c hc) 32 (NA * j)
    ∗ Batch EC (thG d i) (.dma semB.sem) (none : HIx 2) NB (DB d i J c hc) 32 (NB * j) ∗ Owe (F := F) d i O W₀)
abbrev Done (c : Nat) (hc : c < 4) : sProp (MM F) :=
  iprop((bigSep Finset.univ (DA d i J c hc) ∗ semVal (thG d i, .dma semA.sem) 0)
    ∗ (bigSep Finset.univ (DB d i J c hc) ∗ semVal (thG d i, .dma semB.sem) 0) ∗ Owe (F := F) d i O W₀)
def Ws (c : Nat) (hc : c < 4) (j : Nat) : sProp (MM F) :=
  if j = 32 then Done d i J O W₀ c hc else Mid d i J O W₀ c hc j

theorem NA_pos : 0 < NA := by unfold NA; decide
theorem NB_pos : 0 < NB := by unfold NB; decide

/-- A wait recorded. -/
theorem owe_insert {thr : Thread nD τ} {W' : Waits sig (HIx 2)} {s : SemLoc sig} (h : ∀ p ∈ W', p ∈ W₀ ∨ p.2 = none) :
    ∀ p ∈ insert (s, (none : HIx 2)) W', p ∈ W₀ ∨ p.2 = none := by
  intro p hp
  rcases Finset.mem_insert.mp hp with hp | hp
  · exact .inr (hp ▸ rfl)
  · exact h p hp

theorem wait_mid (hO : ∀ g, O g none = 0) {Φ : PUnit → sProp (MM F)} (c : Nat) (hc : c < 4) (j : Nat) (hj : j + 1 < 32) (g : Got)
    {k : TP F i PUnit} :
    iprop(Lv ∗ Mid d i J O W₀ c hc j)
      ⊢ iprop((Mid d i J O W₀ c hc (j + 1) -∗ wp frame (wpE (defs₀ (F := F)) 𝒱₀ (thG d i) none) Set.univ k Φ)
        -∗ wp frame (wpE (defs₀ (F := F)) 𝒱₀ (thG d i) none) Set.univ (do waitPair i j (by omega) g; k) Φ) := by
  unfold waitPair
  simp only [Prog.lift, Prog.bind_op, Prog.bind_ret, Prog.pure_eq_ret]
  iintro ⟨#Hlv, HA, HB, %W', %hW', HO⟩ Hk
  have hj' : j < 32 := by omega
  have hA : NA * j + NA < NA * 32 := (Nat.mul_lt_mul_left NA_pos).mpr hj
  have hB : NB * j + NB < NB * 32 := (Nat.mul_lt_mul_left NB_pos).mpr hj
  iapply (Transfers.wp_waitBatchO EC 𝒱₀ (thG d i) none (srcw := tileIn aT g.1 g.2.1 g.2.2) (dstw := slot mT j hj')
    (none : HIx 2) (credA j hj') (D := DA d i J c hc) (u := NA * j) hA (O := O) (W := W')) $$ [HA HO]
  · isplitl [HA]; · iexact HA
    isplitl [HO]; · iexact HO
    iapply ((K (F := F)).mayWait_none (thr := thG d i) _ hO); iexact Hlv
  iintro ⟨HA, HO⟩
  iapply (Transfers.wp_waitBatchO EC 𝒱₀ (thG d i) none (srcw := tileIn bT g.1 g.2.1 g.2.2) (dstw := slot sT j hj')
    (none : HIx 2) (credB j hj') (D := DB d i J c hc) (u := NB * j) hB (O := O)) $$ [HB HO]
  · isplitl [HB]; · iexact HB
    isplitl [HO]; · iexact HO
    iapply ((K (F := F)).mayWait_none (thr := thG d i) _ hO); iexact Hlv
  iintro ⟨HB, HO⟩
  iapply Hk
  isplitl [HA]; · iexact HA
  isplitl [HB]; · iexact HB
  iexists _; isplitr
  swap; · iexact HO
  ipureintro
  exact owe_insert W₀ (thr := thG d i) (owe_insert W₀ (thr := thG d i) hW')

theorem wait_last (hO : ∀ g, O g none = 0) {Φ : PUnit → sProp (MM F)} (c : Nat) (hc : c < 4) (g : Got)
    {k : TP F i PUnit} :
    iprop(Lv ∗ Mid d i J O W₀ c hc 31)
      ⊢ iprop((Done d i J O W₀ c hc -∗ wp frame (wpE (defs₀ (F := F)) 𝒱₀ (thG d i) none) Set.univ k Φ)
        -∗ wp frame (wpE (defs₀ (F := F)) 𝒱₀ (thG d i) none) Set.univ (do waitPair i 31 (by omega) g; k) Φ) := by
  unfold waitPair
  simp only [Prog.lift, Prog.bind_op, Prog.bind_ret, Prog.pure_eq_ret]
  iintro ⟨#Hlv, HA, HB, %W', %hW', HO⟩ Hk
  have h31 : 31 < 32 := by omega
  iapply (Transfers.wp_waitBatchLastO EC 𝒱₀ (thG d i) none (srcw := tileIn aT g.1 g.2.1 g.2.2) (dstw := slot mT 31 h31)
    (none : HIx 2) (credA 31 h31) NA_pos (D := DA d i J c hc) (u := NA * 31) (Nat.mul_succ NA 31).symm (O := O) (W := W')) $$ [HA HO]
  · isplitl [HA]; · iexact HA
    isplitl [HO]; · iexact HO
    iapply ((K (F := F)).mayWait_none (thr := thG d i) _ hO); iexact Hlv
  iintro ⟨HA, HsA, HO⟩
  iapply (Transfers.wp_waitBatchLastO EC 𝒱₀ (thG d i) none (srcw := tileIn bT g.1 g.2.1 g.2.2) (dstw := slot sT 31 h31)
    (none : HIx 2) (credB 31 h31) NB_pos (D := DB d i J c hc) (u := NB * 31) (Nat.mul_succ NB 31).symm (O := O)) $$ [HB HO]
  · isplitl [HB]; · iexact HB
    isplitl [HO]; · iexact HO
    iapply ((K (F := F)).mayWait_none (thr := thG d i) _ hO); iexact Hlv
  iintro ⟨HB, HsB, HO⟩
  iapply Hk
  isplitl [HA HsA]
  · isplitl [HA]; · iexact HA
    iexact HsA
  isplitl [HB HsB]
  · isplitl [HB]; · iexact HB
    iexact HsB
  iexists _; isplitr
  swap; · iexact HO
  ipureintro
  exact owe_insert W₀ (thr := thG d i) (owe_insert W₀ (thr := thG d i) hW')

/-- A wait of the thirty-two, whichever it is. -/
theorem wait_any (hO : ∀ g, O g none = 0) {Φ : PUnit → sProp (MM F)} (c : Nat) (hc : c < 4) (j : Nat) (hj : j < 32) (g : Got)
    {k : TP F i PUnit} (R : sProp (MM F)) (hk : iprop((Lv ∗ R) ∗ Ws d i J O W₀ c hc (j + 1)) ⊢ wp frame (wpE (defs₀ (F := F)) 𝒱₀ (thG d i) none) Set.univ k Φ) :
    iprop((Lv ∗ R) ∗ Ws d i J O W₀ c hc j)
      ⊢ wp frame (wpE (defs₀ (F := F)) 𝒱₀ (thG d i) none) Set.univ (do waitPair i j hj g; k) Φ := by
  unfold Ws at hk ⊢
  rw [if_neg (by omega)]
  by_cases h : j = 31
  · subst h
    rw [if_pos rfl] at hk
    iintro ⟨⟨#Hlv, HR⟩, HM⟩
    iapply (wait_last d i J O W₀ hO c hc g) $$ [HM]
    · isplitr; · iexact Hlv
      iexact HM
    iintro HD
    iapply hk
    isplitl [HR]
    · isplitr; · iexact Hlv
      iexact HR
    iexact HD
  · rw [if_neg (by omega)] at hk
    iintro ⟨⟨#Hlv, HR⟩, HM⟩
    iapply (wait_mid d i J O W₀ hO c hc j (by omega) g) $$ [HM]
    · isplitr; · iexact Hlv
      iexact HM
    iintro HD
    iapply hk
    isplitl [HR]
    · isplitr; · iexact Hlv
      iexact HR
    iexact HD

theorem fetchSel_wp {Φ : Got → sProp (MM F)} (c : Nat) (hc : c < 4) (j : Nat) (hj : j < 32) (fm fs) (n : Nat)
    (g : Nat) (hg : g < 8) (lane : Nat) (hl : lane < 16) (he : c * 32 + j = 16 * g + lane) :
    iprop(idxP d i J ∗ Todo d i J c hc fm fs j ∗ Bat d i J c hc j 0)
      ⊢ iprop((∀ x, iprop(idxP d i J ∗ Todo d i J c hc fm fs (j + 1) ∗ Bat d i J c hc (j + 1) 0) -∗ Φ x)
        -∗ wp frame (wpE (defs₀ (F := F)) 𝒱₀ (thG d i) none) Set.univ (fetchSel i lanes g hg lane j hj n) Φ) := by
  cases n with
  | zero => exact fetchIn_wp d i J c hc j hj fm fs _ _ (fun v w h => k0_off33_inb v w h) chk64_ok g hg lane hl he
  | succ n => exact fetchIn_wp d i J c hc j hj fm fs _ _ (fun v w h => k0_off2_inb v w h) chk2_ok g hg lane hl he

/-- All fetches of a chunk, then all its waits. -/
theorem fetches_wp (hO : ∀ g, O g none = 0) {Φ : PUnit → sProp (MM F)} (c : Nat) (hc : c < 4) (fm fs) :
    ∀ (n j : Nat) (h : j + n = 32) (W : TP F i PUnit → TP F i PUnit)
      (_ : ∀ (R : sProp (MM F)) (k : TP F i PUnit),
        (iprop((Lv ∗ R) ∗ Ws d i J O W₀ c hc j) ⊢ wp frame (wpE (defs₀ (F := F)) 𝒱₀ (thG d i) none) Set.univ k Φ)
        → (iprop((Lv ∗ R) ∗ Ws d i J O W₀ c hc 0) ⊢ wp frame (wpE (defs₀ (F := F)) 𝒱₀ (thG d i) none) Set.univ (W k) Φ)),
    iprop(Lv ∗ idxP d i J ∗ Todo d i J c hc fm fs j ∗ Bat d i J c hc j 0 ∗ Owe (F := F) d i O W₀)
      ⊢ iprop((iprop(idxP d i J ∗ Done d i J O W₀ c hc) -∗ Φ ⟨⟩)
        -∗ wp frame (wpE (defs₀ (F := F)) 𝒱₀ (thG d i) none) Set.univ (fetches i lanes c hc n j h W) Φ) := by
  intro n
  induction n with
  | zero =>
    intro j h W hW
    obtain rfl : j = 32 := by omega
    iintro ⟨#Hlv, Hi, Ht, ⟨HA, HB⟩, HO⟩ HΦ
    unfold fetches
    have hend := hW iprop(idxP d i J ∗ (iprop(idxP d i J ∗ Done d i J O W₀ c hc) -∗ Φ ⟨⟩)) (pure ⟨⟩) (by
      rw [Ws, if_pos rfl, wp_pure]
      iintro ⟨⟨-, Hi, HΦ⟩, HD⟩
      imodintro
      iapply HΦ
      isplitl [Hi]; · iexact Hi
      iexact HD)
    rw [show Ws d i J O W₀ c hc 0 = Mid d i J O W₀ c hc 0 from if_neg (by omega)] at hend
    iapply hend
    isplitl [Hi HΦ]
    · isplitr; · iexact Hlv
      isplitl [Hi]; · iexact Hi
      iexact HΦ
    isplitl [HA]; · iexact HA
    isplitl [HB]; · iexact HB
    iexact HO
  | succ n ih =>
    intro j h W hW
    iintro ⟨#Hlv, Hi, Ht, HB, HO⟩ HΦ
    have hj : j < 32 := by omega
    have hl : (c * 32 + j) % 16 < 16 := by omega
    have he : c * 32 + j = 16 * ((c * 32 + j) / 16) + (c * 32 + j) % 16 := by omega
    have hg : (c * 32 + j) / 16 < 8 := by omega
    have hn : j + 1 + n = 32 := by omega
    unfold fetches
    rw [wp_bind]
    iapply (fetchSel_wp d i J c hc j hj fm fs n _ hg _ hl he) $$ [Hi Ht HB]
    · isplitl [Hi]; · iexact Hi
      isplitl [Ht]; · iexact Ht
      iexact HB
    iintro %g ⟨Hi, Ht, HB⟩
    iapply (ih (j + 1) hn _ (fun R k hk => hW R _ (wait_any d i J O W₀ hO c hc j hj g R hk))) $$ [Hi Ht HB HO]
    · isplitr; · iexact Hlv
      isplitl [Hi]; · iexact Hi
      isplitl [Ht]; · iexact Ht
      isplitl [HB]; · iexact HB
      iexact HO
    iexact HΦ

end Cert.KernelIdeal.G

end
-- ==== Proof.GatherChunk.lean ====
module

public import proofs.«01_k».proof.Proof.GatherWait

/-!
A chunk: its buffers and its tables' shares cut up for the copies and put together again, and its picks.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

theorem slot_mem (t : Memref sig .scVector .vmem S32x8x128 .f32) (j : Nat) (hj : j < 32) (Z : S32x8x128.Idx) :
    t.view.emb Z ∈ (slot t j hj).view.set ↔ (Z 0).val = j := by
  constructor
  · intro h
    obtain ⟨y, -, hy⟩ := Finset.mem_map.mp h
    have e : y = ix2 (y 0) (y 1) := by funext a; fin_cases a <;> rfl
    have h2 := (slot_emb t j hj (y 0) (y 1)).symm.trans ((congrArg (slot t j hj).view.emb e).symm.trans hy)
    rw [← t.view.emb.injective h2]
  · rintro rfl
    refine Finset.mem_map.mpr ⟨ix2 (Z 1) (Z 2), Finset.mem_univ _, ?_⟩
    refine (slot_emb t _ hj (Z 1) (Z 2)).trans (congrArg t.view.emb ?_)
    funext a; fin_cases a <;> rfl

theorem slot_emb_of_mem (t : Memref sig .scVector .vmem S32x8x128 .f32) (j : Nat) (hj : j < 32) {x}
    (h : x ∈ (slot t j hj).view.set) : ∃ Z, t.view.emb Z = x := by
  obtain ⟨y, -, hy⟩ := Finset.mem_map.mp h
  exact ⟨_, hy⟩

theorem slots_disjoint (t : Memref sig .scVector .vmem S32x8x128 .f32) : ∀ j ∈ (Finset.univ : Finset (Fin 32)), ∀ j' ∈ (Finset.univ : Finset (Fin 32)),
    j ≠ j' → Disjoint (slot t j.val j.isLt).view.set (slot t j'.val j'.isLt).view.set := by
  intro j _ j' _ h
  refine Finset.disjoint_left.mpr fun x hx hx' => h (Fin.ext ?_)
  obtain ⟨Z, rfl⟩ := slot_emb_of_mem t _ _ hx
  exact ((slot_mem t _ _ Z).mp hx).symm.trans ((slot_mem t _ _ Z).mp hx')

theorem slots_cover (t : Memref sig .scVector .vmem S32x8x128 .f32) (ht : t.view.set = Finset.univ) :
    Finset.biUnion (α := Fin 32) (β := t.view.ty.Idx) Finset.univ (fun j => (slot t j.val j.isLt).view.set) = Finset.univ := by
  refine Finset.eq_univ_iff_forall.mpr fun x => ?_
  obtain ⟨Z, -, rfl⟩ := Finset.mem_map.mp (ht ▸ Finset.mem_univ x)
  exact Finset.mem_biUnion.mpr ⟨Z 0, Finset.mem_univ _, (slot_mem t _ _ Z).mpr rfl⟩

variable (d : Dev nD) (i : grid0.Coords) (J : Job F) (O : CellTallies nD τ sig (HIx 2)) (W₀ : Waits sig (HIx 2))

theorem mT_slots (f : Buf (Elt F) (mT.view.loc (thG d i))) :
    (mT.view.loc (thG d i) ↦{fullShare} f : sProp (MM F)) = bigSep Finset.univ fun j => slotA d i j f := by
  unfold slotA
  rw [← pointsTo_biUnion Finset.univ (ℓ := mT.view.loc (thG d i)) (fun j : Fin 32 => (slot mT j.val j.isLt).view.set) (slots_disjoint mT),
    slots_cover mT (View.set_whole _)]

theorem sT_slots (f : Buf (Elt F) (sT.view.loc (thG d i))) :
    (sT.view.loc (thG d i) ↦{fullShare} f : sProp (MM F)) = bigSep Finset.univ fun j => slotB d i j f := by
  unfold slotB
  rw [← pointsTo_biUnion Finset.univ (ℓ := sT.view.loc (thG d i)) (fun j : Fin 32 => (slot sT j.val j.isLt).view.set) (slots_disjoint sT),
    slots_cover sT (View.set_whole _)]

theorem sep_swap (A B C D : sProp (MM F)) : iprop((A ∗ B) ∗ (C ∗ D)) ⊢ iprop((A ∗ C) ∗ (B ∗ D)) := by
  iintro ⟨⟨H1, H2⟩, H3, H4⟩
  isplitl [H1 H3]
  · isplitl [H1]; · iexact H1
    iexact H3
  isplitl [H2]; · iexact H2
  iexact H4

/-- The read shares of the two tables. -/
abbrev tabs : sProp (MM F) :=
  iprop((bigSep Finset.univ fun j : Fin 32 => aT.view.loc (thG d i) ↦{J.sa j} (J.fa : Buf (Elt F) (aT.view.loc (thG d i))))
    ∗ bigSep Finset.univ fun j : Fin 32 => bT.view.loc (thG d i) ↦{J.sa j} (J.fb : Buf (Elt F) (bT.view.loc (thG d i))))

/-- What of the shares chunk `c` does not read. -/
abbrev rest (c : Nat) (hc : c < 4) : sProp (MM F) :=
  iprop((bigSep Finset.univ fun j : Fin 32 => aT.view.loc (thG d i) ↦[Finset.univ \ (src J aT c hc j).view.set]{J.sa j} (J.fa : Buf (Elt F) (aT.view.loc (thG d i))))
    ∗ bigSep Finset.univ fun j : Fin 32 => bT.view.loc (thG d i) ↦[Finset.univ \ (src J bT c hc j).view.set]{J.sa j} (J.fb : Buf (Elt F) (bT.view.loc (thG d i))))

theorem tabs_cut (c : Nat) (hc : c < 4) :
    tabs d i J = iprop((bigSep Finset.univ (readA d i J c hc) ∗ bigSep Finset.univ (readB d i J c hc)) ∗ rest d i J c hc) := by
  have e1 : (bigSep Finset.univ fun j : Fin 32 => (aT.view.loc (thG d i) ↦{J.sa j} (J.fa : Buf (Elt F) (aT.view.loc (thG d i))) : sProp (MM F)))
      = bigSep Finset.univ fun j : Fin 32 => iprop(readA d i J c hc j ∗ aT.view.loc (thG d i) ↦[Finset.univ \ (src J aT c hc j).view.set]{J.sa j} (J.fa : Buf (Elt F) (aT.view.loc (thG d i)))) :=
    bigSep_congr fun j _ => BI.Entails.antisymm (pointsTo_split_subset (Finset.subset_univ _)).1 (pointsTo_split_subset (Finset.subset_univ _)).2
  have e2 : (bigSep Finset.univ fun j : Fin 32 => (bT.view.loc (thG d i) ↦{J.sa j} (J.fb : Buf (Elt F) (bT.view.loc (thG d i))) : sProp (MM F)))
      = bigSep Finset.univ fun j : Fin 32 => iprop(readB d i J c hc j ∗ bT.view.loc (thG d i) ↦[Finset.univ \ (src J bT c hc j).view.set]{J.sa j} (J.fb : Buf (Elt F) (bT.view.loc (thG d i)))) :=
    bigSep_congr fun j _ => BI.Entails.antisymm (pointsTo_split_subset (Finset.subset_univ _)).1 (pointsTo_split_subset (Finset.subset_univ _)).2
  unfold tabs rest
  rw [e1, e2, bigSep_sep', bigSep_sep']
  exact BI.Entails.antisymm (sep_swap _ _ _ _) (sep_swap _ _ _ _)

/-- The two staging buffers, and the two semaphores at rest. -/
abbrev stg (fm : Buf (Elt F) (mT.view.loc (thG d i))) (fs : Buf (Elt F) (sT.view.loc (thG d i))) : sProp (MM F) :=
  iprop((mT.view.loc (thG d i) ↦{fullShare} fm) ∗ (sT.view.loc (thG d i) ↦{fullShare} fs))
abbrev sems : sProp (MM F) :=
  iprop(semVal (thG d i, .dma semA.sem) 0 ∗ semVal (thG d i, .dma semB.sem) 0)

theorem todo_eq (c : Nat) (hc : c < 4) (fm fs) :
    Todo d i J c hc fm fs 0 = iprop((bigSep Finset.univ (readA d i J c hc) ∗ bigSep Finset.univ (fun t => slotA d i t fm))
      ∗ (bigSep Finset.univ (readB d i J c hc) ∗ bigSep Finset.univ (fun t => slotB d i t fs))) := by
  unfold Todo
  rw [pending_zero, bigSep_sep', bigSep_sep', bigSep_sep']

/-- A chunk's copies: the staging buffers filled, everything else as before. -/
theorem fetchAll_wp (hO : ∀ g, O g none = 0) {Φ : PUnit → sProp (MM F)} (c : Nat) (hc : c < 4) (fm fs) :
    iprop(Lv ∗ idxP d i J ∗ tabs d i J ∗ stg d i fm fs ∗ sems (F := F) d i ∗ Owe (F := F) d i O W₀)
      ⊢ iprop((iprop(idxP d i J ∗ tabs d i J ∗ stg d i (stage J.fa J.Q J.K c hc) (stage J.fb J.Q J.K c hc) ∗ sems (F := F) d i ∗ Owe (F := F) d i O W₀) -∗ Φ ⟨⟩)
        -∗ wp frame (wpE (defs₀ (F := F)) 𝒱₀ (thG d i) none) Set.univ (fetches i lanes c hc 32 0 rfl (fun K => K)) Φ) := by
  unfold stg sems
  rw [tabs_cut d i J c hc, mT_slots, sT_slots, mT_slots, sT_slots]
  iintro ⟨#Hlv, Hi, ⟨⟨Ra, Rb⟩, Hr⟩, ⟨Sa, Sb⟩, ⟨Va, Vb⟩, HO⟩ HΦ
  imod (Transfers.batch_alloc' EC (thG d i) (none : HIx 2) NA (DA d i J c hc) (E := Set.univ)) $$ Va with HA
  imod (Transfers.batch_alloc' EC (thG d i) (none : HIx 2) NB (DB d i J c hc) (E := Set.univ)) $$ Vb with HB
  iapply (fetches_wp d i J O W₀ hO c hc fm fs 32 0 rfl (fun K => K) (fun R k h => h)) $$ [Hi Ra Rb Sa Sb HA HB HO]
  · isplitr; · iexact Hlv
    isplitl [Hi]; · iexact Hi
    isplitl [Ra Rb Sa Sb]
    · rw [todo_eq]
      isplitl [Ra Sa]
      · isplitl [Ra]; · iexact Ra
        iexact Sa
      isplitl [Rb]; · iexact Rb
      iexact Sb
    isplitl [HA HB]
    · isplitl [HA]; · iexact HA
      iexact HB
    iexact HO
  unfold Done DA DB
  rw [bigSep_sep', bigSep_sep']
  iintro ⟨Hi, ⟨⟨Sa, Ra⟩, Va⟩, ⟨⟨Sb, Rb⟩, Vb⟩, HO⟩
  iapply HΦ
  isplitl [Hi]; · iexact Hi
  isplitl [Ra Rb Hr]
  · isplitl [Ra Rb]
    · isplitl [Ra]; · iexact Ra
      iexact Rb
    iexact Hr
  isplitl [Sa Sb]
  · isplitl [Sa]; · iexact Sa
    iexact Sb
  isplitl [Va Vb]
  · isplitl [Va]; · iexact Va
    iexact Vb
  iexact HO

end Cert.KernelIdeal.G

end
-- ==== Proof.GatherPick.lean ====
module

public import proofs.«01_k».proof.Proof.GatherChunk

/-!
The picks of a chunk, and a chunk whole.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

variable (d : Dev nD) (i : grid0.Coords) (J : Job F) (O : CellTallies nD τ sig (HIx 2)) (W₀ : Waits sig (HIx 2))

/-- The table's elements the indices name. -/
def picked (f : S4096x8192.Idx → Elt F .f32) (Q K : S128.Idx → BitVec 32) (x : S128.Idx) : Elt F .f32 :=
  f (tIx (Q x).toNat (K x).toNat)

/-- The first `g` groups are picked. -/
def Part (f : S4096x8192.Idx → Elt F .f32) (Q K : S128.Idx → BitVec 32) (g : Nat) (mu : S128.Idx → Elt F .f32) : Prop :=
  ∀ x : S128.Idx, (x 0).val < 16 * g → mu x = picked f Q K x

theorem grp_emb (g : Nat) (hg : g < 8) (x : S16.Idx) (e : Nat) (he : e < 128) (h : e = 16 * g + (x 0).val) :
    (grp g hg).emb x = wx e he := by
  subst h
  funext a
  fin_cases a
  refine Fin.ext ?_
  show 16 * g + 1 * (x 0).val = 16 * g + (x 0).val
  omega

theorem grp_not (g : Nat) (hg : g < 8) (x : S128.Idx) (h : (x 0).val < 16 * g) (y : S16.Idx) : (grp g hg).emb y ≠ x := by
  intro e
  have h2 : 16 * g + 1 * (y 0).val = (x 0).val := congrArg (fun z : S128.Idx => (z 0).val) e
  omega

theorem grp_at (g : Nat) (hg : g < 8) (x : S128.Idx) (h : (x 0).val < 16 * (g + 1)) (h' : ¬ (x 0).val < 16 * g) :
    ∃ y : S16.Idx, (grp g hg).emb y = x := by
  refine ⟨Shape.ofLane (d := ![16]) ⟨(x 0).val - 16 * g, by show (x 0).val - 16 * g < 16; omega⟩, ?_⟩
  funext a
  fin_cases a
  refine Fin.ext ?_
  show 16 * g + 1 * ((x 0).val - 16 * g) = (x 0).val
  omega

/-- One more group stored. -/
theorem part_mu (f Q K) (g : Nat) (hg : g < 8) (mu : Buf (Elt F) (muV.view.loc (thG d i))) (v : S16.Idx → Elt F .f32)
    (h : Part f Q K g mu) (hv : ∀ y, v y = picked f Q K ((grp g hg).emb y)) :
    Part f Q K (g + 1) ((muV.access (grp g hg)).write (Elt F) mu v Finset.univ) := by
  intro x hx
  by_cases hlt : (x 0).val < 16 * g
  · refine (View.write_of_not_mem (v := muV.access (grp g hg)) mu v Finset.univ (i := x) fun hm => ?_).trans (h x hlt)
    obtain ⟨y, -, hy⟩ := Finset.mem_map.mp hm
    exact grp_not g hg x hlt y hy
  · obtain ⟨y, rfl⟩ := grp_at g hg x hx hlt
    exact (View.write_emb_of_mem (v := muV.access (grp g hg)) mu v (Finset.mem_univ y)).trans (hv y)

theorem part_sg (f Q K) (g : Nat) (hg : g < 8) (mu : Buf (Elt F) (sgV.view.loc (thG d i))) (v : S16.Idx → Elt F .f32)
    (h : Part f Q K g mu) (hv : ∀ y, v y = picked f Q K ((grp g hg).emb y)) :
    Part f Q K (g + 1) ((sgV.access (grp g hg)).write (Elt F) mu v Finset.univ) := by
  intro x hx
  by_cases hlt : (x 0).val < 16 * g
  · refine (View.write_of_not_mem (v := sgV.access (grp g hg)) mu v Finset.univ (i := x) fun hm => ?_).trans (h x hlt)
    obtain ⟨y, -, hy⟩ := Finset.mem_map.mp hm
    exact grp_not g hg x hlt y hy
  · obtain ⟨y, rfl⟩ := grp_at g hg x hx hlt
    exact (View.write_emb_of_mem (v := sgV.access (grp g hg)) mu v (Finset.mem_univ y)).trans (hv y)

/-- A gather from a buffer held whole. -/
theorem loadIdx_wp {α : Type} {Φ : α → sProp (MM F)} (thr : Thread nD τ) {s t : Shape} {e : EltTy}
    (m : Memref sig thr.2.kind .vmem s e) (idxs : Fin s.rank → IVec t 32) (h : ∀ a x, (idxs a x).toNat < s.size a) {hl : m.view.Loads}
    {k : Vec F t e → Prog (TpuEff nD τ sig (Elt F) Λ₀ thr.2) α} {q : PosShare TreeShare}
    {f : Buf (Elt F) (m.view.loc thr)} :
    (m.view.loc thr ↦{q} f)
      ⊢ iprop(((m.view.loc thr ↦{q} f) -∗ wp frame (wpE (defs₀ (F := F)) 𝒱₀ thr none) Set.univ
          (k (loadIdx ((m.access (.whole s)).read (Elt F) f) idxs h)) Φ)
        -∗ wp frame (wpE (defs₀ (F := F)) 𝒱₀ thr none) Set.univ (SparseCore.vectorLoadIdx m idxs h hl >>= k) Φ) :=
  SparseCore.wp_vectorLoadIdx 𝒱₀ thr none Set.univ (base := m) (S := Finset.univ) (Finset.subset_univ _)

/-- A store into a buffer held whole. -/
theorem store_wp {α : Type} {Φ : α → sProp (MM F)} (thr : Thread nD τ) {cs : CoreSpace} {s : Shape} {e : EltTy}
    (m : Memref sig thr.2.kind cs s e) (r : Rect s) (w : r.shape.Idx → Elt F e) {hx : (m.access r).Stores Finset.univ} {hm}
    {k : PUnit → Prog (TpuEff nD τ sig (Elt F) Λ₀ thr.2) α} {f : Buf (Elt F) (m.view.loc thr)} :
    (m.view.loc thr ↦{fullShare} f)
      ⊢ iprop(((m.view.loc thr ↦{fullShare} ((m.access r).write (Elt F) f w Finset.univ : Buf (Elt F) (m.view.loc thr)))
          -∗ wp frame (wpE (defs₀ (F := F)) 𝒱₀ thr none) Set.univ (k ⟨⟩) Φ)
        -∗ wp frame (wpE (defs₀ (F := F)) 𝒱₀ thr none) Set.univ (.op (.store m r w Finset.univ hx hm) k) Φ) :=
  wp_store 𝒱₀ thr none Set.univ (m := m) (r := r) (S := Finset.univ) (Finset.subset_univ _)

/-- The result buffers with `g` groups picked. -/
abbrev outs (g : Nat) : sProp (MM F) :=
  iprop(∃ (mu : Buf (Elt F) (muV.view.loc (thG d i))) (sg : Buf (Elt F) (sgV.view.loc (thG d i))),
    ⌜Part J.fa J.Q J.K g mu ∧ Part J.fb J.Q J.K g sg⌝
      ∗ (muV.view.loc (thG d i) ↦{fullShare} mu) ∗ (sgV.view.loc (thG d i) ↦{fullShare} sg))

theorem readM (f : Buf (Elt F) (mT.view.loc (thG d i))) : (mT.access (.whole S32x8x128)).read (Elt F) f = f := by
  funext x
  show f ((Rect.whole S32x8x128).emb x) = f x
  exact congrArg f (Rect.emb_whole_apply _ x)
theorem readS (f : Buf (Elt F) (sT.view.loc (thG d i))) : (sT.access (.whole S32x8x128)).read (Elt F) f = f := by
  funext x
  show f ((Rect.whole S32x8x128).emb x) = f x
  exact congrArg f (Rect.emb_whole_apply _ x)

theorem pickGroup_wp {Φ : PUnit → sProp (MM F)} (c : Nat) (hc : c < 4) (h : Nat) (hh : h < 2) (hg : 2 * c + h < 8) :
    iprop(idxP d i J ∗ stg d i (stage J.fa J.Q J.K c hc) (stage J.fb J.Q J.K c hc) ∗ outs d i J (2 * c + h))
      ⊢ iprop((iprop(idxP d i J ∗ stg d i (stage J.fa J.Q J.K c hc) (stage J.fb J.Q J.K c hc) ∗ outs d i J (2 * c + h + 1)) -∗ Φ ⟨⟩)
        -∗ wp frame (wpE (defs₀ (F := F)) 𝒱₀ (thG d i) none) Set.univ (pickGroup i lanes h (2 * c + h) hg) Φ) := by
  unfold pickGroup
  simp only [Prog.lift, Prog.bind_op, Prog.bind_ret, Prog.pure_eq_ret]
  iintro ⟨⟨Hq, Hk⟩, ⟨HM, HS⟩, %mu, %sg, %hp, Hmu, Hsg⟩ HΦ
  have hvq : (qV.access (grp (2 * c + h) hg)).read (Elt F) (J.Q : Buf (Elt F) (qV.view.loc (thG d i))) = fun x => J.Q ((grp (2 * c + h) hg).emb x) := rfl
  have hvk : (kV.access (grp (2 * c + h) hg)).read (Elt F) (J.K : Buf (Elt F) (kV.view.loc (thG d i))) = fun x => J.K ((grp (2 * c + h) hg).emb x) := rfl
  iapply (load_wp (thG d i) qV (grp (2 * c + h) hg)) $$ Hq
  iintro Hq
  iapply (load_wp (thG d i) kV (grp (2 * c + h) hg)) $$ Hk
  iintro Hk
  generalize (qV.access (grp (2 * c + h) hg)).read (Elt F) (J.Q : Buf (Elt F) (qV.view.loc (thG d i))) = vq at hvq ⊢
  generalize (kV.access (grp (2 * c + h) hg)).read (Elt F) (J.K : Buf (Elt F) (kV.view.loc (thG d i))) = vk at hvk ⊢
  have hq : ∀ x : S16.Idx, vq x = J.Q (wx (c * 32 + ((x 0).val + 16 * h)) (by have h : (x 0).val < 16 := (x 0).isLt; omega)) := by
    intro x; rw [hvq]; exact congrArg J.Q (grp_emb _ hg x _ _ (by omega))
  have hk : ∀ x : S16.Idx, vk x = J.K (wx (c * 32 + ((x 0).val + 16 * h)) (by have h : (x 0).val < 16 := (x 0).isLt; omega)) := by
    intro x; rw [hvk]; exact congrArg J.K (grp_emb _ hg x _ _ (by omega))
  have hpick : ∀ (f : S4096x8192.Idx → Elt F .f32) (H) (y : S16.Idx), loadIdx (F := F) (s := S32x8x128) (e := .f32) (stage f J.Q J.K c hc)
      (![addi lanes (broadcast S16 (BitVec.ofNat 32 (16 * h))), andi vq (broadcast S16 7#32), andi vk (broadcast S16 127#32)] : Fin 3 → IVec S16 32)
      H y = picked f J.Q J.K ((grp (2 * c + h) hg).emb y) := by
    intro f H y
    rw [stage_pick f c hc h hh vq vk hq hk H y, hvq, hvk]
    rfl
  iapply (wp_assume 𝒱₀ (thG d i) none Set.univ (chk65_ok h hh vq vk))
  iapply (loadIdx_wp (thG d i) mT) $$ HM
  iintro HM
  rw [readM d i]
  iapply (load_wp (thG d i) muV (grp (2 * c + h) hg)) $$ Hmu
  iintro Hmu
  iapply (store_wp (thG d i) muV (grp (2 * c + h) hg)) $$ Hmu
  iintro Hmu
  iapply (loadIdx_wp (thG d i) sT) $$ HS
  iintro HS
  rw [readS d i]
  iapply (load_wp (thG d i) sgV (grp (2 * c + h) hg)) $$ Hsg
  iintro Hsg
  iapply (store_wp (thG d i) sgV (grp (2 * c + h) hg)) $$ Hsg
  iintro Hsg
  rw [wp_ret]
  imodintro
  iapply HΦ
  isplitl [Hq Hk]
  · isplitl [Hq]; · iexact Hq
    iexact Hk
  isplitl [HM HS]
  · isplitl [HM]; · iexact HM
    iexact HS
  iexists _, _
  isplitr
  swap
  · isplitl [Hmu]; · iexact Hmu
    iexact Hsg
  ipureintro
  exact ⟨part_mu d i _ _ _ _ hg mu _ hp.1 (hpick J.fa _), part_sg d i _ _ _ _ hg sg _ hp.2 (hpick J.fb _)⟩

/-- What a tile holds between chunks, `g` groups picked. -/
abbrev Held (g : Nat) : sProp (MM F) :=
  iprop(Lv ∗ idxP d i J ∗ tabs d i J ∗ (∃ fm fs, stg (F := F) d i fm fs) ∗ sems (F := F) d i ∗ Owe (F := F) d i O W₀ ∗ outs d i J g)

theorem chunk_wp (hO : ∀ g, O g none = 0) {Φ : PUnit → sProp (MM F)} (c : Nat) (hc : c < 4) :
    Held d i J O W₀ (2 * c)
      ⊢ iprop((Held d i J O W₀ (2 * (c + 1)) -∗ Φ ⟨⟩)
        -∗ wp frame (wpE (defs₀ (F := F)) 𝒱₀ (thG d i) none) Set.univ (chunk i lanes c hc) Φ) := by
  iintro ⟨#Hlv, Hi, Ht, ⟨%fm, %fs, Hst⟩, Hv, HO, Ho⟩ HΦ
  have h0 : 2 * c + 0 < 8 := by omega
  have h1 : 2 * c + 1 < 8 := by omega
  unfold chunk
  rw [wp_bind]
  iapply (fetchAll_wp d i J O W₀ hO c hc fm fs) $$ [Hi Ht Hst Hv HO]
  · isplitr; · iexact Hlv
    isplitl [Hi]; · iexact Hi
    isplitl [Ht]; · iexact Ht
    isplitl [Hst]; · iexact Hst
    isplitl [Hv]; · iexact Hv
    iexact HO
  iintro ⟨Hi, Ht, Hst, Hv, HO⟩
  rw [wp_bind]
  iapply (pickGroup_wp d i J c hc 0 Nat.two_pos h0) $$ [Hi Hst Ho]
  · isplitl [Hi]; · iexact Hi
    isplitl [Hst]; · iexact Hst
    iexact Ho
  iintro ⟨Hi, Hst, Ho⟩
  iapply (pickGroup_wp d i J c hc 1 Nat.one_lt_two h1) $$ [Hi Hst Ho]
  · isplitl [Hi]; · iexact Hi
    isplitl [Hst]; · iexact Hst
    iexact Ho
  iintro ⟨Hi, Hst, Ho⟩
  iapply HΦ
  isplitr; · iexact Hlv
  isplitl [Hi]; · iexact Hi
  isplitl [Ht]; · iexact Ht
  isplitl [Hst]; · iexists _, _; iexact Hst
  isplitl [Hv]; · iexact Hv
  isplitl [HO]; · iexact HO
  iexact Ho

end Cert.KernelIdeal.G

end
-- ==== Proof.Own.lean ====
module

public import proofs.«01_k».proof.Proof.Setup

/-!
A tile's cells and buffers, taken by name out of all that are its own.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable [Facts]
open Facts₀ Facts

/-- The members named by a list, taken out of a product over a finite set. -/
theorem bigSep_take {I A : Type} [DecidableEq I] (e : A → I) (he : Function.Injective e) (Φ : I → sProp (MM F)) :
    ∀ (l : List A) (_ : l.Nodup) (s : Finset I) (_ : ∀ a ∈ l, e a ∈ s),
      bigSep s Φ = l.foldr (fun a P => iprop(Φ (e a) ∗ P)) (bigSep (l.foldl (fun s a => s.erase (e a)) s) Φ)
  | [], _, _, _ => rfl
  | a :: l, hn, s, hs => by
    obtain ⟨ha, hl⟩ := List.nodup_cons.mp hn
    rw [SparseCore.bigSep_erase' (hs a List.mem_cons_self)]
    exact congrArg (fun P => iprop(Φ (e a) ∗ P)) (bigSep_take e he Φ l hl (s.erase (e a)) fun b hb =>
      Finset.mem_erase.mpr ⟨fun h => ha (he h ▸ hb), hs b (List.mem_cons_of_mem a hb)⟩)

section Own

variable (d : Dev nD) (c : Fin τ.nSC) (s : Fin τ.nSub)

/-- Cells of a tile taken out of all its own. -/
theorem ownSems_take (l : List (SemLoc sig)) (hn : l.Nodup) (hl : ∀ x ∈ l, x.isScoped .scVector = true) :
    ∃ R : sProp (MM F), (scopedSems0 (V d c s) : sProp (MM F)) = l.foldr (fun x P => iprop(semVal (V d c s, x) 0 ∗ P)) R := by
  refine ⟨_, (SparseCore.Cfg.scopedSems0_V d c s).trans
    (bigSep_take (fun x : SemLoc sig => ((V d c s, x) : GSem nD τ sig)) (fun _ _ h => (Prod.mk.inj h).2) _ l hn _ fun x hx =>
      SparseCore.Cfg.mem_ownCells.mpr ⟨rfl, hl x hx⟩)⟩

/-- Buffers of a tile taken out of all its own. -/
theorem ownBufs_take (l : List (Ref sig .scVector)) (hn : l.Nodup)
    (hl : ∀ b ∈ l, ((Proc.scVector c s).devRef b : DevRef τ sig).owner = .proc (.scVector c s)) :
    ∃ R : sProp (MM F), (scopedBufs (V d c s) : sProp (MM F))
      = l.foldr (fun b P => iprop((∃ f, (V d c s).loc b ↦{fullShare} f) ∗ P)) R := by
  refine ⟨_, ((K (F := F)).scopedBufs_V facts d c s).trans
    (bigSep_take (fun b : Ref sig .scVector => ((Proc.scVector c s).devRef b : DevRef τ sig)) (fun _ _ h => Proc.devRef_injective _ h) _ l hn _ fun x hx =>
      SparseCore.Cfg.mem_ownRefs_of_owner (hl x hx))⟩

end Own

end Cert.KernelIdeal.G

end
-- ==== Proof.GatherTile.lean ====
module

public import proofs.«01_k».proof.Proof.GatherPick
public import proofs.«01_k».proof.Proof.Own

/-!
A tile of the gather: its index rows copied in, the four chunks, its result rows copied out.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

theorem c0_pos : 0 < (cc0_scratch0 : Ref sig .scVector).dmaCredit S128 .i32 := by decide
theorem c1_pos : 0 < (cc0_scratch1 : Ref sig .scVector).dmaCredit S128 .i32 := by decide
theorem c2_pos : 0 < (main_v0_0_scv : Ref sig .scVector).dmaCredit S128 .f32 := by decide
theorem c3_pos : 0 < (main_v0_1_scv : Ref sig .scVector).dmaCredit S128 .f32 := by decide

variable (d : Dev nD) (i : grid0.Coords)

/-- The tile's rows of an index array and of a result array. -/
abbrev rowR : Rect S4096 := Rect.unit (s := S4096) (k0_off1 i) S128.size (k0_off1_inb i)
abbrev rowO : Rect S4096 := Rect.unit (s := S4096) (k0_off254 i) S128.size (k0_off254_inb i)

/-- The table's elements that the arrays of indices name. -/
def gath (fq fk : S4096.Idx → BitVec 32) (f : S4096x8192.Idx → Elt F .f32) (x : S4096.Idx) : Elt F .f32 :=
  f (tIx (fq x).toNat (fk x).toNat)

/-- The tile's work, from the arrays. -/
abbrev jobOf (fq fk : S4096.Idx → BitVec 32) (ok : ∀ x, (fq x).toNat < 4096 ∧ (fk x).toNat < 8192)
    (fa fb : S4096x8192.Idx → Elt F .f32) (sa : Fin 32 → PosShare TreeShare) : Job F where
  Q x := fq ((rowR i).emb x)
  K x := fk ((rowR i).emb x)
  ok x := ok _
  fa := fa
  fb := fb
  sa := sa

/-- The picks, copied out, are the gathered array on the tile's rows. -/
theorem out_gath (b : Ref sig .scVector) (f : S4096x8192.Idx → Elt F .f32) (fq fk : S4096.Idx → BitVec 32) (g mu : S128.Idx → Elt F .f32)
    (h : ∀ x : S128.Idx, mu x = picked f (fun x => fq ((rowR i).emb x)) (fun x => fk ((rowR i).emb x)) x) (x : S128.Idx) :
    mu x = gath fq fk f ((rowO i).emb x) := by
  rw [h x]; rfl

theorem part_full {f : S4096x8192.Idx → Elt F .f32} {Q K : S128.Idx → BitVec 32} {mu : S128.Idx → Elt F .f32} (h : Part f Q K 8 mu) (x : S128.Idx) :
    mu x = picked f Q K x := h x (x 0).isLt

variable (fq fk : S4096.Idx → BitVec 32) (ok : ∀ x, (fq x).toNat < 4096 ∧ (fk x).toNat < 8192)
  (fa fb : S4096x8192.Idx → Elt F .f32) (sa : Fin 32 → PosShare TreeShare) (O : CellTallies nD τ sig (HIx 2)) (W : Waits sig (HIx 2))

abbrev qR : Memref sig .scVector .hbm S128 .i32 := rowIn i (Memref.whole main_arg0_scv)
abbrev kR : Memref sig .scVector .hbm S128 .i32 := rowIn i (Memref.whole main_arg1_scv)
abbrev mR : Memref sig .scVector .hbm S128 .f32 := rowOut i (Memref.whole main_v0_0_scv)
abbrev sR : Memref sig .scVector .hbm S128 .f32 := rowOut i (Memref.whole main_v0_1_scv)

/-- What a tile is given of the arrays, its rows of the results at contents `f0`, `f1`. -/
abbrev Rows (f0 f1 : S4096.Idx → Elt F .f32) : sProp (MM F) :=
  iprop(((qR i).view.loc (thG d i) ↦[(qR i).view.set]{fullShare} (fq : Buf (Elt F) ((qR i).view.loc (thG d i))))
    ∗ ((kR i).view.loc (thG d i) ↦[(kR i).view.set]{fullShare} (fk : Buf (Elt F) ((kR i).view.loc (thG d i))))
    ∗ tabs d i (jobOf i fq fk ok fa fb sa)
    ∗ ((mR i).view.loc (thG d i) ↦[(mR i).view.set]{fullShare} (f0 : Buf (Elt F) ((mR i).view.loc (thG d i))))
    ∗ ((sR i).view.loc (thG d i) ↦[(sR i).view.set]{fullShare} (f1 : Buf (Elt F) ((sR i).view.loc (thG d i)))))

/-- A whole buffer written with a payload. -/
theorem wr_whole (b : Ref sig .scVector) (f p : Buf (Elt F) ((V d ((i 0).castLE hcore0) ((i 1).castLE hsub0)).loc b)) :
    (((Memref.whole b).view.loc (thG d i) ↦[(Memref.whole b).view.set]{fullShare} ((Memref.whole b).view.write (Elt F) f p Finset.univ)) : sProp (MM F))
      = ((Memref.whole b).view.loc (thG d i) ↦{fullShare} p) := by
  rw [show (Memref.whole b).view.set = Finset.univ from View.set_whole _]
  exact congrArg (fun g => ((Memref.whole b).view.loc (thG d i) ↦{fullShare} g : sProp (MM F))) (View.write_whole_univ b f p)

theorem pt_whole (b : Ref sig .scVector) (f : Buf (Elt F) ((thG d i).loc b)) :
    ((thG d i).loc b ↦{fullShare} f : sProp (MM F))
      = ((Memref.whole b).view.loc (thG d i) ↦[(Memref.whole b).view.set]{fullShare} f) := by
  rw [show (Memref.whole b).view.set = Finset.univ from View.set_whole _]

/-- A result's rows written with the picks hold the gathered array. -/
theorem wr_rows (b : Memref sig .scVector .hbm S4096 .f32) (f : Buf (Elt F) ((rowOut i b).view.loc (thG d i))) (p : S128.Idx → Elt F .f32) (g : S4096.Idx → Elt F .f32)
    (G : Buf (Elt F) ((rowOut i b).view.loc (thG d i))) (hG : ∀ x, (rowOut i b).view.read (Elt F) G x = g ((rowO i).emb x))
    (h : ∀ x, p x = g ((rowO i).emb x)) :
    (((rowOut i b).view.loc (thG d i) ↦[(rowOut i b).view.set]{fullShare} ((rowOut i b).view.write (Elt F) f p Finset.univ)) : sProp (MM F))
      = ((rowOut i b).view.loc (thG d i) ↦[(rowOut i b).view.set]{fullShare} G) := by
  refine pointsTo_congr fun x hx => ?_
  obtain ⟨y, -, rfl⟩ := Finset.mem_map.mp hx
  rw [View.write_emb_of_mem _ _ (Finset.mem_univ y), h y, ← hG y, View.read_apply]
  simp

set_option maxHeartbeats 1000000 in
/-- One tile of the gather, from what it is given to what it brings back. -/
theorem gather_wp (hO : ∀ g, O g none = 0) (f0 f1 : S4096.Idx → Elt F .f32) :
    iprop(Lv ∗ Rows d i fq fk ok fa fb sa f0 f1
        ∗ scopedBufs (thG d i) ∗ scopedSems0 (thG d i) ∗ owes (thG d i) O W)
      ⊢ wp frame (wpE (defs₀ (F := F)) 𝒱₀ (thG d i) none) Set.univ (gather i)
          fun _ => iprop(Rows d i fq fk ok fa fb sa (gath fq fk fa) (gath fq fk fb)
            ∗ scopedBufs (thG d i) ∗ scopedSems0 (thG d i) ∗ Owe d i O W) := by
  obtain ⟨Rs, hs⟩ := ownSems_take (F := F) d ((i 0).castLE hcore0) ((i 1).castLE hsub0)
    [.dma semA.sem, .dma semB.sem, .dma cc0_scoped0.sem, .dma cc0_scoped1.sem, .dma cc0_scoped2.sem, .dma cc0_scoped3.sem]
    (by decide) (by decide)
  obtain ⟨Rb, hb⟩ := ownBufs_take (F := F) d ((i 0).castLE hcore0) ((i 1).castLE hsub0)
    [cc0_scratch0, cc0_scratch1, cc0_scratch2, cc0_scratch3, cc0_scratch4, cc0_scratch5]
    (by decide) (by intro b hb; fin_cases hb <;> rfl)
  simp only [List.foldr_cons, List.foldr_nil] at hs hb
  have hc0 : 0 < 4 := by omega
  have hc1 : 1 < 4 := by omega
  have hc2 : 2 < 4 := by omega
  have hc3 : 3 < 4 := by omega
  have hq : 0 < qV.view.dmaCredit := c0_pos
  have hk : 0 < kV.view.dmaCredit := c1_pos
  have hm : 0 < (mR i).view.dmaCredit := c2_pos
  have hsg : 0 < (sR i).view.dmaCredit := c3_pos
  have e4 : ∀ f, muV.view.read (Elt F) f = f := fun f => rfl
  have e5 : ∀ f, sgV.view.read (Elt F) f = f := fun f => rfl
  rw [hs, hb]
  iintro ⟨#Hlv, ⟨Hq, Hk, Ht, H0, H1⟩, ⟨⟨%b0, B0⟩, ⟨%b1, B1⟩, ⟨%b2, B2⟩, ⟨%b3, B3⟩, ⟨%b4, B4⟩, ⟨%b5, B5⟩, HB⟩, ⟨VA, VB, V0, V1, V2, V3, HS⟩, HO⟩
  ihave #Hmw := (show Lv ⊢ Transfers.MayWaits (thG d i) (none : HIx 2) O from (K (F := F)).mayWaits_none (thr := thG d i) hO) $$ Hlv
  ihave B0 := (Entails.of_eq (pt_whole d i cc0_scratch0 b0)) $$ B0
  ihave B1 := (Entails.of_eq (pt_whole d i cc0_scratch1 b1)) $$ B1
  unfold gather
  simp only [Prog.lift, Prog.bind_op, Prog.bind_ret, Prog.pure_eq_ret]
  iapply (wp_copy (thG d i) (src := qR i) (dst := qV) (fs := (fq : Buf (Elt F) ((qR i).view.loc (thG d i)))) hq rfl) $$ [Hq B0 V0 HO]
  · isplitl [Hq]; · iexact Hq
    isplitl [B0]; · iexact B0
    isplitl [V0]; · iexact V0
    isplitl [HO]; · iexact HO
    iexact Hmw
  iintro ⟨Hq, B0, V0, HO⟩
  iapply (wp_copy (thG d i) (src := kR i) (dst := kV) (fs := (fk : Buf (Elt F) ((kR i).view.loc (thG d i)))) hk rfl) $$ [Hk B1 V1 HO]
  · isplitl [Hk]; · iexact Hk
    isplitl [B1]; · iexact B1
    isplitl [V1]; · iexact V1
    isplitl [HO]; · iexact HO
    iexact Hmw
  iintro ⟨Hk, B1, V1, HO⟩
  ihave B0 := (Entails.of_eq (wr_whole d i cc0_scratch0 b0 _)) $$ B0
  ihave B1 := (Entails.of_eq (wr_whole d i cc0_scratch1 b1 _)) $$ B1
  ihave HH := (show iprop(Lv ∗ idxP d i (jobOf i fq fk ok fa fb sa) ∗ tabs d i (jobOf i fq fk ok fa fb sa)
      ∗ (stg (F := F) d i b2 b3) ∗ sems (F := F) d i ∗ Owe (F := F) d i O W
      ∗ (muV.view.loc (thG d i) ↦{fullShare} b4) ∗ (sgV.view.loc (thG d i) ↦{fullShare} b5))
        ⊢ Held d i (jobOf i fq fk ok fa fb sa) O W (2 * 0) from by
    iintro ⟨#Hlv, Hi, Ht, Hst, Hv, HO, H4, H5⟩
    isplitr; · iexact Hlv
    isplitl [Hi]; · iexact Hi
    isplitl [Ht]; · iexact Ht
    isplitl [Hst]; · iexists b2, b3; iexact Hst
    isplitl [Hv]; · iexact Hv
    isplitl [HO]; · iexact HO
    iexists b4, b5
    isplitr; · ipureintro; exact ⟨fun x h => absurd h (Nat.not_lt_zero _), fun x h => absurd h (Nat.not_lt_zero _)⟩
    isplitl [H4]; · iexact H4
    iexact H5) $$ [B0 B1 Ht B2 B3 VA VB HO B4 B5]
  · isplitr; · iexact Hlv
    isplitl [B0 B1]
    · isplitl [B0]; · iexact B0
      iexact B1
    isplitl [Ht]; · iexact Ht
    isplitl [B2 B3]
    · isplitl [B2]; · iexact B2
      iexact B3
    isplitl [VA VB]
    · isplitl [VA]; · iexact VA
      iexact VB
    isplitl [HO]
    · iexists _; isplitr
      swap; · iexact HO
      ipureintro; intro p hp
      rcases Finset.mem_insert.mp hp with hp | hp; · exact .inr (hp ▸ rfl)
      rcases Finset.mem_insert.mp hp with hp | hp; · exact .inr (hp ▸ rfl)
      exact .inl hp
    isplitl [B4]; · iexact B4
    iexact B5
  rw [wp_bind]
  iapply (chunk_wp d i (jobOf i fq fk ok fa fb sa) O W hO 0 hc0) $$ HH
  iintro HH
  rw [wp_bind]
  iapply (chunk_wp d i (jobOf i fq fk ok fa fb sa) O W hO 1 hc1) $$ HH
  iintro HH
  rw [wp_bind]
  iapply (chunk_wp d i (jobOf i fq fk ok fa fb sa) O W hO 2 hc2) $$ HH
  iintro HH
  rw [wp_bind]
  iapply (chunk_wp d i (jobOf i fq fk ok fa fb sa) O W hO 3 hc3) $$ HH
  iintro ⟨-, ⟨B0, B1⟩, Ht, ⟨%b2, %b3, B2, B3⟩, ⟨VA, VB⟩, ⟨%W1, %hW1, HO⟩, ⟨%b4, %b5, %hp, B4, B5⟩⟩
  ihave B4 := (Entails.of_eq (pt_whole d i cc0_scratch4 b4)) $$ B4
  ihave B5 := (Entails.of_eq (pt_whole d i cc0_scratch5 b5)) $$ B5
  iapply (wp_copy (thG d i) (src := muV) (dst := mR i) (fs := b4) (fd := (f0 : Buf (Elt F) ((mR i).view.loc (thG d i)))) hm rfl) $$ [B4 H0 V2 HO]
  · isplitl [B4]; · iexact B4
    isplitl [H0]; · iexact H0
    isplitl [V2]; · iexact V2
    isplitl [HO]; · iexact HO
    iexact Hmw
  iintro ⟨B4, H0, V2, HO⟩
  iapply (wp_copy (thG d i) (src := sgV) (dst := sR i) (fs := b5) (fd := (f1 : Buf (Elt F) ((sR i).view.loc (thG d i)))) hsg rfl) $$ [B5 H1 V3 HO]
  · isplitl [B5]; · iexact B5
    isplitl [H1]; · iexact H1
    isplitl [V3]; · iexact V3
    isplitl [HO]; · iexact HO
    iexact Hmw
  iintro ⟨B5, H1, V3, HO⟩
  ihave H0 := (Entails.of_eq (wr_rows d i (Memref.whole main_v0_0_scv) f0 _ (gath fq fk fa) (gath fq fk fa) (fun _ => rfl)
    (out_gath i cc0_scratch4 fa fq fk b4 _ (by rw [e4]; exact part_full hp.1)))) $$ H0
  ihave H1 := (Entails.of_eq (wr_rows d i (Memref.whole main_v0_1_scv) f1 _ (gath fq fk fb) (gath fq fk fb) (fun _ => rfl)
    (out_gath i cc0_scratch5 fb fq fk b5 _ (by rw [e5]; exact part_full hp.2)))) $$ H1
  ihave B4 := (Entails.of_eq (pt_whole d i cc0_scratch4 b4).symm) $$ B4
  ihave B5 := (Entails.of_eq (pt_whole d i cc0_scratch5 b5).symm) $$ B5
  rw [wp_ret]
  imodintro
  isplitl [Hq Hk Ht H0 H1]
  · isplitl [Hq]; · iexact Hq
    isplitl [Hk]; · iexact Hk
    isplitl [Ht]; · iexact Ht
    isplitl [H0]; · iexact H0
    iexact H1
  isplitl [B0 B1 B2 B3 B4 B5 HB]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    iexact HB
  isplitl [VA VB V0 V1 V2 V3 HS]
  · isplitl [VA]; · iexact VA
    isplitl [VB]; · iexact VB
    isplitl [V0]; · iexact V0
    isplitl [V1]; · iexact V1
    isplitl [V2]; · iexact V2
    isplitl [V3]; · iexact V3
    iexact HS
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW1 p hp

end Cert.KernelIdeal.G

end
-- ==== Proof.GatherSplit.lean ====
module

public import proofs.«01_k».proof.Proof.GatherTile

/-!
The gather's arrays cut into what its tiles are given.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

/-- Share `i` of `n + 1` that a share is cut into. -/
def piece : (n : ℕ) → PosShare TreeShare → Fin (n + 1) → PosShare TreeShare
  | 0, q, _ => q
  | n + 1, q, i => Fin.cases q.left (fun j => piece n q.right j) i

theorem piece_eq {ℓ : Loc nD τ sig} (I : Finset (Idx ℓ)) (f : Buf (Elt F) ℓ) :
    ∀ (n : ℕ) (q : PosShare TreeShare), (ℓ ↦[I]{q} f : sProp (MM F)) = bigSep Finset.univ fun i : Fin (n + 1) => ℓ ↦[I]{piece n q i} f
  | 0, q => (bigSep_univ_of_subsingleton (0 : Fin 1) (Φ := fun i : Fin (0 + 1) => (ℓ ↦[I]{piece 0 q i} f : sProp (MM F)))).symm
  | n + 1, q => by
    rw [BI.Entails.antisymm (pointsTo_share (PosShare.mem_left_op_right q)).1 (pointsTo_share (PosShare.mem_left_op_right q)).2,
      piece_eq I f n q.right]
    conv_rhs => rw [bigSep_univ_succ]
    rfl

/-- The share of a table that fetch `j` of every chunk reads, on tile `s` of core `c`. -/
def shr (c : Fin 2) (s : Fin 16) (j : Fin 32) : PosShare TreeShare :=
  piece 31 (piece 15 (piece 1 fullShare c) s) j

theorem shr_eq {ℓ : Loc nD τ sig} (f : Buf (Elt F) ℓ) :
    (ℓ ↦{fullShare} f : sProp (MM F))
      = bigSep Finset.univ fun c : Fin 2 => bigSep Finset.univ fun s : Fin 16 => bigSep Finset.univ fun j : Fin 32 => ℓ ↦{shr c s j} f := by
  rw [piece_eq Finset.univ f 1 fullShare]
  refine bigSep_congr fun c _ => ?_
  rw [piece_eq Finset.univ f 15]
  refine bigSep_congr fun s _ => ?_
  rw [piece_eq Finset.univ f 31]
  rfl

/-- The coordinates of tile `s` of core `c`. -/
def at0 (c : Fin (grid0.bound 0)) (s : Fin (grid0.bound 1)) : grid0.Coords :=
  fun | 0 => c | 1 => s | ⟨_ + 2, h⟩ => absurd h (Nat.not_lt.2 (Nat.le_add_left _ _))

theorem rdiv : 32 ∣ S4096.size 0 := ⟨128, rfl⟩

/-- The tiles' number: two per subcore. -/
abbrev num (c : Fin 2) (s : Fin 16) : Fin 32 := finProdFinEquiv (m := 16) (n := 2) (s, c)

theorem off1_eq (c : Fin 2) (s : Fin 16) : k0_off1 (at0 c s) 0 = (num c s).val * 128 := by
  revert c s; decide

theorem rowR_eq (c : Fin 2) (s : Fin 16) : rowR (at0 c s) = Rect.part (s := S4096) (a₀ := 0) rdiv (num c s) := by
  unfold rowR Rect.part Rect.block
  congr 1 <;> funext a <;> fin_cases a
  · exact (off1_eq c s).trans (by simp [Shape.partIx, Shape.partSize])
  · simp [Shape.partSize]

/-- An array cut into the tiles' rows. -/
theorem rows_cut {ℓ : Loc nD τ sig} (R : Fin 2 → Fin 16 → Finset (Idx ℓ)) (S : Fin 32 → Finset (Idx ℓ)) (hR : ∀ c s, R c s = S (num c s))
    (hd : ∀ a b, a ≠ b → Disjoint (S a) (S b)) (hc : Finset.univ.biUnion S = Finset.univ) (f : Buf (Elt F) ℓ) :
    (ℓ ↦{fullShare} f : sProp (MM F))
      = bigSep Finset.univ fun c : Fin 2 => bigSep Finset.univ fun s : Fin 16 => ℓ ↦[R c s]{fullShare} f := by
  have e : (ℓ ↦{fullShare} f : sProp (MM F)) = bigSep Finset.univ fun j : Fin 32 => ℓ ↦[S j]{fullShare} f := by
    rw [← pointsTo_biUnion Finset.univ (ℓ := ℓ) S (fun a _ b _ h => hd a b h), hc]
  rw [e, bigSep_univ_equiv (finProdFinEquiv (m := 16) (n := 2)), bigSep_univ_prod, BI.bigSep_univ_comm]
  exact bigSep_congr fun c _ => bigSep_congr fun s _ => by rw [hR]

/-- The rows' sets, as parts of an array. -/
abbrev parts (j : Fin 32) : Finset S4096.Idx := (Rect.part (s := S4096) (a₀ := 0) rdiv j).set

variable (d : Dev nD)

theorem cut_q (f : Buf (Elt F) ((SparseCore.T d).loc main_arg0)) :
    ((SparseCore.T d).loc main_arg0 ↦{fullShare} f : sProp (MM F))
      = bigSep Finset.univ fun c : Fin 2 => bigSep Finset.univ fun s : Fin 16 =>
        (qR (at0 c s)).view.loc (thG d (at0 c s)) ↦[(qR (at0 c s)).view.set]{fullShare} f :=
  rows_cut (ℓ := (SparseCore.T d).loc main_arg0) (fun c s => (qR (at0 c s)).view.set) parts
    (fun c s => by rw [parts, ← rowR_eq]; exact (View.set_slice _ _).trans Finset.map_refl)
    (fun a b h => Rect.part_disjoint rdiv h) (Rect.biUnion_part rdiv) f

theorem cut_k (f : Buf (Elt F) ((SparseCore.T d).loc main_arg1)) :
    ((SparseCore.T d).loc main_arg1 ↦{fullShare} f : sProp (MM F))
      = bigSep Finset.univ fun c : Fin 2 => bigSep Finset.univ fun s : Fin 16 =>
        (kR (at0 c s)).view.loc (thG d (at0 c s)) ↦[(kR (at0 c s)).view.set]{fullShare} f :=
  rows_cut (ℓ := (SparseCore.T d).loc main_arg1) (fun c s => (kR (at0 c s)).view.set) parts
    (fun c s => by rw [parts, ← rowR_eq]; exact (View.set_slice _ _).trans Finset.map_refl)
    (fun a b h => Rect.part_disjoint rdiv h) (Rect.biUnion_part rdiv) f

theorem cut_m (f : Buf (Elt F) ((SparseCore.T d).loc main_v0_0)) :
    ((SparseCore.T d).loc main_v0_0 ↦{fullShare} f : sProp (MM F))
      = bigSep Finset.univ fun c : Fin 2 => bigSep Finset.univ fun s : Fin 16 =>
        (mR (at0 c s)).view.loc (thG d (at0 c s)) ↦[(mR (at0 c s)).view.set]{fullShare} f :=
  rows_cut (ℓ := (SparseCore.T d).loc main_v0_0) (fun c s => (mR (at0 c s)).view.set) parts
    (fun c s => by rw [parts, ← rowR_eq]; exact (View.set_slice _ _).trans Finset.map_refl)
    (fun a b h => Rect.part_disjoint rdiv h) (Rect.biUnion_part rdiv) f

theorem cut_s (f : Buf (Elt F) ((SparseCore.T d).loc main_v0_1)) :
    ((SparseCore.T d).loc main_v0_1 ↦{fullShare} f : sProp (MM F))
      = bigSep Finset.univ fun c : Fin 2 => bigSep Finset.univ fun s : Fin 16 =>
        (sR (at0 c s)).view.loc (thG d (at0 c s)) ↦[(sR (at0 c s)).view.set]{fullShare} f :=
  rows_cut (ℓ := (SparseCore.T d).loc main_v0_1) (fun c s => (sR (at0 c s)).view.set) parts
    (fun c s => by rw [parts, ← rowR_eq]; exact (View.set_slice _ _).trans Finset.map_refl)
    (fun a b h => Rect.part_disjoint rdiv h) (Rect.biUnion_part rdiv) f

variable (fq fk : S4096.Idx → BitVec 32) (ok : ∀ x, (fq x).toNat < 4096 ∧ (fk x).toNat < 8192)
  (fa fb : S4096x8192.Idx → Elt F .f32)

/-- The gather's arrays whole. -/
abbrev Whole (f0 f1 : S4096.Idx → Elt F .f32) : sProp (MM F) :=
  iprop(((SparseCore.T d).loc main_arg0 ↦{fullShare} (fq : Buf (Elt F) ((SparseCore.T d).loc main_arg0)))
    ∗ ((SparseCore.T d).loc main_arg1 ↦{fullShare} (fk : Buf (Elt F) ((SparseCore.T d).loc main_arg1)))
    ∗ (((SparseCore.T d).loc main_arg2 ↦{fullShare} (fa : Buf (Elt F) ((SparseCore.T d).loc main_arg2)))
      ∗ ((SparseCore.T d).loc main_arg3 ↦{fullShare} (fb : Buf (Elt F) ((SparseCore.T d).loc main_arg3))))
    ∗ ((SparseCore.T d).loc main_v0_0 ↦{fullShare} (f0 : Buf (Elt F) ((SparseCore.T d).loc main_v0_0)))
    ∗ ((SparseCore.T d).loc main_v0_1 ↦{fullShare} (f1 : Buf (Elt F) ((SparseCore.T d).loc main_v0_1))))

theorem whole_eq (f0 f1 : S4096.Idx → Elt F .f32) :
    (Whole d fq fk fa fb f0 f1 : sProp (MM F))
      = bigSep Finset.univ fun c : Fin 2 => bigSep Finset.univ fun s : Fin 16 =>
          Rows d (at0 c s) fq fk ok fa fb (shr c s) f0 f1 := by
  unfold Whole
  rw [cut_q, cut_k, cut_m, cut_s, shr_eq, shr_eq]
  simp only [bigSep_sep']

end Cert.KernelIdeal.G

end
-- ==== Proof.GatherEq.lean ====
module

public import proofs.«01_k».proof.Proof.Gather

@[expose] public section

noncomputable section

namespace Cert.KernelIdeal.G

open Idealize.ShloMosaic Idealize.SL.Sem

variable {F : FTy → Type} [FloatOps F]

variable [Facts]
open Facts₀ Facts

/-- Two programs that do the same first operation and go on the same way are the same. -/
theorem op_congr {E : Type → Type} {A B : Type} (e : E A) {k k' : A → Prog E B} (h : ∀ x, k x = k' x) :
    Prog.op e k = Prog.op e k' := by
  rw [funext h]

set_option maxHeartbeats 40000000 in
set_option maxRecDepth 100000 in
/-- The printed gather kernel is `gather`. -/
theorem cc0_eq (i : grid0.Coords) :
    cc0_gather_k (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 cc0_scoped2 cc0_scoped3
      = gather i := by
  repeat refine op_congr _ (fun x => ?_)
  rfl

end Cert.KernelIdeal.G

end
-- ==== Proof.Threefry.lean ====
module

public import proofs.«01_k».proof.Proof.Gen.KernelIdeal

/-!
The hash of a counter word (threefry-2x32, twenty rounds, key 42): lane by lane over a vector of any
shape, and of one word.
-/

@[expose] public section

noncomputable section

namespace Cert.KernelIdeal.G

open Idealize.ShloMosaic Idealize.SL.Sem

/-- The hash of every lane of a vector of counters. -/
def tfVec (s : Shape) (v : IVec s 32) : IVec s 32 :=
  let a0 : IVec s 32 := addi (broadcast s 0#32) (broadcast s 0#32)
  let a1 : IVec s 32 := addi v (broadcast s 42#32)
  let a2 : IVec s 32 := addi a0 a1
  let a3 : IVec s 32 := shli a1 (broadcast s 13#32)
  let a4 : IVec s 32 := shrui a1 (broadcast s 19#32)
  let a5 : IVec s 32 := ori a3 a4
  let a6 : IVec s 32 := xori a2 a5
  let a7 : IVec s 32 := addi a2 a6
  let a8 : IVec s 32 := shli a6 (broadcast s 15#32)
  let a9 : IVec s 32 := shrui a6 (broadcast s 17#32)
  let a10 : IVec s 32 := ori a8 a9
  let a11 : IVec s 32 := xori a7 a10
  let a12 : IVec s 32 := addi a7 a11
  let a13 : IVec s 32 := shli a11 (broadcast s 26#32)
  let a14 : IVec s 32 := shrui a11 (broadcast s 6#32)
  let a15 : IVec s 32 := ori a13 a14
  let a16 : IVec s 32 := xori a12 a15
  let a17 : IVec s 32 := addi a12 a16
  let a18 : IVec s 32 := shli a16 (broadcast s 6#32)
  let a19 : IVec s 32 := shrui a16 (broadcast s 26#32)
  let a20 : IVec s 32 := ori a18 a19
  let a21 : IVec s 32 := xori a17 a20
  let a22 : IVec s 32 := addi a17 (broadcast s 42#32)
  let a23 : IVec s 32 := addi a21 (broadcast s 466689009#32)
  let a24 : IVec s 32 := addi a22 a23
  let a25 : IVec s 32 := shli a23 (broadcast s 17#32)
  let a26 : IVec s 32 := shrui a23 (broadcast s 15#32)
  let a27 : IVec s 32 := ori a25 a26
  let a28 : IVec s 32 := xori a24 a27
  let a29 : IVec s 32 := addi a24 a28
  let a30 : IVec s 32 := shli a28 (broadcast s 29#32)
  let a31 : IVec s 32 := shrui a28 (broadcast s 3#32)
  let a32 : IVec s 32 := ori a30 a31
  let a33 : IVec s 32 := xori a29 a32
  let a34 : IVec s 32 := addi a29 a33
  let a35 : IVec s 32 := shli a33 (broadcast s 16#32)
  let a36 : IVec s 32 := shrui a33 (broadcast s 16#32)
  let a37 : IVec s 32 := ori a35 a36
  let a38 : IVec s 32 := xori a34 a37
  let a39 : IVec s 32 := addi a34 a38
  let a40 : IVec s 32 := shli a38 (broadcast s 24#32)
  let a41 : IVec s 32 := shrui a38 (broadcast s 8#32)
  let a42 : IVec s 32 := ori a40 a41
  let a43 : IVec s 32 := xori a39 a42
  let a44 : IVec s 32 := addi a39 (broadcast s 466689008#32)
  let a45 : IVec s 32 := addi a43 (broadcast s 2#32)
  let a46 : IVec s 32 := addi a44 a45
  let a47 : IVec s 32 := shli a45 (broadcast s 13#32)
  let a48 : IVec s 32 := shrui a45 (broadcast s 19#32)
  let a49 : IVec s 32 := ori a47 a48
  let a50 : IVec s 32 := xori a46 a49
  let a51 : IVec s 32 := addi a46 a50
  let a52 : IVec s 32 := shli a50 (broadcast s 15#32)
  let a53 : IVec s 32 := shrui a50 (broadcast s 17#32)
  let a54 : IVec s 32 := ori a52 a53
  let a55 : IVec s 32 := xori a51 a54
  let a56 : IVec s 32 := addi a51 a55
  let a57 : IVec s 32 := shli a55 (broadcast s 26#32)
  let a58 : IVec s 32 := shrui a55 (broadcast s 6#32)
  let a59 : IVec s 32 := ori a57 a58
  let a60 : IVec s 32 := xori a56 a59
  let a61 : IVec s 32 := addi a56 a60
  let a62 : IVec s 32 := shli a60 (broadcast s 6#32)
  let a63 : IVec s 32 := shrui a60 (broadcast s 26#32)
  let a64 : IVec s 32 := ori a62 a63
  let a65 : IVec s 32 := xori a61 a64
  let a66 : IVec s 32 := addi a61 (broadcast s 0#32)
  let a67 : IVec s 32 := addi a65 (broadcast s 45#32)
  let a68 : IVec s 32 := addi a66 a67
  let a69 : IVec s 32 := shli a67 (broadcast s 17#32)
  let a70 : IVec s 32 := shrui a67 (broadcast s 15#32)
  let a71 : IVec s 32 := ori a69 a70
  let a72 : IVec s 32 := xori a68 a71
  let a73 : IVec s 32 := addi a68 a72
  let a74 : IVec s 32 := shli a72 (broadcast s 29#32)
  let a75 : IVec s 32 := shrui a72 (broadcast s 3#32)
  let a76 : IVec s 32 := ori a74 a75
  let a77 : IVec s 32 := xori a73 a76
  let a78 : IVec s 32 := addi a73 a77
  let a79 : IVec s 32 := shli a77 (broadcast s 16#32)
  let a80 : IVec s 32 := shrui a77 (broadcast s 16#32)
  let a81 : IVec s 32 := ori a79 a80
  let a82 : IVec s 32 := xori a78 a81
  let a83 : IVec s 32 := addi a78 a82
  let a84 : IVec s 32 := shli a82 (broadcast s 24#32)
  let a85 : IVec s 32 := shrui a82 (broadcast s 8#32)
  let a86 : IVec s 32 := ori a84 a85
  let a87 : IVec s 32 := xori a83 a86
  let a88 : IVec s 32 := addi a83 (broadcast s 42#32)
  let a89 : IVec s 32 := addi a87 (broadcast s 466689012#32)
  let a90 : IVec s 32 := addi a88 a89
  let a91 : IVec s 32 := shli a89 (broadcast s 13#32)
  let a92 : IVec s 32 := shrui a89 (broadcast s 19#32)
  let a93 : IVec s 32 := ori a91 a92
  let a94 : IVec s 32 := xori a90 a93
  let a95 : IVec s 32 := addi a90 a94
  let a96 : IVec s 32 := shli a94 (broadcast s 15#32)
  let a97 : IVec s 32 := shrui a94 (broadcast s 17#32)
  let a98 : IVec s 32 := ori a96 a97
  let a99 : IVec s 32 := xori a95 a98
  let a100 : IVec s 32 := addi a95 a99
  let a101 : IVec s 32 := shli a99 (broadcast s 26#32)
  let a102 : IVec s 32 := shrui a99 (broadcast s 6#32)
  let a103 : IVec s 32 := ori a101 a102
  let a104 : IVec s 32 := xori a100 a103
  let a105 : IVec s 32 := addi a100 a104
  let a106 : IVec s 32 := shli a104 (broadcast s 6#32)
  let a107 : IVec s 32 := shrui a104 (broadcast s 26#32)
  let a108 : IVec s 32 := ori a106 a107
  let a109 : IVec s 32 := xori a105 a108
  let a110 : IVec s 32 := addi a105 (broadcast s 466689008#32)
  let a111 : IVec s 32 := addi a109 (broadcast s 5#32)
  let a112 : IVec s 32 := xori a110 a111
  a112

/-- The hash of one counter. -/
def tf (v : BitVec 32) : BitVec 32 :=
  let a0 : BitVec 32 := IntOp.addi 0#32 0#32
  let a1 : BitVec 32 := IntOp.addi v 42#32
  let a2 : BitVec 32 := IntOp.addi a0 a1
  let a3 : BitVec 32 := IntOp.shli .vector a1 13#32
  let a4 : BitVec 32 := IntOp.shrui .vector a1 19#32
  let a5 : BitVec 32 := IntOp.ori a3 a4
  let a6 : BitVec 32 := IntOp.xori a2 a5
  let a7 : BitVec 32 := IntOp.addi a2 a6
  let a8 : BitVec 32 := IntOp.shli .vector a6 15#32
  let a9 : BitVec 32 := IntOp.shrui .vector a6 17#32
  let a10 : BitVec 32 := IntOp.ori a8 a9
  let a11 : BitVec 32 := IntOp.xori a7 a10
  let a12 : BitVec 32 := IntOp.addi a7 a11
  let a13 : BitVec 32 := IntOp.shli .vector a11 26#32
  let a14 : BitVec 32 := IntOp.shrui .vector a11 6#32
  let a15 : BitVec 32 := IntOp.ori a13 a14
  let a16 : BitVec 32 := IntOp.xori a12 a15
  let a17 : BitVec 32 := IntOp.addi a12 a16
  let a18 : BitVec 32 := IntOp.shli .vector a16 6#32
  let a19 : BitVec 32 := IntOp.shrui .vector a16 26#32
  let a20 : BitVec 32 := IntOp.ori a18 a19
  let a21 : BitVec 32 := IntOp.xori a17 a20
  let a22 : BitVec 32 := IntOp.addi a17 42#32
  let a23 : BitVec 32 := IntOp.addi a21 466689009#32
  let a24 : BitVec 32 := IntOp.addi a22 a23
  let a25 : BitVec 32 := IntOp.shli .vector a23 17#32
  let a26 : BitVec 32 := IntOp.shrui .vector a23 15#32
  let a27 : BitVec 32 := IntOp.ori a25 a26
  let a28 : BitVec 32 := IntOp.xori a24 a27
  let a29 : BitVec 32 := IntOp.addi a24 a28
  let a30 : BitVec 32 := IntOp.shli .vector a28 29#32
  let a31 : BitVec 32 := IntOp.shrui .vector a28 3#32
  let a32 : BitVec 32 := IntOp.ori a30 a31
  let a33 : BitVec 32 := IntOp.xori a29 a32
  let a34 : BitVec 32 := IntOp.addi a29 a33
  let a35 : BitVec 32 := IntOp.shli .vector a33 16#32
  let a36 : BitVec 32 := IntOp.shrui .vector a33 16#32
  let a37 : BitVec 32 := IntOp.ori a35 a36
  let a38 : BitVec 32 := IntOp.xori a34 a37
  let a39 : BitVec 32 := IntOp.addi a34 a38
  let a40 : BitVec 32 := IntOp.shli .vector a38 24#32
  let a41 : BitVec 32 := IntOp.shrui .vector a38 8#32
  let a42 : BitVec 32 := IntOp.ori a40 a41
  let a43 : BitVec 32 := IntOp.xori a39 a42
  let a44 : BitVec 32 := IntOp.addi a39 466689008#32
  let a45 : BitVec 32 := IntOp.addi a43 2#32
  let a46 : BitVec 32 := IntOp.addi a44 a45
  let a47 : BitVec 32 := IntOp.shli .vector a45 13#32
  let a48 : BitVec 32 := IntOp.shrui .vector a45 19#32
  let a49 : BitVec 32 := IntOp.ori a47 a48
  let a50 : BitVec 32 := IntOp.xori a46 a49
  let a51 : BitVec 32 := IntOp.addi a46 a50
  let a52 : BitVec 32 := IntOp.shli .vector a50 15#32
  let a53 : BitVec 32 := IntOp.shrui .vector a50 17#32
  let a54 : BitVec 32 := IntOp.ori a52 a53
  let a55 : BitVec 32 := IntOp.xori a51 a54
  let a56 : BitVec 32 := IntOp.addi a51 a55
  let a57 : BitVec 32 := IntOp.shli .vector a55 26#32
  let a58 : BitVec 32 := IntOp.shrui .vector a55 6#32
  let a59 : BitVec 32 := IntOp.ori a57 a58
  let a60 : BitVec 32 := IntOp.xori a56 a59
  let a61 : BitVec 32 := IntOp.addi a56 a60
  let a62 : BitVec 32 := IntOp.shli .vector a60 6#32
  let a63 : BitVec 32 := IntOp.shrui .vector a60 26#32
  let a64 : BitVec 32 := IntOp.ori a62 a63
  let a65 : BitVec 32 := IntOp.xori a61 a64
  let a66 : BitVec 32 := IntOp.addi a61 0#32
  let a67 : BitVec 32 := IntOp.addi a65 45#32
  let a68 : BitVec 32 := IntOp.addi a66 a67
  let a69 : BitVec 32 := IntOp.shli .vector a67 17#32
  let a70 : BitVec 32 := IntOp.shrui .vector a67 15#32
  let a71 : BitVec 32 := IntOp.ori a69 a70
  let a72 : BitVec 32 := IntOp.xori a68 a71
  let a73 : BitVec 32 := IntOp.addi a68 a72
  let a74 : BitVec 32 := IntOp.shli .vector a72 29#32
  let a75 : BitVec 32 := IntOp.shrui .vector a72 3#32
  let a76 : BitVec 32 := IntOp.ori a74 a75
  let a77 : BitVec 32 := IntOp.xori a73 a76
  let a78 : BitVec 32 := IntOp.addi a73 a77
  let a79 : BitVec 32 := IntOp.shli .vector a77 16#32
  let a80 : BitVec 32 := IntOp.shrui .vector a77 16#32
  let a81 : BitVec 32 := IntOp.ori a79 a80
  let a82 : BitVec 32 := IntOp.xori a78 a81
  let a83 : BitVec 32 := IntOp.addi a78 a82
  let a84 : BitVec 32 := IntOp.shli .vector a82 24#32
  let a85 : BitVec 32 := IntOp.shrui .vector a82 8#32
  let a86 : BitVec 32 := IntOp.ori a84 a85
  let a87 : BitVec 32 := IntOp.xori a83 a86
  let a88 : BitVec 32 := IntOp.addi a83 42#32
  let a89 : BitVec 32 := IntOp.addi a87 466689012#32
  let a90 : BitVec 32 := IntOp.addi a88 a89
  let a91 : BitVec 32 := IntOp.shli .vector a89 13#32
  let a92 : BitVec 32 := IntOp.shrui .vector a89 19#32
  let a93 : BitVec 32 := IntOp.ori a91 a92
  let a94 : BitVec 32 := IntOp.xori a90 a93
  let a95 : BitVec 32 := IntOp.addi a90 a94
  let a96 : BitVec 32 := IntOp.shli .vector a94 15#32
  let a97 : BitVec 32 := IntOp.shrui .vector a94 17#32
  let a98 : BitVec 32 := IntOp.ori a96 a97
  let a99 : BitVec 32 := IntOp.xori a95 a98
  let a100 : BitVec 32 := IntOp.addi a95 a99
  let a101 : BitVec 32 := IntOp.shli .vector a99 26#32
  let a102 : BitVec 32 := IntOp.shrui .vector a99 6#32
  let a103 : BitVec 32 := IntOp.ori a101 a102
  let a104 : BitVec 32 := IntOp.xori a100 a103
  let a105 : BitVec 32 := IntOp.addi a100 a104
  let a106 : BitVec 32 := IntOp.shli .vector a104 6#32
  let a107 : BitVec 32 := IntOp.shrui .vector a104 26#32
  let a108 : BitVec 32 := IntOp.ori a106 a107
  let a109 : BitVec 32 := IntOp.xori a105 a108
  let a110 : BitVec 32 := IntOp.addi a105 466689008#32
  let a111 : BitVec 32 := IntOp.addi a109 5#32
  let a112 : BitVec 32 := IntOp.xori a110 a111
  a112

/-- A lane of the hash is the hash of the lane. -/
theorem tfVec_apply (s : Shape) (v : IVec s 32) (i : s.Idx) : tfVec s v i = tf (v i) := by
  rfl

end Cert.KernelIdeal.G

end
-- ==== Proof.Bits.lean ====
module

public import proofs.«01_k».proof.Proof.Threefry

/-!
The counter kernel written once: a row of a staging slot is filled sixteen hashes at a time, a slot
is eight rows, and a slot is copied out while the other one is filled.
-/

@[expose] public section

noncomputable section

namespace Cert.KernelIdeal.G

open Idealize.ShloMosaic Idealize.SL.Sem
open Idealize.ShloMosaic.RefSig (ofTables tileCredit tileCredit_eq_zero tileCredit_pos)

variable {F : FTy → Type} [FloatOps F]

variable [Facts]
open Facts₀ Facts

/-- The program one tile of the counter kernel runs. -/
abbrev BP (F : FTy → Type) (i : grid1.Coords) :=
  Prog (TpuEff nD τ sig (Elt F) Λ₀ (.scVector ((i 0).castLE hcore1) ((i 1).castLE hsub1)))

abbrev outV : Memref sig .scVector .hbm S1280x4096 .i32 := Memref.whole main_v1_scv
abbrev bStg : Memref sig .scVector .vmem S2x8x4096 .i32 := Memref.whole cc1_scratch0

/-- Where the `c`-th word after a trip's first one lies: `w` is the trip's number. -/
def offB (s r : Nat) (w c : BitVec 32) : Fin 3 → Nat :=
  ![s, r, (Scalar.addi (Scalar.muli w 64#32) c).toNat]

theorem offB_inb (s r : Nat) (hs : s < 2) (hr : r < 8) (w c : BitVec 32)
    (hc : (Scalar.addi (Scalar.muli w 64#32) c).toNat + 16 ≤ 4096) :
    ∀ a, (offB s r w c) a + S1x1x16.size a ≤ S2x8x4096.size a := by
  intro a
  fin_cases a
  · show s + 1 ≤ 2; omega
  · show r + 1 ≤ 8; omega
  · exact hc

/-- Sixteen words of a row. -/
abbrev rectB (s r : Nat) (hs : s < 2) (hr : r < 8) (w c : BitVec 32)
    (hc : (Scalar.addi (Scalar.muli w 64#32) c).toNat + 16 ≤ 4096) : Rect S2x8x4096 :=
  Rect.unit (s := S2x8x4096) (offB s r w c) S1x1x16.size (offB_inb s r hs hr w c hc)

/-- One vector of a row: sixteen words stored. -/
def vecStep (i : grid1.Coords) (s r : Nat) (hs : s < 2) (hr : r < 8) (w c : BitVec 32)
    (hc : (Scalar.addi (Scalar.muli w 64#32) c).toNat + 16 ≤ 4096) (q : IVec S16 32) : BP F i PUnit := do
  let _ : Vec F S1x1x16 .i32 ← Prog.lift (.load bStg (rectB s r hs hr w c hc).toLoadRect (View.loadsAt_vmem h_S1x1x16))
  Prog.lift (.store bStg (rectB s r hs hr w c hc) (shapeCast S1x1x16 q shapeCasts_S16_S1x1x16)
    Finset.univ (View.stores_vmem_bits_univ h_S1x1x16 rfl) (.inl rfl))

/-- One vector of a row: its sixteen counters' hashes stored. -/
abbrev rowVecStep (i : grid1.Coords) (s r : Nat) (hs : s < 2) (hr : r < 8) (v : IVec S16 32) (w c : BitVec 32)
    (hc : (Scalar.addi (Scalar.muli w 64#32) c).toNat + 16 ≤ 4096) : BP F i PUnit :=
  vecStep i s r hs hr w c hc (tfVec S16 (addi v (broadcast S16 (Scalar.addi (Scalar.muli w 64#32) c))))

/-- Every vector of trip `w` lies in the row. -/
abbrev InRow (w : BitVec 32) : Prop :=
  ∀ g : Fin 4, (Scalar.addi (Scalar.muli w 64#32) (BitVec.ofNat 32 (16 * g.val))).toNat + 16 ≤ 4096

/-- A trip of a row's loop: four vectors. -/
def rowBody (i : grid1.Coords) (s r : Nat) (hs : s < 2) (hr : r < 8) (v : IVec S16 32) (w : BitVec 32)
    (hw : InRow w) : BP F i PUnit := do
  rowVecStep i s r hs hr v w 0#32 (hw 0)
  rowVecStep i s r hs hr v w 16#32 (hw 1)
  rowVecStep i s r hs hr v w 32#32 (hw 2)
  rowVecStep i s r hs hr v w 48#32 (hw 3)

/-- A row of a slot, over the loop's own bounds. -/
def rowLoopOf (i : grid1.Coords) (s r : Nat) (hs : s < 2) (hr : r < 8) (l : Scf.Loop 32) (ok : l.OK)
    (hl : ∀ t : Fin l.trips, InRow (Scf.iv 0#32 1#32 t)) (v : IVec S16 32) : BP F i PUnit :=
  Scf.Loop.for l ok ⟨⟩ fun t _ => rowBody i s r hs hr v (Scf.iv 0#32 1#32 t) (hl t)

theorem inRow_t2 (t : Fin k1_t2_loop.trips) : InRow (Scf.iv 0#32 1#32 t) := fun g => k1_off1_inb t g 2

/-- A row of a slot. -/
def rowLoop (i : grid1.Coords) (s r : Nat) (hs : s < 2) (hr : r < 8) (v : IVec S16 32) : BP F i PUnit :=
  rowLoopOf i s r hs hr k1_t2_loop k1_t2_ok inRow_t2 v

/-- A row's first counters: row `r` of the eight rows from `b` on. -/
def rowVec (b : BitVec 32) (r : Nat) : IVec S16 32 :=
  addi (iota .scVector S16 32 [0] iota_S16_d0_w32_scVector)
    (broadcast S16 (Scalar.muli (Scalar.addi b (BitVec.ofNat 32 r)) 4096#32))

/-- Row `r` of a slot, of the eight rows from `b` on. -/
abbrev row (i : grid1.Coords) (s : Nat) (hs : s < 2) (b : BitVec 32) (r : Nat) (hr : r < 8) : BP F i PUnit :=
  rowLoop i s r hs hr (rowVec b r)

/-- The rows of a slot from row `r` on. -/
def rowsFrom (i : grid1.Coords) (s : Nat) (hs : s < 2) (b : BitVec 32) : (n r : Nat) → r + n = 8 → BP F i PUnit
  | 0, _, _ => pure ⟨⟩
  | n + 1, r, h => do
    row i s hs b r (by omega)
    rowsFrom i s hs b n (r + 1) (by omega)

/-- A staging slot. -/
theorem inb_stg (s : Nat) (hs : s < 2) : ∀ a, (![s, 0, 0] : Fin 3 → Nat) a + S1x8x4096.size a ≤ S2x8x4096.size a := by
  intro a
  fin_cases a
  · show s + 1 ≤ 2; omega
  · show 0 + 8 ≤ 8; omega
  · show 0 + 4096 ≤ 4096; omega

abbrev stgSlot (s : Nat) (hs : s < 2) : Memref sig .scVector .vmem S8x4096 .i32 :=
  (bStg.slice (Rect.unit (s := S2x8x4096) ![s, 0, 0] S1x8x4096.size (inb_stg s hs)) (fun _ => rfl)).squeeze S8x4096
    squeezes_S1x8x4096_S8x4096

/-- Eight rows of the output. -/
abbrev outRows (off : Fin 2 → Nat) (h : ∀ a, off a + S8x4096.size a ≤ S1280x4096.size a) :
    Memref sig .scVector .hbm S8x4096 .i32 :=
  outV.slice (Rect.unit (s := S1280x4096) off S8x4096.size h) (fun _ => rfl)

/-- A wait for one slot's copy. -/
def waitSlot (i : grid1.Coords) : BP F i PUnit :=
  Prog.lift (.waitDma2 cc1_scratch1.sem (stgSlot 0 (by omega)) (outRows ![0, 0] inb_S1280x4096_S8x4096_0_0)
    ((View.wordExact_bits rfl).reshape _ _) (View.wordExact_bits rfl))

/-- A slot's copy started. -/
def copySlot (i : grid1.Coords) (s : Nat) (hs : s < 2) (off : Fin 2 → Nat)
    (h : ∀ a, off a + S8x4096.size a ≤ S1280x4096.size a) : BP F i PUnit :=
  Prog.lift (.enqueueDma (stgSlot s hs) (.here (outRows off h)) (.dma cc1_scratch1.sem)
    ((View.wordExact_bits rfl).reshape _ _) (View.wordExact_bits rfl) ⟨Or.inl rfl, trivial⟩)

/-- The tile's first row. -/
def base (i : grid1.Coords) : BitVec 32 :=
  Scalar.muli (Scalar.addi (Scalar.muli (BitVec.ofNat 32 (i 1).val) 2#32) (BitVec.ofNat 32 (i 0).val)) 40#32

/-- The first row of a pair of slots. -/
def pairBase (i : grid1.Coords) (t : Fin k1_t1_loop.trips) : BitVec 32 :=
  Scalar.addi (base i) (Scalar.muli (Scf.iv 0#32 1#32 t) 16#32)

/-- Whether an earlier pair's copies are outstanding. -/
def later (t : Fin k1_t1_loop.trips) : BitVec 1 :=
  Scalar.cmpi .ne (Scalar.extui (Scalar.cmpi .sgt (Scf.iv 0#32 1#32 t) 0#32) : BitVec 32) 0#32

/-- The drain before a pair. -/
def drain (i : grid1.Coords) (t : Fin k1_t1_loop.trips) : BP F i PUnit :=
  if h : later t = 1#1 then do waitSlot i; waitSlot i; pure ⟨⟩ else pure ⟨⟩

/-- A pair of slots. -/
def pairBody (i : grid1.Coords) (t : Fin k1_t1_loop.trips) : BP F i PUnit := do
  drain i t
  rowsFrom i 0 (by omega) (pairBase i t) 8 0 rfl
  copySlot i 0 (by omega) (k1_off9 i t) (k1_off9_inb i t)
  rowsFrom i 1 (by omega) (Scalar.addi (pairBase i t) 8#32) 8 0 rfl
  copySlot i 1 (by omega) (k1_off18 i t) (k1_off18_inb i t)

/-- One tile of the counter kernel. -/
def bits (i : grid1.Coords) : BP F i PUnit := do
  Scf.Loop.for k1_t1_loop k1_t1_ok ⟨⟩ fun t _ => pairBody i t
  waitSlot i
  waitSlot i
  rowsFrom i 0 (by omega) (Scalar.addi (base i) 32#32) 8 0 rfl
  copySlot i 0 (by omega) (k1_off27 i) (k1_off27_inb i)
  waitSlot i

end Cert.KernelIdeal.G

end
-- ==== Proof.BitsSlot.lean ====
module

public import proofs.«01_k».proof.Proof.Bits
public import proofs.«01_k».proof.Proof.GatherWait

/-!
A staging slot of the counter kernel filled: its eight rows, sixteen hashes at a time.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

/-- The tile's thread. -/
abbrev thB (d : Dev nD) (i : grid1.Coords) : Thread nD τ := V d ((i 0).castLE hcore1) ((i 1).castLE hsub1)

/-- The hash at row `r` and column `c` of the rows from `n` on. -/
def hsh (n r c : Nat) : BitVec 32 := tf (BitVec.ofNat 32 ((n + r) * 4096 + c))

/-- What a slot holds when its rows are the rows from `n` on. -/
def hashes (n : Nat) (Z : S2x8x4096.Idx) : BitVec 32 := hsh n (Z 1).val (Z 2).val

/-- The first `m` words of slot `s` are hashed. -/
def Filled (s n m : Nat) (f : S2x8x4096.Idx → BitVec 32) : Prop :=
  ∀ Z : S2x8x4096.Idx, (Z 0).val = s → (Z 1).val * 4096 + (Z 2).val < m → f Z = hashes n Z

theorem bslot_emb (s : Nat) (hs : s < 2) (y0 : Fin 8) (y1 : Fin 4096) :
    (stgSlot s hs).view.emb (ix2 y0 y1) = (ix3 (⟨s, hs⟩ : Fin 2) y0 y1 : S2x8x4096.Idx) := by
  have h := reshapeEquiv_ix2_1ab (a := 8) (b := 4096) squeezes_S1x8x4096_S8x4096.numel_eq y0 y1
  show ((Rect.unit (s := S2x8x4096) ![s, 0, 0] S1x8x4096.size (inb_stg s hs)).emb
    (Shape.reshapeEquiv squeezes_S1x8x4096_S8x4096.numel_eq (ix2 y0 y1))) = _
  rw [h]
  funext a
  fin_cases a <;> refine Fin.ext ?_
  · show s + 1 * 0 = s; omega
  · show 0 + 1 * y0.val = y0.val; omega
  · show 0 + 1 * y1.val = y1.val; omega

theorem bslot_mem (s : Nat) (hs : s < 2) (Z : S2x8x4096.Idx) : Z ∈ (stgSlot s hs).view.set ↔ (Z 0).val = s := by
  constructor
  · intro h
    obtain ⟨y, -, hy⟩ := Finset.mem_map.mp h
    have e : y = ix2 (y 0) (y 1) := by funext a; fin_cases a <;> rfl
    have h2 := (bslot_emb s hs (y 0) (y 1)).symm.trans ((congrArg (stgSlot s hs).view.emb e).symm.trans hy)
    rw [← h2]
  · rintro rfl
    refine Finset.mem_map.mpr ⟨ix2 (Z 1) (Z 2), Finset.mem_univ _, (bslot_emb _ hs (Z 1) (Z 2)).trans ?_⟩
    funext a; fin_cases a <;> rfl

variable (d : Dev nD) (i : grid1.Coords)

/-- A slot's words. -/
abbrev slotP (s : Nat) (hs : s < 2) (f : S2x8x4096.Idx → BitVec 32) : sProp (MM F) :=
  (stgSlot s hs).view.loc (thB d i) ↦[(stgSlot s hs).view.set]{fullShare} (f : Buf (Elt F) ((stgSlot s hs).view.loc (thB d i)))

/-- A slot's words, the first `m` hashed. -/
def slotFill (s : Nat) (hs : s < 2) (n m : Nat) : sProp (MM F) :=
  iprop(∃ f, ⌜Filled s n m f⌝ ∗ slotP d i s hs f)

section Vec

variable (s r : Nat) (hs : s < 2) (hr : r < 8) (w c : BitVec 32) (hc : (Scalar.addi (Scalar.muli w 64#32) c).toNat + 16 ≤ 4096)

theorem rectB_emb (y : S1x1x16.Idx) (o : Nat) (ho : (Scalar.addi (Scalar.muli w 64#32) c).toNat = o) (a : Fin 3) :
    ((rectB s r hs hr w c hc).emb y a).val = (![s, r, o + (y 2).val] : Fin 3 → Nat) a := by
  subst ho
  have h0 : (y 0).val < 1 := (y 0).isLt
  have h1 : (y 1).val < 1 := (y 1).isLt
  fin_cases a
  · show s + 1 * (y 0).val = s; omega
  · show r + 1 * (y 1).val = r; omega
  · show (Scalar.addi (Scalar.muli w 64#32) c).toNat + 1 * (y 2).val = (Scalar.addi (Scalar.muli w 64#32) c).toNat + (y 2).val; omega

theorem cast_lane (q : IVec S16 32) (y : S1x1x16.Idx) :
    shapeCast S1x1x16 q shapeCasts_S16_S1x1x16 y = q (ix1 (y 2)) := by
  have h0 : (y 0).val < 1 := (y 0).isLt
  have h1 : (y 1).val < 1 := (y 1).isLt
  refine shapeCast_apply q _ y _ ?_
  rw [Shape.rowMajor_val_three, Shape.rowMajor_val_one]
  show (y 2).val = ((y 0).val * 1 + (y 1).val) * 16 + (y 2).val
  omega

/-- Sixteen more words stored. -/
theorem filled_step (n o : Nat) (ho : (Scalar.addi (Scalar.muli w 64#32) c).toNat = o) (q : IVec S16 32)
    (hq : ∀ y : S16.Idx, q y = hsh n r (o + (y 0).val)) (f : S2x8x4096.Idx → BitVec 32) (hf : Filled s n (r * 4096 + o) f) :
    Filled s n (r * 4096 + o + 16) ((bStg.access (rectB s r hs hr w c hc)).write (Elt F) f
      (shapeCast S1x1x16 q shapeCasts_S16_S1x1x16) Finset.univ) := by
  have ho' : o + 16 ≤ 4096 := ho ▸ hc
  intro Z h0 hm
  have hz2 : (Z 2).val < 4096 := (Z 2).isLt
  by_cases hlt : (Z 1).val * 4096 + (Z 2).val < r * 4096 + o
  · refine (View.write_of_not_mem (v := bStg.access (rectB s r hs hr w c hc)) (Val := Elt F) f _ Finset.univ (i := Z) fun hm => ?_).trans (hf Z h0 hlt)
    obtain ⟨y, -, hy⟩ := Finset.mem_map.mp hm
    have e1 := (rectB_emb s r hs hr w c hc y o ho 1).symm.trans (congrArg (fun z : S2x8x4096.Idx => (z 1).val) hy)
    have e2 := (rectB_emb s r hs hr w c hc y o ho 2).symm.trans (congrArg (fun z : S2x8x4096.Idx => (z 2).val) hy)
    have e1' : r = (Z 1).val := e1
    have e2' : o + (y 2).val = (Z 2).val := e2
    omega
  · have h1 : (Z 1).val = r := by omega
    have hy2 : (Z 2).val - o < 16 := by omega
    obtain ⟨y, hy⟩ : ∃ y : S1x1x16.Idx, y = ix3 (⟨0, Nat.one_pos⟩ : Fin 1) (⟨0, Nat.one_pos⟩ : Fin 1) (⟨(Z 2).val - o, hy2⟩ : Fin 16) := ⟨_, rfl⟩
    have hyv : (y 2).val = (Z 2).val - o := by rw [hy]
    have hZ : (rectB s r hs hr w c hc).emb y = Z := by
      funext a
      refine Fin.ext ((rectB_emb s r hs hr w c hc y o ho a).trans ?_)
      fin_cases a
      · exact h0.symm
      · exact h1.symm
      · show o + (y 2).val = (Z 2).val
        omega
    have hw := View.write_emb_of_mem (v := bStg.access (rectB s r hs hr w c hc)) (Val := Elt F) f
      (shapeCast S1x1x16 q shapeCasts_S16_S1x1x16) (Finset.mem_univ y)
    have hw2 : (bStg.access (rectB s r hs hr w c hc)).write (Elt F) f
      (shapeCast S1x1x16 q shapeCasts_S16_S1x1x16) Finset.univ ((rectB s r hs hr w c hc).emb y) = shapeCast S1x1x16 q shapeCasts_S16_S1x1x16 y := hw
    rw [hZ] at hw2
    rw [hw2, cast_lane, hq]
    show hsh n r (o + (y 2).val) = hsh n (Z 1).val (Z 2).val
    rw [h1, hyv]
    congr 1
    omega

theorem rectB_sub : (bStg.access (rectB s r hs hr w c hc)).set ⊆ (stgSlot s hs).view.set := by
  intro Z hm
  obtain ⟨y, -, hy⟩ := Finset.mem_map.mp hm
  refine (bslot_mem s hs Z).mpr ?_
  exact (congrArg (fun z : S2x8x4096.Idx => (z 0).val) hy).symm.trans (rectB_emb s r hs hr w c hc y _ rfl 0)

theorem vecStep_wp {Φ : PUnit → sProp (MM F)} (n o : Nat) (ho : (Scalar.addi (Scalar.muli w 64#32) c).toNat = o) (q : IVec S16 32)
    (hq : ∀ y : S16.Idx, q y = hsh n r (o + (y 0).val)) :
    slotFill (F := F) d i s hs n (r * 4096 + o)
      ⊢ iprop((slotFill (F := F) d i s hs n (r * 4096 + o + 16) -∗ Φ ⟨⟩)
        -∗ wp frame (wpE (defs₀ (F := F)) 𝒱₀ (thB d i) none) Set.univ (vecStep i s r hs hr w c hc q) Φ) := by
  unfold slotFill vecStep
  simp only [Prog.lift, Prog.bind_op, Prog.bind_ret, Prog.pure_eq_ret]
  iintro ⟨%f, %hf, H⟩ HΦ
  iapply (wp_load_rect 𝒱₀ (thB d i) none Set.univ (m := bStg) (r := rectB s r hs hr w c hc) (S := (stgSlot s hs).view.set)
    (q := fullShare) (f := f) (rectB_sub s r hs hr w c hc)) $$ H
  iintro H
  iapply (wp_store 𝒱₀ (thB d i) none Set.univ (m := bStg) (r := rectB s r hs hr w c hc) (S := (stgSlot s hs).view.set)
    (f := f) (rectB_sub s r hs hr w c hc)) $$ H
  iintro H
  rw [wp_ret]
  imodintro
  iapply HΦ
  iexists _
  isplitr
  swap; · iexact H
  ipureintro
  exact filled_step s r hs hr w c hc n o ho q hq f hf

end Vec

/-- A row's first counters, plus an offset, are the words of the row. -/
theorem word_eq (b : BitVec 32) (n r : Nat) (hb : b = BitVec.ofNat 32 n) (O : BitVec 32) (y : S16.Idx) :
    tfVec S16 (addi (rowVec b r) (broadcast S16 O)) y = hsh n r (O.toNat + (y 0).val) := by
  rw [tfVec_apply]
  unfold hsh
  refine congrArg tf ?_
  have hi : iota .scVector S16 32 [0] iota_S16_d0_w32_scVector y = BitVec.ofNat 32 (y 0).val := by
    simp [iota]
  show (iota .scVector S16 32 [0] iota_S16_d0_w32_scVector y + (b + BitVec.ofNat 32 r) * BitVec.ofNat 32 4096) + O = _
  rw [hi]
  subst hb
  have hO : O = BitVec.ofNat 32 O.toNat := (BitVec.ofNat_toNat 32 O).symm ▸ (by simp)
  conv_lhs => rw [hO]
  rw [← BitVec.ofNat_add, ← BitVec.ofNat_mul, ← BitVec.ofNat_add, ← BitVec.ofNat_add]
  congr 1
  omega

theorem trip_off (t : Fin k1_t2_loop.trips) (g : Fin 4) :
    (Scalar.addi (Scalar.muli (Scf.iv 0#32 1#32 t) 64#32) (BitVec.ofNat 32 (16 * g.val))).toNat = 64 * t.val + 16 * g.val :=
  congrFun (Gen.k1_off1_eq t g) 2

theorem nat_h (x : Nat) : x = x + 64 * 0 := by omega

theorem nat_e (x t g : Nat) : x + 64 * t + 16 * g = x + (64 * t + 16 * g) := by omega

theorem nat_f (x t : Nat) : x + 64 * (t + 1) = x + 64 * t + 48 + 16 := by omega

theorem nat_g (r k : Nat) (h : k = 64) : r * 4096 + 64 * k = (r + 1) * 4096 := by omega

theorem rowBody_wp {Φ : PUnit → sProp (MM F)} (s r : Nat) (hs : s < 2) (hr : r < 8) (b : BitVec 32) (n : Nat) (hb : b = BitVec.ofNat 32 n)
    (t : Fin k1_t2_loop.trips) :
    slotFill (F := F) d i s hs n (r * 4096 + 64 * t.val)
      ⊢ iprop((slotFill (F := F) d i s hs n (r * 4096 + 64 * (t.val + 1)) -∗ Φ ⟨⟩)
        -∗ wp frame (wpE (defs₀ (F := F)) 𝒱₀ (thB d i) none) Set.univ
          (rowBody i s r hs hr (rowVec b r) (Scf.iv 0#32 1#32 t) (inRow_t2 t)) Φ) := by
  have step : ∀ (g : Fin 4) (m m' : Nat) (_ : m = r * 4096 + (64 * t.val + 16 * g.val)) (_ : m' = m + 16)
      (Φ : PUnit → sProp (MM F)), slotFill (F := F) d i s hs n m
      ⊢ iprop((slotFill (F := F) d i s hs n m' -∗ Φ ⟨⟩)
        -∗ wp frame (wpE (defs₀ (F := F)) 𝒱₀ (thB d i) none) Set.univ
          (rowVecStep i s r hs hr (rowVec b r) (Scf.iv 0#32 1#32 t) (BitVec.ofNat 32 (16 * g.val)) (inRow_t2 t g)) Φ) := by
    intro g m m' hm hm' Φ
    subst hm' hm
    exact vecStep_wp d i s r hs hr _ _ _ n _ (trip_off t g) _ fun y => by
      rw [word_eq b n r hb, trip_off]
  have e0 : r * 4096 + 64 * t.val = r * 4096 + (64 * t.val + 16 * ((0 : Fin 4) : Fin 4).val) := rfl
  have e1 : r * 4096 + 64 * t.val + 16 = r * 4096 + (64 * t.val + 16 * ((1 : Fin 4) : Fin 4).val) := nat_e (r * 4096) t.val 1
  have e2 : r * 4096 + 64 * t.val + 32 = r * 4096 + (64 * t.val + 16 * ((2 : Fin 4) : Fin 4).val) := nat_e (r * 4096) t.val 2
  have e3 : r * 4096 + 64 * t.val + 48 = r * 4096 + (64 * t.val + 16 * ((3 : Fin 4) : Fin 4).val) := nat_e (r * 4096) t.val 3
  have f3 : r * 4096 + 64 * (t.val + 1) = r * 4096 + 64 * t.val + 48 + 16 := nat_f (r * 4096) t.val
  unfold rowBody
  iintro H HΦ
  rw [wp_bind]
  iapply (step 0 _ _ e0 rfl _) $$ H
  iintro H
  rw [wp_bind]
  iapply (step 1 _ _ e1 rfl _) $$ H
  iintro H
  rw [wp_bind]
  iapply (step 2 _ _ e2 rfl _) $$ H
  iintro H
  iapply (step 3 _ _ e3 f3 _) $$ H
  iintro H
  iapply HΦ
  iexact H

theorem row_wp {Φ : PUnit → sProp (MM F)} (s r : Nat) (hs : s < 2) (hr : r < 8) (b : BitVec 32) (n : Nat) (hb : b = BitVec.ofNat 32 n) :
    slotFill (F := F) d i s hs n (r * 4096)
      ⊢ iprop((slotFill (F := F) d i s hs n ((r + 1) * 4096) -∗ Φ ⟨⟩)
        -∗ wp frame (wpE (defs₀ (F := F)) 𝒱₀ (thB d i) none) Set.univ (row i s hs b r hr) Φ) := by
  have ht : k1_t2_loop.trips = 64 := by decide
  have h1 : r * 4096 + 64 * k1_t2_loop.trips = (r + 1) * 4096 := nat_g r _ ht
  have h0 : r * 4096 = r * 4096 + 64 * 0 := nat_h _
  have hs0 : slotFill (F := F) d i s hs n (r * 4096) ⊢ slotFill (F := F) d i s hs n (r * 4096 + 64 * 0) :=
    Entails.of_eq (congrArg (slotFill (F := F) d i s hs n) h0)
  have hs1 : slotFill (F := F) d i s hs n (r * 4096 + 64 * k1_t2_loop.trips) ⊢ slotFill (F := F) d i s hs n ((r + 1) * 4096) :=
    Entails.of_eq (congrArg (slotFill (F := F) d i s hs n) h1)
  unfold row rowLoop rowLoopOf
  iintro H HΦ
  iapply (Scf.wp_for frame (wpE (defs₀ (F := F)) 𝒱₀ (thB d i) none) Set.univ _ _ _ k1_t2_ok (⟨⟩ : PUnit) _
    (fun k _ => slotFill (F := F) d i s hs n (r * 4096 + 64 * k)) (fun k _ => by
      iintro H
      iapply (rowBody_wp d i s r hs hr b n hb k) $$ H
      iintro H
      iexact H))
  isplitl [H]
  · iapply hs0 $$ H
  iintro %_ H
  iapply HΦ
  iapply hs1 $$ H

/-- The rows of a slot from row `r` on. -/
theorem rowsFrom_wp (s : Nat) (hs : s < 2) (b : BitVec 32) (n : Nat) (hb : b = BitVec.ofNat 32 n) {Φ : PUnit → sProp (MM F)} :
    ∀ (k r : Nat) (h : r + k = 8),
    slotFill (F := F) d i s hs n (r * 4096)
      ⊢ iprop((slotFill (F := F) d i s hs n (8 * 4096) -∗ Φ ⟨⟩)
        -∗ wp frame (wpE (defs₀ (F := F)) 𝒱₀ (thB d i) none) Set.univ (rowsFrom i s hs b k r h) Φ)
  | 0, r, h => by
    obtain rfl : r = 8 := by omega
    unfold rowsFrom
    rw [wp_pure]
    iintro H HΦ
    imodintro
    iapply HΦ
    iexact H
  | k + 1, r, h => by
    have hr : r < 8 := by omega
    have hk : r + 1 + k = 8 := by omega
    unfold rowsFrom
    rw [wp_bind]
    iintro H HΦ
    iapply (row_wp d i s r hs hr b n hb) $$ H
    iintro H
    iapply (rowsFrom_wp s hs b n hb k (r + 1) hk) $$ H
    iexact HΦ

/-- A slot filled: every word of it hashed. -/
theorem slot_full (s : Nat) (hs : s < 2) (n : Nat) :
    slotFill (F := F) d i s hs n (8 * 4096) ⊢ slotP (F := F) d i s hs (hashes n) := by
  unfold slotFill
  iintro ⟨%f, %hf, H⟩
  iapply (Entails.of_eq (pointsTo_congr fun Z hZ => hf Z ((bslot_mem s hs Z).mp hZ) (by
    have h1 : (Z 1).val < 8 := (Z 1).isLt
    have h2 : (Z 2).val < 4096 := (Z 2).isLt
    omega))) $$ H

theorem slot_any (s : Nat) (hs : s < 2) (n : Nat) (f) : slotP (F := F) d i s hs f ⊢ slotFill (F := F) d i s hs n (0 * 4096) := by
  unfold slotFill
  iintro H
  iexists f
  isplitr
  · ipureintro; intro Z _ h; omega
  iexact H

end Cert.KernelIdeal.G

end
-- ==== Proof.BitsPair.lean ====
module

public import proofs.«01_k».proof.Proof.BitsSlot
public import proofs.«01_k».proof.Proof.Own

/-!
A tile of the counter kernel: its five slots of rows filled and copied out, two copies in flight at once.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

/-- The first row of slot `b` of the tile's five. -/
def nK (i : grid1.Coords) (b : Nat) : Nat := 80 * (i 1).val + 40 * (i 0).val + 8 * b

def offK (i : grid1.Coords) (b : Nat) : Fin 2 → Nat := ![nK i b, 0]

theorem inbK (i : grid1.Coords) (b : Nat) (hb : b < 5) : ∀ a, offK i b a + S8x4096.size a ≤ S1280x4096.size a := by
  have h1 : (i 1).val < 16 := (i 1).isLt
  have h0 : (i 0).val < 2 := (i 0).isLt
  intro a
  fin_cases a
  · show 80 * (i 1).val + 40 * (i 0).val + 8 * b + 8 ≤ 1280; omega
  · show 0 + 4096 ≤ 4096; omega

/-- Slot `b` of the tile's rows. -/
abbrev blk (i : grid1.Coords) (b : Nat) (hb : b < 5) : Memref sig .scVector .hbm S8x4096 .i32 := outRows (offK i b) (inbK i b hb)

/-- Every counter's hash, by row and column. -/
def words (X : S1280x4096.Idx) : BitVec 32 := tf (BitVec.ofNat 32 ((X 0).val * 4096 + (X 1).val))

theorem k1_trips : k1_t1_loop.trips = 2 := by decide

theorem base_pair : ∀ (i : grid1.Coords) (t : Fin k1_t1_loop.trips), pairBase i t = BitVec.ofNat 32 (nK i (2 * t.val)) := by decide +kernel
theorem base_pair' : ∀ (i : grid1.Coords) (t : Fin k1_t1_loop.trips),
    Scalar.addi (pairBase i t) 8#32 = BitVec.ofNat 32 (nK i (2 * t.val + 1)) := by decide +kernel
theorem base_tail : ∀ i : grid1.Coords, Scalar.addi (base i) 32#32 = BitVec.ofNat 32 (nK i 4) := by decide +kernel
theorem later_iff : ∀ t : Fin k1_t1_loop.trips, later t = 1#1 ↔ t.val = 1 := by decide

theorem off9_K (i : grid1.Coords) (t : Fin k1_t1_loop.trips) : k1_off9 i t = offK i (2 * t.val) := by
  rw [Gen.k1_off9_eq]; unfold offK nK
  rw [show 8 * (2 * t.val) = 16 * t.val from by omega]
theorem off18_K (i : grid1.Coords) (t : Fin k1_t1_loop.trips) : k1_off18 i t = offK i (2 * t.val + 1) := by
  rw [Gen.k1_off18_eq]; unfold offK nK
  rw [show 80 * (i 1).val + 40 * (i 0).val + 8 * (2 * t.val + 1) = 80 * (i 1).val + 40 * (i 0).val + 16 * t.val + 8 from by omega]
theorem off27_K (i : grid1.Coords) : k1_off27 i = offK i 4 := by
  rw [Gen.k1_off27_eq]; rfl

variable (d : Dev nD) (i : grid1.Coords) (O : CellTallies nD τ sig (HIx 2)) (W₀ : Waits sig (HIx 2))

/-- A slot of the output's rows. -/
abbrev outP (b : Nat) (hb : b < 5) (f : S1280x4096.Idx → BitVec 32) : sProp (MM F) :=
  (blk i b hb).view.loc (thB d i) ↦[(blk i b hb).view.set]{fullShare} (f : Buf (Elt F) ((blk i b hb).view.loc (thB d i)))

/-- A slot landed in the output is the hashes of its rows. -/
theorem land_out (b : Nat) (hb : b < 5) (s : Nat) (hs : s < 2) (f : S1280x4096.Idx → BitVec 32) :
    (((blk i b hb).view.loc (thB d i) ↦[(blk i b hb).view.set]{fullShare} ((blk i b hb).view.write (Elt F) (f : Buf (Elt F) ((blk i b hb).view.loc (thB d i)))
        (ReadAs.same.apply ((stgSlot s hs).view.read (Elt F) (hashes (nK i b)))) Finset.univ)) : sProp (MM F))
      = outP d i b hb words := by
  refine pointsTo_congr fun x hx => ?_
  obtain ⟨y, -, rfl⟩ := Finset.mem_map.mp hx
  rw [View.write_emb_of_mem _ _ (Finset.mem_univ y)]
  have e : y = ix2 (y 0) (y 1) := by funext a; fin_cases a <;> rfl
  have h1 : (stgSlot s hs).view.read (Elt F) (hashes (nK i b)) y = hashes (nK i b) ((stgSlot s hs).view.emb y) := rfl
  have h2 : (stgSlot s hs).view.emb y = (ix3 (⟨s, hs⟩ : Fin 2) (y 0) (y 1) : S2x8x4096.Idx) := (congrArg _ e).trans (bslot_emb s hs (y 0) (y 1))
  refine (show _ = hashes (nK i b) ((stgSlot s hs).view.emb y) from h1).trans ?_
  rw [h2]
  show tf (BitVec.ofNat 32 ((nK i b + (y 0).val) * 4096 + (y 1).val)) = tf (BitVec.ofNat 32 ((nK i b + 1 * (y 0).val) * 4096 + (0 + 1 * (y 1).val)))
  rw [Nat.one_mul, Nat.one_mul, Nat.zero_add]

/-- A slot copy's units. -/
def NO : ℕ := (main_v1_scv : Ref sig .scVector).dmaCredit S8x4096 .i32
theorem NO_pos : 0 < NO := by unfold NO; decide

/-- The slot's copy started, one of a batch. -/
theorem copySlot_wp {Φ : PUnit → sProp (MM F)} (b : Nat) (hb : b < 5) (s : Nat) (hs : s < 2) (f : S1280x4096.Idx → BitVec 32)
    (off : Fin 2 → Nat) (h) (he : off = offK i b) {m : Nat} (Dl : Fin m → sProp (MM F)) (j : Nat) (hj : j < m)
    (hD : iprop(outP d i b hb words ∗ slotP d i s hs (hashes (nK i b))) ⊢ Dl ⟨j, hj⟩) :
    iprop(slotP d i s hs (hashes (nK i b)) ∗ outP d i b hb f
        ∗ Batch EC (thB d i) (.dma cc1_scratch1.sem) (none : HIx 2) NO Dl j 0)
      ⊢ iprop((Batch EC (thB d i) (.dma cc1_scratch1.sem) (none : HIx 2) NO Dl (j + 1) 0 -∗ Φ ⟨⟩)
        -∗ wp frame (wpE (defs₀ (F := F)) 𝒱₀ (thB d i) none) Set.univ (copySlot i s hs off h) Φ) := by
  subst he
  have hN : (blk i b hb).view.amount (.dma cc1_scratch1.sem) = NO := rfl
  unfold copySlot
  simp only [Prog.lift]
  iintro ⟨Hs, Ho, HB⟩ HΦ
  iapply (Transfers.wp_dmaBatch EC 𝒱₀ (thB d i) none (src := stgSlot s hs) (dst := blk i b hb) (sm := .dma cc1_scratch1.sem) (via := ReadAs.same)
    (none : HIx 2) NO hN (Finset.Subset.refl _) hj (Nat.zero_le _) (D := Dl)
    (q := fullShare) (fs := (hashes (nK i b) : Buf (Elt F) ((stgSlot s hs).view.loc (thB d i)))) (fd := (f : Buf (Elt F) ((blk i b hb).view.loc (thB d i))))
    ((sep_mono (Entails.of_eq (land_out d i b hb s hs f)) .rfl).trans hD)) $$ [Hs Ho HB]
  · isplitl [Hs]; · iexact Hs
    isplitl [Ho]; · iexact Ho
    iexact HB
  iintro HB
  rw [wp_ret]
  imodintro
  iapply HΦ
  iexact HB

/-- What a tile owes, its waits recorded. -/
abbrev OweB : sProp (MM F) :=
  iprop(∃ W', ⌜∀ p ∈ W', p ∈ W₀ ∨ p.2 = none⌝ ∗ owes (thB d i) O W')

/-- A wait among several copies' waits. -/
theorem wait_some (hO : ∀ g, O g none = 0) {Φ : PUnit → sProp (MM F)} {m : Nat} (Dl : Fin m → sProp (MM F)) (u : ℕ)
    (hu : u + NO < NO * m) :
    iprop(Lv ∗ Batch EC (thB d i) (.dma cc1_scratch1.sem) (none : HIx 2) NO Dl m u ∗ OweB (F := F) d i O W₀)
      ⊢ iprop((iprop(Batch EC (thB d i) (.dma cc1_scratch1.sem) (none : HIx 2) NO Dl m (u + NO) ∗ OweB (F := F) d i O W₀) -∗ Φ ⟨⟩)
        -∗ wp frame (wpE (defs₀ (F := F)) 𝒱₀ (thB d i) none) Set.univ (waitSlot i) Φ) := by
  have hN : (outRows ![0, 0] inb_S1280x4096_S8x4096_0_0).view.dmaCredit = NO := rfl
  unfold waitSlot
  simp only [Prog.lift]
  iintro ⟨#Hlv, HB, %W', %hW', HO⟩ HΦ
  iapply (Transfers.wp_waitBatchO EC 𝒱₀ (thB d i) none (none : HIx 2) hN (D := Dl) (u := u) hu (O := O) (W := W')) $$ [HB HO]
  · isplitl [HB]; · iexact HB
    isplitl [HO]; · iexact HO
    iapply ((K (F := F)).mayWait_none (thr := thB d i) _ hO); iexact Hlv
  iintro ⟨HB, HO⟩
  rw [wp_ret]
  imodintro
  iapply HΦ
  isplitl [HB]; · iexact HB
  iexists _; isplitr
  swap; · iexact HO
  ipureintro
  exact owe_insert W₀ (thr := thB d i) hW'

/-- The last wait of several copies'. -/
theorem wait_end (hO : ∀ g, O g none = 0) {Φ : PUnit → sProp (MM F)} {m : Nat} (Dl : Fin m → sProp (MM F)) (u : ℕ)
    (hu : u + NO = NO * m) :
    iprop(Lv ∗ Batch EC (thB d i) (.dma cc1_scratch1.sem) (none : HIx 2) NO Dl m u ∗ OweB (F := F) d i O W₀)
      ⊢ iprop((iprop(bigSep Finset.univ Dl ∗ semVal (thB d i, .dma cc1_scratch1.sem) 0 ∗ OweB (F := F) d i O W₀) -∗ Φ ⟨⟩)
        -∗ wp frame (wpE (defs₀ (F := F)) 𝒱₀ (thB d i) none) Set.univ (waitSlot i) Φ) := by
  have hN : (outRows ![0, 0] inb_S1280x4096_S8x4096_0_0).view.dmaCredit = NO := rfl
  unfold waitSlot
  simp only [Prog.lift]
  iintro ⟨#Hlv, HB, %W', %hW', HO⟩ HΦ
  iapply (Transfers.wp_waitBatchLastO EC 𝒱₀ (thB d i) none (none : HIx 2) hN NO_pos (D := Dl) (u := u) hu (O := O) (W := W')) $$ [HB HO]
  · isplitl [HB]; · iexact HB
    isplitl [HO]; · iexact HO
    iapply ((K (F := F)).mayWait_none (thr := thB d i) _ hO); iexact Hlv
  iintro ⟨HD, Hv, HO⟩
  rw [wp_ret]
  imodintro
  iapply HΦ
  isplitl [HD]; · iexact HD
  isplitl [Hv]; · iexact Hv
  iexists _; isplitr
  swap; · iexact HO
  ipureintro
  exact owe_insert W₀ (thr := thB d i) hW'

/-- What the two copies of pair `t` deliver. -/
def DP (t : Nat) (ht : t < 2) (j : Fin 2) : sProp (MM F) :=
  iprop(outP d i (2 * t + j.val) (by omega) words ∗ slotP d i j.val j.isLt (hashes (nK i (2 * t + j.val))))

instance (t : Nat) (ht : t < 2) (j : Fin 2) : Storable upEmb (DP (F := F) d i t ht j) := by
  unfold DP; infer_instance

/-- The two slots, and the semaphore at rest. -/
abbrev FreeB : sProp (MM F) :=
  iprop((∃ f, slotP d i 0 (by omega) f) ∗ (∃ f, slotP d i 1 (by omega) f) ∗ semVal (thB d i, .dma cc1_scratch1.sem) 0)

/-- Pair `t`'s copies in flight. -/
abbrev Fly (t : Nat) (ht : t < 2) : sProp (MM F) :=
  Batch EC (thB d i) (.dma cc1_scratch1.sem) (none : HIx 2) NO (DP (F := F) d i t ht) 2 0

/-- A pair's two waits. -/
theorem drain_wp (hO : ∀ g, O g none = 0) {Φ : PUnit → sProp (MM F)} (t : Nat) (ht : t < 2) (k : PUnit → BP F i PUnit)
    (h0 : 2 * t < 5) (h1 : 2 * t + 1 < 5) :
    iprop(Lv ∗ Fly (F := F) d i t ht ∗ OweB (F := F) d i O W₀)
      ⊢ iprop((iprop(FreeB (F := F) d i ∗ outP d i (2 * t) h0 words ∗ outP d i (2 * t + 1) h1 words ∗ OweB (F := F) d i O W₀)
            -∗ wp frame (wpE (defs₀ (F := F)) 𝒱₀ (thB d i) none) Set.univ (k ⟨⟩) Φ)
        -∗ wp frame (wpE (defs₀ (F := F)) 𝒱₀ (thB d i) none) Set.univ (do waitSlot i; waitSlot i; k ⟨⟩) Φ) := by
  have u0 : 0 + NO < NO * 2 := by have := NO_pos; omega
  have u1 : 0 + NO + NO = NO * 2 := by omega
  have hD : bigSep Finset.univ (DP (F := F) d i t ht) = iprop(DP d i t ht 0 ∗ DP d i t ht 1) := by
    rw [bigSep_univ_succ, bigSep_univ_of_subsingleton (0 : Fin 1)]
    rfl
  iintro ⟨#Hlv, HB, HO⟩ Hk
  rw [wp_bind]
  iapply (wait_some d i O W₀ hO (DP d i t ht) 0 u0) $$ [HB HO]
  · isplitr; · iexact Hlv
    isplitl [HB]; · iexact HB
    iexact HO
  iintro ⟨HB, HO⟩
  rw [wp_bind]
  iapply (wait_end d i O W₀ hO (DP d i t ht) (0 + NO) u1) $$ [HB HO]
  · isplitr; · iexact Hlv
    isplitl [HB]; · iexact HB
    iexact HO
  rw [hD]
  unfold DP
  iintro ⟨⟨⟨H0, S0⟩, ⟨H1, S1⟩⟩, Hv, HO⟩
  iapply Hk
  isplitl [S0 S1 Hv]
  · isplitl [S0]; · iexists _; iexact S0
    isplitl [S1]; · iexists _; iexact S1
    iexact Hv
  isplitl [H0]; · iexact H0
  isplitl [H1]; · iexact H1
  iexact HO

/-- A pair's slots filled and their copies started. -/
theorem pair_wp {Φ : PUnit → sProp (MM F)} (t : Fin k1_t1_loop.trips) (ht : t.val < 2) (f : S1280x4096.Idx → BitVec 32)
    (h0 : 2 * t.val < 5) (h1 : 2 * t.val + 1 < 5) :
    iprop(FreeB (F := F) d i ∗ outP d i (2 * t.val) h0 f ∗ outP d i (2 * t.val + 1) h1 f)
      ⊢ iprop((Fly (F := F) d i t.val ht -∗ Φ ⟨⟩)
        -∗ wp frame (wpE (defs₀ (F := F)) 𝒱₀ (thB d i) none) Set.univ (do
            rowsFrom i 0 (by omega) (pairBase i t) 8 0 rfl
            copySlot i 0 (by omega) (k1_off9 i t) (k1_off9_inb i t)
            rowsFrom i 1 (by omega) (Scalar.addi (pairBase i t) 8#32) 8 0 rfl
            copySlot i 1 (by omega) (k1_off18 i t) (k1_off18_inb i t)) Φ) := by
  have hs0 : 0 < 2 := by omega
  have hs1 : 1 < 2 := by omega
  iintro ⟨⟨⟨%f0, S0⟩, ⟨%f1, S1⟩, Hv⟩, H0, H1⟩ HΦ
  imod (Transfers.batch_alloc' EC (thB d i) (none : HIx 2) NO (DP (F := F) d i t.val ht) (E := Set.univ)) $$ Hv with HB
  ihave S0 := (slot_any d i 0 hs0 (nK i (2 * t.val)) f0) $$ S0
  ihave S1 := (slot_any d i 1 hs1 (nK i (2 * t.val + 1)) f1) $$ S1
  rw [wp_bind]
  iapply (rowsFrom_wp d i 0 hs0 _ _ (base_pair i t) 8 0 rfl) $$ S0
  iintro S0
  ihave S0 := (slot_full d i 0 hs0 _) $$ S0
  rw [wp_bind]
  iapply (copySlot_wp d i (2 * t.val) h0 0 hs0 f _ _ (off9_K i t) (DP (F := F) d i t.val ht) 0 hs0 .rfl) $$ [S0 H0 HB]
  · isplitl [S0]; · iexact S0
    isplitl [H0]; · iexact H0
    iexact HB
  iintro HB
  rw [wp_bind]
  iapply (rowsFrom_wp d i 1 hs1 _ _ (base_pair' i t) 8 0 rfl) $$ S1
  iintro S1
  ihave S1 := (slot_full d i 1 hs1 _) $$ S1
  iapply (copySlot_wp d i (2 * t.val + 1) h1 1 hs1 f _ _ (off18_K i t) (DP (F := F) d i t.val ht) 1 hs1 .rfl) $$ [S1 H1 HB]
  · isplitl [S1]; · iexact S1
    isplitl [H1]; · iexact H1
    iexact HB
  iintro HB
  iapply HΦ
  iexact HB

end Cert.KernelIdeal.G

end
-- ==== Proof.BitsTile.lean ====
module

public import proofs.«01_k».proof.Proof.BitsPair

/-!
A tile of the counter kernel whole: two pairs of slots, then a fifth slot; its rows of the output come
back holding the counters' hashes.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

variable (d : Dev nD) (i : grid1.Coords) (O : CellTallies nD τ sig (HIx 2)) (W₀ : Waits sig (HIx 2))

/-- The tile's rows of the output. -/
abbrev RowsB (f : S1280x4096.Idx → BitVec 32) : sProp (MM F) :=
  bigSep Finset.univ fun b : Fin 5 => outP d i b.val b.isLt f

theorem rows5 (f : S1280x4096.Idx → BitVec 32) (h0 : 0 < 5) (h1 : 1 < 5) (h2 : 2 < 5) (h3 : 3 < 5) (h4 : 4 < 5) :
    (RowsB d i f : sProp (MM F)) = iprop(outP d i 0 h0 f ∗ outP d i 1 h1 f ∗ outP d i 2 h2 f ∗ outP d i 3 h3 f ∗ outP d i 4 h4 f) := by
  unfold RowsB
  rw [bigSep_univ_succ, bigSep_univ_succ, bigSep_univ_succ, bigSep_univ_succ, bigSep_univ_of_subsingleton (0 : Fin 1)]
  rfl

/-- The staging buffer is its two slots. -/
theorem slots2 (f : S2x8x4096.Idx → BitVec 32) (h0 : 0 < 2) (h1 : 1 < 2) :
    ((thB d i).loc cc1_scratch0 ↦{fullShare} (f : Buf (Elt F) ((thB d i).loc cc1_scratch0)) : sProp (MM F))
      = iprop(slotP d i 0 h0 f ∗ slotP d i 1 h1 f) := by
  have hd : ∀ j ∈ (Finset.univ : Finset (Fin 2)), ∀ j' ∈ (Finset.univ : Finset (Fin 2)),
      j ≠ j' → Disjoint (stgSlot j.val j.isLt).view.set (stgSlot j'.val j'.isLt).view.set := by
    intro j _ j' _ h
    refine Finset.disjoint_left.mpr fun x hx hx' => h (Fin.ext ?_)
    exact ((bslot_mem _ _ x).mp hx).symm.trans ((bslot_mem _ _ x).mp hx')
  have hc : Finset.biUnion (α := Fin 2) (β := S2x8x4096.Idx) Finset.univ (fun j => (stgSlot j.val j.isLt).view.set) = Finset.univ :=
    Finset.eq_univ_iff_forall.mpr fun x => Finset.mem_biUnion.mpr ⟨x 0, Finset.mem_univ _, (bslot_mem _ _ x).mpr rfl⟩
  have e : ((thB d i).loc cc1_scratch0 ↦{fullShare} (f : Buf (Elt F) ((thB d i).loc cc1_scratch0)) : sProp (MM F))
      = bigSep Finset.univ fun j : Fin 2 => slotP d i j.val j.isLt f := by
    rw [← pointsTo_biUnion Finset.univ (ℓ := (thB d i).loc cc1_scratch0) (fun j : Fin 2 => (stgSlot j.val j.isLt).view.set) hd, hc]
  rw [e, bigSep_univ_succ, bigSep_univ_of_subsingleton (0 : Fin 1)]
  rfl

/-- Two slots, whatever they hold, are the staging buffer at some contents. -/
theorem slots_join (f g : S2x8x4096.Idx → BitVec 32) (h0 : 0 < 2) (h1 : 1 < 2) :
    iprop(slotP (F := F) d i 0 h0 f ∗ slotP d i 1 h1 g) ⊢ iprop(∃ f, (thB d i).loc cc1_scratch0 ↦{fullShare} f) := by
  have e0 : (slotP (F := F) d i 0 h0 f) = slotP d i 0 h0 (fun Z => if (Z 0).val = 0 then f Z else g Z) :=
    pointsTo_congr fun Z hZ => (if_pos ((bslot_mem 0 h0 Z).mp hZ)).symm
  have e1 : (slotP (F := F) d i 1 h1 g) = slotP d i 1 h1 (fun Z => if (Z 0).val = 0 then f Z else g Z) :=
    pointsTo_congr fun Z hZ => (if_neg (by rw [(bslot_mem 1 h1 Z).mp hZ]; omega)).symm
  rw [e0, e1, ← slots2]
  iintro H
  iexists _
  iexact H

/-- The pairs' invariant: before the first pair everything is at rest; before a later one, and after the last, the
    previous pair's copies are in flight. -/
def InvB (f : S1280x4096.Idx → BitVec 32) (h0 : 0 < 5) (h1 : 1 < 5) (h2 : 2 < 5) (h3 : 3 < 5) (t0 : 0 < 2) (t1 : 1 < 2) : Nat → sProp (MM F)
  | 0 => iprop(FreeB d i ∗ outP d i 0 h0 f ∗ outP d i 1 h1 f ∗ outP d i 2 h2 f ∗ outP d i 3 h3 f)
  | 1 => iprop(Fly d i 0 t0 ∗ outP d i 2 h2 f ∗ outP d i 3 h3 f)
  | _ => iprop(Fly d i 1 t1 ∗ outP d i 0 h0 words ∗ outP d i 1 h1 words)

section Inv
variable (f : S1280x4096.Idx → BitVec 32) (h0 : 0 < 5) (h1 : 1 < 5) (h2 : 2 < 5) (h3 : 3 < 5) (t0 : 0 < 2) (t1 : 1 < 2)
theorem inv0 : InvB (F := F) d i f h0 h1 h2 h3 t0 t1 0
    = iprop(FreeB d i ∗ outP d i 0 h0 f ∗ outP d i 1 h1 f ∗ outP d i 2 h2 f ∗ outP d i 3 h3 f) := rfl
theorem inv1 : InvB (F := F) d i f h0 h1 h2 h3 t0 t1 1 = iprop(Fly d i 0 t0 ∗ outP d i 2 h2 f ∗ outP d i 3 h3 f) := rfl
theorem inv2 (k : Nat) (hk : k = 2) : InvB (F := F) d i f h0 h1 h2 h3 t0 t1 k
    = iprop(Fly d i 1 t1 ∗ outP d i 0 h0 words ∗ outP d i 1 h1 words) := by
  subst hk; rfl
end Inv

theorem pairBody_wp (hO : ∀ g, O g none = 0) (f : S1280x4096.Idx → BitVec 32) (h0 : 0 < 5) (h1 : 1 < 5) (h2 : 2 < 5) (h3 : 3 < 5)
    (t0 : 0 < 2) (t1 : 1 < 2) (t : Fin k1_t1_loop.trips) :
    iprop(Lv ∗ InvB (F := F) d i f h0 h1 h2 h3 t0 t1 t.val ∗ OweB (F := F) d i O W₀)
      ⊢ wp frame (wpE (defs₀ (F := F)) 𝒱₀ (thB d i) none) Set.univ (pairBody i t)
          fun _ => iprop(Lv ∗ InvB (F := F) d i f h0 h1 h2 h3 t0 t1 (t.val + 1) ∗ OweB (F := F) d i O W₀) := by
  have ht : t.val < 2 := k1_trips ▸ t.isLt
  have hb0 : 2 * t.val < 5 := by omega
  have hb1 : 2 * t.val + 1 < 5 := by omega
  have hp := fun Φ => pair_wp (F := F) d i (Φ := Φ) t ht f hb0 hb1
  unfold pairBody drain
  by_cases hl : later t = 1#1
  · have h := (later_iff t).mp hl
    rw [dif_pos hl]
    generalize hv : t.val = v at *
    subst h
    rw [inv1, inv2 d i f h0 h1 h2 h3 t0 t1 (1 + 1) rfl]
    iintro ⟨#Hlv, ⟨HB, H2, H3⟩, HO⟩
    rw [wp_bind]
    iapply (drain_wp d i O W₀ hO 0 t0 (fun _ : PUnit.{1} => (pure ⟨⟩ : BP F i PUnit.{1})) h0 h1) $$ [HB HO]
    · isplitr; · iexact Hlv
      isplitl [HB]; · iexact HB
      iexact HO
    iintro ⟨HF, H0, H1, HO⟩
    rw [wp_pure]
    imodintro
    iapply (hp _) $$ [HF H2 H3]
    · isplitl [HF]; · iexact HF
      isplitl [H2]; · iexact H2
      iexact H3
    iintro HB
    isplitr; · iexact Hlv
    isplitl [HB H0 H1]
    · isplitl [HB]; · iexact HB
      isplitl [H0]; · iexact H0
      iexact H1
    iexact HO
  · have h : t.val = 0 := by
      by_contra hne
      exact hl ((later_iff t).mpr (by omega))
    rw [dif_neg hl]
    generalize hv : t.val = v at *
    subst h
    rw [inv0, show (0 + 1 : Nat) = 1 from rfl, inv1]
    iintro ⟨#Hlv, ⟨HF, H0, H1, H2, H3⟩, HO⟩
    rw [wp_bind, wp_pure]
    imodintro
    iapply (hp _) $$ [HF H0 H1]
    · isplitl [HF]; · iexact HF
      isplitl [H0]; · iexact H0
      iexact H1
    iintro HB
    isplitr; · iexact Hlv
    isplitl [HB H2 H3]
    · isplitl [HB]; · iexact HB
      isplitl [H2]; · iexact H2
      iexact H3
    iexact HO

/-- What the fifth slot's copy delivers. -/
def DE (h4 : 4 < 5) (h0 : 0 < 2) (_ : Fin 1) : sProp (MM F) :=
  iprop(outP d i 4 h4 words ∗ slotP d i 0 h0 (hashes (nK i 4)))

instance (h4 : 4 < 5) (h0 : 0 < 2) (j : Fin 1) : Storable upEmb (DE (F := F) d i h4 h0 j) := by
  unfold DE; infer_instance

/-- One tile of the counter kernel, from what it is given to what it brings back. -/
theorem bits_wp (hO : ∀ g, O g none = 0) (f : S1280x4096.Idx → BitVec 32) :
    iprop(Lv ∗ RowsB (F := F) d i f ∗ scopedBufs (thB d i) ∗ scopedSems0 (thB d i) ∗ owes (thB d i) O W₀)
      ⊢ wp frame (wpE (defs₀ (F := F)) 𝒱₀ (thB d i) none) Set.univ (bits i)
          fun _ => iprop(RowsB (F := F) d i words ∗ scopedBufs (thB d i) ∗ scopedSems0 (thB d i) ∗ OweB (F := F) d i O W₀) := by
  obtain ⟨Rs, hs⟩ := ownSems_take (F := F) d ((i 0).castLE hcore1) ((i 1).castLE hsub1) [.dma cc1_scratch1.sem] (by decide) (by decide)
  obtain ⟨Rb, hb⟩ := ownBufs_take (F := F) d ((i 0).castLE hcore1) ((i 1).castLE hsub1) [cc1_scratch0]
    (by decide) (by intro b hb; fin_cases hb; rfl)
  simp only [List.foldr_cons, List.foldr_nil] at hs hb
  have h0 : 0 < 5 := by omega
  have h1 : 1 < 5 := by omega
  have h2 : 2 < 5 := by omega
  have h3 : 3 < 5 := by omega
  have h4 : 4 < 5 := by omega
  have t0 : 0 < 2 := by omega
  have t1 : 1 < 2 := by omega
  have u1 : 0 + NO = NO * 1 := by omega
  have hD : bigSep Finset.univ (DE (F := F) d i h4 t0) = DE d i h4 t0 0 := bigSep_univ_of_subsingleton (0 : Fin 1)
  rw [hs, hb, rows5 d i f h0 h1 h2 h3 h4, rows5 d i words h0 h1 h2 h3 h4]
  iintro ⟨#Hlv, ⟨H0, H1, H2, H3, H4⟩, ⟨⟨%b0, B0⟩, HB⟩, ⟨V0, HS⟩, HO⟩
  ihave B0 := (Entails.of_eq (slots2 d i b0 t0 t1)) $$ B0
  icases B0 with ⟨S0, S1⟩
  unfold bits
  rw [wp_bind]
  iapply (Scf.wp_for frame (wpE (defs₀ (F := F)) 𝒱₀ (thB d i) none) Set.univ _ _ _ k1_t1_ok (⟨⟩ : PUnit) _
    (fun k _ => iprop(Lv ∗ InvB (F := F) d i f h0 h1 h2 h3 t0 t1 k ∗ OweB (F := F) d i O W₀))
    (fun k _ => pairBody_wp d i O W₀ hO f h0 h1 h2 h3 t0 t1 k))
  isplitl [H0 H1 H2 H3 S0 S1 V0 HO]
  · isplitr; · iexact Hlv
    isplitl [H0 H1 H2 H3 S0 S1 V0]
    · rw [inv0]
      isplitl [S0 S1 V0]
      · isplitl [S0]; · iexists _; iexact S0
        isplitl [S1]; · iexists _; iexact S1
        iexact V0
      isplitl [H0]; · iexact H0
      isplitl [H1]; · iexact H1
      isplitl [H2]; · iexact H2
      iexact H3
    iexists _; isplitr
    swap; · iexact HO
    ipureintro; intro p hp; exact .inl hp
  iintro %_ ⟨-, HI, HO⟩
  ihave HI := (Entails.of_eq (inv2 (F := F) d i f h0 h1 h2 h3 t0 t1 _ k1_trips)) $$ HI
  icases HI with ⟨HF, H0, H1⟩
  iapply (drain_wp d i O W₀ hO 1 t1 (fun _ : PUnit.{1} => do
      rowsFrom i 0 t0 (Scalar.addi (base i) 32#32) 8 0 rfl
      copySlot i 0 t0 (k1_off27 i) (k1_off27_inb i)
      waitSlot i) h2 h3) $$ [HF HO]
  · isplitr; · iexact Hlv
    isplitl [HF]; · iexact HF
    iexact HO
  iintro ⟨⟨⟨%f0, S0⟩, ⟨%f1, S1⟩, V0⟩, H2, H3, HO⟩
  imod (Transfers.batch_alloc' EC (thB d i) (none : HIx 2) NO (DE (F := F) d i h4 t0) (E := Set.univ)) $$ V0 with HD
  ihave S0 := (slot_any d i 0 t0 (nK i 4) f0) $$ S0
  rw [wp_bind]
  iapply (rowsFrom_wp d i 0 t0 _ _ (base_tail i) 8 0 rfl) $$ S0
  iintro S0
  ihave S0 := (slot_full d i 0 t0 _) $$ S0
  rw [wp_bind]
  iapply (copySlot_wp d i 4 h4 0 t0 f _ _ (off27_K i) (DE (F := F) d i h4 t0) 0 Nat.one_pos .rfl) $$ [S0 H4 HD]
  · isplitl [S0]; · iexact S0
    isplitl [H4]; · iexact H4
    iexact HD
  iintro HD
  iapply (wait_end d i O W₀ hO (DE d i h4 t0) 0 u1) $$ [HD HO]
  · isplitr; · iexact Hlv
    isplitl [HD]; · iexact HD
    iexact HO
  rw [hD]
  unfold DE
  iintro ⟨⟨H4, S0⟩, V0, HO⟩
  isplitl [H0 H1 H2 H3 H4]
  · isplitl [H0]; · iexact H0
    isplitl [H1]; · iexact H1
    isplitl [H2]; · iexact H2
    isplitl [H3]; · iexact H3
    iexact H4
  isplitl [S0 S1 HB]
  · isplitl [S0 S1]
    · iapply (slots_join d i _ f1 t0 t1) $$ [S0 S1]
      isplitl [S0]; · iexact S0
      iexact S1
    iexact HB
  isplitl [V0 HS]
  · isplitl [V0]; · iexact V0
    iexact HS
  iexact HO

end Cert.KernelIdeal.G

end
-- ==== Proof.BitsSplit.lean ====
module

public import proofs.«01_k».proof.Proof.BitsTile
public import proofs.«01_k».proof.Proof.GatherSplit

/-!
The words' array cut into what the tiles of the hash are given.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

/-- The coordinates of tile `s` of core `c`. -/
def at1 (c : Fin (grid1.bound 0)) (s : Fin (grid1.bound 1)) : grid1.Coords :=
  fun | 0 => c | 1 => s | ⟨_ + 2, h⟩ => absurd h (Nat.not_lt.2 (Nat.le_add_left _ _))

theorem bdiv : 160 ∣ S1280x4096.size 0 := ⟨8, rfl⟩

/-- The rows' sets, as parts of the array. -/
abbrev bparts (j : Fin 160) : Finset S1280x4096.Idx := (Rect.part (s := S1280x4096) (a₀ := 0) bdiv j).set

/-- The slots' number: five per tile. -/
abbrev numB (c : Fin 2) (s : Fin 16) (b : Fin 5) : Fin 160 := finProdFinEquiv (m := 32) (n := 5) (num c s, b)

theorem nK_eq (c : Fin 2) (s : Fin 16) (b : Fin 5) : nK (at1 c s) b.val = (numB c s b).val * 8 := by
  revert c s b; decide +kernel

theorem rowK_eq (c : Fin 2) (s : Fin 16) (b : Fin 5) :
    Rect.unit (s := S1280x4096) (offK (at1 c s) b.val) S8x4096.size (inbK (at1 c s) b.val b.isLt)
      = Rect.part (s := S1280x4096) (a₀ := 0) bdiv (numB c s b) := by
  unfold Rect.part Rect.block
  congr 1 <;> funext a <;> fin_cases a
  · exact (nK_eq c s b).trans (by simp [Shape.partIx, Shape.partSize])
  · simp [offK, Shape.partIx]
  · simp [Shape.partSize]
  · simp [Shape.partSize]

variable (d : Dev nD)

theorem cut_bits (f : S1280x4096.Idx → BitVec 32) :
    ((SparseCore.T d).loc main_v1 ↦{fullShare} (f : Buf (Elt F) ((SparseCore.T d).loc main_v1)) : sProp (MM F))
      = bigSep Finset.univ fun c : Fin 2 => bigSep Finset.univ fun s : Fin 16 => RowsB d (at1 c s) f := by
  have e : ((SparseCore.T d).loc main_v1 ↦{fullShare} (f : Buf (Elt F) ((SparseCore.T d).loc main_v1)) : sProp (MM F))
      = bigSep Finset.univ fun j : Fin 160 => (SparseCore.T d).loc main_v1 ↦[bparts j]{fullShare} (f : Buf (Elt F) ((SparseCore.T d).loc main_v1)) := by
    rw [← pointsTo_biUnion Finset.univ (ℓ := (SparseCore.T d).loc main_v1) bparts (fun a _ b _ h => Rect.part_disjoint bdiv h)]
    exact congrArg (fun S => ((SparseCore.T d).loc main_v1 ↦[S]{fullShare} (f : Buf (Elt F) ((SparseCore.T d).loc main_v1)) : sProp (MM F)))
      (Rect.biUnion_part bdiv).symm
  rw [e, bigSep_univ_equiv (finProdFinEquiv (m := 32) (n := 5)), bigSep_univ_prod,
    bigSep_univ_equiv (finProdFinEquiv (m := 16) (n := 2)), bigSep_univ_prod, BI.bigSep_univ_comm]
  refine bigSep_congr fun c _ => bigSep_congr fun s _ => bigSep_congr fun b _ => ?_
  have hs : (blk (at1 c s) b.val b.isLt).view.set = bparts (numB c s b) := by
    rw [bparts, ← rowK_eq]; exact (View.set_slice _ _).trans Finset.map_refl
  unfold outP
  rw [hs]

end Cert.KernelIdeal.G

end
-- ==== Proof.BitsEq.lean ====
module

public import proofs.«01_k».proof.Proof.Bits

@[expose] public section

noncomputable section

namespace Cert.KernelIdeal.G

open Idealize.ShloMosaic Idealize.SL.Sem

variable {F : FTy → Type} [FloatOps F]

variable [Facts]
open Facts₀ Facts

/-- Two loops with the same trips, followed by the same program, are the same. -/
theorem for_congr {E : Type → Type} {B : Type} {lb ub st : BitVec 32} {ok : Scf.OK lb ub st}
    {b b' : Fin (Scf.trips lb ub st) → PUnit → Prog E PUnit} {k k' : PUnit → Prog E B}
    (hb : ∀ t, b t ⟨⟩ = b' t ⟨⟩) (hk : k ⟨⟩ = k' ⟨⟩) :
    (Scf.for lb ub st ok ⟨⟩ b >>= k) = (Scf.for lb ub st ok ⟨⟩ b' >>= k') := by
  have e1 : b = b' := funext fun t => funext fun u => hb t
  have e2 : k = k' := funext fun u => hk
  rw [e1, e2]

abbrev hO : outV.IsWhole := Memref.isWhole_whole _
abbrev hS : bStg.IsWhole := Memref.isWhole_whole _
/-- The counters of row `c` of the rows from `b` on, over the lane numbers `u`. -/
abbrev rv (u : IVec S16 32) (b c : BitVec 32) : IVec S16 32 :=
  addi u (broadcast S16 (Scalar.muli (Scalar.addi b c) 4096#32))

/-- A trip with the words stored left open. -/
def rowBodyOf (i : grid1.Coords) (s r : Nat) (hs : s < 2) (hr : r < 8) (w : BitVec 32) (hw : InRow w)
    (q0 q1 q2 q3 : IVec S16 32) : BP F i PUnit := do
  vecStep i s r hs hr w 0#32 (hw 0) q0
  vecStep i s r hs hr w 16#32 (hw 1) q1
  vecStep i s r hs hr w 32#32 (hw 2) q2
  vecStep i s r hs hr w 48#32 (hw 3) q3

/-- The words a trip stores at word `c` from its first one. -/
abbrev wordsAt (v : IVec S16 32) (w c : BitVec 32) : IVec S16 32 :=
  tfVec S16 (addi v (broadcast S16 (Scalar.addi (Scalar.muli w 64#32) c)))

/-- A program that does a trip's operations and stores those words is a trip. -/
theorem rowBody_of {i : grid1.Coords} {s r : Nat} {hs : s < 2} {hr : r < 8} {v : IVec S16 32} {w : BitVec 32}
    {hw : InRow w} {P : BP F i PUnit} (q0 q1 q2 q3 : IVec S16 32) (hP : P = rowBodyOf i s r hs hr w hw q0 q1 q2 q3)
    (h0 : q0 = wordsAt v w 0#32) (h1 : q1 = wordsAt v w 16#32) (h2 : q2 = wordsAt v w 32#32)
    (h3 : q3 = wordsAt v w 48#32) : P = rowBody i s r hs hr v w hw := by
  subst h0 h1 h2 h3
  exact hP

/-- A row of a slot, its counters given. -/
abbrev rowOf (i : grid1.Coords) (s : Nat) (hs : s < 2) (r : Nat) (hr : r < 8) (v : IVec S16 32) : BP F i PUnit :=
  rowLoop i s r hs hr v

/-- A loop whose trips are a row's trips is that row. -/
theorem row_congr {i : grid1.Coords} {s r : Nat} {hs : s < 2} {hr : r < 8} {v : IVec S16 32} {B : Type}
    {b : Fin k1_t2_loop.trips → PUnit → BP F i PUnit} {k k' : PUnit → BP F i B}
    (hb : ∀ t, b t ⟨⟩ = rowBody i s r hs hr v (Scf.iv 0#32 1#32 t) (inRow_t2 t)) (hk : k ⟨⟩ = k' ⟨⟩) :
    (Scf.Loop.for k1_t2_loop k1_t2_ok ⟨⟩ b >>= k) = (rowOf i s hs r hr v >>= k') :=
  for_congr hb hk

/-- A copy started, followed by the same program, is the same. -/
theorem copy_congr {i : grid1.Coords} {s : Nat} {hs : s < 2} {off : Fin 2 → Nat}
    {h : ∀ a, off a + S8x4096.size a ≤ S1280x4096.size a} {B : Type} {k k' : PUnit → BP F i B}
    (hk : k ⟨⟩ = k' ⟨⟩) : (copySlot i s hs off h >>= k) = (copySlot i s hs off h >>= k') := by
  have e2 : k = k' := funext fun u => hk
  rw [e2]

/-- The drain, followed by the same program, is the same. -/
theorem drain_congr {i : grid1.Coords} {t : Fin k1_t1_loop.trips} {B : Type} {m : BP F i B} {k' : PUnit → BP F i B}
    (hk : m = k' ⟨⟩) :
    (if h : later t = 1#1 then (do waitSlot i; waitSlot i; m) else m) = (drain i t >>= k') := by
  subst hk
  unfold drain
  split <;> rfl

set_option maxHeartbeats 4000000 in
set_option maxRecDepth 100000 in
theorem part242_eq (i : grid1.Coords) (u v : IVec S16 32) (b : BitVec 32) :
    k1_part242 (F := F) i outV hO bStg hS cc1_scratch1 u b v 0#32 1#32
      = (do rowOf i 0 (by omega) 3 (by omega) v
            rowOf i 0 (by omega) 4 (by omega) (rv u b 4#32)
            rowOf i 0 (by omega) 5 (by omega) (rv u b 5#32)
            rowOf i 0 (by omega) 6 (by omega) (rv u b 6#32)
            rowOf i 0 (by omega) 7 (by omega) (rv u b 7#32)
            pure ⟨⟩) := by
  unfold k1_part242
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  rfl

set_option maxHeartbeats 4000000 in
set_option maxRecDepth 100000 in
theorem part244_eq (i : grid1.Coords) (u v : IVec S16 32) (b c : BitVec 32) :
    k1_part244 (F := F) i outV hO bStg hS cc1_scratch1 u b c v 0#32
      = (do rowOf i 1 (by omega) 3 (by omega) v
            rowOf i 1 (by omega) 4 (by omega) (rv u c 4#32)
            rowOf i 1 (by omega) 5 (by omega) (rv u c 5#32)
            rowOf i 1 (by omega) 6 (by omega) (rv u c 6#32)
            rowOf i 1 (by omega) 7 (by omega) (rv u c 7#32)
            pure ⟨⟩) := by
  unfold k1_part244
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  rfl

set_option maxHeartbeats 4000000 in
set_option maxRecDepth 100000 in
theorem part243_eq (i : grid1.Coords) (u : IVec S16 32) (b : BitVec 32) (t : Fin k1_t1_loop.trips) :
    k1_part243 (F := F) i outV hO bStg hS cc1_scratch1 u t b
      = (do copySlot i 0 (by omega) (k1_off9 i t) (k1_off9_inb i t)
            rowOf i 1 (by omega) 0 (by omega) (rv u (Scalar.addi b 8#32) 0#32)
            rowOf i 1 (by omega) 1 (by omega) (rv u (Scalar.addi b 8#32) 1#32)
            rowOf i 1 (by omega) 2 (by omega) (rv u (Scalar.addi b 8#32) 2#32)
            pure ⟨Scalar.addi b 8#32, rv u (Scalar.addi b 8#32) 3#32, 0#32⟩) := by
  unfold k1_part243
  refine copy_congr ?_
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  rfl

/-- The first row of a pair of slots, of the tile's first row. -/
abbrev pb (b : BitVec 32) (t : Fin k1_t1_loop.trips) : BitVec 32 :=
  Scalar.addi b (Scalar.muli (Scf.iv 0#32 1#32 t) 16#32)

set_option maxHeartbeats 4000000 in
set_option maxRecDepth 100000 in
theorem part241_eq (i : grid1.Coords) (u : IVec S16 32) (b : BitVec 32) (t : Fin k1_t1_loop.trips) :
    k1_part241 (F := F) i outV hO bStg hS cc1_scratch1 b u 0#32 1#32 t
      = (do drain i t
            rowOf i 0 (by omega) 0 (by omega) (rv u (pb b t) 0#32)
            rowOf i 0 (by omega) 1 (by omega) (rv u (pb b t) 1#32)
            rowOf i 0 (by omega) 2 (by omega) (rv u (pb b t) 2#32)
            pure ⟨pb b t, rv u (pb b t) 3#32, 0#32, 1#32⟩) := by
  unfold k1_part241
  conv_lhs => zeta
  refine drain_congr (F := F) (i := i) (t := t) ?_
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  rfl

set_option maxHeartbeats 4000000 in
set_option maxRecDepth 100000 in
theorem part366_eq (i : grid1.Coords) (u v : IVec S16 32) (b : BitVec 32) :
    k1_part366 (F := F) i outV hO bStg hS cc1_scratch1 u b v 0#32 1#32
      = (do rowOf i 0 (by omega) 0 (by omega) v
            rowOf i 0 (by omega) 1 (by omega) (rv u b 1#32)
            rowOf i 0 (by omega) 2 (by omega) (rv u b 2#32)
            rowOf i 0 (by omega) 3 (by omega) (rv u b 3#32)
            rowOf i 0 (by omega) 4 (by omega) (rv u b 4#32)
            pure (rv u b 5#32)) := by
  unfold k1_part366
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  rfl

set_option maxHeartbeats 4000000 in
set_option maxRecDepth 100000 in
theorem part367_eq (i : grid1.Coords) (u v : IVec S16 32) (b : BitVec 32) :
    k1_part367 (F := F) i outV hO bStg hS cc1_scratch1 u b v
      = (do rowOf i 0 (by omega) 5 (by omega) v
            rowOf i 0 (by omega) 6 (by omega) (rv u b 6#32)
            rowOf i 0 (by omega) 7 (by omega) (rv u b 7#32)
            copySlot i 0 (by omega) (k1_off27 i) (k1_off27_inb i)
            pure ⟨⟩) := by
  unfold k1_part367
  refine row_congr (fun t => rowBody_of _ _ _ _ rfl rfl rfl rfl rfl) ?_
  refine row_congr (fun t => rowBody_of _ _ _ _ rfl rfl rfl rfl rfl) ?_
  refine row_congr (fun t => rowBody_of _ _ _ _ rfl rfl rfl rfl rfl) ?_
  refine copy_congr ?_
  rfl

/-- The tile's first row, spelled out. -/
theorem part365_eq (i : grid1.Coords) :
    k1_part365 (F := F) i outV hO bStg hS cc1_scratch1
      = (do Scf.Loop.for k1_t1_loop k1_t1_ok ⟨⟩ fun t _ => pairBody i t
            waitSlot i
            waitSlot i
            pure ⟨iota .scVector S16 32 [0] iota_S16_d0_w32_scVector, Scalar.addi (base i) 32#32,
              rv (iota .scVector S16 32 [0] iota_S16_d0_w32_scVector) (Scalar.addi (base i) 32#32) 0#32, 0#32, 1#32⟩) := by
  unfold k1_part365
  refine for_congr (fun t => ?_) rfl
  simp only [part241_eq, part242_eq, part243_eq, part244_eq, pairBody, rowsFrom, bind_assoc, pure_bind]
  rfl

/-- One tile of the counter kernel, as it is printed. -/
theorem cc1_eq (i : grid1.Coords) :
    cc1_bits_k (F := F) i outV hO bStg hS cc1_scratch1 = bits i := by
  unfold cc1_bits_k bits
  simp only [part365_eq, part366_eq, part367_eq, rowsFrom, bind_assoc, pure_bind]
  rfl

end Cert.KernelIdeal.G

end
-- ==== Proof.Sample.lean ====
module

public import proofs.«01_k».proof.Proof.Threefry
public import proofs.«01_k».proof.Proof.Setup

/-!
The normal number of a word, and the two TensorCore bodies as what they load, compute and store.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (pending pending_succ pending_zero not_mem_pending_succ Batch)

variable {F : FTy → Type} [FloatOps F]

variable [Facts]
open Facts₀ Facts

/-- The uniform number in `(-1, 1)` of a word. -/
def unif (w : BitVec 32) : F .f32 :=
  FloatOps.addf (FloatOps.mulf (FloatOps.subf (FloatOps.ofBits .f32 (IntOp.ori (IntOp.shrui .vector w 9#32) 1065353216#32)) (Scalar.ofBits .f32 0x3F800000#32)) (Scalar.ofBits .f32 0x40000000#32)) (Scalar.ofBits .f32 0xBF7FFFFF#32)

/-- The logarithm the two polynomials are taken at. -/
def lg (u : F .f32) : F .f32 :=
  FloatOps.log1p (FloatOps.subf (Scalar.ofBits .f32 0x00000000#32) (FloatOps.mulf u u))

/-- The polynomial of the centre. -/
def centre (v : F .f32) : F .f32 :=
  (FloatOps.addf (FloatOps.mulf (FloatOps.addf (FloatOps.mulf (FloatOps.addf (FloatOps.mulf (FloatOps.addf (FloatOps.mulf (Scalar.ofBits .f32 0x39853614#32) v) (Scalar.ofBits .f32 0x3B8ECFB2#32)) v) (Scalar.ofBits .f32 0x3C8E80BD#32)) v) (Scalar.ofBits .f32 0xBEA7CFA4#32)) v) (Scalar.ofBits .f32 0x3FA06D30#32))

/-- The polynomial of the tails. -/
def tails (r : F .f32) : F .f32 :=
  (FloatOps.addf (FloatOps.mulf (FloatOps.addf (FloatOps.mulf (FloatOps.addf (FloatOps.mulf (FloatOps.addf (FloatOps.mulf (FloatOps.addf (FloatOps.mulf (Scalar.ofBits .f32 0xBBB21580#32) r) (Scalar.ofBits .f32 0x3C203F9E#32)) r) (Scalar.ofBits .f32 0xBC297FDA#32)) r) (Scalar.ofBits .f32 0x3C55B7A0#32)) r) (Scalar.ofBits .f32 0x3FB5503E#32)) r) (Scalar.ofBits .f32 0x408034C7#32))

/-- The normal number of a word. -/
def eps (w : BitVec 32) : F .f32 :=
  FloatOps.mulf (unif w : F .f32) (Scalar.select (FloatOps.cmpf .ogt (lg (unif w : F .f32)) (Scalar.ofBits .f32 0xC0A00000#32)) (centre (lg (unif w : F .f32)))
    (tails (FloatOps.subf (FloatOps.sqrt (FloatOps.subf (Scalar.ofBits .f32 0x00000000#32) (lg (unif w : F .f32)))) (Scalar.ofBits .f32 0x40400000#32))))

/-- The normal numbers of a vector of words, lane by lane. -/
def epsV (s : Shape) (w : IVec s 32) : FVec F s .f32 :=
  let m : FVec F s .f32 := bitcastToFloat .f32 (ori (shrui w (broadcast s 9#32)) (broadcast s 1065353216#32))
  let u : FVec F s .f32 := addf (mulf (subf m (broadcast s (Scalar.ofBits .f32 0x3F800000#32))) (broadcast s (Scalar.ofBits .f32 0x40000000#32))) (broadcast s (Scalar.ofBits .f32 0xBF7FFFFF#32))
  let v : FVec F s .f32 := log1p (subf (broadcast s (Scalar.ofBits .f32 0x00000000#32)) (mulf u u))
  let cen : FVec F s .f32 := (addf (mulf (addf (mulf (addf (mulf (addf (mulf (broadcast s (Scalar.ofBits .f32 0x39853614#32)) v) (broadcast s (Scalar.ofBits .f32 0x3B8ECFB2#32))) v) (broadcast s (Scalar.ofBits .f32 0x3C8E80BD#32))) v) (broadcast s (Scalar.ofBits .f32 0xBEA7CFA4#32))) v) (broadcast s (Scalar.ofBits .f32 0x3FA06D30#32)))
  let r : FVec F s .f32 := subf (sqrt (subf (broadcast s (Scalar.ofBits .f32 0x00000000#32)) v)) (broadcast s (Scalar.ofBits .f32 0x40400000#32))
  let tl : FVec F s .f32 := (addf (mulf (addf (mulf (addf (mulf (addf (mulf (addf (mulf (broadcast s (Scalar.ofBits .f32 0xBBB21580#32)) r) (broadcast s (Scalar.ofBits .f32 0x3C203F9E#32))) r) (broadcast s (Scalar.ofBits .f32 0xBC297FDA#32))) r) (broadcast s (Scalar.ofBits .f32 0x3C55B7A0#32))) r) (broadcast s (Scalar.ofBits .f32 0x3FB5503E#32))) r) (broadcast s (Scalar.ofBits .f32 0x408034C7#32)))
  mulf u (select (cmpf .ogt v (broadcast s (Scalar.ofBits .f32 0xC0A00000#32))) cen tl)

theorem epsV_apply (s : Shape) (w : IVec s 32) (y : s.Idx) : (epsV s w : FVec F s .f32) y = eps (w y) := by
  rfl

/-- The counters of a block of 128 rows. -/
def cnt2 (i : grid2.Coords) : IVec S128x4096 32 :=
  addi (muli (addi (iota .tc S128x4096 32 [0] iota_S128x4096_d0_w32)
    (broadcast S128x4096 (Scalar.addi 1280#32 (Scalar.muli (BitVec.ofNat 32 (i 0).val) 128#32)))) (broadcast S128x4096 4096#32))
    (iota .tc S128x4096 32 [1] iota_S128x4096_d1_w32)

/-- What the sampling kernel stores. -/
def V2 (i : grid2.Coords) (mu sg : FVec F S1x4096 .f32) : FVec F S128x4096 .f32 :=
  exp (addf (broadcastTo S128x4096 (shapeCast S1x4096 mu shapeCasts_S1x4096_S1x4096) broadcasts_S1x4096_S128x4096)
    (mulf (broadcastTo S128x4096 (shapeCast S1x4096 sg shapeCasts_S1x4096_S1x4096) broadcasts_S1x4096_S128x4096)
      (epsV S128x4096 (tfVec S128x4096 (cnt2 i)))))

/-- What the kernel that takes the words stores. -/
def V3 (w : IVec S256x4096 32) (mu sg : FVec F S1x4096 .f32) : FVec F S256x4096 .f32 :=
  exp (addf (broadcastTo S256x4096 (shapeCast S1x4096 mu shapeCasts_S1x4096_S1x4096) broadcasts_S1x4096_S256x4096)
    (mulf (broadcastTo S256x4096 (shapeCast S1x4096 sg shapeCasts_S1x4096_S1x4096) broadcasts_S1x4096_S256x4096)
      (epsV S256x4096 (shapeCast S256x4096 w shapeCasts_S256x4096_S256x4096))))

/-- The sampling kernel's operations. -/
def body2 (i : grid2.Coords) (a1 a2 : Memref sig .tc .vmem S1x4096 .f32) (a3 : Memref sig .tc .vmem S128x4096 .f32) :
    Prog (TpuEff nD τ sig (Elt F) Λ₀ .tc) PUnit := do
  let mu : Vec F S1x4096 .f32 ← Prog.lift (.load a1 (Rect.unit (s := S1x4096) ![0, 0] S1x4096.size inb_S1x4096_S1x4096_0_0).toLoadRect (View.loadsAt_vmem h_S1x4096))
  let sg : Vec F S1x4096 .f32 ← Prog.lift (.load a2 (Rect.unit (s := S1x4096) ![0, 0] S1x4096.size inb_S1x4096_S1x4096_0_0).toLoadRect (View.loadsAt_vmem h_S1x4096))
  let _ : Vec F S128x4096 .f32 ← Prog.lift (.load a3 (Rect.unit (s := S128x4096) ![0, 0] S128x4096.size inb_S128x4096_S128x4096_0_0).toLoadRect (View.loadsAt_vmem h_S128x4096))
  Prog.lift (.store a3 (Rect.unit (s := S128x4096) ![0, 0] S128x4096.size inb_S128x4096_S128x4096_0_0) (V2 i mu sg) Finset.univ (View.stores_vmem_bits_univ h_S128x4096 rfl) (.inl rfl))

/-- The operations of the kernel that takes the words. -/
def body3 (a2 : Memref sig .tc .vmem S256x4096 .i32) (a3 a4 : Memref sig .tc .vmem S1x4096 .f32) (a5 : Memref sig .tc .vmem S256x4096 .f32) :
    Prog (TpuEff nD τ sig (Elt F) Λ₀ .tc) PUnit := do
  let w : Vec F S256x4096 .i32 ← Prog.lift (.load a2 (Rect.unit (s := S256x4096) ![0, 0] S256x4096.size inb_S256x4096_S256x4096_0_0).toLoadRect (View.loadsAt_vmem h_S256x4096))
  let mu : Vec F S1x4096 .f32 ← Prog.lift (.load a3 (Rect.unit (s := S1x4096) ![0, 0] S1x4096.size inb_S1x4096_S1x4096_0_0).toLoadRect (View.loadsAt_vmem h_S1x4096))
  let sg : Vec F S1x4096 .f32 ← Prog.lift (.load a4 (Rect.unit (s := S1x4096) ![0, 0] S1x4096.size inb_S1x4096_S1x4096_0_0).toLoadRect (View.loadsAt_vmem h_S1x4096))
  let _ : Vec F S256x4096 .f32 ← Prog.lift (.load a5 (Rect.unit (s := S256x4096) ![0, 0] S256x4096.size inb_S256x4096_S256x4096_0_0).toLoadRect (View.loadsAt_vmem h_S256x4096))
  Prog.lift (.store a5 (Rect.unit (s := S256x4096) ![0, 0] S256x4096.size inb_S256x4096_S256x4096_0_0) (V3 w mu sg) Finset.univ (View.stores_vmem_bits_univ h_S256x4096 rfl) (.inl rfl))

set_option maxRecDepth 100000 in
set_option maxHeartbeats 4000000 in
theorem cc3_eq (i : grid3.Coords) (a1 : Memref sig .tc .hbm S4096x4096 .f32) (h1 : a1.IsWhole) (a2 : Memref sig .tc .vmem S256x4096 .i32) (h2 : a2.IsWhole)
    (a3 : Memref sig .tc .vmem S1x4096 .f32) (h3 : a3.IsWhole) (a4 : Memref sig .tc .vmem S1x4096 .f32) (h4 : a4.IsWhole) (a5 : Memref sig .tc .vmem S256x4096 .f32) (h5 : a5.IsWhole) :
    cc3__apply_bits_body (F := F) i a1 h1 a2 h2 a3 h3 a4 h4 a5 h5 = body3 a2 a3 a4 a5 := by
  rfl

set_option maxRecDepth 100000 in
set_option maxHeartbeats 4000000 in
theorem cc2_eq (i : grid2.Coords) (a1 : Memref sig .tc .vmem S1x4096 .f32) (h1 : a1.IsWhole) (a2 : Memref sig .tc .vmem S1x4096 .f32) (h2 : a2.IsWhole)
    (a3 : Memref sig .tc .vmem S128x4096 .f32) (h3 : a3.IsWhole) :
    cc2__sample_body (F := F) i a1 h1 a2 h2 a3 h3 = body2 i a1 a2 a3 := by
  rfl

end Cert.KernelIdeal.G

end
-- ==== Proof.SampleRun.lean ====
module

public import proofs.«01_k».proof.Proof.Sample
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit.Geometry
public import Idealize.ShloMosaic.Lib.Pipeline.RegionsLoop

/-!
The two TensorCore bodies run: what each leaves in its result's staging buffer.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (pending pending_succ pending_zero not_mem_pending_succ Batch)

variable {F : FTy → Type} [FloatOps F]

variable [Facts]
open Facts₀ Facts

/-- A whole block's rectangle leaves indices alone. -/
theorem idx_full {n : Fin 2 → Nat} (h : ∀ a, (![0, 0] : Fin 2 → Nat) a + n a ≤ n a) (x : (Rect.unit (s := ⟨2, n⟩) ![0, 0] n h).shape.Idx) :
    (Rect.unit (s := ⟨2, n⟩) ![0, 0] n h).emb x = x := by
  funext a
  apply Fin.ext
  fin_cases a <;> simp [Rect.emb, Rect.unit]

theorem read_full {n : Fin 2 → Nat} {e : EltTy} (h : ∀ a, (![0, 0] : Fin 2 → Nat) a + n a ≤ n a) (v : View sig .tc .vmem ⟨2, n⟩ e)
    (f : v.ty.Contents (Elt F)) : View.readAt (Elt F) v (Rect.unit (s := ⟨2, n⟩) ![0, 0] n h).toLoadRect f = v.read (Elt F) f := by
  funext x
  show v.read (Elt F) f ((Rect.unit (s := ⟨2, n⟩) ![0, 0] n h).emb x) = _
  rw [idx_full]

theorem write_full {n : Fin 2 → Nat} {e : EltTy} (h : ∀ a, (![0, 0] : Fin 2 → Nat) a + n a ≤ n a) (v : View sig .tc .vmem ⟨2, n⟩ e)
    (f : v.ty.Contents (Elt F)) (w : (Shape.mk 2 n).Idx → Elt F e) :
    v.read (Elt F) (v.writes (Elt F) f [⟨Rect.unit (s := ⟨2, n⟩) ![0, 0] n h, w⟩]) = w := by
  funext x
  have := View.read_writes_cons_emb (Val := Elt F) v f (Rect.unit (s := ⟨2, n⟩) ![0, 0] n h) w [] x
  rw [idx_full] at this
  exact this

/-- The sampling kernel. -/
theorem body2_wp (d : Dev nD) (i : grid2.Coords) (a1 : Memref sig .tc .vmem S1x4096 .f32) (h1 : a1.IsWhole) (a2 : Memref sig .tc .vmem S1x4096 .f32) (h2 : a2.IsWhole)
    (a3 : Memref sig .tc .vmem S128x4096 .f32) (h3 : a3.IsWhole) (mu sg : FVec F S1x4096 .f32) (Q : PUnit → sProp (MM F)) :
    iprop(owns (SparseCore.T d) a1 fullShare mu ∗ owns (SparseCore.T d) a2 fullShare sg ∗ (∃ x, owns (SparseCore.T d) a3 fullShare x)
        ∗ (iprop(owns (SparseCore.T d) a1 fullShare mu ∗ owns (SparseCore.T d) a2 fullShare sg ∗ owns (SparseCore.T d) a3 fullShare (V2 i mu sg)) -∗ Q ⟨⟩))
      ⊢ wp frame (wpE (defs₀ (F := F)) 𝒱₀ (SparseCore.T d) none) Set.univ (body2 i a1 a2 a3) Q := by
  unfold owns body2
  iintro ⟨⟨%f1, %e1, H1⟩, ⟨%f2, %e2, H2⟩, ⟨%x, %f3, -, H3⟩, Hk⟩
  sl_exec
  sl_step
  iapply Hk
  isplitl [H1]
  · iexists _; isplitr; swap; · iexact H1
    ipureintro; exact e1
  isplitl [H2]
  · iexists _; isplitr; swap; · iexact H2
    ipureintro; exact e2
  iexists _; isplitr; swap; · iexact H3
  ipureintro
  refine (write_full _ _ _ _).trans ?_
  rw [read_full, read_full, e1, e2]

/-- The kernel that takes the words. -/
theorem body3_wp (d : Dev nD) (a2 : Memref sig .tc .vmem S256x4096 .i32) (h2 : a2.IsWhole) (a3 : Memref sig .tc .vmem S1x4096 .f32) (h3 : a3.IsWhole)
    (a4 : Memref sig .tc .vmem S1x4096 .f32) (h4 : a4.IsWhole) (a5 : Memref sig .tc .vmem S256x4096 .f32) (h5 : a5.IsWhole)
    (w : IVec S256x4096 32) (mu sg : FVec F S1x4096 .f32) (Q : PUnit → sProp (MM F)) :
    iprop(owns (SparseCore.T d) a2 fullShare w ∗ owns (SparseCore.T d) a3 fullShare mu ∗ owns (SparseCore.T d) a4 fullShare sg ∗ (∃ x, owns (SparseCore.T d) a5 fullShare x)
        ∗ (iprop(owns (SparseCore.T d) a2 fullShare w ∗ owns (SparseCore.T d) a3 fullShare mu ∗ owns (SparseCore.T d) a4 fullShare sg
            ∗ owns (SparseCore.T d) a5 fullShare (V3 w mu sg)) -∗ Q ⟨⟩))
      ⊢ wp frame (wpE (defs₀ (F := F)) 𝒱₀ (SparseCore.T d) none) Set.univ (body3 a2 a3 a4 a5) Q := by
  unfold owns body3
  iintro ⟨⟨%f0, %e0, H0⟩, ⟨%f1, %e1, H1⟩, ⟨%f2, %e2, H2⟩, ⟨%x, %f3, -, H3⟩, Hk⟩
  sl_exec
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  iexists _; isplitr; swap; · iexact H3
  ipureintro
  refine (write_full _ _ _ _).trans ?_
  rw [read_full, read_full, read_full, e0, e1, e2]

end Cert.KernelIdeal.G

end
-- ==== Proof.Region2.lean ====
module

public import proofs.«01_k».proof.Proof.SampleRun

/-!
The region that samples rows 1280 on.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (pending pending_succ pending_zero not_mem_pending_succ Batch)

variable {F : FTy → Type} [FloatOps F]

variable [Facts]
open Facts₀ Facts

open Cert.KernelIdeal.Gen
open Idealize.ShloMosaic.TcCoe
open Idealize.ShloMosaic.Pipeline (Dat Cfg Window BodyObligation)

variable (V : (c : Dev nD) → (b : Ref sig .tc) → Buf (Elt F) ((c : Thread nD τ).loc b))

/-- Window 0's block at point `t`. -/
abbrev in2_0 (c : Dev nD) (t : Fin cfg2.N) : (cfg2.win 0).block.Idx → Elt F (cfg2.win 0).elt :=
  ((cfg2.win 0).blk t).view.read (Elt F) (V c main_v2)

/-- Window 1's block at point `t`. -/
abbrev in2_1 (c : Dev nD) (t : Fin cfg2.N) : (cfg2.win 1).block.Idx → Elt F (cfg2.win 1).elt :=
  ((cfg2.win 1).blk t).view.read (Elt F) (V c main_v3)

/-- What point `t` leaves in the result's staging buffer. -/
abbrev out2 (c : Dev nD) (t : Fin cfg2.N) : (cfg2.win 2).block.Idx → Elt F (cfg2.win 2).elt :=
  V2 (grid2.coords t) (in2_0 V c t) (in2_1 V c t)

/-- The region's proof data, entered at `V`. -/
def dat2 (c : Dev nD) : Dat τ (Elt F) (HIx 2) ℕ UU ℕ cfg2 c where
  A w := V c (Pipeline.arrRef spec2 w)
  after w t := match w with
    | ⟨0, _⟩ => in2_0 V c t
    | ⟨1, _⟩ => in2_1 V c t
    | ⟨2, _⟩ => out2 V c t
  Φ _ := Pipeline.scopedRest (Ix := HIx 2) (Name := ℕ) (U := UU) (Lvl := ℕ) (Val := Elt F) spec2 c
  q _ := fullShare
  owed _ := 0

theorem before2_0 (c : Dev nD) (t : Fin cfg2.N) (x : (cfg2.win 0).block.Idx → Elt F (cfg2.win 0).elt) : (dat2 V c).before 0 t x = in2_0 V c t :=
  (Dat.before_in_eq_fetched (dat2 V c) 0 rfl (fun _ => rfl) (fun _ _ _ => rfl) (fun _ => rfl) t x).trans rfl

theorem before2_1 (c : Dev nD) (t : Fin cfg2.N) (x : (cfg2.win 1).block.Idx → Elt F (cfg2.win 1).elt) : (dat2 V c).before 1 t x = in2_1 V c t :=
  (Dat.before_in_eq_fetched (dat2 V c) 1 rfl (fun _ => rfl) (fun _ _ _ => rfl) (fun _ => rfl) t x).trans rfl

/-- The body's table row at a point. -/
theorem row2 (t : Fin cfg2.N) : defs₀ (F := F) .tc cfg2.body (cfg2.bodyArgs t (cfg2.slots t)) = bodyAt2 t := by
  rfl

set_option backward.isDefEq.respectTransparency.types false in
theorem body_obligation2 (c : Dev nD) : BodyObligation (dat2 V c) (defs₀ (F := F)) 𝒱₀ (none : HIx 2) Set.univ := fun t => by
  rw [bigSep_W2, bigSep_W2, row2]
  unfold bodyAt2
  rw [cc2_eq]
  rw [show (dat2 V c).Φ t.succ = (dat2 V c).Φ t.castSucc from rfl,
    show (dat2 V c).owesAt (none : HIx 2) t.succ = (dat2 V c).owesAt (none : HIx 2) t.castSucc from rfl]
  simp only [before2_0, before2_1]
  iintro ⟨HΦ, Howes, ⟨%x0, H0⟩, ⟨%x1, H1⟩, ⟨%x2, H2⟩⟩
  iapply (body2_wp c (grid2.coords t) (st2_0 t) (Gen.hstage2_0 ((cfg2.slots t 0).cast Gen.nbuf2_0)) (st2_1 t) (Gen.hstage2_1 ((cfg2.slots t 1).cast Gen.nbuf2_1)) (st2_2 t) (Gen.hstage2_2 ((cfg2.slots t 2).cast Gen.nbuf2_2)) (in2_0 V c t) (in2_1 V c t) _)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-- The region's result. -/
def res2 (c : Dev nD) : Buf (Elt F) ((c : Thread nD τ).loc main_v4) := (dat2 V c).arrAt 2 cfg2.N

/-- The buffers after the region. -/
def after2 (c : Dev nD) : (b : Ref sig .tc) → Buf (Elt F) ((c : Thread nD τ).loc b) := Function.update (V c) main_v4 (res2 V c)

theorem after2_out (c : Dev nD) : after2 V c main_v4 = res2 V c := Function.update_self _ _ _
theorem after2_ne (c : Dev nD) (b : Ref sig .tc) (h : b ≠ main_v4) : after2 V c b = V c b := Function.update_of_ne h _ _

/-- Proof data for the pipeline this region does not run. -/
def idle3 [∀ e, Nonempty (Elt F e)] (c : Dev nD) : Dat τ (Elt F) (HIx 2) ℕ UU ℕ cfg3 c where
  A w := V c (Pipeline.arrRef spec3 w)
  after w t := fun _ => Classical.arbitrary _
  Φ _ := BI.emp
  q _ := fullShare
  owed _ := 0

variable (adm : (p : Fin 2) → (pcfgs (F := F) p).Adm)

variable [∀ e, Nonempty (Elt F e)]

/-- The proof data of both pipelines: this region's, and anything for the other. -/
def pdats2 : (p : Fin 2) → (c : Dev nD) → Dat τ (Elt F) (HIx 2) ℕ UU ℕ (Pipeline.pin (pcfgs (F := F)) adm p) c
  | ⟨0, _⟩ => fun c => dat2 V c
  | ⟨1, _⟩ => fun c => idle3 V c

set_option backward.isDefEq.respectTransparency.types false in
/-- The region: entered with every buffer at `V`, left with the result's at what its points wrote. -/
def reg2 : Pipeline.RegionSeg (pcfgs (F := F)) adm (pdats2 V adm) (none : HIx 2) defs₀ 𝒱₀ (K (F := F)).L (K (F := F)).lev 0 where
  win := launch2.win.to₀
  block_pos := launch2.block_pos
  stage_whole := launch2.stage_whole
  K := PEmpty
  osem k := k.elim
  ho := Pipeline.OwnSemFacts.none _
  hbody c := (body_obligation2 V c).loose
  hwaits := Pipeline.hwaits_of_owed_zero _ _ _ _ (K (F := F)).L (K (F := F)).lev 0 fun _ _ => rfl
  pre c := iprop(unscopedBufs c (V c) ∗ ∃ W, owes (c : Thread nD τ) (0 : CellTallies nD τ sig (HIx 2)) W)
  post c := iprop(unscopedBufs c (after2 V c) ∗ ∃ W, owes (c : Thread nD τ) (0 : CellTallies nD τ sig (HIx 2)) W)
  X _ := BI.emp
  Y _ := BI.emp
  Z c := iprop(Pipeline.unscopedRest (Ix := HIx 2) (Name := ℕ) (U := UU) (Lvl := ℕ) spec2 c (V c))
  hentry c := by
    rw [Pipeline.ownSems0_none]
    have hsplit := Pipeline.arrays_of_unscopedBufs (p := 0) (pcfgs (F := F)) adm (pdats2 V adm) launch2.win launch2.arr_whole c
      ((pdats2 V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats2 V adm 0 c).Φ 0 = Pipeline.scopedRest (Ix := HIx 2) (Name := ℕ) (U := UU) (Lvl := ℕ) (Val := Elt F) spec2 c from rfl]
    iintro ⟨-, -, Hr⟩; iexact Hr
  hout c := by
    rw [Pipeline.ownSems0_none, show (pdats2 V adm 0 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch2.win launch2.arr_whole c
      (pdats2 V adm) ((pdats2 V adm 0 c).share_full fun _ => rfl) (V c) (after2 V c) ((pdats2 V adm 0 c).arrAt · cfg2.N)
      (fun w => by
        fin_cases w
        · exact ((pdats2 V adm 0 c).arrAt_in 0 rfl _).trans (after2_ne V c main_v2 (by decide)).symm
        · exact ((pdats2 V adm 0 c).arrAt_in 1 rfl _).trans (after2_ne V c main_v3 (by decide)).symm
        · exact (after2_out V c).symm)
      (fun b hb => after2_ne V c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.G

end
-- ==== Proof.Region3.lean ====
module

public import proofs.«01_k».proof.Proof.Region2

/-!
The region that samples the first 1280 rows from the words.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (pending pending_succ pending_zero not_mem_pending_succ Batch)

variable {F : FTy → Type} [FloatOps F]

variable [Facts]
open Facts₀ Facts

open Cert.KernelIdeal.Gen
open Idealize.ShloMosaic.TcCoe
open Idealize.ShloMosaic.Pipeline (Dat Cfg Window BodyObligation)

variable (V : (c : Dev nD) → (b : Ref sig .tc) → Buf (Elt F) ((c : Thread nD τ).loc b))

/-- Window 0's block at point `t`. -/
abbrev in3_0 (c : Dev nD) (t : Fin cfg3.N) : (cfg3.win 0).block.Idx → Elt F (cfg3.win 0).elt :=
  ((cfg3.win 0).blk t).view.read (Elt F) (V c main_v1)

/-- Window 1's block at point `t`. -/
abbrev in3_1 (c : Dev nD) (t : Fin cfg3.N) : (cfg3.win 1).block.Idx → Elt F (cfg3.win 1).elt :=
  ((cfg3.win 1).blk t).view.read (Elt F) (V c main_v5)

/-- Window 2's block at point `t`. -/
abbrev in3_2 (c : Dev nD) (t : Fin cfg3.N) : (cfg3.win 2).block.Idx → Elt F (cfg3.win 2).elt :=
  ((cfg3.win 2).blk t).view.read (Elt F) (V c main_v6)

/-- What point `t` leaves in the result's staging buffer. -/
abbrev out3 (c : Dev nD) (t : Fin cfg3.N) : (cfg3.win 3).block.Idx → Elt F (cfg3.win 3).elt :=
  V3 (in3_0 V c t) (in3_1 V c t) (in3_2 V c t)

/-- The region's proof data, entered at `V`. -/
def dat3 (c : Dev nD) : Dat τ (Elt F) (HIx 2) ℕ UU ℕ cfg3 c where
  A w := V c (Pipeline.arrRef spec3 w)
  after w t := match w with
    | ⟨0, _⟩ => in3_0 V c t
    | ⟨1, _⟩ => in3_1 V c t
    | ⟨2, _⟩ => in3_2 V c t
    | ⟨3, _⟩ => out3 V c t
  Φ _ := Pipeline.scopedRest (Ix := HIx 2) (Name := ℕ) (U := UU) (Lvl := ℕ) (Val := Elt F) spec3 c
  q _ := fullShare
  owed _ := 0

theorem before3_0 (c : Dev nD) (t : Fin cfg3.N) (x : (cfg3.win 0).block.Idx → Elt F (cfg3.win 0).elt) : (dat3 V c).before 0 t x = in3_0 V c t :=
  (Dat.before_in_eq_fetched (dat3 V c) 0 rfl (fun _ => rfl) (fun _ _ _ => rfl) (fun _ => rfl) t x).trans rfl

theorem before3_1 (c : Dev nD) (t : Fin cfg3.N) (x : (cfg3.win 1).block.Idx → Elt F (cfg3.win 1).elt) : (dat3 V c).before 1 t x = in3_1 V c t :=
  (Dat.before_in_eq_fetched (dat3 V c) 1 rfl (fun _ => rfl) (fun _ _ _ => rfl) (fun _ => rfl) t x).trans rfl

theorem before3_2 (c : Dev nD) (t : Fin cfg3.N) (x : (cfg3.win 2).block.Idx → Elt F (cfg3.win 2).elt) : (dat3 V c).before 2 t x = in3_2 V c t :=
  (Dat.before_in_eq_fetched (dat3 V c) 2 rfl (fun _ => rfl) (fun _ _ _ => rfl) (fun _ => rfl) t x).trans rfl

/-- The body's table row at a point. -/
theorem row3 (t : Fin cfg3.N) : defs₀ (F := F) .tc cfg3.body (cfg3.bodyArgs t (cfg3.slots t)) = bodyAt3 t := by
  rfl

set_option backward.isDefEq.respectTransparency.types false in
theorem body_obligation3 (c : Dev nD) : BodyObligation (dat3 V c) (defs₀ (F := F)) 𝒱₀ (none : HIx 2) Set.univ := fun t => by
  rw [bigSep_W3, bigSep_W3, row3]
  unfold bodyAt3
  rw [cc3_eq]
  rw [show (dat3 V c).Φ t.succ = (dat3 V c).Φ t.castSucc from rfl,
    show (dat3 V c).owesAt (none : HIx 2) t.succ = (dat3 V c).owesAt (none : HIx 2) t.castSucc from rfl]
  simp only [before3_0, before3_1, before3_2]
  iintro ⟨HΦ, Howes, ⟨%x0, H0⟩, ⟨%x1, H1⟩, ⟨%x2, H2⟩, ⟨%x3, H3⟩⟩
  iapply (body3_wp c (st3_0 t) (Gen.hstage3_0 ((cfg3.slots t 0).cast Gen.nbuf3_0)) (st3_1 t) (Gen.hstage3_1 ((cfg3.slots t 1).cast Gen.nbuf3_1)) (st3_2 t) (Gen.hstage3_2 ((cfg3.slots t 2).cast Gen.nbuf3_2)) (st3_3 t) (Gen.hstage3_3 ((cfg3.slots t 3).cast Gen.nbuf3_3)) (in3_0 V c t) (in3_1 V c t) (in3_2 V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The region's result. -/
def res3 (c : Dev nD) : Buf (Elt F) ((c : Thread nD τ).loc main_v7) := (dat3 V c).arrAt 3 cfg3.N

/-- The buffers after the region. -/
def after3 (c : Dev nD) : (b : Ref sig .tc) → Buf (Elt F) ((c : Thread nD τ).loc b) := Function.update (V c) main_v7 (res3 V c)

theorem after3_out (c : Dev nD) : after3 V c main_v7 = res3 V c := Function.update_self _ _ _
theorem after3_ne (c : Dev nD) (b : Ref sig .tc) (h : b ≠ main_v7) : after3 V c b = V c b := Function.update_of_ne h _ _

variable (adm : (p : Fin 2) → (pcfgs (F := F) p).Adm)

/-- The proof data of both pipelines: this region's, and anything for the other. -/
def pdats3 : (p : Fin 2) → (c : Dev nD) → Dat τ (Elt F) (HIx 2) ℕ UU ℕ (Pipeline.pin (pcfgs (F := F)) adm p) c
  | ⟨0, _⟩ => fun c => dat2 V c
  | ⟨1, _⟩ => fun c => dat3 V c

set_option backward.isDefEq.respectTransparency.types false in
/-- The region: entered with every buffer at `V`, left with the result's at what its points wrote. -/
def reg3 : Pipeline.RegionSeg (pcfgs (F := F)) adm (pdats3 V adm) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3 V c).loose
  hwaits := Pipeline.hwaits_of_owed_zero _ _ _ _ (K (F := F)).L (K (F := F)).lev 1 fun _ _ => rfl
  pre c := iprop(unscopedBufs c (V c) ∗ ∃ W, owes (c : Thread nD τ) (0 : CellTallies nD τ sig (HIx 2)) W)
  post c := iprop(unscopedBufs c (after3 V c) ∗ ∃ W, owes (c : Thread nD τ) (0 : CellTallies nD τ sig (HIx 2)) W)
  X _ := BI.emp
  Y _ := BI.emp
  Z c := iprop(Pipeline.unscopedRest (Ix := HIx 2) (Name := ℕ) (U := UU) (Lvl := ℕ) spec3 c (V c))
  hentry c := by
    rw [Pipeline.ownSems0_none]
    have hsplit := Pipeline.arrays_of_unscopedBufs (p := 1) (pcfgs (F := F)) adm (pdats3 V adm) launch3.win launch3.arr_whole c
      ((pdats3 V adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats3 V adm 1 c).Φ 0 = Pipeline.scopedRest (Ix := HIx 2) (Name := ℕ) (U := UU) (Lvl := ℕ) (Val := Elt F) spec3 c from rfl]
    iintro ⟨-, -, Hr⟩; iexact Hr
  hout c := by
    rw [Pipeline.ownSems0_none, show (pdats3 V adm 1 c).Φ (Fin.last _) = Pipeline.scopedRest (Ix := HIx 2) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) launch3.win launch3.arr_whole c
      (pdats3 V adm) ((pdats3 V adm 1 c).share_full fun _ => rfl) (V c) (after3 V c) ((pdats3 V adm 1 c).arrAt · cfg3.N)
      (fun w => by
        fin_cases w
        · exact ((pdats3 V adm 1 c).arrAt_in 0 rfl _).trans (after3_ne V c main_v1 (by decide)).symm
        · exact ((pdats3 V adm 1 c).arrAt_in 1 rfl _).trans (after3_ne V c main_v5 (by decide)).symm
        · exact ((pdats3 V adm 1 c).arrAt_in 2 rfl _).trans (after3_ne V c main_v6 (by decide)).symm
        · exact (after3_out V c).symm)
      (fun b hb => after3_ne V c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.G

end
-- ==== Proof.Obl.lean ====
module

public import proofs.«01_k».proof.Proof.GatherSplit
public import proofs.«01_k».proof.Proof.GatherEq
public import proofs.«01_k».proof.Proof.BitsSplit
public import proofs.«01_k».proof.Proof.BitsEq
public import proofs.«01_k».proof.Proof.Region3

/-!
The launch: what the handshakes carry, and the tiles' obligations.
-/

@[expose] public section

noncomputable section

namespace Cert.KernelIdeal.G

open Idealize.ShloMosaic
open Idealize.ShloMosaic.SparseCore (S V T)
open Idealize.ShloMosaic.SparseCore.Cfg (HIx Pay)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

variable (m : (ℓ : Loc nD τ sig) → Buf (Elt F) ℓ) (ρ : Dev nD → PrngReg)

abbrev qL (d : Dev nD) : Loc nD τ sig := (SparseCore.T d).loc main_arg0
abbrev kL (d : Dev nD) : Loc nD τ sig := (SparseCore.T d).loc main_arg1
abbrev aL (d : Dev nD) : Loc nD τ sig := (SparseCore.T d).loc main_arg2
abbrev bL (d : Dev nD) : Loc nD τ sig := (SparseCore.T d).loc main_arg3
abbrev muL (d : Dev nD) : Loc nD τ sig := (SparseCore.T d).loc main_v0_0
abbrev sgL (d : Dev nD) : Loc nD τ sig := (SparseCore.T d).loc main_v0_1
abbrev wL (d : Dev nD) : Loc nD τ sig := (SparseCore.T d).loc main_v1

/-- What the proof asks of the launch memory: the indices lie in the tables. -/
def PreOK : Prop := ∀ (d : Dev nD) (x : S4096.Idx), (m (qL d) x : BitVec 32).toNat < 4096 ∧ (m (kL d) x : BitVec 32).toNat < 8192

/-- The gathered arrays. -/
abbrev muF (d : Dev nD) : S4096.Idx → Elt F .f32 := gath (m (qL d)) (m (kL d)) (m (aL d))
abbrev sgF (d : Dev nD) : S4096.Idx → Elt F .f32 := gath (m (qL d)) (m (kL d)) (m (bL d))

variable (hp : PreOK m)

/-- A tile's part of the gather's arrays, the results at `f0`, `f1`. -/
abbrev tileRows (d : Dev nD) (c : Fin 2) (s : Fin 16) (f0 f1 : S4096.Idx → Elt F .f32) : sProp (MM F) :=
  Rows d (at0 c s) (m (qL d)) (m (kL d)) (hp d) (m (aL d)) (m (bL d)) (shr c s) f0 f1

/-- A tile's rows of words. -/
abbrev wordRows (d : Dev nD) (c : Fin 2) (s : Fin 16) (f : S1280x4096.Idx → BitVec 32) : sProp (MM F) := RowsB d (at1 c s) f

/-- What the handshakes carry: in the first call a tile's rows and shares, and back with the rows gathered; in the second
    its rows of words, and back filled. -/
def P : (K (F := F)).Pay (nD := nD) (Val := Elt F) (Name := ℕ) (U := UU) where
  st := fun q d c => match q with
    | 0 => bigSep Finset.univ fun s : Fin 16 => tileRows m hp d c s (m (muL d)) (m (sgL d))
    | 1 => bigSep Finset.univ fun s : Fin 16 => wordRows d c s (m (wL d))
  dn := fun q d c => match q with
    | 0 => bigSep Finset.univ fun s : Fin 16 => tileRows m hp d c s (muF m d) (sgF m d)
    | 1 => bigSep Finset.univ fun s : Fin 16 => wordRows d c s words
  go := fun q d c s => match q with
    | 0 => tileRows m hp d c s (m (muL d)) (m (sgL d))
    | 1 => wordRows d c s (m (wL d))
  td := fun q d c s => match q with
    | 0 => tileRows m hp d c s (muF m d) (sgF m d)
    | 1 => wordRows d c s words
  x := fun _ _ => iprop(emp)

instance P_storable : (P m hp).IsStorable where
  st q d c := match q with
    | 0 => (inferInstance : BI.Storable (upEmb : UEmb _ (MM F)) (bigSep Finset.univ fun s : Fin 16 => tileRows m hp d c s (m (muL d)) (m (sgL d))))
    | 1 => (inferInstance : BI.Storable (upEmb : UEmb _ (MM F)) (bigSep Finset.univ fun s : Fin 16 => wordRows d c s (m (wL d))))
  dn q d c := match q with
    | 0 => (inferInstance : BI.Storable (upEmb : UEmb _ (MM F)) (bigSep Finset.univ fun s : Fin 16 => tileRows m hp d c s (muF m d) (sgF m d)))
    | 1 => (inferInstance : BI.Storable (upEmb : UEmb _ (MM F)) (bigSep Finset.univ fun s : Fin 16 => wordRows d c s words))
  go q d c s := match q with
    | 0 => (inferInstance : BI.Storable (upEmb : UEmb _ (MM F)) (tileRows m hp d c s (m (muL d)) (m (sgL d))))
    | 1 => (inferInstance : BI.Storable (upEmb : UEmb _ (MM F)) (wordRows d c s (m (wL d))))
  td q d c s := match q with
    | 0 => (inferInstance : BI.Storable (upEmb : UEmb _ (MM F)) (tileRows m hp d c s (muF m d) (sgF m d)))
    | 1 => (inferInstance : BI.Storable (upEmb : UEmb _ (MM F)) (wordRows d c s words))

theorem obl_post {thr : Thread nD τ} {A B C : sProp (MM F)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_gather (c : Fin τ.nSC) (s : Fin τ.nSub) :
    defs₀ (F := F) (.scVector c s) 0 () = SparseCore.onTile hcore0 hsub0 (fun c s => gather (at0 c s)) ⟨⟩ c s := by
  have e : ∀ (c : Fin (grid0.bound 0)) (s : Fin (grid0.bound 1)), _ = gather (F := F) (at0 c s) := fun c s => cc0_eq (at0 c s)
  simp only [← e]
  rfl

theorem defs₀_at (c : Fin 2) (s : Fin 16) :
    defs₀ (F := F) (.scVector ((at0 c s 0).castLE hcore0) ((at0 c s 1).castLE hsub0)) 0 () = gather (at0 c s) := by
  rw [defs₀_gather]
  have hci : ((at0 c s 0).castLE hcore0).val < grid0.bound 0 ∧ ((at0 c s 1).castLE hsub0).val < grid0.bound 1 := ⟨c.isLt, s.isLt⟩
  simp only [SparseCore.onTile, hci, and_self, ↓reduceDIte]
  rfl

/-- A tile's body on the launch's terms. -/
theorem tile_gather (d : Dev nD) (c : Fin 2) (s : Fin 16) (O : CellTallies nD τ sig (HIx 2)) (W : Waits sig (HIx 2)) (hO : ∀ g, O g none = 0)
    (q : Fin 2) :
    iprop(Lv ∗ emp ∗ tileRows m hp d c s (m (muL d)) (m (sgL d)) ∗ scopedBufs (thG d (at0 c s)) ∗ scopedSems0 (thG d (at0 c s)) ∗ owes (thG d (at0 c s)) O W)
      ⊢ wp frame (wpE (defs₀ (F := F)) 𝒱₀ (thG d (at0 c s)) none) Set.univ (gather (at0 c s))
          fun _ => iprop(tileRows m hp d c s (muF m d) (sgF m d) ∗ scopedBufs (thG d (at0 c s)) ∗ scopedSems0 (thG d (at0 c s))
            ∗ ∃ W', ⌜∀ p ∈ W', p ∈ W ∨ p.2 = none ∨ p.2 = some q⌝ ∗ owes (thG d (at0 c s)) O W') := by
  have hw := gather_wp d (at0 c s) (m (qL d)) (m (kL d)) (hp d) (m (aL d)) (m (bL d)) (shr c s) O W hO (m (muL d)) (m (sgL d))
  have h3 := hw.trans (wp_mono frame _ _ fun _ => obl_post (q := q))
  have h0 : iprop(Lv ∗ emp ∗ tileRows m hp d c s (m (muL d)) (m (sgL d)) ∗ scopedBufs (thG d (at0 c s)) ∗ scopedSems0 (thG d (at0 c s)) ∗ owes (thG d (at0 c s)) O W) ⊢ iprop(Lv ∗ tileRows m hp d c s (m (muL d)) (m (sgL d)) ∗ scopedBufs (thG d (at0 c s)) ∗ scopedSems0 (thG d (at0 c s)) ∗ owes (thG d (at0 c s)) O W) := by
    iintro ⟨Hlv, -, H⟩
    isplitl [Hlv]; · iexact Hlv
    iexact H
  have h5 := h0.trans h3
  convert h5 using 2

theorem tile_body (d : Dev nD) (c : Fin 2) (s : Fin 16) (O : CellTallies nD τ sig (HIx 2)) (W : Waits sig (HIx 2)) (hO : ∀ g, O g none = 0)
    (q : Fin 2) :
    iprop(Lv ∗ emp ∗ tileRows m hp d c s (m (muL d)) (m (sgL d)) ∗ scopedBufs (thG d (at0 c s)) ∗ scopedSems0 (thG d (at0 c s)) ∗ owes (thG d (at0 c s)) O W)
      ⊢ wp frame (wpE (defs₀ (F := F)) 𝒱₀ (thG d (at0 c s)) none) Set.univ
          (defs₀ (F := F) (.scVector ((at0 c s 0).castLE hcore0) ((at0 c s 1).castLE hsub0)) 0 ())
          fun _ => iprop(tileRows m hp d c s (muF m d) (sgF m d) ∗ scopedBufs (thG d (at0 c s)) ∗ scopedSems0 (thG d (at0 c s))
            ∗ ∃ W', ⌜∀ p ∈ W', p ∈ W ∨ p.2 = none ∨ p.2 = some q⌝ ∗ owes (thG d (at0 c s)) O W') := by
  rw [defs₀_at]
  convert tile_gather m hp d c s O W hO q using 2

set_option maxRecDepth 16384 in
theorem obl_gather : (K (F := F)).TileObl (D (F := F)) 𝒱 (P m hp) v₀ 0 := by
  intro d c i O W hO _ _
  simp only [show (P m hp).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  exact tile_body m hp d c i O W hO 0

theorem split_gather : (K (F := F)).VecSplit' (P m hp) 0 := by
  intro d c
  show (bigSep Finset.univ fun s : Fin 16 => tileRows m hp d c s (m (muL d)) (m (sgL d))) ⊢ |={Set.univ}=> iprop(
      (bigSep Finset.univ fun s : Fin 16 => tileRows m hp d c s (m (muL d)) (m (sgL d)))
      ∗ ((bigSep Finset.univ fun s : Fin 16 => tileRows m hp d c s (muF m d) (sgF m d))
          -∗ (bigSep Finset.univ fun s : Fin 16 => tileRows m hp d c s (muF m d) (sgF m d))))
  iintro H; imodintro
  isplitl [H]; · iexact H
  iintro H; iexact H

theorem defs₀_bits (c : Fin τ.nSC) (s : Fin τ.nSub) :
    defs₀ (F := F) (.scVector c s) 1 () = SparseCore.onTile hcore1 hsub1 (fun c s => bits (at1 c s)) ⟨⟩ c s := by
  have e : ∀ (c : Fin (grid1.bound 0)) (s : Fin (grid1.bound 1)), _ = bits (F := F) (at1 c s) := fun c s => cc1_eq (at1 c s)
  simp only [← e]
  rfl

theorem defs₀_at1 (c : Fin 2) (s : Fin 16) :
    defs₀ (F := F) (.scVector ((at1 c s 0).castLE hcore1) ((at1 c s 1).castLE hsub1)) 1 () = bits (at1 c s) := by
  rw [defs₀_bits]
  have hci : ((at1 c s 0).castLE hcore1).val < grid1.bound 0 ∧ ((at1 c s 1).castLE hsub1).val < grid1.bound 1 := ⟨c.isLt, s.isLt⟩
  simp only [SparseCore.onTile, hci, and_self, ↓reduceDIte]
  rfl

/-- A tile's rows of words on the launch's terms. -/
theorem tile_bits (d : Dev nD) (c : Fin 2) (s : Fin 16) (O : CellTallies nD τ sig (HIx 2)) (W : Waits sig (HIx 2)) (hO : ∀ g, O g none = 0)
    (q : Fin 2) (f : S1280x4096.Idx → BitVec 32) :
    iprop(Lv ∗ emp ∗ wordRows (F := F) d c s f ∗ scopedBufs (thB d (at1 c s)) ∗ scopedSems0 (thB d (at1 c s)) ∗ owes (thB d (at1 c s)) O W)
      ⊢ wp frame (wpE (defs₀ (F := F)) 𝒱₀ (thB d (at1 c s)) none) Set.univ (bits (at1 c s))
          fun _ => iprop(wordRows (F := F) d c s words ∗ scopedBufs (thB d (at1 c s)) ∗ scopedSems0 (thB d (at1 c s))
            ∗ ∃ W', ⌜∀ p ∈ W', p ∈ W ∨ p.2 = none ∨ p.2 = some q⌝ ∗ owes (thB d (at1 c s)) O W') := by
  have hw := bits_wp (F := F) d (at1 c s) O W hO f
  have h3 := hw.trans (wp_mono frame _ _ fun _ => obl_post (q := q))
  have h0 : iprop(Lv ∗ emp ∗ wordRows (F := F) d c s f ∗ scopedBufs (thB d (at1 c s)) ∗ scopedSems0 (thB d (at1 c s)) ∗ owes (thB d (at1 c s)) O W) ⊢ iprop(Lv ∗ wordRows (F := F) d c s f ∗ scopedBufs (thB d (at1 c s)) ∗ scopedSems0 (thB d (at1 c s)) ∗ owes (thB d (at1 c s)) O W) := by
    iintro ⟨Hlv, -, H⟩
    isplitl [Hlv]; · iexact Hlv
    iexact H
  have h5 := h0.trans h3
  convert h5 using 2

theorem tile_body1 (d : Dev nD) (c : Fin 2) (s : Fin 16) (O : CellTallies nD τ sig (HIx 2)) (W : Waits sig (HIx 2)) (hO : ∀ g, O g none = 0)
    (q : Fin 2) (f : S1280x4096.Idx → BitVec 32) :
    iprop(Lv ∗ emp ∗ wordRows (F := F) d c s f ∗ scopedBufs (thB d (at1 c s)) ∗ scopedSems0 (thB d (at1 c s)) ∗ owes (thB d (at1 c s)) O W)
      ⊢ wp frame (wpE (defs₀ (F := F)) 𝒱₀ (thB d (at1 c s)) none) Set.univ
          (defs₀ (F := F) (.scVector ((at1 c s 0).castLE hcore1) ((at1 c s 1).castLE hsub1)) 1 ())
          fun _ => iprop(wordRows (F := F) d c s words ∗ scopedBufs (thB d (at1 c s)) ∗ scopedSems0 (thB d (at1 c s))
            ∗ ∃ W', ⌜∀ p ∈ W', p ∈ W ∨ p.2 = none ∨ p.2 = some q⌝ ∗ owes (thB d (at1 c s)) O W') := by
  rw [defs₀_at1]
  convert tile_bits d c s O W hO q f using 2

set_option maxRecDepth 16384 in
theorem obl_bits : (K (F := F)).TileObl (D (F := F)) 𝒱 (P m hp) v₀ 1 := by
  intro d c i O W hO _ _
  simp only [show (P m hp).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  exact tile_body1 d c i O W hO 1 (m (wL d))

theorem split_bits : (K (F := F)).VecSplit' (P m hp) 1 := by
  intro d c
  show (bigSep Finset.univ fun s : Fin 16 => wordRows (F := F) d c s (m (wL d))) ⊢ |={Set.univ}=> iprop(
      (bigSep Finset.univ fun s : Fin 16 => wordRows (F := F) d c s (m (wL d)))
      ∗ ((bigSep Finset.univ fun s : Fin 16 => wordRows (F := F) d c s words)
          -∗ (bigSep Finset.univ fun s : Fin 16 => wordRows (F := F) d c s words)))
  iintro H; imodintro
  isplitl [H]; · iexact H
  iintro H; iexact H

theorem emps {I : Type} (s : Finset I) : (bigSep s fun _ => iprop(emp)) = (iprop(emp) : sProp (MM F)) := bigSep_emp_const s

theorem emps_x : (bigSep Finset.univ fun thr : Thread nD τ => bigSep Finset.univ fun q : Fin 2 => (P m hp).x q thr) = (iprop(emp) : sProp (MM F)) := by
  rw [show (bigSep Finset.univ fun thr : Thread nD τ => bigSep Finset.univ fun q : Fin 2 => (P m hp).x q thr)
      = bigSep Finset.univ fun _ : Thread nD τ => (iprop(emp) : sProp (MM F)) from bigSep_congr fun _ _ => emps (F := F) Finset.univ, emps]

open Cert.KernelIdeal.Gen in
/-- The launch's resources: the handshakes' and the pipelines'. -/
def u₀ : UU := (initOf (K (F := F)).hsCells (K (F := F)).hsToks,
  (initOf (Pipeline.cells cfgs cellOf_inj) (Pipeline.launchToks cfgs cellOf_inj), 1))

/-- What a core's pipelines start from. -/
def G (d : Dev nD) : sProp (MM F) := iprop((bigSep Finset.univ fun p : Fin 2 => Pipeline.cellsGhost cfgs EP p d)
  ∗ (bigSep Finset.univ fun p : Fin 2 => Pipeline.toksInit cfgs EP p d))

open Cert.KernelIdeal.Gen in
theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m hp).x q thr) := by
  have hg := Pipeline.fund_ghost cfgs (EP (F := F)) cellOf_inj
  have hc := own_pair_emb (embR : Emb (UP × Counters) (MM F)) (initOf (Pipeline.cells cfgs cellOf_inj) (Pipeline.launchToks cfgs cellOf_inj)) (1 : Counters)
  have he : BI.own (((Emb.inl : Emb UP (UP × Counters)).trans (embR : Emb (UP × Counters) (MM F))) (initOf (Pipeline.cells cfgs cellOf_inj) (Pipeline.launchToks cfgs cellOf_inj)))
      ⊢ BI.own (EP (F := F) (initOf (Pipeline.cells cfgs cellOf_inj) (Pipeline.launchToks cfgs cellOf_inj))) := Entails.of_eq rfl
  rw [emps_x]
  unfold u₀
  iintro Hu
  ihave H := (ownU_pair (initOf (K (F := F)).hsCells (K (F := F)).hsToks) _) $$ Hu
  icases H with ⟨HH, HR⟩
  ihave H := hc $$ HR
  icases H with ⟨HP, -⟩
  ihave HP := he $$ HP
  imod hg $$ HP with ⟨Hc, Ht⟩
  imodintro
  isplitl [HH]; · iexact HH
  isplitl
  · unfold G
    rw [bigSep_sep']
    isplitl [Hc] <;> iassumption
  iempintro

end Cert.KernelIdeal.G

end
-- ==== Proof.Sampled.lean ====
module

public import proofs.«01_k».proof.Proof.Region3
public import proofs.«01_k».proof.Proof.BitsPair
public import Idealize.ShloMosaic.Lib.ValueLayout
public import Idealize.ShloMosaic.Lib.Pipeline.ValueKit.Partial

/-!
What the two sampling regions leave, element by element.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

/-- The sample drawn from a word. -/
def samp (mu sg : F .f32) (w : BitVec 32) : F .f32 := FloatOps.exp (FloatOps.addf mu (FloatOps.mulf sg (eps w)))

/-- Column `c` of a single row. -/
abbrev at1r (c : Fin 4096) : S1x4096.Idx := ix2 (0 : Fin 1) c

theorem bcast2 (x : FVec F S1x4096 .f32) (y : S128x4096.Idx) :
    broadcastTo S128x4096 (shapeCast S1x4096 x shapeCasts_S1x4096_S1x4096) broadcasts_S1x4096_S128x4096 y = x (at1r (y 1)) := by
  rw [shapeCast_self]
  refine broadcastTo_apply x _ y _ fun a => ?_
  match a with
  | 0 => rfl
  | 1 => rfl

theorem bcast3 (x : FVec F S1x4096 .f32) (y : S256x4096.Idx) :
    broadcastTo S256x4096 (shapeCast S1x4096 x shapeCasts_S1x4096_S1x4096) broadcasts_S1x4096_S256x4096 y = x (at1r (y 1)) := by
  rw [shapeCast_self]
  refine broadcastTo_apply x _ y _ fun a => ?_
  match a with
  | 0 => rfl
  | 1 => rfl

theorem cnt2_val (i r c : Nat) (hi : i < 22) :
    (BitVec.ofNat 32 r + (1280#32 + BitVec.ofNat 32 i * 128#32)) * 4096#32 + BitVec.ofNat 32 c
      = BitVec.ofNat 32 (((10 + i) * 128 + r) * 4096 + c) := by
  apply BitVec.eq_of_toNat_eq
  simp only [BitVec.toNat_add, BitVec.toNat_mul, BitVec.toNat_ofNat, Nat.reducePow, Nat.reduceMod]
  omega

theorem V2_apply (i : grid2.Coords) (mu sg : FVec F S1x4096 .f32) (y : S128x4096.Idx) :
    V2 i mu sg y = samp (mu (at1r (y 1))) (sg (at1r (y 1))) (tf (BitVec.ofNat 32 (((10 + (i 0).val) * 128 + (y 0).val) * 4096 + (y 1).val))) := by
  have h : tfVec S128x4096 (cnt2 i) y = tf (BitVec.ofNat 32 (((10 + (i 0).val) * 128 + (y 0).val) * 4096 + (y 1).val)) := by
    rw [tfVec_apply]
    refine congrArg tf ?_
    have e : cnt2 i y = (BitVec.ofNat 32 (y 0).val + (1280#32 + BitVec.ofNat 32 (i 0).val * 128#32)) * 4096#32 + BitVec.ofNat 32 (y 1).val := by
      unfold cnt2
      show IntOp.addi (IntOp.muli (IntOp.addi (iota .tc S128x4096 32 [0] iota_S128x4096_d0_w32 y) _) _) (iota .tc S128x4096 32 [1] iota_S128x4096_d1_w32 y) = _
      rw [iota_single_apply, iota_single_apply]
      rfl
    exact e.trans <| cnt2_val (i 0).val (y 0).val (y 1).val (show (i 0).val < 22 from (i 0).isLt)
  show FloatOps.exp (FloatOps.addf (broadcastTo S128x4096 (shapeCast S1x4096 mu shapeCasts_S1x4096_S1x4096) broadcasts_S1x4096_S128x4096 y)
    (FloatOps.mulf (broadcastTo S128x4096 (shapeCast S1x4096 sg shapeCasts_S1x4096_S1x4096) broadcasts_S1x4096_S128x4096 y)
      ((epsV S128x4096 (tfVec S128x4096 (cnt2 i)) : FVec F S128x4096 .f32) y))) = _
  rw [bcast2, bcast2, epsV_apply, h]
  rfl

theorem V3_apply (w : IVec S256x4096 32) (mu sg : FVec F S1x4096 .f32) (y : S256x4096.Idx) :
    V3 w mu sg y = samp (mu (at1r (y 1))) (sg (at1r (y 1))) (w y) := by
  show FloatOps.exp (FloatOps.addf (broadcastTo S256x4096 (shapeCast S1x4096 mu shapeCasts_S1x4096_S1x4096) broadcasts_S1x4096_S256x4096 y)
    (FloatOps.mulf (broadcastTo S256x4096 (shapeCast S1x4096 sg shapeCasts_S1x4096_S1x4096) broadcasts_S1x4096_S256x4096 y)
      ((epsV S256x4096 (shapeCast S256x4096 w shapeCasts_S256x4096_S256x4096) : FVec F S256x4096 .f32) y))) = _
  rw [bcast3, bcast3, epsV_apply, shapeCast_self]
  rfl

open Cert.KernelIdeal.Gen
open Idealize.ShloMosaic.TcCoe
open Idealize.ShloMosaic.Pipeline (Dat Window)

variable (V : (c : Dev nD) → (b : Ref sig .tc) → Buf (Elt F) ((c : Thread nD τ).loc b))

/-- The samples with their words computed, from the row of means and the row of scales. -/
def full (mu sg : S1x4096.Idx → Elt F .f32) : S4096x4096.Idx → Elt F .f32 :=
  fun X => samp (mu (at1r (X 1))) (sg (at1r (X 1))) (tf (BitVec.ofNat 32 ((X 0).val * 4096 + (X 1).val)))

theorem covers2 : win2_2.CoversWhere fun β => 10 ≤ β (0 : Fin 2) := by decide +kernel
theorem covers3 : win3_3.CoversWhere fun β => β (0 : Fin 2) < 5 := by decide +kernel
theorem ix2_0 : ∀ t : Fin grid2.N, win2_0.index t = ![0, 0] := by decide +kernel
theorem ix2_1 : ∀ t : Fin grid2.N, win2_1.index t = ![0, 0] := by decide +kernel
theorem ix2_2 : ∀ t : Fin grid2.N, win2_2.index t = ![10 + (grid2.coords t 0).val, 0] := by decide +kernel
theorem ix3_0 : ∀ t : Fin grid3.N, win3_0.index t = ![t.val, 0] := by decide +kernel
theorem ix3_1 : ∀ t : Fin grid3.N, win3_1.index t = ![0, 0] := by decide +kernel
theorem ix3_2 : ∀ t : Fin grid3.N, win3_2.index t = ![0, 0] := by decide +kernel
theorem ix3_3 : ∀ t : Fin grid3.N, win3_3.index t = ![t.val, 0] := by decide +kernel

theorem i2_0_1 (t : Fin cfg2.grid.N) : (cfg2.win 0).index t (1 : Fin 2) = 0 := congrFun (ix2_0 t) (1 : Fin 2)
theorem i2_1_1 (t : Fin cfg2.grid.N) : (cfg2.win 1).index t (1 : Fin 2) = 0 := congrFun (ix2_1 t) (1 : Fin 2)
theorem i2_2_0 (t : Fin cfg2.grid.N) : (cfg2.win 2).index t (0 : Fin 2) = 10 + (grid2.coords t 0).val := congrFun (ix2_2 t) (0 : Fin 2)
theorem i2_2_1 (t : Fin cfg2.grid.N) : (cfg2.win 2).index t (1 : Fin 2) = 0 := congrFun (ix2_2 t) (1 : Fin 2)
theorem i3_0_0 (t : Fin cfg3.grid.N) : (cfg3.win 0).index t (0 : Fin 2) = t.val := congrFun (ix3_0 t) (0 : Fin 2)
theorem i3_0_1 (t : Fin cfg3.grid.N) : (cfg3.win 0).index t (1 : Fin 2) = 0 := congrFun (ix3_0 t) (1 : Fin 2)
theorem i3_1_1 (t : Fin cfg3.grid.N) : (cfg3.win 1).index t (1 : Fin 2) = 0 := congrFun (ix3_1 t) (1 : Fin 2)
theorem i3_2_1 (t : Fin cfg3.grid.N) : (cfg3.win 2).index t (1 : Fin 2) = 0 := congrFun (ix3_2 t) (1 : Fin 2)
theorem i3_3_0 (t : Fin cfg3.grid.N) : (cfg3.win 3).index t (0 : Fin 2) = t.val := congrFun (ix3_3 t) (0 : Fin 2)
theorem i3_3_1 (t : Fin cfg3.grid.N) : (cfg3.win 3).index t (1 : Fin 2) = 0 := congrFun (ix3_3 t) (1 : Fin 2)

theorem row_eq (u : S1x4096.Idx) (c : Fin 4096) (h : (u 1).val = c.val) : u = at1r c := by
  funext a
  match a with
  | 0 => exact Subsingleton.elim (α := Fin 1) _ _
  | 1 => exact Fin.ext h

theorem samp_congr {mu mu' sg sg' : F .f32} {w w' : BitVec 32} (h1 : mu = mu') (h2 : sg = sg') (h3 : w = w') :
    samp mu sg w = samp mu' sg' w' := by rw [h1, h2, h3]

theorem res2_eq (c : Dev nD) :
    res2 V c = fun X : S4096x4096.Idx => if 10 ≤ (X 0 : ℕ) / 128 then full (V c main_v2) (V c main_v3) X else V c main_v4 X := by
  refine (dat2 V c).arrAt_eq_of_coversWhere 2 _ (fun β => 10 ≤ β (0 : Fin 2)) covers2 (fun t hf y => ?_) (fun j => Iff.rfl)
  have h0 : ((((cfg2.win 2).blk t).view.emb y (0 : Fin 2) : Fin 4096) : ℕ) = (10 + (grid2.coords t 0).val) * 128 + (y (0 : Fin 2)).val := by
    blk_simp
    rw [i2_2_0]
  have h1 : ((((cfg2.win 2).blk t).view.emb y (1 : Fin 2) : Fin 4096) : ℕ) = (y (1 : Fin 2)).val := by
    blk_simp
    rw [i2_2_1, Nat.zero_mul, Nat.zero_add]
  refine (V2_apply (grid2.coords t) (in2_0 V c t) (in2_1 V c t) y).trans (samp_congr ?_ ?_ ?_)
  · refine congrArg (V c main_v2) (row_eq _ _ (Eq.trans ?_ h1.symm))
    blk_simp
    rw [i2_0_1, Nat.zero_mul, Nat.zero_add]
  · refine congrArg (V c main_v3) (row_eq _ _ (Eq.trans ?_ h1.symm))
    blk_simp
    rw [i2_1_1, Nat.zero_mul, Nat.zero_add]
  · exact congrArg₂ (fun a b : ℕ => tf (BitVec.ofNat 32 (a * 4096 + b))) h0.symm h1.symm

theorem res3_eq (c : Dev nD) (hw : V c main_v1 = words)
    (hv : ∀ X : S4096x4096.Idx, 10 ≤ (X 0 : ℕ) / 128 → V c main_v7 X = full (V c main_v5) (V c main_v6) X) :
    res3 V c = full (V c main_v5) (V c main_v6) := by
  refine (dat3 V c).arrAt_eq_of_coversWhere_of_agree 3 _ (fun β => β (0 : Fin 2) < 5) covers3 (fun t hf y => ?_) (fun j hj => ?_)
  swap
  · refine hv j ?_
    have hj' : ¬ (j (0 : Fin 2)).val / 256 < 5 := hj
    omega
  have h0 : ((((cfg3.win 3).blk t).view.emb y (0 : Fin 2) : Fin 4096) : ℕ) = t.val * 256 + (y (0 : Fin 2)).val := by
    blk_simp
    rw [i3_3_0]
  have h1 : ((((cfg3.win 3).blk t).view.emb y (1 : Fin 2) : Fin 4096) : ℕ) = (y (1 : Fin 2)).val := by
    blk_simp
    rw [i3_3_1, Nat.zero_mul, Nat.zero_add]
  refine (V3_apply (in3_0 V c t) (in3_1 V c t) (in3_2 V c t) y).trans (samp_congr ?_ ?_ ?_)
  · refine congrArg (V c main_v5) (row_eq _ _ (Eq.trans ?_ h1.symm))
    blk_simp
    rw [i3_1_1, Nat.zero_mul, Nat.zero_add]
  · refine congrArg (V c main_v6) (row_eq _ _ (Eq.trans ?_ h1.symm))
    blk_simp
    rw [i3_2_1, Nat.zero_mul, Nat.zero_add]
  · have e0 : ((((cfg3.win 0).blk t).view.emb y (0 : Fin 2) : Fin 1280) : ℕ) = t.val * 256 + (y (0 : Fin 2)).val := by
      blk_simp
      rw [i3_0_0]
    have e1 : ((((cfg3.win 0).blk t).view.emb y (1 : Fin 2) : Fin 4096) : ℕ) = (y (1 : Fin 2)).val := by
      blk_simp
      rw [i3_0_1, Nat.zero_mul, Nat.zero_add]
    refine (congrFun hw (((cfg3.win 0).blk t).view.emb y)).trans ?_
    exact congrArg₂ (fun a b : ℕ => tf (BitVec.ofNat 32 (a * 4096 + b))) (e0.trans h0.symm) (e1.trans h1.symm)

end Cert.KernelIdeal.G

end
-- ==== Proof.Vals.lean ====
module

public import proofs.«01_k».proof.Proof.Obl
public import proofs.«01_k».proof.Proof.Sampled

/-!
The contents of the buffers along @main.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

variable (m : (ℓ : Loc nD τ sig) → Buf (Elt F) ℓ) (ρ : Dev nD → PrngReg) (hp : PreOK m)

theorem st0 (d : Dev nD) : (bigSep Finset.univ fun c : Fin ((K (F := F)).nCore 0) => (P m hp).st 0 d c)
    = Whole d (m (qL d)) (m (kL d)) (m (aL d)) (m (bL d)) (m (muL d)) (m (sgL d)) :=
  (whole_eq d (m (qL d)) (m (kL d)) (hp d) (m (aL d)) (m (bL d)) (m (muL d)) (m (sgL d))).symm
theorem dn0 (d : Dev nD) : (bigSep Finset.univ fun c : Fin ((K (F := F)).nCore 0) => (P m hp).dn 0 d c)
    = Whole d (m (qL d)) (m (kL d)) (m (aL d)) (m (bL d)) (muF m d) (sgF m d) :=
  (whole_eq d (m (qL d)) (m (kL d)) (hp d) (m (aL d)) (m (bL d)) (muF m d) (sgF m d)).symm
theorem st1 (d : Dev nD) : (bigSep Finset.univ fun c : Fin ((K (F := F)).nCore 1) => (P m hp).st 1 d c)
    = (wL d ↦{fullShare} m (wL d)) := (cut_bits d (m (wL d))).symm
theorem dn1 (d : Dev nD) : (bigSep Finset.univ fun c : Fin ((K (F := F)).nCore 1) => (P m hp).dn 1 d c)
    = (wL d ↦{fullShare} (words : Buf (Elt F) (wL d))) := (cut_bits d words).symm

theorem unscopedBufs_eq (d : Dev nD) (W : (b : Ref sig .tc) → Buf (Elt F) ((d.tc : Thread nD τ).loc b)) :
    (unscopedBufs d W : sProp (MM F)) = iprop((qL d ↦{fullShare} W main_arg0) ∗ (kL d ↦{fullShare} W main_arg1)
      ∗ (aL d ↦{fullShare} W main_arg2) ∗ (bL d ↦{fullShare} W main_arg3) ∗ (muL d ↦{fullShare} W main_v0_0) ∗ (sgL d ↦{fullShare} W main_v0_1)
      ∗ (wL d ↦{fullShare} W main_v1) ∗ ((SparseCore.T d).loc main_v7 ↦{fullShare} W main_v7)
      ∗ bigSep {main_v2, main_v3, main_v4, main_v5, main_v6} fun b : Ref sig .tc => (SparseCore.T d).loc b ↦{fullShare} W b) := by
  unfold unscopedBufs
  rw [show (Finset.univ.filter fun b : Ref sig .tc => ¬ b.isScoped)
      = {main_arg0, main_arg1, main_arg2, main_arg3, main_v0_0, main_v0_1, main_v1, main_v7, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide)]

/-- A TensorCore reference among the device's. -/
abbrev rf (b : Ref sig .tc) : DevRef τ sig := Proc.devRef .tc b

/-- The contents after the two SparseCore calls. -/
def W1 (d : Dev nD) : Valuation τ sig (Elt F) :=
  Function.update (Function.update (Function.update (fun b => m (d, b)) (rf main_v0_0) (muF m d)) (rf main_v0_1) (sgF m d)) (rf main_v1) words

abbrev op2 : HloOp τ sig (Elt F) := StableHlo.reshape main_v0_0 main_v2 (rfl : (.f32 : EltTy) = .f32) shapeCasts_S4096_S1x4096
abbrev op3 : HloOp τ sig (Elt F) := StableHlo.reshape main_v0_1 main_v3 (rfl : (.f32 : EltTy) = .f32) shapeCasts_S4096_S1x4096
abbrev op5 : HloOp τ sig (Elt F) := StableHlo.reshape main_v0_0 main_v5 (rfl : (.f32 : EltTy) = .f32) shapeCasts_S4096_S1x4096
abbrev op6 : HloOp τ sig (Elt F) := StableHlo.reshape main_v0_1 main_v6 (rfl : (.f32 : EltTy) = .f32) shapeCasts_S4096_S1x4096
abbrev op7 : HloOp τ sig (Elt F) := StableHlo.unary main_v4 main_v7 id

/-- The contents the first region starts from. -/
def W2 (d : Dev nD) : Valuation τ sig (Elt F) := (op3 (F := F)).result ((op2 (F := F)).result (W1 m d))
abbrev C2 : (c : Dev nD) → (b : Ref sig .tc) → Buf (Elt F) ((c.tc : Thread nD τ).loc b) := fun c b => W2 m c (rf b)
/-- The contents after it. -/
def W3 (d : Dev nD) : Valuation τ sig (Elt F) := Function.update (W2 m d) (rf main_v4) (res2 (C2 m) d)
/-- The contents the second region starts from. -/
def W4 (d : Dev nD) : Valuation τ sig (Elt F) := (op7 (F := F)).result ((op6 (F := F)).result ((op5 (F := F)).result (W3 m d)))
abbrev C4 : (c : Dev nD) → (b : Ref sig .tc) → Buf (Elt F) ((c.tc : Thread nD τ).loc b) := fun c b => W4 m c (rf b)

theorem rf_ne {b c : Ref sig .tc} (h : b ≠ c) : rf b ≠ rf c := StableHlo.devRef_ne_of_ne h

theorem W1_ne (d : Dev nD) (b : Ref sig .tc) (h0 : b ≠ main_v0_0) (h1 : b ≠ main_v0_1) (h2 : b ≠ main_v1) : W1 m d (rf b) = m (d, rf b) := by
  unfold W1
  rw [Function.update_of_ne (rf_ne h2), Function.update_of_ne (rf_ne h1), Function.update_of_ne (rf_ne h0)]
theorem W1_mu (d : Dev nD) : W1 m d (rf main_v0_0) = muF m d := by
  unfold W1
  rw [Function.update_of_ne (rf_ne (by decide)), Function.update_of_ne (rf_ne (by decide)), Function.update_self]
theorem W1_sg (d : Dev nD) : W1 m d (rf main_v0_1) = sgF m d := by
  unfold W1
  rw [Function.update_of_ne (rf_ne (by decide)), Function.update_self]
theorem W1_w (d : Dev nD) : W1 m d (rf main_v1) = words := by
  unfold W1
  rw [Function.update_self]

theorem held1 (d : Dev nD) : (StableHlo.held (SparseCore.T d) (Pipeline.ucRefs τ sig) (W1 m d) : sProp (MM F))
    = iprop((qL d ↦{fullShare} m (qL d)) ∗ (kL d ↦{fullShare} m (kL d))
      ∗ (aL d ↦{fullShare} m (aL d)) ∗ (bL d ↦{fullShare} m (bL d)) ∗ (muL d ↦{fullShare} (muF m d : Buf (Elt F) (muL d))) ∗ (sgL d ↦{fullShare} (sgF m d : Buf (Elt F) (sgL d)))
      ∗ (wL d ↦{fullShare} (words : Buf (Elt F) (wL d))) ∗ ((SparseCore.T d).loc main_v7 ↦{fullShare} m ((SparseCore.T d).loc main_v7))
      ∗ bigSep {main_v2, main_v3, main_v4, main_v5, main_v6} fun b : Ref sig .tc => (SparseCore.T d).loc b ↦{fullShare} m ((SparseCore.T d).loc b)) := by
  refine (Pipeline.unscopedBufs_held d (W1 m d)).symm.trans ((unscopedBufs_eq d _).trans ?_)
  rw [W1_mu, W1_sg, W1_w, W1_ne m d main_arg0 (by decide) (by decide) (by decide), W1_ne m d main_arg1 (by decide) (by decide) (by decide),
    W1_ne m d main_arg2 (by decide) (by decide) (by decide), W1_ne m d main_arg3 (by decide) (by decide) (by decide),
    W1_ne m d main_v7 (by decide) (by decide) (by decide)]
  congr 8

end Cert.KernelIdeal.G

end
-- ==== Proof.Main.lean ====
module

public import proofs.«01_k».proof.Proof.Vals

/-!
The program of @main.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

variable (m : (ℓ : Loc nD τ sig) → Buf (Elt F) ℓ) (ρ : Dev nD → PrngReg) (hp : PreOK m)

/-- No table is prefetched. -/
abbrev adm : (p : Fin 2) → (pcfgs (F := F) p).Adm := fun p => (cfgs p).toPCfg_adm

theorem after2_val [∀ e, Nonempty (Elt F e)] (d : Dev nD) : (after2 (C2 m) d) = fun b => W3 m d (rf b) := by
  funext b
  unfold W3
  by_cases h : b = main_v4
  · subst h
    rw [after2_out, Function.update_self]
  · rw [after2_ne _ _ _ h, Function.update_of_ne (rf_ne h)]

/-- What a TensorCore still owes once every call has run: nothing. -/
theorem tcSt_out (d : Dev nD) : (K (F := F)).tcSt (EH (F := F)) d 2 ⊢ (iprop((∃ W, owes (SparseCore.T d) (0 : CellTallies nD τ sig (HIx 2)) W)
    ∗ ((∃ W, owes (SparseCore.T d) (0 : CellTallies nD τ sig (HIx 2)) W) -∗ (K (F := F)).tcSt (EH (F := F)) d 2)) : sProp (MM F)) := by
  unfold SparseCore.Cfg.tcSt
  rw [(K (F := F)).Otc_end d (le_refl 2)]
  iintro ⟨⟨%W, %hW, HO⟩, HR⟩
  isplitl [HO]; · iexists W; iexact HO
  iintro ⟨%W', HO⟩
  isplitl [HO]
  · iexists W'
    isplitr
    · ipureintro
      intro p _
      have hl : ∀ g : GSem nD τ sig, ∀ i : HIx 2, (K (F := F)).lev g i ≤ 16 := by
        intro g i
        match i with
        | none => exact Nat.zero_le _
        | some q =>
          have h1 := q.isLt
          show 8 * q.val + (K (F := F)).place g + 1 ≤ 16
          have h2 := (K (F := F)).place_le_six g
          omega
      exact hl _ _
    · iexact HO
  · iexact HR

theorem after3_val (d : Dev nD) : (after3 (C4 m) d) = fun b => Function.update (W4 m d) (rf main_v7) (res3 (C4 m) d) (rf b) := by
  funext b
  by_cases h : b = main_v7
  · subst h
    rw [after3_out, Function.update_self]
  · rw [after3_ne _ _ _ h, Function.update_of_ne (rf_ne h)]

/-- Everything the host touches, held. -/
abbrev H (d : Dev nD) (W : Valuation τ sig (Elt F)) : sProp (MM F) := StableHlo.held (SparseCore.T d) (Pipeline.ucRefs τ sig) W

set_option backward.isDefEq.respectTransparency.types false in
/-- One operation of the host. -/
theorem host_wp (d : Dev nD) (op : HloOp τ sig (Elt F)) (hs : op.bufs ⊆ StableHlo.tcRefs τ sig) (hf : op.fresh = ∅) (hh : (SparseCore.T d : Thread nD τ).2.kind.runsHlo = true)
    {W : Valuation τ sig (Elt F)} {Φ : PUnit.{1} → sProp (MM F)} :
    iprop((boundary (SparseCore.T d) ∗ H d W) ∗ ((boundary (SparseCore.T d) ∗ H d (op.result W)) -∗ Φ ⟨⟩))
      ⊢ wp frame (wpE ((K (F := F)).defs (D (F := F))) 𝒱 (SparseCore.T d) none) Set.univ (hlo hh op (fun _ => .ret ⟨⟩)) Φ := by
  iintro ⟨H, Hk⟩
  iapply (StableHlo.wp_hlo_within (defs := (K (F := F)).defs (D (F := F))) 𝒱 (SparseCore.T d) none Set.univ (Pipeline.sub_ucRefs op hs) hf) $$ H
  iintro H
  rw [wp_ret]
  imodintro
  iapply Hk
  iexact H

open Cert.KernelIdeal.Gen

/-- What the TensorCore owes between its regions: nothing. -/
abbrev Free (d : Dev nD) : sProp (MM F) := iprop(∃ W, owes (SparseCore.T d) (0 : CellTallies nD τ sig (HIx 2)) W)

set_option backward.isDefEq.respectTransparency.types false in
/-- A region, as @main calls it. -/
theorem region_wp [∀ e, Nonempty (Elt F e)] (d : Dev nD) (p : Fin 2)
    (pd : (p : Fin 2) → (c : Dev nD) → Pipeline.Dat τ (Elt F) (HIx 2) ℕ UU ℕ (Pipeline.pin (pcfgs (F := F)) adm p) c)
    (R : Pipeline.RegionSeg (pcfgs (F := F)) adm pd (none : HIx 2) defs₀ 𝒱₀ (K (F := F)).L (K (F := F)).lev p) (W W' : Valuation τ sig (Elt F))
    (hpre : R.pre d = iprop(H d W ∗ Free d)) (hpost : R.post d = iprop(H d W' ∗ Free d)) {Φ : PUnit.{1} → sProp (MM F)} :
    iprop(boundary (SparseCore.T d) ∗ H d W ∗ Free d
        ∗ levAts (K (F := F)).L (K (F := F)).lev ∗ Pipeline.cellsGhost cfgs (EP (F := F)) p d ∗ Pipeline.toksInit cfgs (EP (F := F)) p d
        ∗ ((boundary (SparseCore.T d) ∗ H d W' ∗ Free d) -∗ Φ ⟨⟩))
      ⊢ wp frame (wpE ((K (F := F)).defs (D (F := F))) 𝒱 (SparseCore.T d) none) Set.univ (Prog.lift (.customCall (SparseCore.inner (Pipeline.entry p)) ())) Φ := by
  have hr := Pipeline.RegionSeg.wp (pcfgs (F := F)) adm pd (none : HIx 2) cellOf_inj (EP (F := F)) defs₀ 𝒱₀ (K (F := F)).L (K (F := F)).lev
    R d none (fun _ h => nomatch h) (fun _ => (.ret ⟨⟩ : Prog _ PUnit.{1})) Φ
  have hl := (K (F := F)).wp_liftProg (D (F := F)) 𝒱 (SparseCore.T d) Set.univ none (.op (.customCall (Pipeline.entry p) ()) (fun _ => (.ret ⟨⟩ : Prog _ PUnit.{1}))) Φ
  rw [hpre, hpost] at hr
  have h0 : iprop(boundary (SparseCore.T d) ∗ H d W ∗ Free d
        ∗ levAts (K (F := F)).L (K (F := F)).lev ∗ Pipeline.cellsGhost cfgs (EP (F := F)) p d ∗ Pipeline.toksInit cfgs (EP (F := F)) p d
        ∗ ((boundary (SparseCore.T d) ∗ H d W' ∗ Free d) -∗ Φ ⟨⟩))
      ⊢ iprop(((boundary (SparseCore.T d) ∗ (H d W' ∗ Free d)) -∗
          wp frame (wpE (D (F := F)) 𝒱 (SparseCore.T d) none) Set.univ (.ret ⟨⟩ : Prog (TpuEff nD τ sig (Elt F) (ΛP (F := F)) .tc) PUnit.{1}) Φ)
        ∗ boundary (SparseCore.T d) ∗ (H d W ∗ Free d) ∗ levAts (K (F := F)).L (K (F := F)).lev
        ∗ Pipeline.cellsGhost cfgs (EP (F := F)) p d ∗ Pipeline.toksInit cfgs (EP (F := F)) p d) := by
    iintro ⟨Hb, HH, HO, HL, Hc, Ht, Hk⟩
    isplitl [Hk]
    · iintro H
      rw [wp_ret]
      imodintro
      iapply Hk
      iexact H
    isplitl [Hb]; · iexact Hb
    isplitl [HH HO]
    · isplitl [HH] <;> iassumption
    isplitl [HL]; · iexact HL
    isplitl [Hc]; · iexact Hc
    iexact Ht
  exact (h0.trans hr).trans hl

variable [∀ e, Nonempty (Elt F e)]

/-- The contents at the end. -/
def W5 (d : Dev nD) : Valuation τ sig (Elt F) := Function.update (W4 m d) (rf main_v7) (res3 (C4 m) d)

theorem pre2 (d : Dev nD) : (reg2 (C2 m) adm).pre d = iprop(H d (W2 m d) ∗ Free d) :=
  congrArg (fun A : sProp (MM F) => iprop(A ∗ Free d)) (Pipeline.unscopedBufs_held d (W2 m d))
theorem post2 (d : Dev nD) : (reg2 (C2 m) adm).post d = iprop(H d (W3 m d) ∗ Free d) :=
  congrArg (fun A : sProp (MM F) => iprop(A ∗ Free d)) ((congrArg (unscopedBufs d) (after2_val m d)).trans (Pipeline.unscopedBufs_held d (W3 m d)))
theorem pre3 (d : Dev nD) : (reg3 (C4 m) adm).pre d = iprop(H d (W4 m d) ∗ Free d) :=
  congrArg (fun A : sProp (MM F) => iprop(A ∗ Free d)) (Pipeline.unscopedBufs_held d (W4 m d))
theorem post3 (d : Dev nD) : (reg3 (C4 m) adm).post d = iprop(H d (W5 m d) ∗ Free d) :=
  congrArg (fun A : sProp (MM F) => iprop(A ∗ Free d)) ((congrArg (unscopedBufs d) (after3_val m d)).trans (Pipeline.unscopedBufs_held d (W5 m d)))

/-- What @main ends with: every buffer at its contents at the end. -/
abbrev FIN (d : Dev nD) : sProp (MM F) := H d (W5 m d)

theorem two (Φ : Fin 2 → sProp (MM F)) : bigSep Finset.univ Φ = iprop(Φ 0 ∗ Φ 1) :=
  bigSep_univ_eq_bigSepL [(0 : Fin 2), 1] (by decide) (by decide) Φ

set_option backward.isDefEq.respectTransparency.types false in
/-- @main on a TensorCore. -/
theorem hmain (κ : GSem nD τ sig → ℕ) (d : Dev nD) :
    iprop((K (F := F)).ctx EH (P m hp) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  have hL := (K (F := F)).ctx_levAts (EH := EH) (P := P m hp) (lv := (K (F := F)).lev) κ
  unfold SparseCore.Cfg.tcRes SparseCore.Cfg.tcEnd G
  rw [unscopedBufs_eq, two, two]
  simp only [main, wp_bind, wp_pure]
  iintro ⟨#Hctx, Hst, ⟨Hb, ⟨Hq, Hk, Ha, Hb', Hm, Hs, Hw, H7, Hr⟩, Hts, -⟩, ⟨⟨Hc0, Hc1⟩, ⟨Ht0, Ht1⟩⟩⟩
  ihave #HL := hL $$ Hctx
  iapply ((K (F := F)).wp_run (D (F := F)) 𝒱 (EH := EH) (P := P m hp) κ d 0)
  isplitr; · iexact Hctx
  isplitl [Hst]; · iexact Hst
  isplitl [Hq Hk Ha Hb' Hm Hs]
  · rw [st0]
    isplitl [Hq]; · iexact Hq
    isplitl [Hk]; · iexact Hk
    isplitl [Ha Hb']
    · isplitl [Ha]; · iexact Ha
      iexact Hb'
    isplitl [Hm]; · iexact Hm
    iexact Hs
  iintro ⟨Hst, Hdn⟩
  ihave Hdn' := (Entails.of_eq (dn0 m hp d)) $$ Hdn
  icases Hdn' with ⟨Hq, Hk, ⟨Ha, Hb'⟩, Hm, Hs⟩
  iapply ((K (F := F)).wp_run (D (F := F)) 𝒱 (EH := EH) (P := P m hp) κ d 1)
  isplitr; · iexact Hctx
  isplitl [Hst]; · iexact Hst
  isplitl [Hw]
  · rw [st1]; iexact Hw
  iintro ⟨Hst, Hdn⟩
  ihave Hw := (Entails.of_eq (dn1 m hp d)) $$ Hdn
  ihave HH := (Entails.of_eq (held1 m d).symm) $$ [Hq Hk Ha Hb' Hm Hs Hw H7 Hr]
  · isplitl [Hq]; · iexact Hq
    isplitl [Hk]; · iexact Hk
    isplitl [Ha]; · iexact Ha
    isplitl [Hb']; · iexact Hb'
    isplitl [Hm]; · iexact Hm
    isplitl [Hs]; · iexact Hs
    isplitl [Hw]; · iexact Hw
    isplitl [H7]; · iexact H7
    iexact Hr
  ihave Hst := (show (K (F := F)).tcSt (EH (F := F)) d ((1 : Fin 2).val + 1) ⊢ _ from tcSt_out d) $$ Hst
  icases Hst with ⟨HO, Hst⟩
  iapply (host_wp d op2 (StableHlo.reshape_bufs_sub ..) rfl rfl)
  isplitl [Hb HH]
  · isplitl [Hb] <;> iassumption
  iintro HH
  iapply (host_wp d op3 (StableHlo.reshape_bufs_sub ..) rfl rfl)
  isplitl [HH]; · iexact HH
  iintro ⟨Hb, HH⟩
  iapply (region_wp d 0 _ (reg2 (C2 m) adm) (W2 m d) (W3 m d) (pre2 m d) (post2 m d))
  isplitl [Hb]; · iexact Hb
  isplitl [HH]; · iexact HH
  isplitl [HO]; · iexact HO
  isplitr; · iexact HL
  isplitl [Hc0]; · iexact Hc0
  isplitl [Ht0]; · iexact Ht0
  iintro ⟨Hb, HH, HO⟩
  iapply (host_wp d op5 (StableHlo.reshape_bufs_sub ..) rfl rfl)
  isplitl [Hb HH]
  · isplitl [Hb] <;> iassumption
  iintro HH
  iapply (host_wp d op6 (StableHlo.reshape_bufs_sub ..) rfl rfl)
  isplitl [HH]; · iexact HH
  iintro HH
  iapply (host_wp d op7 (StableHlo.unary_bufs_sub ..) rfl rfl)
  isplitl [HH]; · iexact HH
  iintro ⟨Hb, HH⟩
  iapply (region_wp d 1 _ (reg3 (C4 m) adm) (W4 m d) (W5 m d) (pre3 m d) (post3 m d))
  isplitl [Hb]; · iexact Hb
  isplitl [HH]; · iexact HH
  isplitl [HO]; · iexact HO
  isplitr; · iexact HL
  isplitl [Hc1]; · iexact Hc1
  isplitl [Ht1]; · iexact Ht1
  iintro ⟨Hb, HH, HO⟩
  imodintro
  isplitl [Hst HO]
  · iapply Hst; iexact HO
  isplitl [HH]; · iexact HH
  isplitl [Hb] <;> iassumption

end Cert.KernelIdeal.G

end
-- ==== Proof.Launch.lean ====
module

public import proofs.«01_k».proof.Proof.Main

/-!
The run: what the memory holds at the end.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

variable (m : (ℓ : Loc nD τ sig) → Buf (Elt F) ℓ) (ρ : Dev nD → PrngReg) (hp : PreOK m)

open Idealize.ShloMosaic.StableHlo (reshape_result_ne unary_result_ne reshape_result unary_result)

/-- The row of an array. -/
def asRow (f : S4096.Idx → Elt F .f32) : S1x4096.Idx → Elt F .f32 := shapeCast S1x4096 f shapeCasts_S4096_S1x4096

theorem W2_ne (d : Dev nD) (b : Ref sig .tc) (h2 : b ≠ main_v2) (h3 : b ≠ main_v3) : W2 m d (rf b) = W1 m d (rf b) := by
  unfold W2
  exact (reshape_result_ne _ _ _ _ _ _ _ h3).trans (reshape_result_ne _ _ _ _ _ _ _ h2)
theorem W2_2 (d : Dev nD) : W2 m d (rf main_v2) = asRow (muF m d) := by
  unfold W2
  refine (reshape_result_ne _ _ _ _ _ _ _ (by decide)).trans ((reshape_result _ _ _ _ _ _ _).trans ?_)
  rw [W1_mu]
  rfl
theorem W2_3 (d : Dev nD) : W2 m d (rf main_v3) = asRow (sgF m d) := by
  unfold W2
  refine (reshape_result _ _ _ _ _ _ _).trans ?_
  rw [show (op2 (F := F)).result (W1 m d) (rf main_v0_1) = W1 m d (rf main_v0_1) from reshape_result_ne _ _ _ _ _ _ _ (by decide), W1_sg]
  rfl
theorem W3_ne (d : Dev nD) (b : Ref sig .tc) (h : b ≠ main_v4) : W3 m d (rf b) = W2 m d (rf b) := by
  unfold W3
  exact Function.update_of_ne (rf_ne h) _ _
theorem W3_4 (d : Dev nD) : W3 m d (rf main_v4) = res2 (C2 m) d := by
  unfold W3
  exact Function.update_self _ _ _
theorem W4_ne (d : Dev nD) (b : Ref sig .tc) (h5 : b ≠ main_v5) (h6 : b ≠ main_v6) (h7 : b ≠ main_v7) : W4 m d (rf b) = W3 m d (rf b) := by
  unfold W4
  exact (unary_result_ne _ _ _ _ _ _ h7).trans ((reshape_result_ne _ _ _ _ _ _ _ h6).trans (reshape_result_ne _ _ _ _ _ _ _ h5))
theorem W4_5 (d : Dev nD) : W4 m d (rf main_v5) = asRow (muF m d) := by
  unfold W4
  refine (unary_result_ne _ _ _ _ _ _ (by decide)).trans ((reshape_result_ne _ _ _ _ _ _ _ (by decide)).trans ((reshape_result _ _ _ _ _ _ _).trans ?_))
  rw [W3_ne m d main_v0_0 (by decide), W2_ne m d main_v0_0 (by decide) (by decide), W1_mu]
  rfl
theorem W4_6 (d : Dev nD) : W4 m d (rf main_v6) = asRow (sgF m d) := by
  unfold W4
  refine (unary_result_ne _ _ _ _ _ _ (by decide)).trans ((reshape_result _ _ _ _ _ _ _).trans ?_)
  rw [show (op5 (F := F)).result (W3 m d) (rf main_v0_1) = W3 m d (rf main_v0_1) from reshape_result_ne _ _ _ _ _ _ _ (by decide),
    W3_ne m d main_v0_1 (by decide), W2_ne m d main_v0_1 (by decide) (by decide), W1_sg]
  rfl
theorem copied (V : Valuation τ sig (Elt F)) : (op7 (F := F)).result V (rf main_v7) = V (rf main_v4) :=
  unary_result main_v4 main_v7 id _ _ V
theorem W4_7 (d : Dev nD) : W4 m d (rf main_v7) = res2 (C2 m) d := by
  unfold W4
  have h6 : (op6 (F := F)).result ((op5 (F := F)).result (W3 m d)) (rf main_v4) = (op5 (F := F)).result (W3 m d) (rf main_v4) :=
    reshape_result_ne _ _ _ _ _ _ _ (by decide)
  have h5 : (op5 (F := F)).result (W3 m d) (rf main_v4) = W3 m d (rf main_v4) := reshape_result_ne _ _ _ _ _ _ _ (by decide)
  exact (copied _).trans (h6.trans (h5.trans (W3_4 m d)))
theorem W4_1 (d : Dev nD) : W4 m d (rf main_v1) = words := by
  rw [W4_ne m d main_v1 (by decide) (by decide) (by decide), W3_ne m d main_v1 (by decide), W2_ne m d main_v1 (by decide) (by decide), W1_w]

variable [∀ e, Nonempty (Elt F e)]

/-- The result: every sample from its word and from the gathered mean and scale of its column. -/
theorem W5_7 (d : Dev nD) : W5 m d (rf main_v7) = full (asRow (muF m d)) (asRow (sgF m d)) := by
  unfold W5
  rw [Function.update_self, res3_eq (C4 m) d (W4_1 m d) fun X hX => ?_]
  · exact congrArg₂ full (W4_5 m d) (W4_6 m d)
  · refine (congrFun (W4_7 m d) X).trans ?_
    rw [res2_eq]
    refine (if_pos hX).trans ?_
    exact congrFun ((congrArg₂ full (W2_2 m d) (W2_3 m d)).trans (congrArg₂ full (W4_5 m d) (W4_6 m d)).symm) X

theorem W5_ne (d : Dev nD) (b : Ref sig .tc)
    (h : b ∉ ([main_v0_0, main_v0_1, main_v1, main_v2, main_v3, main_v4, main_v5, main_v6, main_v7] : List (Ref sig .tc))) : W5 m d (rf b) = m (d, rf b) := by
  simp only [List.mem_cons, not_or] at h
  obtain ⟨a0, a1, a2, a3, a4, a5, a6, a7, a8, -⟩ := h
  unfold W5
  rw [Function.update_of_ne (rf_ne a8), W4_ne m d b a6 a7 a8, W3_ne m d b a5, W2_ne m d b a3 a4, W1_ne m d b a0 a1 a2]

/-- The result's location. -/
abbrev oL (d : Dev nD) : Loc nD τ sig := (SparseCore.T d).loc main_v7

def fq (d : Dev nD) (s' : Phys nD τ sig (Elt F)) : Prop :=
  s'.mem.mem (qL d) = m (qL d) ∧ s'.mem.mem (kL d) = m (kL d) ∧ s'.mem.mem (aL d) = m (aL d) ∧ s'.mem.mem (bL d) = m (bL d)
    ∧ s'.mem.mem (oL d) = full (asRow (muF m d)) (asRow (sgF m d))

omit [∀ e, Nonempty (Elt F e)] in
/-- A whole buffer held says what the memory holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp (MM F)) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  iexact HSI

theorem held5 (d : Dev nD) : (H d (W5 m d) : sProp (MM F))
    ⊢ iprop((qL d ↦{fullShare} m (qL d)) ∗ (kL d ↦{fullShare} m (kL d)) ∗ (aL d ↦{fullShare} m (aL d)) ∗ (bL d ↦{fullShare} m (bL d))
      ∗ (oL d ↦{fullShare} (full (asRow (muF m d)) (asRow (sgF m d)) : Buf (Elt F) (oL d)))) := by
  refine (Entails.of_eq ((Pipeline.unscopedBufs_held d (W5 m d)).symm.trans (unscopedBufs_eq d _))).trans ?_
  rw [W5_7, W5_ne m d main_arg0 (by decide), W5_ne m d main_arg1 (by decide), W5_ne m d main_arg2 (by decide), W5_ne m d main_arg3 (by decide)]
  iintro ⟨Hq, Hk, Ha, Hb, -, -, -, Ho, -⟩
  isplitl [Hq]; · iexact Hq
  isplitl [Hk]; · iexact Hk
  isplitl [Ha]; · iexact Ha
  isplitl [Hb]; · iexact Hb
  iexact Ho

theorem hfin (d : Dev nD) (s' : Phys nD τ sig (Elt F)) : iprop(FIN m d ∗ SI s') ⊢ (⌜fq m d s'⌝ : sProp (MM F)) := by
  iintro ⟨HH, HSI⟩
  ihave HH := (held5 m d) $$ HH
  icases HH with ⟨Hq, Hk, Ha, Hb, Ho⟩
  ihave H := (agree s' (qL d) _) $$ [HSI Hq]
  · isplitl [Hq] <;> iassumption
  icases H with ⟨%h1, HSI⟩
  ihave H := (agree s' (kL d) _) $$ [HSI Hk]
  · isplitl [Hk] <;> iassumption
  icases H with ⟨%h2, HSI⟩
  ihave H := (agree s' (aL d) _) $$ [HSI Ha]
  · isplitl [Ha] <;> iassumption
  icases H with ⟨%h3, HSI⟩
  ihave H := (agree s' (bL d) _) $$ [HSI Hb]
  · isplitl [Hb] <;> iassumption
  icases H with ⟨%h4, HSI⟩
  ihave H := (agree s' (oL d) _) $$ [HSI Ho]
  · isplitl [Ho] <;> iassumption
  icases H with ⟨%h5, -⟩
  ipureintro; exact ⟨h1, h2, h3, h4, h5⟩

def QC : PUnit × MemSt nD τ sig (Elt F) → Prop := fun r => (∀ d : Dev nD,
  r.2.mem (qL d) = m (qL d) ∧ r.2.mem (kL d) = m (kL d) ∧ r.2.mem (aL d) = m (aL d) ∧ r.2.mem (bL d) = m (bL d)
    ∧ r.2.mem (oL d) = full (asRow (muF m d)) (asRow (sgF m d))) ∧ r.2.sem = fun _ => 0

include hp in
/-- The program's run. -/
theorem run_main :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m hp) (A := ∅) facts v₀
    (fun q hq => match q with | 0 => nomatch hq | 1 => nomatch hq)
    (fun q _ => match q with | 0 => obl_gather m hp | 1 => obl_bits m hp)
    (fun q _ => match q with | 0 => SparseCore.Cfg.VecSplit.of_plain (split_gather m hp) | 1 => SparseCore.Cfg.VecSplit.of_plain (split_bits m hp))
    m ρ main (fun d => G d) (FIN m) (u₀ (F := F)) (sep_elim_left.trans (hu₀ m hp)) (hmain m ρ hp) (fq m) (hfin m) (QC m) (fun _ h hz => ⟨h, hz⟩)

end Cert.KernelIdeal.G

end
-- ==== Proof.Range.lean ====
module

public import proofs.«01_k».proof.Defs
public import proofs.«01_k».proof.Proof.Gen.Pre_indices_in_range

/-!
The precondition read: the indices lie in the tables.
-/

@[expose] public section

noncomputable section

namespace Cert.Claims

open Idealize.ShloMosaic Idealize.SL.Sem

/-- A word that the precondition's comparisons pass is, read unsigned, below the bound. -/
theorem below (v : BitVec 32) (n : ℕ) (hn : n ≤ 8192)
    (h0 : IntOp.cmpi .sge v 0#32 = 1#1) (h1 : IntOp.cmpi .slt v (BitVec.ofNat 32 n) = 1#1) : v.toNat < n := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow] at h0 h1
  rw [Nat.mod_eq_of_lt (by omega : n < 4294967296)] at h1
  omega

theorem and_one {a b : BitVec 1} (h : IntOp.andi a b = 1#1) : a = 1#1 ∧ b = 1#1 := by
  revert h; revert a b; decide

/-- The precondition, as jax computes it, says that the indices lie in the tables. -/
theorem ok_of_fn {F : FTy → Type} [FloatOps F] (q k : IVec Cert.Pre_indices_in_range.S4096 32)
    (a b : FVec F Cert.Pre_indices_in_range.S4096x8192 .f32)
    (h : Cert.Pre_indices_in_range.fn (F := F) q k a b = fun _ => 1#1) (x : Cert.Pre_indices_in_range.S4096.Idx) :
    (q x).toNat < 4096 ∧ (k x).toNat < 8192 := by
  have e : IntOp.andi (IntOp.andi (IntOp.andi (IntOp.cmpi .sge (q x) 0#32) (IntOp.cmpi .slt (q x) (BitVec.ofNat 32 4096)))
      (IntOp.cmpi .sge (k x) 0#32)) (IntOp.cmpi .slt (k x) (BitVec.ofNat 32 8192)) = 1#1 := congrFun h x
  have e1 := and_one e
  have e2 := and_one e1.1
  have e3 := and_one e2.1
  exact ⟨below (q x) 4096 (by omega) e3.1 e3.2, below (k x) 8192 (by omega) e2.2 e1.2⟩

end Cert.Claims

end
-- ==== Proof.Same.lean ====
module

public import proofs.«01_k».proof.Proof.Gen.Kernel
public import proofs.«01_k».proof.Proof.Gen.KernelIdeal

/-!
The program as printed for the bits and as printed for the extended reals are one text: the bodies of its four calls, equal.
-/

@[expose] public section

noncomputable section

namespace Cert.Claims

open Idealize.ShloMosaic Idealize.SL.Sem

variable {F : FTy → Type} [FloatOps F]

theorem k3_eq : @Cert.Kernel.cc3__apply_bits_body F _ _ = @Cert.KernelIdeal.cc3__apply_bits_body F _ _ := rfl

theorem k2_eq : @Cert.Kernel.cc2__sample_body F _ _ = @Cert.KernelIdeal.cc2__sample_body F _ _ := rfl

set_option maxHeartbeats 0 in
set_option maxRecDepth 1000000 in
theorem bits_eq (i : Cert.KernelIdeal.grid1.Coords)
    (a2 : Memref Cert.KernelIdeal.sig .scVector .hbm Cert.KernelIdeal.S1280x4096 .i32) (h2 : a2.IsWhole)
    (a3 : Memref Cert.KernelIdeal.sig .scVector .vmem Cert.KernelIdeal.S2x8x4096 .i32) (h3 : a3.IsWhole)
    (a4 : DmaSems Cert.KernelIdeal.sig Cert.KernelIdeal.S_) :
    Cert.Kernel.cc1_bits_k (F := F) i a2 h2 a3 h3 a4 = Cert.KernelIdeal.cc1_bits_k (F := F) i a2 h2 a3 h3 a4 := rfl

set_option maxHeartbeats 0 in
set_option maxRecDepth 1000000 in
theorem gather_eq (i : Cert.KernelIdeal.grid0.Coords) :
    (Cert.Kernel.cc0_gather_k (F := F) i)
      = Cert.KernelIdeal.cc0_gather_k (F := F) i := rfl

end Cert.Claims

end
-- ==== Proof.Same2.lean ====
module

public import proofs.«01_k».proof.Proof.Same

/-!
The program's threads as printed twice, equal, and its bodies, once those of its calls are.
-/

@[expose] public section

noncomputable section

namespace Cert.Claims

open Idealize.ShloMosaic Idealize.SL.Sem

variable {F : FTy → Type} [FloatOps F]

theorem threads_eq : Cert.Kernel.threads (F := F) = Cert.KernelIdeal.threads (F := F) := rfl

set_option maxHeartbeats 0 in
set_option maxRecDepth 1000000 in
theorem defs_of (h : Cert.Kernel.defs₀ (F := F) = Cert.KernelIdeal.defs₀ (F := F)) : Cert.Kernel.defs (F := F) = Cert.KernelIdeal.defs (F := F) := by
  unfold Cert.Kernel.defs Cert.KernelIdeal.defs
  exact congrArg (fun D => Cert.KernelIdeal.sc.defs (Pipeline.defs Cert.KernelIdeal.pcfgs D)) h

end Cert.Claims

end
-- ==== Proof.Same3.lean ====
module

public import proofs.«01_k».proof.Proof.Same2

/-!
The two body tables, equal row by row.
-/

@[expose] public section

noncomputable section

namespace Cert.Claims

open Idealize.ShloMosaic Idealize.SL.Sem

variable {F : FTy → Type} [FloatOps F]

theorem row_gather (c : Fin Cert.KernelIdeal.τ.nSC) (s : Fin Cert.KernelIdeal.τ.nSub) :
    Cert.Kernel.defs₀ (F := F) (.scVector c s) 0 ⟨⟩ = Cert.KernelIdeal.defs₀ (F := F) (.scVector c s) 0 ⟨⟩ := by
  unfold Cert.Kernel.defs₀ Cert.KernelIdeal.defs₀
  simp only [gather_eq]
  rfl

theorem row_bits (c : Fin Cert.KernelIdeal.τ.nSC) (s : Fin Cert.KernelIdeal.τ.nSub) :
    Cert.Kernel.defs₀ (F := F) (.scVector c s) 1 ⟨⟩ = Cert.KernelIdeal.defs₀ (F := F) (.scVector c s) 1 ⟨⟩ := by
  unfold Cert.Kernel.defs₀ Cert.KernelIdeal.defs₀
  simp only [bits_eq]
  rfl

theorem row_sample (a) :
    Cert.Kernel.defs₀ (F := F) .tc 2 a = Cert.KernelIdeal.defs₀ (F := F) .tc 2 a := by
  obtain ⟨t, s⟩ := a
  unfold Cert.Kernel.defs₀ Cert.KernelIdeal.defs₀
  exact congrFun (congrFun (congrFun (congrFun (congrFun (congrFun (congrFun k2_eq _) _) _) _) _) _) _

theorem row_apply (a) :
    Cert.Kernel.defs₀ (F := F) .tc 3 a = Cert.KernelIdeal.defs₀ (F := F) .tc 3 a := by
  obtain ⟨t, s⟩ := a
  unfold Cert.Kernel.defs₀ Cert.KernelIdeal.defs₀
  exact congrFun (congrFun (congrFun (congrFun (congrFun (congrFun (congrFun (congrFun (congrFun (congrFun (congrFun k3_eq _) _) _) _) _) _) _) _) _) _) _

/-- The body tables are one. -/
theorem defs0_eq : Cert.Kernel.defs₀ (F := F) = Cert.KernelIdeal.defs₀ (F := F) := by
  funext p l a
  match p, l, a with
  | .scVector c s, 0, _ => exact row_gather c s
  | .scVector c s, 1, _ => exact row_bits c s
  | .scVector c s, 2, _ => rfl
  | .scVector c s, 3, _ => rfl
  | .tc, 0, _ => rfl
  | .tc, 1, _ => rfl
  | .tc, 2, a => exact row_sample a
  | .tc, 3, a => exact row_apply a
  | .scScalar c, 0, _ => rfl
  | .scScalar c, 1, _ => rfl
  | .scScalar c, 2, _ => rfl
  | .scScalar c, 3, _ => rfl

/-- The whole tables are one. -/
theorem defs_eq : Cert.Kernel.defs (F := F) = Cert.KernelIdeal.defs (F := F) := defs_of defs0_eq

end Cert.Claims

end
-- ==== Proof.Frames.lean ====
module

public import proofs.«01_k».proof.Defs
public import proofs.«01_k».proof.Proof.Launch
public import proofs.«01_k».proof.Proof.Range
public import proofs.«01_k».proof.Proof.Same3
public import proofs.«01_k».proof.Proof.Gen.Kernel
public import proofs.«01_k».proof.Proof.Gen.KernelIdeal
public import proofs.«01_k».proof.Proof.Gen.Pre_indices_in_range

/-!
The frames of the kernel as printed and over the extended reals.
-/

@[expose] public section

noncomputable section

namespace Cert.Claims

open Idealize.ShloMosaic Idealize.SL.Sem
open Cert.KernelIdeal.G (PreOK run_main)

theorem frame_kernel : Cert.quiescent_Kernel := fun m ρ hpre => by
  rw [defs_eq, threads_eq]
  exact (θ_run Cert.KernelIdeal.defs _ _).mono
    (fun _ h => ⟨fun c => ⟨(h.1 c).1, (h.1 c).2.1, (h.1 c).2.2.1, (h.1 c).2.2.2.1⟩, h.2⟩)
    (run_main (F := Bits) m ρ fun d x => ok_of_fn _ _ _ _ (hpre d) x)

theorem frame_kernelIdeal : Cert.quiescent_KernelIdeal := fun m ρ hpre =>
  (θ_run Cert.KernelIdeal.defs _ _).mono
    (fun _ h => ⟨fun c => ⟨(h.1 c).1, (h.1 c).2.1, (h.1 c).2.2.1, (h.1 c).2.2.2.1⟩, h.2⟩)
    (run_main (F := Ideal) m ρ fun d x => ok_of_fn _ _ _ _ (hpre d) x)

end Cert.Claims

end
-- ==== Proof.FullVal.lean ====
module

public import proofs.«01_k».proof.Proof.Launch
public import Idealize.ShloMosaic.Lib.Pipeline.Value

/-!
The kernel's result at an index.
-/

@[expose] public section

noncomputable section

namespace Cert.KernelIdeal.G

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Transfers (pending pending_succ pending_zero not_mem_pending_succ Batch)

variable {F : FTy → Type} [FloatOps F]

variable [Facts]
open Facts₀ Facts

/-- A row of a vector holds its entries. -/
theorem asRow_apply (f : S4096.Idx → Elt F .f32) (c : Fin 4096) : asRow f (at1r c) = f (ValueIdx.ix1 c) :=
  ValueIdx.shapeCast_a_1a_apply f shapeCasts_S4096_S1x4096 0 c

/-- The whole kernel's result at an index. -/
theorem full_apply (mu sg : S4096.Idx → Elt F .f32) (X : S4096x4096.Idx) :
    full (asRow mu) (asRow sg) X
      = samp (mu (ValueIdx.ix1 (X 1))) (sg (ValueIdx.ix1 (X 1))) (tf (BitVec.ofNat 32 ((X 0).val * 4096 + (X 1).val))) := by
  have h1 := asRow_apply mu (X 1)
  have h2 := asRow_apply sg (X 1)
  show samp (asRow mu (at1r (X 1))) (asRow sg (at1r (X 1))) _ = _
  rw [h1, h2]

end Cert.KernelIdeal.G

end
-- ==== Proof.RefGather.lean ====
module

public import proofs.«01_k».proof.Proof.Gen.ReferenceIdeal
public import proofs.«01_k».proof.Proof.GatherVal
public import Idealize.ShloMosaic.Lib.Pipeline.Value
public import Idealize.ShloMosaic.Lib.StableHlo.Predicate

/-!
The reference's take: the gather of one entry per pair of indices reads the table at the two
indices, where they lie in the table.
-/

@[expose] public section

noncomputable section

namespace Cert.ReferenceIdeal.G

open Cert.ReferenceIdeal Idealize.ShloMosaic Idealize.SL.Sem
open Idealize.ShloMosaic.ValueIdx
open Cert.KernelIdeal.G (tIx)

variable [Facts₀]
open Facts₀

/-- The take with its start indices in one array: the entry at the pair of clamped indices. -/
theorem gather_pair {α : Type} (x : S4096x8192.Idx → α) (idx : IVec S4096x2 32) (j : S4096.Idx) :
    Host.gather gather_S4096x8192_S4096x2_S4096_n_01_n_n_01_1_11 x idx j
      = x (ix2 ⟨min (idx (ix2 (j 0) 0)).toInt.toNat 4095, by omega⟩ ⟨min (idx (ix2 (j 0) 1)).toInt.toNat 8191, by omega⟩) := by
  have hs : ∀ (c : Fin 2), gather_S4096x8192_S4096x2_S4096_n_01_n_n_01_1_11.siIdx j c = (ix2 (j 0) c : S4096x2.Idx) := by
    intro c
    funext b
    match b with
    | 0 => rfl
    | 1 => rfl
  unfold Host.gather
  congr 1
  funext a
  apply Fin.ext
  have hb : a ∉ gather_S4096x8192_S4096x2_S4096_n_01_n_n_01_1_11.operandBatchingDims := List.not_mem_nil
  have hk : a ∉ gather_S4096x8192_S4096x2_S4096_n_01_n_n_01_1_11.sKept := by
    rw [GatherDims.mem_sKept]
    match a with
    | 0 => exact fun h => h.1 (show (0 : Fin 2) ∈ ([0, 1] : List (Fin 2)) by decide)
    | 1 => exact fun h => h.1 (show (1 : Fin 2) ∈ ([0, 1] : List (Fin 2)) by decide)
  simp only [GatherDims.operandIdx, GatherDims.batchCoord_eq_zero _ _ _ hb, GatherDims.offCoord_eq_zero _ _ _ hk, Nat.add_zero]
  unfold GatherDims.start
  match a with
  | 0 =>
    refine (dif_pos (show (0 : Fin 2) ∈ ([0, 1] : List (Fin 2)) by decide)).trans ?_
    exact congrArg (fun i => min (idx i).toInt.toNat 4095) (hs 0)
  | 1 =>
    refine (dif_pos (show (1 : Fin 2) ∈ ([0, 1] : List (Fin 2)) by decide)).trans ?_
    exact congrArg (fun i => min (idx i).toInt.toNat 8191) (hs 1)

/-- The start index as the reference spells it, a negative index moved up by the extent: in the table, the index itself. -/
theorem wrap_eq (f : IVec S4096 32) (n : BitVec 32) (h : ∀ y, (f y).toNat < 8192) :
    (select (cmpi .slt f (broadcastInDim S4096 ![] bcast_S_S4096 (constantI S_ 32 0#32)))
      (addi f (broadcastInDim S4096 ![] bcast_S_S4096 (constantI S_ 32 n))) f : IVec S4096 32) = f := by
  funext y
  have hy := h y
  show (if BitVec.ofBool ((f y).slt 0#32) = 1#1 then _ else f y) = f y
  rw [if_neg]
  have hn : (f y).slt 0#32 = false := by
    rw [BitVec.slt_eq_decide]
    simp only [decide_eq_false_iff_not, BitVec.toInt_eq_toNat_cond, BitVec.toNat_ofNat, Nat.reducePow, Nat.reduceMod]
    omega
  rw [hn]; decide

/-- A column read at a row. -/
theorem col_eq {α : Type} (f : S4096.Idx → α) (p : Fin 4096) :
    broadcastInDim S4096x1 ![0] bcast_S4096_S4096x1_0 f (ix2 p 0) = f (ix1 p) := by
  unfold broadcastInDim
  congr 1
  funext a
  match a with
  | 0 => rfl

theorem toNat_of (v : BitVec 32) (h : v.toNat < 8192) : v.toInt.toNat = v.toNat := by
  rw [BitVec.toInt_eq_toNat_cond]; split <;> omega

/-- The reference's take at indices that lie in the table. -/
theorem take_eq {α : Type} (x : S4096x8192.Idx → α) (q k : IVec S4096 32)
    (ok : ∀ y, (q y).toNat < 4096 ∧ (k y).toNat < 8192) :
    Host.gather gather_S4096x8192_S4096x2_S4096_n_01_n_n_01_1_11 x
      (concatenate S4096x2 1
        [⟨S4096x1, broadcastInDim S4096x1 ![0] bcast_S4096_S4096x1_0
            (select (cmpi .slt q (broadcastInDim S4096 ![] bcast_S_S4096 (constantI S_ 32 0#32)))
              (addi q (broadcastInDim S4096 ![] bcast_S_S4096 (constantI S_ 32 4096#32))) q)⟩,
          ⟨S4096x1, broadcastInDim S4096x1 ![0] bcast_S4096_S4096x1_0
            (select (cmpi .slt k (broadcastInDim S4096 ![] bcast_S_S4096 (constantI S_ 32 0#32)))
              (addi k (broadcastInDim S4096 ![] bcast_S_S4096 (constantI S_ 32 8192#32))) k)⟩]
        concatenates_S4096x1_S4096x1_S4096x2_d1)
      = fun y => x (tIx (q y).toNat (k y).toNat) := by
  rw [wrap_eq q 4096#32 fun y => by have := (ok y).1; omega, wrap_eq k 8192#32 fun y => (ok y).2]
  funext y
  rw [gather_pair]
  have hy : (ix1 (y 0) : S4096.Idx) = y := by funext a; match a with | 0 => rfl
  have h0 := concatenate_pair_apply_left (t := S4096x2) 1 (broadcastInDim S4096x1 ![0] bcast_S4096_S4096x1_0 q)
    (broadcastInDim S4096x1 ![0] bcast_S4096_S4096x1_0 k) concatenates_S4096x1_S4096x1_S4096x2_d1 (ix2 (y 0) 0) rfl (ix2 (y 0) 0)
    (fun b => by match b with | 0 => rfl | 1 => rfl)
  have h1 := concatenate_pair_apply_right (t := S4096x2) 1 (broadcastInDim S4096x1 ![0] bcast_S4096_S4096x1_0 q)
    (broadcastInDim S4096x1 ![0] bcast_S4096_S4096x1_0 k) concatenates_S4096x1_S4096x1_S4096x2_d1 (ix2 (y 0) 1) rfl rfl (ix2 (y 0) 0)
    (fun b hb => by match b with | 0 => rfl | 1 => exact absurd rfl hb) rfl
  have e0 := h0.trans ((col_eq q (y 0)).trans (congrArg q hy))
  have e1 := h1.trans ((col_eq k (y 0)).trans (congrArg k hy))
  have l0 := (ok y).1
  have l1 := (ok y).2
  unfold tIx
  congr 1
  congr 1 <;> apply Fin.ext
  · refine (congrArg (fun v : BitVec 32 => min v.toInt.toNat 4095) e0).trans ?_
    show min (q y).toInt.toNat 4095 = (q y).toNat % 4096
    rw [toNat_of _ (by omega), Nat.mod_eq_of_lt l0]; omega
  · refine (congrArg (fun v : BitVec 32 => min v.toInt.toNat 8191) e1).trans ?_
    show min (k y).toInt.toNat 8191 = (k y).toNat % 8192
    rw [toNat_of _ l1, Nat.mod_eq_of_lt l1]; omega

end Cert.ReferenceIdeal.G

end
-- ==== Proof.RefRounds.lean ====
module

public import proofs.«01_k».proof.Proof.Threefry
public import proofs.«01_k».proof.Proof.Gen.ReferenceIdeal
public import Idealize.ShloMosaic.Lib.ValueLayout
public import Idealize.ShloMosaic.Lib.ValueIdxCore

/-!
The hash's rounds: as functions of a pair of words, and as the reference writes them over the square
of counters.
-/

@[expose] public section

noncomputable section

namespace Cert.ReferenceIdeal.G

open Cert.ReferenceIdeal Idealize.ShloMosaic Idealize.SL.Sem
open Idealize.ShloMosaic.ValueIdx Idealize.ShloMosaic.TcCoe Idealize.ShloMosaic.StableHlo

/-- The rotation of a word, by a left shift and the right shift that completes it. -/
def rot (r r' x : BitVec 32) : BitVec 32 := IntOp.ori (IntOp.shli .vector x r) (IntOp.shrui .vector x r')

/-- One round: the pair's second word mixed, and its first word with the new second one added. -/
def step (r r' : BitVec 32) (p : BitVec 32 × BitVec 32) : BitVec 32 × BitVec 32 :=
  (IntOp.addi p.1 (IntOp.xori p.1 (rot r r' p.2)), IntOp.xori p.1 (rot r r' p.2))

/-- One round with the key words `a` and `b` added in. -/
def inj (r r' a b : BitVec 32) (p : BitVec 32 × BitVec 32) : BitVec 32 × BitVec 32 :=
  (IntOp.addi (IntOp.addi p.1 a) (IntOp.addi (IntOp.xori p.1 (rot r r' p.2)) b), IntOp.addi (IntOp.xori p.1 (rot r r' p.2)) b)

/-- The last round: the two words, with the key added, folded. -/
def fin (r r' a b : BitVec 32) (p : BitVec 32 × BitVec 32) : BitVec 32 :=
  IntOp.xori (IntOp.addi p.1 a) (IntOp.addi (IntOp.xori p.1 (rot r r' p.2)) b)

/-- Three rounds of the first rotations. -/
def ra (p : BitVec 32 × BitVec 32) : BitVec 32 × BitVec 32 := step 26#32 6#32 (step 15#32 17#32 (step 13#32 19#32 p))
/-- Three rounds of the second rotations. -/
def rb (p : BitVec 32 × BitVec 32) : BitVec 32 × BitVec 32 := step 16#32 16#32 (step 29#32 3#32 (step 17#32 15#32 p))

/-- The first pair of words. -/
def st (w : BitVec 32) : BitVec 32 × BitVec 32 :=
  (IntOp.addi (IntOp.addi 0#32 0#32) (IntOp.addi w 42#32), IntOp.addi w 42#32)

/-- The pair after each group of four rounds. -/
def g1 (w : BitVec 32) := inj 6#32 26#32 42#32 466689009#32 (ra (st w))
def g2 (w : BitVec 32) := inj 24#32 8#32 466689008#32 2#32 (rb (g1 w))
def g3 (w : BitVec 32) := inj 6#32 26#32 0#32 45#32 (ra (g2 w))
def g4 (w : BitVec 32) := inj 24#32 8#32 42#32 466689012#32 (rb (g3 w))

/-- The hash by its rounds. -/
theorem tf_eq (w : BitVec 32) : Cert.KernelIdeal.G.tf w = fin 6#32 26#32 466689008#32 5#32 (ra (g4 w)) := by
  unfold Cert.KernelIdeal.G.tf
  extract_lets a0 a1 a2 a3 a4 a5 a6 a7 a8 a9 a10 a11 a12 a13 a14 a15 a16 a17 a18 a19 a20 a21 a22 a23 a24 a25 a26 a27 a28 a29
    a30 a31 a32 a33 a34 a35 a36 a37 a38 a39 a40 a41 a42 a43 a44 a45 a46 a47 a48 a49 a50 a51 a52 a53 a54 a55 a56
    a57 a58 a59 a60 a61 a62 a63 a64 a65 a66 a67 a68 a69 a70 a71 a72 a73 a74 a75 a76 a77 a78 a79 a80 a81 a82 a83
    a84 a85 a86 a87 a88 a89 a90 a91 a92 a93 a94 a95 a96 a97 a98 a99 a100 a101 a102 a103 a104 a105 a106 a107 a108
    a109 a110 a111 a112
  have h0 : st w = (a2, a1) := rfl
  have h1 : g1 w = (a24, a23) := (congrArg (fun p => inj _ _ _ _ (ra p)) h0).trans rfl
  have h2 : g2 w = (a46, a45) := (congrArg (fun p => inj _ _ _ _ (rb p)) h1).trans rfl
  have h3 : g3 w = (a68, a67) := (congrArg (fun p => inj _ _ _ _ (ra p)) h2).trans rfl
  have h4 : g4 w = (a90, a89) := (congrArg (fun p => inj _ _ _ _ (rb p)) h3).trans rfl
  exact ((congrArg (fun p => fin _ _ _ _ (ra p)) h4).trans rfl).symm

theorem rot_host (r r' x : BitVec 32) : IntOp.ori (IntOp.shli .host x r) (IntOp.shrui .host x r') = rot r r' x := by
  rw [shli_host, shrui_host]; rfl

theorem xori_comm (a b : BitVec 32) : IntOp.xori a b = IntOp.xori b a := BitVec.xor_comm a b

theorem addi_assoc (a b c : BitVec 32) : IntOp.addi (IntOp.addi a b) c = IntOp.addi a (IntOp.addi b c) := BitVec.add_assoc a b c

variable (h : S_.BroadcastsInDim S4096x4096 ![]) (x0 x1 : IVec S4096x4096 32) (X : S4096x4096.Idx)

/-- A constant over the square. -/
abbrev bc (c : BitVec 32) : IVec S4096x4096 32 := broadcastInDim S4096x4096 ![] h (constantI S_ 32 c)

/-- The second word of a pair, rotated and mixed with the first. -/
abbrev mixed (r r' : BitVec 32) : IVec S4096x4096 32 := xori (ori (Host.shli x1 (bc h r)) (Host.shrui x1 (bc h r'))) x0

theorem mixed_apply (r r' : BitVec 32) : mixed h x0 x1 r r' X = IntOp.xori (x0 X) (rot r r' (x1 X)) := by
  show IntOp.xori (IntOp.ori (IntOp.shli .host (x1 X) r) (IntOp.shrui .host (x1 X) r')) (x0 X) = _
  rw [rot_host, xori_comm]

variable {x0 x1 X}

theorem step_ref (r r' : BitVec 32) {p : BitVec 32 × BitVec 32} (hp : (x0 X, x1 X) = p) :
    (addi x0 (mixed h x0 x1 r r') X, mixed h x0 x1 r r' X) = step r r' p := by
  subst hp
  show (IntOp.addi (x0 X) (mixed h x0 x1 r r' X), mixed h x0 x1 r r' X) = _
  rw [mixed_apply]; rfl

theorem inj_ref (r r' a b c : BitVec 32) {p : BitVec 32 × BitVec 32} (hp : (x0 X, x1 X) = p) :
    (addi (addi x0 (bc h a)) (addi (addi (mixed h x0 x1 r r') (bc h b)) (bc h c)) X,
      addi (addi (mixed h x0 x1 r r') (bc h b)) (bc h c) X) = inj r r' a (IntOp.addi b c) p := by
  subst hp
  show (IntOp.addi (IntOp.addi (x0 X) a) (IntOp.addi (IntOp.addi (mixed h x0 x1 r r' X) b) c),
    IntOp.addi (IntOp.addi (mixed h x0 x1 r r' X) b) c) = _
  rw [mixed_apply, addi_assoc _ b c]; rfl

theorem fin_ref (r r' a b c : BitVec 32) {p : BitVec 32 × BitVec 32} (hp : (x0 X, x1 X) = p) :
    xori (addi x0 (bc h a)) (addi (addi (mixed h x0 x1 r r') (bc h b)) (bc h c)) X = fin r r' a (IntOp.addi b c) p := by
  subst hp
  show IntOp.xori (IntOp.addi (x0 X) a) (IntOp.addi (IntOp.addi (mixed h x0 x1 r r' X) b) c) = _
  rw [mixed_apply, addi_assoc _ b c]; rfl

end Cert.ReferenceIdeal.G

end
-- ==== Proof.RefWords.lean ====
module

public import proofs.«01_k».proof.Proof.RefRounds
public import proofs.«01_k».proof.Proof.Gen.ReferenceIdeal.Run

/-!
The reference's words: at every position of the square, the hash of the position's counter.
-/

@[expose] public section

noncomputable section

namespace Cert.ReferenceIdeal.G

open Cert.ReferenceIdeal Idealize.ShloMosaic Idealize.SL.Sem
open Idealize.ShloMosaic.ValueIdx Idealize.ShloMosaic.TcCoe Idealize.ShloMosaic.StableHlo

variable {F : FTy → Type} [FloatOps F] (V0 : Valuation τ sig (Elt F)) (X : S4096x4096.Idx)

open Cert.ReferenceIdeal.Value

/-- Two of the reference's arrays of words at an index. -/
abbrev at2 (a b : S4096x4096.Idx → BitVec 32) : BitVec 32 × BitVec 32 := (a X, b X)

/-- The counter of a position of the square. -/
theorem counter (a b : ℕ) (ha : a < 4096) (hb : b < 4096) :
    IntOp.addi (IntOp.muli (BitVec.ofNat 32 a) 4096#32) (BitVec.ofNat 32 b) = BitVec.ofNat 32 (a * 4096 + b) := by
  apply BitVec.eq_of_toNat_eq
  show ((BitVec.ofNat 32 a) * 4096#32 + BitVec.ofNat 32 b).toNat = _
  simp only [BitVec.toNat_add, BitVec.toNat_mul, BitVec.toNat_ofNat]
  omega

/-- The counter's word. -/
abbrev cw : BitVec 32 := BitVec.ofNat 32 ((X 0).val * 4096 + (X 1).val)

theorem words0 : at2 X (res_main_v38 V0) (res_main_v37 V0) = st (cw X) := by
  have e : (res_main_v37 V0 : S4096x4096.Idx → BitVec 32) X = IntOp.addi (cw X) 42#32 :=
    congrArg (fun z => IntOp.addi z 42#32) (counter (X 0).val (X 1).val (X 0).isLt (X 1).isLt)
  have e2 : (res_main_v38 V0 : S4096x4096.Idx → BitVec 32) X = IntOp.addi (IntOp.addi 0#32 0#32) (IntOp.addi (cw X) 42#32) :=
    congrArg (fun z => IntOp.addi (IntOp.addi 0#32 0#32) z) e
  exact Prod.ext e2 e

theorem words1 : at2 X (res_main_v72 V0) (res_main_v71 V0) = g1 (cw X) :=
  inj_ref _ 6#32 26#32 42#32 466689008#32 1#32 (step_ref _ 26#32 6#32 (step_ref _ 15#32 17#32 (step_ref _ 13#32 19#32 (words0 V0 X))))

theorem words2 : at2 X (res_main_v106 V0) (res_main_v105 V0) = g2 (cw X) :=
  inj_ref _ 24#32 8#32 466689008#32 0#32 2#32 (step_ref _ 16#32 16#32 (step_ref _ 29#32 3#32 (step_ref _ 17#32 15#32 (words1 V0 X))))

theorem words3 : at2 X (res_main_v140 V0) (res_main_v139 V0) = g3 (cw X) :=
  inj_ref _ 6#32 26#32 0#32 42#32 3#32 (step_ref _ 26#32 6#32 (step_ref _ 15#32 17#32 (step_ref _ 13#32 19#32 (words2 V0 X))))

theorem words4 : at2 X (res_main_v174 V0) (res_main_v173 V0) = g4 (cw X) :=
  inj_ref _ 24#32 8#32 42#32 466689008#32 4#32 (step_ref _ 16#32 16#32 (step_ref _ 29#32 3#32 (step_ref _ 17#32 15#32 (words3 V0 X))))

theorem words5 : at2 X (res_main_v195 V0) (res_main_v194 V0) = ra (g4 (cw X)) :=
  step_ref _ 26#32 6#32 (step_ref _ 15#32 17#32 (step_ref _ 13#32 19#32 (words4 V0 X)))

/-- The reference's words: the hash of the counter. -/
theorem words (h : S_.BroadcastsInDim S4096x4096 ![]) :
    xori (addi (res_main_v195 V0) (bc h 466689008#32))
      (addi (addi (mixed h (res_main_v195 V0) (res_main_v194 V0) 6#32 26#32) (bc h 0#32)) (bc h 5#32)) X = Cert.KernelIdeal.G.tf (cw X) :=
  (fin_ref h _ _ _ _ _ (words5 V0 X)).trans (tf_eq (cw X)).symm

end Cert.ReferenceIdeal.G

end
-- ==== Proof.RefUnif.lean ====
module

public import proofs.«01_k».proof.Proof.Sample
public import proofs.«01_k».proof.Proof.Sampled
public import Idealize.ShloMosaic.PureOps.Ideal
public import Idealize.ShloMosaic.Lib.IdealHost

/-!
The uniform number of a word over the extended reals: the reference's bound from below never acts.
-/

@[expose] public section

noncomputable section

namespace Cert.ReferenceIdeal.G

open Cert.ReferenceIdeal Idealize.ShloMosaic Idealize.SL.Sem
open Idealize.ShloMosaic.ValueIdx Idealize.ShloMosaic.TcCoe Idealize.ShloMosaic.StableHlo

open Cert.KernelIdeal.G (unif lg centre tails eps samp)

/-- The number `1 + k / 2^23` that the top bits of a word write is at least one. -/
theorem one_le_mantissa (w : BitVec 32) :
    (1 : EReal) ≤ Ideal.ofBits .f32 (IntOp.ori (IntOp.shrui .vector w 9#32) 1065353216#32) := by
  have hs : IntOp.shrui .vector w 9#32 = w >>> 9 := by
    unfold IntOp.shrui
    exact if_pos (by decide)
  have hw : (w >>> 9).toNat < 2 ^ 23 := by
    have := w.isLt
    rw [BitVec.toNat_ushiftRight, Nat.shiftRight_eq_div_pow]
    omega
  have part (a n : ℕ) (ha : 23 ≤ a) : (w >>> 9).extractLsb' a n = 0#n := by
    apply BitVec.eq_of_toNat_eq
    rw [BitVec.extractLsb'_toNat, Nat.shiftRight_eq_div_pow,
      Nat.div_eq_of_lt (lt_of_lt_of_le hw (Nat.pow_le_pow_right (by omega) ha))]
    rfl
  have orx (a n : ℕ) (x y : BitVec 32) : (x ||| y).extractLsb' a n = x.extractLsb' a n ||| y.extractLsb' a n := by
    ext i hi
    simp [BitVec.getElem_extractLsb']
  rw [hs]
  show (1 : EReal) ≤ Ideal.ieee 8 23 (w >>> 9 ||| 1065353216#32)
  unfold Ideal.ieee
  have e1 : (w >>> 9 ||| 1065353216#32).extractLsb' (8 + 23) 1 = 0#1 := by
    rw [orx, part _ _ (by omega)]; decide
  have e2 : (w >>> 9 ||| 1065353216#32).extractLsb' 23 8 = 127#8 := by
    rw [orx, part _ _ (by omega)]; decide
  rw [e1, e2]
  generalize ((w >>> 9 ||| 1065353216#32).extractLsb' 0 23).toNat = k
  simp only []
  rw [if_neg (by decide), if_neg (by decide)]
  have : (1 : ℝ) ≤ (if (0#1 == 1#1) = true then -1 else 1) * ((2 ^ 23 + k : ℕ) : ℝ) * (2 : ℝ) ^ (((127#8).toNat : ℤ) - (2 ^ (8 - 1) - 1) - (23 : ℕ)) := by
    rw [if_neg (by decide)]
    have hz : (((127#8).toNat : ℤ) - (2 ^ (8 - 1) - 1) - (23 : ℕ)) = -23 := by decide
    rw [hz]
    push_cast
    have hk : (0 : ℝ) ≤ k := Nat.cast_nonneg k
    rw [zpow_neg, one_mul]
    norm_num
    linarith
  exact_mod_cast this

/-- The uniform number of a word is not below the least it may be. -/
theorem lo_le_unif (w : BitVec 32) : Ideal.ofBits .f32 0xBF7FFFFF#32 ≤ (unif w : Ideal .f32) := by
  have h1 : Ideal.ofBits .f32 0x3F800000#32 = 1 := by
    rw [show (1 : EReal) = ((1 : ℝ) : EReal) by norm_cast]
    simp [Ideal.ofBits, Ideal.ieee, -EReal.coe_mul]; norm_num
  have h2 : (0 : EReal) ≤ Ideal.ofBits .f32 0x40000000#32 := by
    rw [show (0 : EReal) = ((0 : ℝ) : EReal) by norm_cast]
    simp [Ideal.ofBits, Ideal.ieee, -EReal.coe_mul]
  have h3 : (0 : EReal) ≤ Ideal.ofBits .f32 (IntOp.ori (IntOp.shrui .vector w 9#32) 1065353216#32) - Ideal.ofBits .f32 0x3F800000#32 := by
    rw [h1]
    exact EReal.sub_nonneg (.inr (EReal.coe_ne_top 1)) (.inr (EReal.coe_ne_bot 1)) |>.mpr (one_le_mantissa w)
  show Ideal.ofBits .f32 0xBF7FFFFF#32 ≤ (Ideal.ofBits .f32 (IntOp.ori (IntOp.shrui .vector w 9#32) 1065353216#32)
    - Ideal.ofBits .f32 0x3F800000#32) * Ideal.ofBits .f32 0x40000000#32 + Ideal.ofBits .f32 0xBF7FFFFF#32
  exact le_add_of_nonneg_left (mul_nonneg h3 h2)

/-- The difference from zero is the negation. -/
theorem zero_subf (x : Ideal .f32) :
    (FloatOps.subf (Scalar.ofBits .f32 0x00000000#32 : Ideal .f32) x : Ideal .f32) = FloatOps.hostNegf x := by
  have h : (Scalar.ofBits .f32 0x00000000#32 : Ideal .f32) = (0 : EReal) := by
    show Ideal.ofBits .f32 0x00000000#32 = 0
    simp [Ideal.ofBits, Ideal.ieee]
  rw [h]
  exact zero_sub (G := EReal) x

end Cert.ReferenceIdeal.G

end
-- ==== Proof.RefOps.lean ====
module

public import proofs.«01_k».proof.Proof.RefRounds
public import proofs.«01_k».proof.Proof.RefUnif
public import Idealize.ShloMosaic.Lib.Pipeline.Value

/-!
The operations of the reference after its words, at an index: the kernel's functions of the word.
-/

@[expose] public section

noncomputable section

namespace Cert.ReferenceIdeal.G

open Cert.ReferenceIdeal Idealize.ShloMosaic Idealize.SL.Sem
open Idealize.ShloMosaic.ValueIdx Idealize.ShloMosaic.TcCoe Idealize.ShloMosaic.StableHlo

open Cert.KernelIdeal.G (unif lg centre tails eps samp tf)

variable {X : S4096x4096.Idx} (h0 : S_.BroadcastsInDim S4096x4096 ![]) (h1 : S1x4096.BroadcastsInDim S4096x4096 ![0, 1]) (h2 : S4096.BroadcastsInDim S1x4096 ![1])

/-- A float constant over the square. -/
abbrev fc (b : BitVec 32) : FVec Ideal S4096x4096 .f32 := broadcastInDim S4096x4096 ![] h0 (constant S_ .f32 b)

/-- One number per column over the square. -/
abbrev cols (f : FVec Ideal S4096 .f32) : FVec Ideal S4096x4096 .f32 := broadcastInDim S4096x4096 ![0, 1] h1 (broadcastInDim S1x4096 ![1] h2 f)

theorem cols_apply (f : FVec Ideal S4096 .f32) : cols h1 h2 f X = f (ix1 (X 1)) := by
  refine (broadcastInDim_apply _ h1 _ X (ix2 0 (X 1)) fun a => ?_).trans (broadcastInDim_apply _ h2 f _ (ix1 (X 1)) fun a => ?_)
  · match a with
    | 0 => rfl
    | 1 => rfl
  · match a with
    | 0 => rfl

/-- The uniform numbers as the reference writes them. -/
abbrev uA (W : IVec S4096x4096 32) : FVec Ideal S4096x4096 .f32 :=
  maximumf (fc h0 0xBF7FFFFF#32) (addf (mulf (subf (bitcastToFloat (F := Ideal) .f32 (ori (Host.shrui W (bc h0 9#32)) (bc h0 1065353216#32))) (fc h0 0x3F800000#32)) (fc h0 0x40000000#32)) (fc h0 0xBF7FFFFF#32))

theorem uA_apply (W : IVec S4096x4096 32) {w : BitVec 32} (hw : W X = w) : uA h0 W X = (unif w : Ideal .f32) := by
  subst hw
  have e : IntOp.shrui .host (W X) 9#32 = IntOp.shrui .vector (W X) 9#32 := shrui_host _ _
  show FloatOps.maximumf (FloatOps.ofBits .f32 0xBF7FFFFF#32 : Ideal .f32)
    (FloatOps.addf (FloatOps.mulf (FloatOps.subf (FloatOps.ofBits .f32 (IntOp.ori (IntOp.shrui .host (W X) 9#32) 1065353216#32)) (FloatOps.ofBits .f32 0x3F800000#32)) (FloatOps.ofBits .f32 0x40000000#32)) (FloatOps.ofBits .f32 0xBF7FFFFF#32)) = _
  rw [e]
  exact max_eq_right (lo_le_unif _)

theorem vA_apply (u : FVec Ideal S4096x4096 .f32) {a : Ideal .f32} (hu : u X = a) : Host.log1p (Host.negf (mulf u u)) X = lg a := by
  subst hu
  show FloatOps.log1p (FloatOps.hostNegf (FloatOps.mulf (u X) (u X))) = _
  rw [← zero_subf]; rfl

/-- The root the tails' polynomial is taken at. -/
abbrev root (a : Ideal .f32) : Ideal .f32 :=
  FloatOps.subf (FloatOps.sqrt (FloatOps.subf (Scalar.ofBits .f32 0x00000000#32) a)) (Scalar.ofBits .f32 0x40400000#32)

theorem rA_apply (v : FVec Ideal S4096x4096 .f32) {a : Ideal .f32} (hv : v X = a) :
    subf (Host.sqrt (Host.negf v)) (fc h0 0x40400000#32) X = root a := by
  subst hv
  show FloatOps.subf (FloatOps.sqrt (FloatOps.hostNegf (v X))) (Scalar.ofBits .f32 0x40400000#32) = _
  rw [← zero_subf]

/-- The centre's polynomial over the square. -/
abbrev cA (v : FVec Ideal S4096x4096 .f32) : FVec Ideal S4096x4096 .f32 :=
  addf (mulf (addf (mulf (addf (mulf (addf (mulf (fc h0 0x39853614#32) v) (fc h0 0x3B8ECFB2#32)) v) (fc h0 0x3C8E80BD#32)) v) (fc h0 0xBEA7CFA4#32)) v) (fc h0 0x3FA06D30#32)

/-- The tails' polynomial over the square. -/
abbrev tA (r : FVec Ideal S4096x4096 .f32) : FVec Ideal S4096x4096 .f32 :=
  addf (mulf (addf (mulf (addf (mulf (addf (mulf (addf (mulf (fc h0 0xBBB21580#32) r) (fc h0 0x3C203F9E#32)) r) (fc h0 0xBC297FDA#32)) r) (fc h0 0x3C55B7A0#32)) r) (fc h0 0x3FB5503E#32)) r) (fc h0 0x408034C7#32)

theorem cA_apply (v : FVec Ideal S4096x4096 .f32) : cA h0 v X = centre (v X) := rfl

theorem tA_apply (v : FVec Ideal S4096x4096 .f32) : tA h0 v X = tails (v X) := rfl

/-- The normal numbers as the reference writes them. -/
abbrev eA (u v r : FVec Ideal S4096x4096 .f32) : FVec Ideal S4096x4096 .f32 :=
  mulf u (select (cmpf .ogt v (fc h0 0xC0A00000#32)) (cA h0 v) (tA h0 r))

theorem eA_apply (u v r : FVec Ideal S4096x4096 .f32) {w : BitVec 32} (hu : u X = unif w) (hv : v X = lg (unif w)) (hr : r X = root (lg (unif w))) :
    eA h0 u v r X = (eps w : Ideal .f32) := by
  show FloatOps.mulf (u X) (Scalar.select (FloatOps.cmpf .ogt (v X) (Scalar.ofBits .f32 0xC0A00000#32)) (cA h0 v X) (tA h0 r X)) = _
  rw [cA_apply, tA_apply, hu, hv, hr]
  unfold eps
  rfl

end Cert.ReferenceIdeal.G

end
-- ==== Proof.RefSample.lean ====
module

public import proofs.«01_k».proof.Proof.RefWords
public import proofs.«01_k».proof.Proof.RefOps

/-!
The reference's result at an index: the sample drawn from the hash of the index's counter.
-/

@[expose] public section

noncomputable section

namespace Cert.ReferenceIdeal.G

open Cert.ReferenceIdeal Idealize.ShloMosaic Idealize.SL.Sem
open Idealize.ShloMosaic.ValueIdx Idealize.ShloMosaic.TcCoe Idealize.ShloMosaic.StableHlo

open Cert.KernelIdeal.G (unif lg centre tails eps samp tf)
open Cert.ReferenceIdeal.Value

variable (V0 : Valuation τ sig (Elt Ideal)) (X : S4096x4096.Idx)
variable (h0 : S_.BroadcastsInDim S4096x4096 ![]) (h1 : S1x4096.BroadcastsInDim S4096x4096 ![0, 1]) (h2 : S4096.BroadcastsInDim S1x4096 ![1])

include h0

theorem u_val : (res_main_v221 V0 : S4096x4096.Idx → Ideal .f32) X = (unif (tf (cw X)) : Ideal .f32) :=
  uA_apply h0 _ (words V0 X h0)

theorem v_val : (res_main_v224 V0 : S4096x4096.Idx → Ideal .f32) X = lg (unif (tf (cw X)) : Ideal .f32) :=
  vA_apply _ (u_val V0 X h0)

theorem r_val : (res_main_v241 V0 : S4096x4096.Idx → Ideal .f32) X = root (lg (unif (tf (cw X)) : Ideal .f32)) :=
  rA_apply h0 _ (v_val V0 X h0)

/-- The reference's result at an index. -/
theorem out_apply (x y mu sg : FVec Ideal S4096 .f32) (hx : x = mu) (hy : y = sg) :
    Host.exp (addf (cols h1 h2 x) (mulf (cols h1 h2 y) (eA h0 (res_main_v221 V0) (res_main_v224 V0) (res_main_v241 V0)))) X
      = samp (mu (ix1 (X 1))) (sg (ix1 (X 1))) (tf (cw X)) := by
  subst hx; subst hy
  have he := eA_apply (X := X) h0 _ _ _ (u_val V0 X h0) (v_val V0 X h0) (r_val V0 X h0)
  show FloatOps.exp (FloatOps.addf (cols h1 h2 x X) (FloatOps.mulf (cols h1 h2 y X) (eA h0 (res_main_v221 V0) (res_main_v224 V0) (res_main_v241 V0) X))) = _
  rw [he, cols_apply, cols_apply]; rfl

end Cert.ReferenceIdeal.G

end
-- ==== Proof.Claims.lean ====
module

public import proofs.«01_k».proof.Defs
public import proofs.«01_k».proof.Proof.Range
public import proofs.«01_k».proof.Proof.Gen.KernelIdeal
public import proofs.«01_k».proof.Proof.FullVal
public import proofs.«01_k».proof.Proof.RefGather
public import proofs.«01_k».proof.Proof.RefSample
public import proofs.«01_k».proof.Proof.Gen.ReferenceIdeal.Run

/-!
The reference's frame, and the two programs' equal results.
-/

@[expose] public section

noncomputable section

namespace Cert.Claims

open Idealize.ShloMosaic Idealize.SL.Sem
open Cert.KernelIdeal.G (PreOK run_main)

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_reference_pre : Cert.quiescent_ReferenceIdeal_pre_indices_in_range := fun m ρ _ =>
  frame_reference m ρ trivial

theorem algebraic : Cert.algebraic_KernelIdeal_ReferenceIdeal := by
  intro m g m' g' hpre hag
  have hp : PreOK (F := Ideal) m := fun d x => ok_of_fn _ _ _ _ (hpre d) x
  refine ⟨fun c => Cert.KernelIdeal.G.full (Cert.KernelIdeal.G.asRow (Cert.KernelIdeal.G.muF m c)) (Cert.KernelIdeal.G.asRow (Cert.KernelIdeal.G.sgF m c)), ?_, ?_⟩
  · exact (θ_run Cert.KernelIdeal.defs _ _).mono
      (fun _ h c => ⟨(h.1 c).2.2.2.2, (h.1 c).1, (h.1 c).2.1, (h.1 c).2.2.1, (h.1 c).2.2.2.1⟩)
      (run_main (F := Ideal) m g hp)
  · refine (θ_run Cert.ReferenceIdeal.defs _ _).mono (fun _ h c => ⟨(h c).1.trans ?_, (h c).2⟩)
      (Cert.ReferenceIdeal.Value.run (F := Ideal) m' g')
    have e0 := (hag c).1
    have e1 := (hag c).2.1
    have e2 := (hag c).2.2.1
    have e3 := (hag c).2.2.2
    have ok : ∀ y, (m' ((c.tc : Thread Cert.ReferenceIdeal.nD Cert.ReferenceIdeal.τ).loc Cert.ReferenceIdeal.main_arg0) y : BitVec 32).toNat < 4096 ∧ (m' ((c.tc : Thread Cert.ReferenceIdeal.nD Cert.ReferenceIdeal.τ).loc Cert.ReferenceIdeal.main_arg1) y : BitVec 32).toNat < 8192 := by
      rw [e0, e1]; exact hp c
    funext X
    refine (Cert.ReferenceIdeal.G.out_apply _ X _ _ _ _ _ (Cert.KernelIdeal.G.muF m c) (Cert.KernelIdeal.G.sgF m c) ?_ ?_).trans
      (Cert.KernelIdeal.G.full_apply _ _ X).symm
    · refine (Cert.ReferenceIdeal.G.take_eq _ _ _ ok).trans ?_
      show (fun y => m' ((c.tc : Thread Cert.ReferenceIdeal.nD Cert.ReferenceIdeal.τ).loc Cert.ReferenceIdeal.main_arg2) (Cert.KernelIdeal.G.tIx (m' ((c.tc : Thread Cert.ReferenceIdeal.nD Cert.ReferenceIdeal.τ).loc Cert.ReferenceIdeal.main_arg0) y : BitVec 32).toNat (m' ((c.tc : Thread Cert.ReferenceIdeal.nD Cert.ReferenceIdeal.τ).loc Cert.ReferenceIdeal.main_arg1) y : BitVec 32).toNat)) = _
      rw [e0, e1, e2]; rfl
    · refine (Cert.ReferenceIdeal.G.take_eq _ _ _ ok).trans ?_
      show (fun y => m' ((c.tc : Thread Cert.ReferenceIdeal.nD Cert.ReferenceIdeal.τ).loc Cert.ReferenceIdeal.main_arg3) (Cert.KernelIdeal.G.tIx (m' ((c.tc : Thread Cert.ReferenceIdeal.nD Cert.ReferenceIdeal.τ).loc Cert.ReferenceIdeal.main_arg0) y : BitVec 32).toNat (m' ((c.tc : Thread Cert.ReferenceIdeal.nD Cert.ReferenceIdeal.τ).loc Cert.ReferenceIdeal.main_arg1) y : BitVec 32).toNat)) = _
      rw [e0, e1, e3]; rfl

end Cert.Claims

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_indices_in_range
public import proofs.«01_k».proof.Proof.Frames
public import proofs.«01_k».proof.Proof.Claims

@[expose] public section

noncomputable section

namespace Cert.Proof

open Idealize.ShloMosaic Idealize.SL.Sem

/-- The certificate's claim: the programs' facts, the frames, `preserves` with nothing rewritten, and the value claim. -/
theorem claim : Cert.Claim :=
  ⟨Cert.Kernel.Gen.facts, Cert.KernelIdeal.Gen.facts, Cert.ReferenceIdeal.Gen.facts, Cert.Pre_indices_in_range.Gen.facts,
    Cert.Claims.frame_kernel, Cert.Claims.frame_kernelIdeal, Cert.Claims.frame_reference, Cert.Claims.frame_reference_pre,
    trivial, Cert.Claims.algebraic⟩

end Cert.Proof

end
